-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  IdealRules.named_const.Statement Cert.Kernel3Ideal.κ "log2e" .f32 0x3FB8AA3B#32 (((Real.log 2)⁻¹ : ℝ) : EReal)

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v71) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
-- ==== Pre_finite.lean ====
abbrev S2x64 : Shape := ⟨2, ![2, 64]⟩
abbrev S8x4096x512 : Shape := ⟨3, ![8, 4096, 512]⟩
abbrev S8x512x4096 : Shape := ⟨3, ![8, 512, 4096]⟩
abbrev S1x128 : Shape := ⟨2, ![1, 128]⟩
abbrev S_ : Shape := ⟨0, ![]⟩

class Facts : Prop where
  bcast_S_S2x64 : S_.BroadcastsInDim S2x64 (![] : Fin 0 → Fin S2x64.rank)
  reducesTo_S2x64_S_d0_1 : S2x64.ReducesTo [0, 1] S_
  h_S_ : 0 < S_.numel
  bitsLt_bf16_f32 : FTy.bits .bf16 < FTy.bits .f32
  bcast_S_S8x4096x512 : S_.BroadcastsInDim S8x4096x512 (![] : Fin 0 → Fin S8x4096x512.rank)
  reducesTo_S8x4096x512_S_d0_1_2 : S8x4096x512.ReducesTo [0, 1, 2] S_
  bcast_S_S8x512x4096 : S_.BroadcastsInDim S8x512x4096 (![] : Fin 0 → Fin S8x512x4096.rank)
  reducesTo_S8x512x4096_S_d0_1_2 : S8x512x4096.ReducesTo [0, 1, 2] S_

variable [Facts]

def fn_part1 {F : FTy → Type} [FloatOps F] (main_arg4 : FVec F S8x512x4096 .bf16) (main_v14 : IVec S_ 1) (main_v16 : FVec F S8x4096x512 .f32) (main_cst_4 : FVec F S_ .f32) : IVec S_ 1 :=
  let main_v17 : FVec F S8x4096x512 .f32 := broadcastInDim S8x4096x512 ![] bcast_S_S8x4096x512 main_cst_4
  let main_v18 : IVec S8x4096x512 1 := cmpf .olt main_v16 main_v17
  let main_c_5 : IVec S_ 1 := constantI S_ 1 1#1
  let main_v19 : IVec S_ 1 := (fun x v => Host.reduce IntOp.andi x v reducesTo_S8x4096x512_S_d0_1_2 h_S_) main_v18 main_c_5
  let main_v20 : IVec S_ 1 := andi main_v14 main_v19
  let main_v21 : FVec F S8x512x4096 .f32 := (extf .f32 · bitsLt_bf16_f32) main_arg4
  let main_v22 : FVec F S8x512x4096 .f32 := Host.absf main_v21
  let main_cst_6 : FVec F S_ .f32 := constant S_ .f32 0x7F800000#32
  let main_v23 : FVec F S8x512x4096 .f32 := broadcastInDim S8x512x4096 ![] bcast_S_S8x512x4096 main_cst_6
  let main_v24 : IVec S8x512x4096 1 := cmpf .olt main_v22 main_v23
  let main_c_7 : IVec S_ 1 := constantI S_ 1 1#1
  let main_v25 : IVec S_ 1 := (fun x v => Host.reduce IntOp.andi x v reducesTo_S8x512x4096_S_d0_1_2 h_S_) main_v24 main_c_7
  let main_v26 : IVec S_ 1 := andi main_v20 main_v25
  main_v26

def fn {F : FTy → Type} [FloatOps F] (main_arg0 : FVec F S2x64 .f32) (main_arg1 : FVec F S2x64 .f32) (main_arg2 : FVec F S8x4096x512 .bf16) (main_arg3 : FVec F S8x4096x512 .bf16) (main_arg4 : FVec F S8x512x4096 .bf16) (main_arg5 : FVec F S8x4096x512 .bf16) (main_arg6 : FVec F S1x128 .f32) : IVec S_ 1 :=
  let main_v0 : FVec F S2x64 .f32 := Host.absf main_arg0
  let main_cst : FVec F S_ .f32 := constant S_ .f32 0x7F800000#32
  let main_v1 : FVec F S2x64 .f32 := broadcastInDim S2x64 ![] bcast_S_S2x64 main_cst
  let main_v2 : IVec S2x64 1 := cmpf .olt main_v0 main_v1
  let main_c : IVec S_ 1 := constantI S_ 1 1#1
  let main_v3 : IVec S_ 1 := (fun x v => Host.reduce IntOp.andi x v reducesTo_S2x64_S_d0_1 h_S_) main_v2 main_c
  let main_v4 : FVec F S2x64 .f32 := Host.absf main_arg1
  let main_cst_0 : FVec F S_ .f32 := constant S_ .f32 0x7F800000#32
  let main_v5 : FVec F S2x64 .f32 := broadcastInDim S2x64 ![] bcast_S_S2x64 main_cst_0
  let main_v6 : IVec S2x64 1 := cmpf .olt main_v4 main_v5
  let main_c_1 : IVec S_ 1 := constantI S_ 1 1#1
  let main_v7 : IVec S_ 1 := (fun x v => Host.reduce IntOp.andi x v reducesTo_S2x64_S_d0_1 h_S_) main_v6 main_c_1
  let main_v8 : IVec S_ 1 := andi main_v3 main_v7
  let main_v9 : FVec F S8x4096x512 .f32 := (extf .f32 · bitsLt_bf16_f32) main_arg2
  let main_v10 : FVec F S8x4096x512 .f32 := Host.absf main_v9
  let main_cst_2 : FVec F S_ .f32 := constant S_ .f32 0x7F800000#32
  let main_v11 : FVec F S8x4096x512 .f32 := broadcastInDim S8x4096x512 ![] bcast_S_S8x4096x512 main_cst_2
  let main_v12 : IVec S8x4096x512 1 := cmpf .olt main_v10 main_v11
  let main_c_3 : IVec S_ 1 := constantI S_ 1 1#1
  let main_v13 : IVec S_ 1 := (fun x v => Host.reduce IntOp.andi x v reducesTo_S8x4096x512_S_d0_1_2 h_S_) main_v12 main_c_3
  let main_v14 : IVec S_ 1 := andi main_v8 main_v13
  let main_v15 : FVec F S8x4096x512 .f32 := (extf .f32 · bitsLt_bf16_f32) main_arg3
  let main_v16 : FVec F S8x4096x512 .f32 := Host.absf main_v15
  let main_cst_4 : FVec F S_ .f32 := constant S_ .f32 0x7F800000#32
  fn_part1 (F := F) main_arg4 main_v14 main_v16 main_cst_4
-- ==== Pre_finite3.lean ====
abbrev S8 : Shape := ⟨1, ![8]⟩
abbrev S8x4096x512 : Shape := ⟨3, ![8, 4096, 512]⟩
abbrev S8x4096x256 : Shape := ⟨3, ![8, 4096, 256]⟩
abbrev S8x128x4096 : Shape := ⟨3, ![8, 128, 4096]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bitsLt_bf16_f32 : FTy.bits .bf16 < FTy.bits .f32
  bcast_S_S8x4096x512 : S_.BroadcastsInDim S8x4096x512 (![] : Fin 0 → Fin S8x4096x512.rank)
  reducesTo_S8x4096x512_S_d0_1_2 : S8x4096x512.ReducesTo [0, 1, 2] S_
  bcast_S_S8x4096x256 : S_.BroadcastsInDim S8x4096x256 (![] : Fin 0 → Fin S8x4096x256.rank)
  reducesTo_S8x4096x256_S_d0_1_2 : S8x4096x256.ReducesTo [0, 1, 2] S_

variable [Facts]

def fn {F : FTy → Type} [FloatOps F] (main_arg0 : FVec F S8 .f32) (main_arg1 : FVec F S8x4096x512 .bf16) (main_arg2 : FVec F S8x4096x256 .bf16) (main_arg3 : FVec F S8x128x4096 .bf16) (main_arg4 : FVec F S8x4096x512 .bf16) : IVec S_ 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  let main_v4 : FVec F S8x4096x512 .f32 := (extf .f32 · bitsLt_bf16_f32) main_arg1
  let main_v5 : FVec F S8x4096x512 .f32 := Host.absf main_v4
  let main_cst_0 : FVec F S_ .f32 := constant S_ .f32 0x7F800000#32
  let main_v6 : FVec F S8x4096x512 .f32 := broadcastInDim S8x4096x512 ![] bcast_S_S8x4096x512 main_cst_0
  let main_v7 : IVec S8x4096x512 1 := cmpf .olt main_v5 main_v6
  let main_c_1 : IVec S_ 1 := constantI S_ 1 1#1
  let main_v8 : IVec S_ 1 := (fun x v => Host.reduce IntOp.andi x v reducesTo_S8x4096x512_S_d0_1_2 h_S_) main_v7 main_c_1
  let main_v9 : IVec S_ 1 := andi main_v3 main_v8
  let main_v10 : FVec F S8x4096x256 .f32 := (extf .f32 · bitsLt_bf16_f32) main_arg2
  let main_v11 : FVec F S8x4096x256 .f32 := Host.absf main_v10
  let main_cst_2 : FVec F S_ .f32 := constant S_ .f32 0x7F800000#32
  let main_v12 : FVec F S8x4096x256 .f32 := broadcastInDim S8x4096x256 ![] bcast_S_S8x4096x256 main_cst_2
  let main_v13 : IVec S8x4096x256 1 := cmpf .olt main_v11 main_v12
  let main_c_3 : IVec S_ 1 := constantI S_ 1 1#1
  let main_v14 : IVec S_ 1 := (fun x v => Host.reduce IntOp.andi x v reducesTo_S8x4096x256_S_d0_1_2 h_S_) main_v13 main_c_3
  let main_v15 : IVec S_ 1 := andi main_v9 main_v14
  main_v15
-- ==== Kernel.lean ====
abbrev S2x64 : Shape := ⟨2, ![2, 64]⟩
abbrev S8x4096x512 : Shape := ⟨3, ![8, 4096, 512]⟩
abbrev S8x512x4096 : Shape := ⟨3, ![8, 512, 4096]⟩
abbrev S1x128 : Shape := ⟨2, ![1, 128]⟩
abbrev S1x512x512 : Shape := ⟨3, ![1, 512, 512]⟩
abbrev S1x4096x512 : Shape := ⟨3, ![1, 4096, 512]⟩
abbrev S1x512x4096 : Shape := ⟨3, ![1, 512, 4096]⟩
abbrev S2 : Shape := ⟨1, ![2]⟩
abbrev S2x1 : Shape := ⟨2, ![2, 1]⟩
abbrev S1x1 : Shape := ⟨2, ![1, 1]⟩
abbrev S512x128 : Shape := ⟨2, ![512, 128]⟩
abbrev S1x512x128 : Shape := ⟨3, ![1, 512, 128]⟩
abbrev S1024x128 : Shape := ⟨2, ![1024, 128]⟩
abbrev S1x1024 : Shape := ⟨2, ![1, 1024]⟩
abbrev S144x1024 : Shape := ⟨2, ![144, 1024]⟩
abbrev S1x1024x128 : Shape := ⟨3, ![1, 1024, 128]⟩
abbrev S1024x1024 : Shape := ⟨2, ![1024, 1024]⟩
abbrev S1x128x1024 : Shape := ⟨3, ![1, 128, 1024]⟩
abbrev S128x1024 : Shape := ⟨2, ![128, 1024]⟩
abbrev S16x1024 : Shape := ⟨2, ![16, 1024]⟩
abbrev S1024 : Shape := ⟨1, ![1024]⟩
abbrev S512x1024 : Shape := ⟨2, ![512, 1024]⟩
abbrev S1x128x512 : Shape := ⟨3, ![1, 128, 512]⟩
abbrev S128x512 : Shape := ⟨2, ![128, 512]⟩
abbrev S16x512 : Shape := ⟨2, ![16, 512]⟩
abbrev S144x512 : Shape := ⟨2, ![144, 512]⟩
abbrev S512 : Shape := ⟨1, ![512]⟩
abbrev S1x512 : Shape := ⟨2, ![1, 512]⟩

abbrev nBuf : Space → Nat
  | .hbm => 8
  | .vmem => 13
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S8x4096x512, .bf16⟩
  | .hbm, ⟨3, _⟩ => ⟨S8x4096x512, .bf16⟩
  | .hbm, ⟨4, _⟩ => ⟨S8x512x4096, .bf16⟩
  | .hbm, ⟨5, _⟩ => ⟨S8x4096x512, .bf16⟩
  | .hbm, ⟨6, _⟩ => ⟨S1x128, .f32⟩
  | .hbm, ⟨7, _⟩ => ⟨S8x4096x512, .bf16⟩
  | .local _ .vmem, ⟨0, _⟩ => ⟨S2x64, .f32⟩
  | .local _ .vmem, ⟨1, _⟩ => ⟨S2x64, .f32⟩
  | .local _ .vmem, ⟨2, _⟩ => ⟨S1x512x512, .bf16⟩
  | .local _ .vmem, ⟨3, _⟩ => ⟨S1x512x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x512x4096, .bf16⟩
  | .local _ .vmem, ⟨7, _⟩ => ⟨S1x512x4096, .bf16⟩
  | .local _ .vmem, ⟨8, _⟩ => ⟨S1x512x512, .bf16⟩
  | .local _ .vmem, ⟨9, _⟩ => ⟨S1x512x512, .bf16⟩
  | .local _ .vmem, ⟨10, _⟩ => ⟨S1x128, .f32⟩
  | .local _ .vmem, ⟨11, _⟩ => ⟨S1x512x512, .bf16⟩
  | .local _ .vmem, ⟨12, _⟩ => ⟨S1x512x512, .bf16⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 8], ![false, false, false]⟩

@[reducible] def k0_t1_loop (i : grid0.Coords) : Scf.Loop 32 :=
  let c0_i32_30 : BitVec 32 := 0#32
  let arg2 : BitVec 32 := BitVec.ofNat 32 (i 2).val
  let c0_i32 : BitVec 32 := 0#32
  let v55 : BitVec 1 := Scalar.cmpi .sgt arg2 c0_i32
  let v56 : BitVec 32 := Scalar.extui v55
  let c0_i32_26 : BitVec 32 := 0#32
  let v57 : BitVec 1 := Scalar.cmpi .slt arg2 c0_i32_26
  let v58 : BitVec 32 := Scalar.extui v57
  let v59 : BitVec 32 := Scalar.subi v56 v58
  let c2_i32 : BitVec 32 := 2#32
  let c0_i32_27 : BitVec 32 := 0#32
  let v60 : BitVec 1 := Scalar.cmpi .sgt c2_i32 c0_i32_27
  let v61 : BitVec 32 := Scalar.extui v60
  let c0_i32_28 : BitVec 32 := 0#32
  let v62 : BitVec 1 := Scalar.cmpi .slt c2_i32 c0_i32_28
  let v63 : BitVec 32 := Scalar.extui v62
  let v64 : BitVec 32 := Scalar.subi v61 v63
  let v65 : BitVec 1 := Scalar.cmpi .ne v59 v64
  let v66 : BitVec 32 := Scalar.remsi arg2 c2_i32
  let c0_i32_29 : BitVec 32 := 0#32
  let v67 : BitVec 1 := Scalar.cmpi .ne v66 c0_i32_29
  let v68 : BitVec 1 := Scalar.andi v65 v67
  let v54 : BitVec 32 := Scalar.divsi arg2 c2_i32
  let c1_i32 : BitVec 32 := 1#32
  let v69 : BitVec 32 := Scalar.subi v54 c1_i32
  let v70 : BitVec 32 := Scalar.select v68 v69 v54
  let v71 : BitVec 32 := Scalar.subi v70 c0_i32_30
  let c1_i32_31 : BitVec 32 := 1#32
  let v73 : BitVec 32 := Scalar.divsi v71 c1_i32_31
  let v74 : BitVec 32 := Scalar.muli v73 c1_i32_31
  let v75 : BitVec 32 := Scalar.addi c0_i32_30 v74
  let c1_i32_32 : BitVec 32 := 1#32
  ⟨c0_i32_30, v75, c1_i32_32⟩
def k0_mult1 (i : grid0.Coords) (k0_t1 : Fin (k0_t1_loop i).trips) : BitVec 32 :=
  let c0_i32_30 : BitVec 32 := 0#32
  let c1_i32_32 : BitVec 32 := 1#32
  let arg11 : BitVec 32 := Scf.iv c0_i32_30 c1_i32_32 k0_t1
  let c1024_i32 : BitVec 32 := 1024#32
  let v350 : BitVec 32 := Scalar.muli arg11 c1024_i32
  v350
def k0_off1 (i : grid0.Coords) (k0_t1 : Fin (k0_t1_loop i).trips) : Fin 3 → Nat :=
  let c0_133 : Index := 0#32
  let c0_i32_30 : BitVec 32 := 0#32
  let c1_i32_32 : BitVec 32 := 1#32
  let arg11 : BitVec 32 := Scf.iv c0_i32_30 c1_i32_32 k0_t1
  let c1024_i32 : BitVec 32 := 1024#32
  let v350 : BitVec 32 := Scalar.muli arg11 c1024_i32
  let v351 : BitVec 32 := v350
  let v352 : Index := Scalar.indexCast v351
  let c0_134 : Index := 0#32
  ![0, v352.toNat, 0]
def k0_off2 (i : grid0.Coords) (k0_t1 : Fin (k0_t1_loop i).trips) : Fin 3 → Nat :=
  let c0_136 : Index := 0#32
  let c0_i32_30 : BitVec 32 := 0#32
  let c1_i32_32 : BitVec 32 := 1#32
  let arg11 : BitVec 32 := Scf.iv c0_i32_30 c1_i32_32 k0_t1
  let c1024_i32 : BitVec 32 := 1024#32
  let v350 : BitVec 32 := Scalar.muli arg11 c1024_i32
  let v351 : BitVec 32 := v350
  let v356 : Index := Scalar.indexCast v351
  let c128_137 : Index := 128#32
  ![0, v356.toNat, 128]
def k0_off3 (i : grid0.Coords) (k0_t1 : Fin (k0_t1_loop i).trips) : Fin 3 → Nat :=
  let c0_139 : Index := 0#32
  let c0_i32_30 : BitVec 32 := 0#32
  let c1_i32_32 : BitVec 32 := 1#32
  let arg11 : BitVec 32 := Scf.iv c0_i32_30 c1_i32_32 k0_t1
  let c1024_i32 : BitVec 32 := 1024#32
  let v350 : BitVec 32 := Scalar.muli arg11 c1024_i32
  let v351 : BitVec 32 := v350
  let v360 : Index := Scalar.indexCast v351
  let c256_140 : Index := 256#32
  ![0, v360.toNat, 256]
def k0_off4 (i : grid0.Coords) (k0_t1 : Fin (k0_t1_loop i).trips) : Fin 3 → Nat :=
  let c0_142 : Index := 0#32
  let c0_143 : Index := 0#32
  let c0_i32_30 : BitVec 32 := 0#32
  let c1_i32_32 : BitVec 32 := 1#32
  let arg11 : BitVec 32 := Scf.iv c0_i32_30 c1_i32_32 k0_t1
  let c1024_i32 : BitVec 32 := 1024#32
  let v350 : BitVec 32 := Scalar.muli arg11 c1024_i32
  let v351 : BitVec 32 := v350
  let v364 : Index := Scalar.indexCast v351
  ![0, 0, v364.toNat]
def k0_off5 (i : grid0.Coords) (k0_t1 : Fin (k0_t1_loop i).trips) : Fin 3 → Nat :=
  let c0_147 : Index := 0#32
  let c0_i32_30 : BitVec 32 := 0#32
  let c1_i32_32 : BitVec 32 := 1#32
  let arg11 : BitVec 32 := Scf.iv c0_i32_30 c1_i32_32 k0_t1
  let c1024_i32 : BitVec 32 := 1024#32
  let v350 : BitVec 32 := Scalar.muli arg11 c1024_i32
  let v351 : BitVec 32 := v350
  let v382 : Index := Scalar.indexCast v351
  let c384_148 : Index := 384#32
  ![0, v382.toNat, 384]
def k0_off6 (i : grid0.Coords) (k0_t1 : Fin (k0_t1_loop i).trips) : Fin 3 → Nat :=
  let c0_150 : Index := 0#32
  let c128_151 : Index := 128#32
  let c0_i32_30 : BitVec 32 := 0#32
  let c1_i32_32 : BitVec 32 := 1#32
  let arg11 : BitVec 32 := Scf.iv c0_i32_30 c1_i32_32 k0_t1
  let c1024_i32 : BitVec 32 := 1024#32
  let v350 : BitVec 32 := Scalar.muli arg11 c1024_i32
  let v351 : BitVec 32 := v350
  let v386 : Index := Scalar.indexCast v351
  ![0, 128, v386.toNat]
def k0_off7 (i : grid0.Coords) (k0_t1 : Fin (k0_t1_loop i).trips) : Fin 3 → Nat :=
  let c0_155 : Index := 0#32
  let c256_156 : Index := 256#32
  let c0_i32_30 : BitVec 32 := 0#32
  let c1_i32_32 : BitVec 32 := 1#32
  let arg11 : BitVec 32 := Scf.iv c0_i32_30 c1_i32_32 k0_t1
  let c1024_i32 : BitVec 32 := 1024#32
  let v350 : BitVec 32 := Scalar.muli arg11 c1024_i32
  let v351 : BitVec 32 := v350
  let v404 : Index := Scalar.indexCast v351
  ![0, 256, v404.toNat]
def k0_off8 (i : grid0.Coords) (k0_t1 : Fin (k0_t1_loop i).trips) : Fin 3 → Nat :=
  let c0_160 : Index := 0#32
  let c384_161 : Index := 384#32
  let c0_i32_30 : BitVec 32 := 0#32
  let c1_i32_32 : BitVec 32 := 1#32
  let arg11 : BitVec 32 := Scf.iv c0_i32_30 c1_i32_32 k0_t1
  let c1024_i32 : BitVec 32 := 1024#32
  let v350 : BitVec 32 := Scalar.muli arg11 c1024_i32
  let v351 : BitVec 32 := v350
  let v422 : Index := Scalar.indexCast v351
  ![0, 384, v422.toNat]
@[reducible] def k0_t2_loop (i : grid0.Coords) : Scf.Loop 32 :=
  let c0_i32_30 : BitVec 32 := 0#32
  let arg2 : BitVec 32 := BitVec.ofNat 32 (i 2).val
  let c0_i32 : BitVec 32 := 0#32
  let v55 : BitVec 1 := Scalar.cmpi .sgt arg2 c0_i32
  let v56 : BitVec 32 := Scalar.extui v55
  let c0_i32_26 : BitVec 32 := 0#32
  let v57 : BitVec 1 := Scalar.cmpi .slt arg2 c0_i32_26
  let v58 : BitVec 32 := Scalar.extui v57
  let v59 : BitVec 32 := Scalar.subi v56 v58
  let c2_i32 : BitVec 32 := 2#32
  let c0_i32_27 : BitVec 32 := 0#32
  let v60 : BitVec 1 := Scalar.cmpi .sgt c2_i32 c0_i32_27
  let v61 : BitVec 32 := Scalar.extui v60
  let c0_i32_28 : BitVec 32 := 0#32
  let v62 : BitVec 1 := Scalar.cmpi .slt c2_i32 c0_i32_28
  let v63 : BitVec 32 := Scalar.extui v62
  let v64 : BitVec 32 := Scalar.subi v61 v63
  let v65 : BitVec 1 := Scalar.cmpi .ne v59 v64
  let v66 : BitVec 32 := Scalar.remsi arg2 c2_i32
  let c0_i32_29 : BitVec 32 := 0#32
  let v67 : BitVec 1 := Scalar.cmpi .ne v66 c0_i32_29
  let v68 : BitVec 1 := Scalar.andi v65 v67
  let v54 : BitVec 32 := Scalar.divsi arg2 c2_i32
  let c1_i32 : BitVec 32 := 1#32
  let v69 : BitVec 32 := Scalar.subi v54 c1_i32
  let v70 : BitVec 32 := Scalar.select v68 v69 v54
  let v71 : BitVec 32 := Scalar.subi v70 c0_i32_30
  let c1_i32_31 : BitVec 32 := 1#32
  let v73 : BitVec 32 := Scalar.divsi v71 c1_i32_31
  let v74 : BitVec 32 := Scalar.muli v73 c1_i32_31
  let v75 : BitVec 32 := Scalar.addi c0_i32_30 v74
  let v72 : BitVec 32 := Scalar.addi c0_i32_30 v71
  let c1_i32_33 : BitVec 32 := 1#32
  ⟨v75, v72, c1_i32_33⟩
def k0_mult2 (i : grid0.Coords) (k0_t2 : Fin (k0_t2_loop i).trips) : BitVec 32 :=
  let c0_i32_30 : BitVec 32 := 0#32
  let arg2 : BitVec 32 := BitVec.ofNat 32 (i 2).val
  let c0_i32 : BitVec 32 := 0#32
  let v55 : BitVec 1 := Scalar.cmpi .sgt arg2 c0_i32
  let v56 : BitVec 32 := Scalar.extui v55
  let c0_i32_26 : BitVec 32 := 0#32
  let v57 : BitVec 1 := Scalar.cmpi .slt arg2 c0_i32_26
  let v58 : BitVec 32 := Scalar.extui v57
  let v59 : BitVec 32 := Scalar.subi v56 v58
  let c2_i32 : BitVec 32 := 2#32
  let c0_i32_27 : BitVec 32 := 0#32
  let v60 : BitVec 1 := Scalar.cmpi .sgt c2_i32 c0_i32_27
  let v61 : BitVec 32 := Scalar.extui v60
  let c0_i32_28 : BitVec 32 := 0#32
  let v62 : BitVec 1 := Scalar.cmpi .slt c2_i32 c0_i32_28
  let v63 : BitVec 32 := Scalar.extui v62
  let v64 : BitVec 32 := Scalar.subi v61 v63
  let v65 : BitVec 1 := Scalar.cmpi .ne v59 v64
  let v66 : BitVec 32 := Scalar.remsi arg2 c2_i32
  let c0_i32_29 : BitVec 32 := 0#32
  let v67 : BitVec 1 := Scalar.cmpi .ne v66 c0_i32_29
  let v68 : BitVec 1 := Scalar.andi v65 v67
  let v54 : BitVec 32 := Scalar.divsi arg2 c2_i32
  let c1_i32 : BitVec 32 := 1#32
  let v69 : BitVec 32 := Scalar.subi v54 c1_i32
  let v70 : BitVec 32 := Scalar.select v68 v69 v54
  let v71 : BitVec 32 := Scalar.subi v70 c0_i32_30
  let c1_i32_31 : BitVec 32 := 1#32
  let v73 : BitVec 32 := Scalar.divsi v71 c1_i32_31
  let v74 : BitVec 32 := Scalar.muli v73 c1_i32_31
  let v75 : BitVec 32 := Scalar.addi c0_i32_30 v74
  let c1_i32_33 : BitVec 32 := 1#32
  let arg11 : BitVec 32 := Scf.iv v75 c1_i32_33 k0_t2
  let c1024_i32 : BitVec 32 := 1024#32
  let v350 : BitVec 32 := Scalar.muli arg11 c1024_i32
  v350
def k0_off9 (i : grid0.Coords) (k0_t2 : Fin (k0_t2_loop i).trips) : Fin 3 → Nat :=
  let c0_133 : Index := 0#32
  let c0_i32_30 : BitVec 32 := 0#32
  let arg2 : BitVec 32 := BitVec.ofNat 32 (i 2).val
  let c0_i32 : BitVec 32 := 0#32
  let v55 : BitVec 1 := Scalar.cmpi .sgt arg2 c0_i32
  let v56 : BitVec 32 := Scalar.extui v55
  let c0_i32_26 : BitVec 32 := 0#32
  let v57 : BitVec 1 := Scalar.cmpi .slt arg2 c0_i32_26
  let v58 : BitVec 32 := Scalar.extui v57
  let v59 : BitVec 32 := Scalar.subi v56 v58
  let c2_i32 : BitVec 32 := 2#32
  let c0_i32_27 : BitVec 32 := 0#32
  let v60 : BitVec 1 := Scalar.cmpi .sgt c2_i32 c0_i32_27
  let v61 : BitVec 32 := Scalar.extui v60
  let c0_i32_28 : BitVec 32 := 0#32
  let v62 : BitVec 1 := Scalar.cmpi .slt c2_i32 c0_i32_28
  let v63 : BitVec 32 := Scalar.extui v62
  let v64 : BitVec 32 := Scalar.subi v61 v63
  let v65 : BitVec 1 := Scalar.cmpi .ne v59 v64
  let v66 : BitVec 32 := Scalar.remsi arg2 c2_i32
  let c0_i32_29 : BitVec 32 := 0#32
  let v67 : BitVec 1 := Scalar.cmpi .ne v66 c0_i32_29
  let v68 : BitVec 1 := Scalar.andi v65 v67
  let v54 : BitVec 32 := Scalar.divsi arg2 c2_i32
  let c1_i32 : BitVec 32 := 1#32
  let v69 : BitVec 32 := Scalar.subi v54 c1_i32
  let v70 : BitVec 32 := Scalar.select v68 v69 v54
  let v71 : BitVec 32 := Scalar.subi v70 c0_i32_30
  let c1_i32_31 : BitVec 32 := 1#32
  let v73 : BitVec 32 := Scalar.divsi v71 c1_i32_31
  let v74 : BitVec 32 := Scalar.muli v73 c1_i32_31
  let v75 : BitVec 32 := Scalar.addi c0_i32_30 v74
  let c1_i32_33 : BitVec 32 := 1#32
  let arg11 : BitVec 32 := Scf.iv v75 c1_i32_33 k0_t2
  let c1024_i32 : BitVec 32 := 1024#32
  let v350 : BitVec 32 := Scalar.muli arg11 c1024_i32
  let v351 : BitVec 32 := v350
  let v352 : Index := Scalar.indexCast v351
  let c0_134 : Index := 0#32
  ![0, v352.toNat, 0]
def k0_off10 (i : grid0.Coords) (k0_t2 : Fin (k0_t2_loop i).trips) : Fin 3 → Nat :=
  let c0_136 : Index := 0#32
  let c0_i32_30 : BitVec 32 := 0#32
  let arg2 : BitVec 32 := BitVec.ofNat 32 (i 2).val
  let c0_i32 : BitVec 32 := 0#32
  let v55 : BitVec 1 := Scalar.cmpi .sgt arg2 c0_i32
  let v56 : BitVec 32 := Scalar.extui v55
  let c0_i32_26 : BitVec 32 := 0#32
  let v57 : BitVec 1 := Scalar.cmpi .slt arg2 c0_i32_26
  let v58 : BitVec 32 := Scalar.extui v57
  let v59 : BitVec 32 := Scalar.subi v56 v58
  let c2_i32 : BitVec 32 := 2#32
  let c0_i32_27 : BitVec 32 := 0#32
  let v60 : BitVec 1 := Scalar.cmpi .sgt c2_i32 c0_i32_27
  let v61 : BitVec 32 := Scalar.extui v60
  let c0_i32_28 : BitVec 32 := 0#32
  let v62 : BitVec 1 := Scalar.cmpi .slt c2_i32 c0_i32_28
  let v63 : BitVec 32 := Scalar.extui v62
  let v64 : BitVec 32 := Scalar.subi v61 v63
  let v65 : BitVec 1 := Scalar.cmpi .ne v59 v64
  let v66 : BitVec 32 := Scalar.remsi arg2 c2_i32
  let c0_i32_29 : BitVec 32 := 0#32
  let v67 : BitVec 1 := Scalar.cmpi .ne v66 c0_i32_29
  let v68 : BitVec 1 := Scalar.andi v65 v67
  let v54 : BitVec 32 := Scalar.divsi arg2 c2_i32
  let c1_i32 : BitVec 32 := 1#32
  let v69 : BitVec 32 := Scalar.subi v54 c1_i32
  let v70 : BitVec 32 := Scalar.select v68 v69 v54
  let v71 : BitVec 32 := Scalar.subi v70 c0_i32_30
  let c1_i32_31 : BitVec 32 := 1#32
  let v73 : BitVec 32 := Scalar.divsi v71 c1_i32_31
  let v74 : BitVec 32 := Scalar.muli v73 c1_i32_31
  let v75 : BitVec 32 := Scalar.addi c0_i32_30 v74
  let c1_i32_33 : BitVec 32 := 1#32
  let arg11 : BitVec 32 := Scf.iv v75 c1_i32_33 k0_t2
  let c1024_i32 : BitVec 32 := 1024#32
  let v350 : BitVec 32 := Scalar.muli arg11 c1024_i32
  let v351 : BitVec 32 := v350
  let v356 : Index := Scalar.indexCast v351
  let c128_137 : Index := 128#32
  ![0, v356.toNat, 128]
def k0_off11 (i : grid0.Coords) (k0_t2 : Fin (k0_t2_loop i).trips) : Fin 3 → Nat :=
  let c0_139 : Index := 0#32
  let c0_i32_30 : BitVec 32 := 0#32
  let arg2 : BitVec 32 := BitVec.ofNat 32 (i 2).val
  let c0_i32 : BitVec 32 := 0#32
  let v55 : BitVec 1 := Scalar.cmpi .sgt arg2 c0_i32
  let v56 : BitVec 32 := Scalar.extui v55
  let c0_i32_26 : BitVec 32 := 0#32
  let v57 : BitVec 1 := Scalar.cmpi .slt arg2 c0_i32_26
  let v58 : BitVec 32 := Scalar.extui v57
  let v59 : BitVec 32 := Scalar.subi v56 v58
  let c2_i32 : BitVec 32 := 2#32
  let c0_i32_27 : BitVec 32 := 0#32
  let v60 : BitVec 1 := Scalar.cmpi .sgt c2_i32 c0_i32_27
  let v61 : BitVec 32 := Scalar.extui v60
  let c0_i32_28 : BitVec 32 := 0#32
  let v62 : BitVec 1 := Scalar.cmpi .slt c2_i32 c0_i32_28
  let v63 : BitVec 32 := Scalar.extui v62
  let v64 : BitVec 32 := Scalar.subi v61 v63
  let v65 : BitVec 1 := Scalar.cmpi .ne v59 v64
  let v66 : BitVec 32 := Scalar.remsi arg2 c2_i32
  let c0_i32_29 : BitVec 32 := 0#32
  let v67 : BitVec 1 := Scalar.cmpi .ne v66 c0_i32_29
  let v68 : BitVec 1 := Scalar.andi v65 v67
  let v54 : BitVec 32 := Scalar.divsi arg2 c2_i32
  let c1_i32 : BitVec 32 := 1#32
  let v69 : BitVec 32 := Scalar.subi v54 c1_i32
  let v70 : BitVec 32 := Scalar.select v68 v69 v54
  let v71 : BitVec 32 := Scalar.subi v70 c0_i32_30
  let c1_i32_31 : BitVec 32 := 1#32
  let v73 : BitVec 32 := Scalar.divsi v71 c1_i32_31
  let v74 : BitVec 32 := Scalar.muli v73 c1_i32_31
  let v75 : BitVec 32 := Scalar.addi c0_i32_30 v74
  let c1_i32_33 : BitVec 32 := 1#32
  let arg11 : BitVec 32 := Scf.iv v75 c1_i32_33 k0_t2
  let c1024_i32 : BitVec 32 := 1024#32
  let v350 : BitVec 32 := Scalar.muli arg11 c1024_i32
  let v351 : BitVec 32 := v350
  let v360 : Index := Scalar.indexCast v351
  let c256_140 : Index := 256#32
  ![0, v360.toNat, 256]
def k0_off12 (i : grid0.Coords) (k0_t2 : Fin (k0_t2_loop i).trips) : Fin 3 → Nat :=
  let c0_142 : Index := 0#32
  let c0_143 : Index := 0#32
  let c0_i32_30 : BitVec 32 := 0#32
  let arg2 : BitVec 32 := BitVec.ofNat 32 (i 2).val
  let c0_i32 : BitVec 32 := 0#32
  let v55 : BitVec 1 := Scalar.cmpi .sgt arg2 c0_i32
  let v56 : BitVec 32 := Scalar.extui v55
  let c0_i32_26 : BitVec 32 := 0#32
  let v57 : BitVec 1 := Scalar.cmpi .slt arg2 c0_i32_26
  let v58 : BitVec 32 := Scalar.extui v57
  let v59 : BitVec 32 := Scalar.subi v56 v58
  let c2_i32 : BitVec 32 := 2#32
  let c0_i32_27 : BitVec 32 := 0#32
  let v60 : BitVec 1 := Scalar.cmpi .sgt c2_i32 c0_i32_27
  let v61 : BitVec 32 := Scalar.extui v60
  let c0_i32_28 : BitVec 32 := 0#32
  let v62 : BitVec 1 := Scalar.cmpi .slt c2_i32 c0_i32_28
  let v63 : BitVec 32 := Scalar.extui v62
  let v64 : BitVec 32 := Scalar.subi v61 v63
  let v65 : BitVec 1 := Scalar.cmpi .ne v59 v64
  let v66 : BitVec 32 := Scalar.remsi arg2 c2_i32
  let c0_i32_29 : BitVec 32 := 0#32
  let v67 : BitVec 1 := Scalar.cmpi .ne v66 c0_i32_29
  let v68 : BitVec 1 := Scalar.andi v65 v67
  let v54 : BitVec 32 := Scalar.divsi arg2 c2_i32
  let c1_i32 : BitVec 32 := 1#32
  let v69 : BitVec 32 := Scalar.subi v54 c1_i32
  let v70 : BitVec 32 := Scalar.select v68 v69 v54
  let v71 : BitVec 32 := Scalar.subi v70 c0_i32_30
  let c1_i32_31 : BitVec 32 := 1#32
  let v73 : BitVec 32 := Scalar.divsi v71 c1_i32_31
  let v74 : BitVec 32 := Scalar.muli v73 c1_i32_31
  let v75 : BitVec 32 := Scalar.addi c0_i32_30 v74
  let c1_i32_33 : BitVec 32 := 1#32
  let arg11 : BitVec 32 := Scf.iv v75 c1_i32_33 k0_t2
  let c1024_i32 : BitVec 32 := 1024#32
  let v350 : BitVec 32 := Scalar.muli arg11 c1024_i32
  let v351 : BitVec 32 := v350
  let v364 : Index := Scalar.indexCast v351
  ![0, 0, v364.toNat]
def k0_off13 (i : grid0.Coords) (k0_t2 : Fin (k0_t2_loop i).trips) : Fin 3 → Nat :=
  let c0_147 : Index := 0#32
  let c0_i32_30 : BitVec 32 := 0#32
  let arg2 : BitVec 32 := BitVec.ofNat 32 (i 2).val
  let c0_i32 : BitVec 32 := 0#32
  let v55 : BitVec 1 := Scalar.cmpi .sgt arg2 c0_i32
  let v56 : BitVec 32 := Scalar.extui v55
  let c0_i32_26 : BitVec 32 := 0#32
  let v57 : BitVec 1 := Scalar.cmpi .slt arg2 c0_i32_26
  let v58 : BitVec 32 := Scalar.extui v57
  let v59 : BitVec 32 := Scalar.subi v56 v58
  let c2_i32 : BitVec 32 := 2#32
  let c0_i32_27 : BitVec 32 := 0#32
  let v60 : BitVec 1 := Scalar.cmpi .sgt c2_i32 c0_i32_27
  let v61 : BitVec 32 := Scalar.extui v60
  let c0_i32_28 : BitVec 32 := 0#32
  let v62 : BitVec 1 := Scalar.cmpi .slt c2_i32 c0_i32_28
  let v63 : BitVec 32 := Scalar.extui v62
  let v64 : BitVec 32 := Scalar.subi v61 v63
  let v65 : BitVec 1 := Scalar.cmpi .ne v59 v64
  let v66 : BitVec 32 := Scalar.remsi arg2 c2_i32
  let c0_i32_29 : BitVec 32 := 0#32
  let v67 : BitVec 1 := Scalar.cmpi .ne v66 c0_i32_29
  let v68 : BitVec 1 := Scalar.andi v65 v67
  let v54 : BitVec 32 := Scalar.divsi arg2 c2_i32
  let c1_i32 : BitVec 32 := 1#32
  let v69 : BitVec 32 := Scalar.subi v54 c1_i32
  let v70 : BitVec 32 := Scalar.select v68 v69 v54
  let v71 : BitVec 32 := Scalar.subi v70 c0_i32_30
  let c1_i32_31 : BitVec 32 := 1#32
  let v73 : BitVec 32 := Scalar.divsi v71 c1_i32_31
  let v74 : BitVec 32 := Scalar.muli v73 c1_i32_31
  let v75 : BitVec 32 := Scalar.addi c0_i32_30 v74
  let c1_i32_33 : BitVec 32 := 1#32
  let arg11 : BitVec 32 := Scf.iv v75 c1_i32_33 k0_t2
  let c1024_i32 : BitVec 32 := 1024#32
  let v350 : BitVec 32 := Scalar.muli arg11 c1024_i32
  let v351 : BitVec 32 := v350
  let v382 : Index := Scalar.indexCast v351
  let c384_148 : Index := 384#32
  ![0, v382.toNat, 384]
def k0_off14 (i : grid0.Coords) (k0_t2 : Fin (k0_t2_loop i).trips) : Fin 3 → Nat :=
  let c0_150 : Index := 0#32
  let c128_151 : Index := 128#32
  let c0_i32_30 : BitVec 32 := 0#32
  let arg2 : BitVec 32 := BitVec.ofNat 32 (i 2).val
  let c0_i32 : BitVec 32 := 0#32
  let v55 : BitVec 1 := Scalar.cmpi .sgt arg2 c0_i32
  let v56 : BitVec 32 := Scalar.extui v55
  let c0_i32_26 : BitVec 32 := 0#32
  let v57 : BitVec 1 := Scalar.cmpi .slt arg2 c0_i32_26
  let v58 : BitVec 32 := Scalar.extui v57
  let v59 : BitVec 32 := Scalar.subi v56 v58
  let c2_i32 : BitVec 32 := 2#32
  let c0_i32_27 : BitVec 32 := 0#32
  let v60 : BitVec 1 := Scalar.cmpi .sgt c2_i32 c0_i32_27
  let v61 : BitVec 32 := Scalar.extui v60
  let c0_i32_28 : BitVec 32 := 0#32
  let v62 : BitVec 1 := Scalar.cmpi .slt c2_i32 c0_i32_28
  let v63 : BitVec 32 := Scalar.extui v62
  let v64 : BitVec 32 := Scalar.subi v61 v63
  let v65 : BitVec 1 := Scalar.cmpi .ne v59 v64
  let v66 : BitVec 32 := Scalar.remsi arg2 c2_i32
  let c0_i32_29 : BitVec 32 := 0#32
  let v67 : BitVec 1 := Scalar.cmpi .ne v66 c0_i32_29
  let v68 : BitVec 1 := Scalar.andi v65 v67
  let v54 : BitVec 32 := Scalar.divsi arg2 c2_i32
  let c1_i32 : BitVec 32 := 1#32
  let v69 : BitVec 32 := Scalar.subi v54 c1_i32
  let v70 : BitVec 32 := Scalar.select v68 v69 v54
  let v71 : BitVec 32 := Scalar.subi v70 c0_i32_30
  let c1_i32_31 : BitVec 32 := 1#32
  let v73 : BitVec 32 := Scalar.divsi v71 c1_i32_31
  let v74 : BitVec 32 := Scalar.muli v73 c1_i32_31
  let v75 : BitVec 32 := Scalar.addi c0_i32_30 v74
  let c1_i32_33 : BitVec 32 := 1#32
  let arg11 : BitVec 32 := Scf.iv v75 c1_i32_33 k0_t2
  let c1024_i32 : BitVec 32 := 1024#32
  let v350 : BitVec 32 := Scalar.muli arg11 c1024_i32
  let v351 : BitVec 32 := v350
  let v386 : Index := Scalar.indexCast v351
  ![0, 128, v386.toNat]
def k0_off15 (i : grid0.Coords) (k0_t2 : Fin (k0_t2_loop i).trips) : Fin 3 → Nat :=
  let c0_155 : Index := 0#32
  let c256_156 : Index := 256#32
  let c0_i32_30 : BitVec 32 := 0#32
  let arg2 : BitVec 32 := BitVec.ofNat 32 (i 2).val
  let c0_i32 : BitVec 32 := 0#32
  let v55 : BitVec 1 := Scalar.cmpi .sgt arg2 c0_i32
  let v56 : BitVec 32 := Scalar.extui v55
  let c0_i32_26 : BitVec 32 := 0#32
  let v57 : BitVec 1 := Scalar.cmpi .slt arg2 c0_i32_26
  let v58 : BitVec 32 := Scalar.extui v57
  let v59 : BitVec 32 := Scalar.subi v56 v58
  let c2_i32 : BitVec 32 := 2#32
  let c0_i32_27 : BitVec 32 := 0#32
  let v60 : BitVec 1 := Scalar.cmpi .sgt c2_i32 c0_i32_27
  let v61 : BitVec 32 := Scalar.extui v60
  let c0_i32_28 : BitVec 32 := 0#32
  let v62 : BitVec 1 := Scalar.cmpi .slt c2_i32 c0_i32_28
  let v63 : BitVec 32 := Scalar.extui v62
  let v64 : BitVec 32 := Scalar.subi v61 v63
  let v65 : BitVec 1 := Scalar.cmpi .ne v59 v64
  let v66 : BitVec 32 := Scalar.remsi arg2 c2_i32
  let c0_i32_29 : BitVec 32 := 0#32
  let v67 : BitVec 1 := Scalar.cmpi .ne v66 c0_i32_29
  let v68 : BitVec 1 := Scalar.andi v65 v67
  let v54 : BitVec 32 := Scalar.divsi arg2 c2_i32
  let c1_i32 : BitVec 32 := 1#32
  let v69 : BitVec 32 := Scalar.subi v54 c1_i32
  let v70 : BitVec 32 := Scalar.select v68 v69 v54
  let v71 : BitVec 32 := Scalar.subi v70 c0_i32_30
  let c1_i32_31 : BitVec 32 := 1#32
  let v73 : BitVec 32 := Scalar.divsi v71 c1_i32_31
  let v74 : BitVec 32 := Scalar.muli v73 c1_i32_31
  let v75 : BitVec 32 := Scalar.addi c0_i32_30 v74
  let c1_i32_33 : BitVec 32 := 1#32
  let arg11 : BitVec 32 := Scf.iv v75 c1_i32_33 k0_t2
  let c1024_i32 : BitVec 32 := 1024#32
  let v350 : BitVec 32 := Scalar.muli arg11 c1024_i32
  let v351 : BitVec 32 := v350
  let v404 : Index := Scalar.indexCast v351
  ![0, 256, v404.toNat]
def k0_off16 (i : grid0.Coords) (k0_t2 : Fin (k0_t2_loop i).trips) : Fin 3 → Nat :=
  let c0_160 : Index := 0#32
  let c384_161 : Index := 384#32
  let c0_i32_30 : BitVec 32 := 0#32
  let arg2 : BitVec 32 := BitVec.ofNat 32 (i 2).val
  let c0_i32 : BitVec 32 := 0#32
  let v55 : BitVec 1 := Scalar.cmpi .sgt arg2 c0_i32
  let v56 : BitVec 32 := Scalar.extui v55
  let c0_i32_26 : BitVec 32 := 0#32
  let v57 : BitVec 1 := Scalar.cmpi .slt arg2 c0_i32_26
  let v58 : BitVec 32 := Scalar.extui v57
  let v59 : BitVec 32 := Scalar.subi v56 v58
  let c2_i32 : BitVec 32 := 2#32
  let c0_i32_27 : BitVec 32 := 0#32
  let v60 : BitVec 1 := Scalar.cmpi .sgt c2_i32 c0_i32_27
  let v61 : BitVec 32 := Scalar.extui v60
  let c0_i32_28 : BitVec 32 := 0#32
  let v62 : BitVec 1 := Scalar.cmpi .slt c2_i32 c0_i32_28
  let v63 : BitVec 32 := Scalar.extui v62
  let v64 : BitVec 32 := Scalar.subi v61 v63
  let v65 : BitVec 1 := Scalar.cmpi .ne v59 v64
  let v66 : BitVec 32 := Scalar.remsi arg2 c2_i32
  let c0_i32_29 : BitVec 32 := 0#32
  let v67 : BitVec 1 := Scalar.cmpi .ne v66 c0_i32_29
  let v68 : BitVec 1 := Scalar.andi v65 v67
  let v54 : BitVec 32 := Scalar.divsi arg2 c2_i32
  let c1_i32 : BitVec 32 := 1#32
  let v69 : BitVec 32 := Scalar.subi v54 c1_i32
  let v70 : BitVec 32 := Scalar.select v68 v69 v54
  let v71 : BitVec 32 := Scalar.subi v70 c0_i32_30
  let c1_i32_31 : BitVec 32 := 1#32
  let v73 : BitVec 32 := Scalar.divsi v71 c1_i32_31
  let v74 : BitVec 32 := Scalar.muli v73 c1_i32_31
  let v75 : BitVec 32 := Scalar.addi c0_i32_30 v74
  let c1_i32_33 : BitVec 32 := 1#32
  let arg11 : BitVec 32 := Scf.iv v75 c1_i32_33 k0_t2
  let c1024_i32 : BitVec 32 := 1024#32
  let v350 : BitVec 32 := Scalar.muli arg11 c1024_i32
  let v351 : BitVec 32 := v350
  let v422 : Index := Scalar.indexCast v351
  ![0, 384, v422.toNat]
def k0_cond1 (i : grid0.Coords) : BitVec 1 :=
  let arg2 : BitVec 32 := BitVec.ofNat 32 (i 2).val
  let c2_i32_34 : BitVec 32 := 2#32
  let c0_i32_35 : BitVec 32 := 0#32
  let v78 : BitVec 1 := Scalar.cmpi .eq c2_i32_34 c0_i32_35
  let c1_i32_36 : BitVec 32 := 1#32
  let v79 : BitVec 32 := Scalar.select v78 c1_i32_36 c2_i32_34
  let v80 : BitVec 32 := Scalar.remsi arg2 v79
  let c0_i32_38 : BitVec 32 := 0#32
  let v82 : BitVec 1 := Scalar.cmpi .slt v80 c0_i32_38
  let c0_i32_39 : BitVec 32 := 0#32
  let v83 : BitVec 1 := Scalar.cmpi .slt v79 c0_i32_39
  let v84 : BitVec 1 := Scalar.xori v82 v83
  let c0_i32_37 : BitVec 32 := 0#32
  let v81 : BitVec 1 := Scalar.cmpi .ne v80 c0_i32_37
  let v85 : BitVec 1 := Scalar.andi v84 v81
  let v86 : BitVec 32 := Scalar.addi v80 v79
  let v87 : BitVec 32 := Scalar.select v85 v86 v80
  let c1_i32_40 : BitVec 32 := 1#32
  let v88 : BitVec 1 := Scalar.cmpi .eq v87 c1_i32_40
  let v89 : BitVec 32 := Scalar.extui v88
  let c0_i32_41 : BitVec 32 := 0#32
  let v90 : BitVec 1 := Scalar.cmpi .ne v89 c0_i32_41
  v90

def k0_mult3 (i : grid0.Coords) : BitVec 32 :=
  let arg2 : BitVec 32 := BitVec.ofNat 32 (i 2).val
  let c1_i32_133 : BitVec 32 := 1#32
  let v350 : BitVec 32 := Scalar.subi arg2 c1_i32_133
  let c512_i32_134 : BitVec 32 := 512#32
  let v351 : BitVec 32 := Scalar.muli v350 c512_i32_134
  v351
def k0_off17 (i : grid0.Coords) : Fin 3 → Nat :=
  let c0_135 : Index := 0#32
  let arg2 : BitVec 32 := BitVec.ofNat 32 (i 2).val
  let c1_i32_133 : BitVec 32 := 1#32
  let v350 : BitVec 32 := Scalar.subi arg2 c1_i32_133
  let c512_i32_134 : BitVec 32 := 512#32
  let v351 : BitVec 32 := Scalar.muli v350 c512_i32_134
  let v352 : BitVec 32 := v351
  let v353 : Index := Scalar.indexCast v352
  let c0_136 : Index := 0#32
  ![0, v353.toNat, 0]
def k0_off18 (i : grid0.Coords) : Fin 3 → Nat :=
  let c0_138 : Index := 0#32
  let arg2 : BitVec 32 := BitVec.ofNat 32 (i 2).val
  let c1_i32_133 : BitVec 32 := 1#32
  let v350 : BitVec 32 := Scalar.subi arg2 c1_i32_133
  let c512_i32_134 : BitVec 32 := 512#32
  let v351 : BitVec 32 := Scalar.muli v350 c512_i32_134
  let v352 : BitVec 32 := v351
  let v357 : Index := Scalar.indexCast v352
  let c128_139 : Index := 128#32
  ![0, v357.toNat, 128]
def k0_off19 (i : grid0.Coords) : Fin 3 → Nat :=
  let c0_141 : Index := 0#32
  let arg2 : BitVec 32 := BitVec.ofNat 32 (i 2).val
  let c1_i32_133 : BitVec 32 := 1#32
  let v350 : BitVec 32 := Scalar.subi arg2 c1_i32_133
  let c512_i32_134 : BitVec 32 := 512#32
  let v351 : BitVec 32 := Scalar.muli v350 c512_i32_134
  let v352 : BitVec 32 := v351
  let v361 : Index := Scalar.indexCast v352
  let c256_142 : Index := 256#32
  ![0, v361.toNat, 256]
def k0_off20 (i : grid0.Coords) : Fin 3 → Nat :=
  let c0_144 : Index := 0#32
  let c0_145 : Index := 0#32
  let arg2 : BitVec 32 := BitVec.ofNat 32 (i 2).val
  let c1_i32_133 : BitVec 32 := 1#32
  let v350 : BitVec 32 := Scalar.subi arg2 c1_i32_133
  let c512_i32_134 : BitVec 32 := 512#32
  let v351 : BitVec 32 := Scalar.muli v350 c512_i32_134
  let v352 : BitVec 32 := v351
  let v365 : Index := Scalar.indexCast v352
  ![0, 0, v365.toNat]
def k0_off21 (i : grid0.Coords) : Fin 3 → Nat :=
  let c0_149 : Index := 0#32
  let arg2 : BitVec 32 := BitVec.ofNat 32 (i 2).val
  let c1_i32_133 : BitVec 32 := 1#32
  let v350 : BitVec 32 := Scalar.subi arg2 c1_i32_133
  let c512_i32_134 : BitVec 32 := 512#32
  let v351 : BitVec 32 := Scalar.muli v350 c512_i32_134
  let v352 : BitVec 32 := v351
  let v383 : Index := Scalar.indexCast v352
  let c384_150 : Index := 384#32
  ![0, v383.toNat, 384]
def k0_off22 (i : grid0.Coords) : Fin 3 → Nat :=
  let c0_152 : Index := 0#32
  let c128_153 : Index := 128#32
  let arg2 : BitVec 32 := BitVec.ofNat 32 (i 2).val
  let c1_i32_133 : BitVec 32 := 1#32
  let v350 : BitVec 32 := Scalar.subi arg2 c1_i32_133
  let c512_i32_134 : BitVec 32 := 512#32
  let v351 : BitVec 32 := Scalar.muli v350 c512_i32_134
  let v352 : BitVec 32 := v351
  let v387 : Index := Scalar.indexCast v352
  ![0, 128, v387.toNat]
def k0_off23 (i : grid0.Coords) : Fin 3 → Nat :=
  let c0_157 : Index := 0#32
  let c256_158 : Index := 256#32
  let arg2 : BitVec 32 := BitVec.ofNat 32 (i 2).val
  let c1_i32_133 : BitVec 32 := 1#32
  let v350 : BitVec 32 := Scalar.subi arg2 c1_i32_133
  let c512_i32_134 : BitVec 32 := 512#32
  let v351 : BitVec 32 := Scalar.muli v350 c512_i32_134
  let v352 : BitVec 32 := v351
  let v405 : Index := Scalar.indexCast v352
  ![0, 256, v405.toNat]
def k0_off24 (i : grid0.Coords) : Fin 3 → Nat :=
  let c0_162 : Index := 0#32
  let c384_163 : Index := 384#32
  let arg2 : BitVec 32 := BitVec.ofNat 32 (i 2).val
  let c1_i32_133 : BitVec 32 := 1#32
  let v350 : BitVec 32 := Scalar.subi arg2 c1_i32_133
  let c512_i32_134 : BitVec 32 := 512#32
  let v351 : BitVec 32 := Scalar.muli v350 c512_i32_134
  let v352 : BitVec 32 := v351
  let v423 : Index := Scalar.indexCast v352
  ![0, 384, v423.toNat]
def k0_mult4 (i : grid0.Coords) : BitVec 32 :=
  let arg2 : BitVec 32 := BitVec.ofNat 32 (i 2).val
  let c512_i32 : BitVec 32 := 512#32
  let v92 : BitVec 32 := Scalar.muli arg2 c512_i32
  v92
def k0_off25 (i : grid0.Coords) : Fin 3 → Nat :=
  let c0_42 : Index := 0#32
  let arg2 : BitVec 32 := BitVec.ofNat 32 (i 2).val
  let c512_i32 : BitVec 32 := 512#32
  let v92 : BitVec 32 := Scalar.muli arg2 c512_i32
  let v93 : BitVec 32 := v92
  let v94 : Index := Scalar.indexCast v93
  let c0_43 : Index := 0#32
  ![0, v94.toNat, 0]
def k0_off26 (i : grid0.Coords) : Fin 3 → Nat :=
  let c0_45 : Index := 0#32
  let arg2 : BitVec 32 := BitVec.ofNat 32 (i 2).val
  let c512_i32 : BitVec 32 := 512#32
  let v92 : BitVec 32 := Scalar.muli arg2 c512_i32
  let v93 : BitVec 32 := v92
  let v98 : Index := Scalar.indexCast v93
  let c128_46 : Index := 128#32
  ![0, v98.toNat, 128]
def k0_off27 (i : grid0.Coords) : Fin 3 → Nat :=
  let c0_48 : Index := 0#32
  let arg2 : BitVec 32 := BitVec.ofNat 32 (i 2).val
  let c512_i32 : BitVec 32 := 512#32
  let v92 : BitVec 32 := Scalar.muli arg2 c512_i32
  let v93 : BitVec 32 := v92
  let v102 : Index := Scalar.indexCast v93
  let c256_49 : Index := 256#32
  ![0, v102.toNat, 256]
def k0_off28 (i : grid0.Coords) : Fin 3 → Nat :=
  let c0_51 : Index := 0#32
  let c0_52 : Index := 0#32
  let arg2 : BitVec 32 := BitVec.ofNat 32 (i 2).val
  let c512_i32 : BitVec 32 := 512#32
  let v92 : BitVec 32 := Scalar.muli arg2 c512_i32
  let v93 : BitVec 32 := v92
  let v106 : Index := Scalar.indexCast v93
  ![0, 0, v106.toNat]
def k0_off29 (i : grid0.Coords) : Fin 3 → Nat :=
  let c0_57 : Index := 0#32
  let arg2 : BitVec 32 := BitVec.ofNat 32 (i 2).val
  let c512_i32 : BitVec 32 := 512#32
  let v92 : BitVec 32 := Scalar.muli arg2 c512_i32
  let v93 : BitVec 32 := v92
  let v131 : Index := Scalar.indexCast v93
  let c384_58 : Index := 384#32
  ![0, v131.toNat, 384]
def k0_off30 (i : grid0.Coords) : Fin 3 → Nat :=
  let c0_60 : Index := 0#32
  let c128_61 : Index := 128#32
  let arg2 : BitVec 32 := BitVec.ofNat 32 (i 2).val
  let c512_i32 : BitVec 32 := 512#32
  let v92 : BitVec 32 := Scalar.muli arg2 c512_i32
  let v93 : BitVec 32 := v92
  let v135 : Index := Scalar.indexCast v93
  ![0, 128, v135.toNat]
def k0_off31 (i : grid0.Coords) : Fin 3 → Nat :=
  let c0_67 : Index := 0#32
  let c256_68 : Index := 256#32
  let arg2 : BitVec 32 := BitVec.ofNat 32 (i 2).val
  let c512_i32 : BitVec 32 := 512#32
  let v92 : BitVec 32 := Scalar.muli arg2 c512_i32
  let v93 : BitVec 32 := v92
  let v160 : Index := Scalar.indexCast v93
  ![0, 256, v160.toNat]
def k0_off32 (i : grid0.Coords) : Fin 3 → Nat :=
  let c0_74 : Index := 0#32
  let c384_75 : Index := 384#32
  let arg2 : BitVec 32 := BitVec.ofNat 32 (i 2).val
  let c512_i32 : BitVec 32 := 512#32
  let v92 : BitVec 32 := Scalar.muli arg2 c512_i32
  let v93 : BitVec 32 := v92
  let v185 : Index := Scalar.indexCast v93
  ![0, 384, v185.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S2x64 : Shape := ⟨2, ![2, 64]⟩
abbrev S8x4096x512 : Shape := ⟨3, ![8, 4096, 512]⟩
abbrev S8x512x4096 : Shape := ⟨3, ![8, 512, 4096]⟩
abbrev S1x128 : Shape := ⟨2, ![1, 128]⟩
abbrev S8x4096x4x2x64 : Shape := ⟨5, ![8, 4096, 4, 2, 64]⟩
abbrev S8x4x128x4096 : Shape := ⟨4, ![8, 4, 128, 4096]⟩
abbrev S_ : Shape := ⟨0, ![]⟩
abbrev S2 : Shape := ⟨1, ![2]⟩
abbrev S1 : Shape := ⟨1, ![1]⟩
abbrev S8x4x2x4096x4096 : Shape := ⟨5, ![8, 4, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4x2x4096 : Shape := ⟨4, ![8, 4, 2, 4096]⟩
abbrev S8x4x2x4096x1 : Shape := ⟨5, ![8, 4, 2, 4096, 1]⟩
abbrev S8x4x1x4096x4096 : Shape := ⟨5, ![8, 4, 1, 4096, 4096]⟩
abbrev S8x4x4096x4096 : Shape := ⟨4, ![8, 4, 4096, 4096]⟩
abbrev S8x4096x4x128 : Shape := ⟨4, ![8, 4096, 4, 128]⟩
abbrev S128 : Shape := ⟨1, ![128]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩

abbrev nBuf : Space → Nat
  | .hbm => 84
  | .vmem => 0
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S8x4096x512, .bf16⟩
  | .hbm, ⟨3, _⟩ => ⟨S8x4096x512, .bf16⟩
  | .hbm, ⟨4, _⟩ => ⟨S8x512x4096, .bf16⟩
  | .hbm, ⟨5, _⟩ => ⟨S8x4096x512, .bf16⟩
  | .hbm, ⟨6, _⟩ => ⟨S1x128, .f32⟩
  | .hbm, ⟨7, _⟩ => ⟨S8x4096x512, .f32⟩
  | .hbm, ⟨8, _⟩ => ⟨S8x4096x4x2x64, .f32⟩
  | .hbm, ⟨9, _⟩ => ⟨S8x4096x512, .f32⟩
  | .hbm, ⟨10, _⟩ => ⟨S8x4096x4x2x64, .f32⟩
  | .hbm, ⟨11, _⟩ => ⟨S8x512x4096, .f32⟩
  | .hbm, ⟨12, _⟩ => ⟨S8x4x128x4096, .f32⟩
  | .hbm, ⟨13, _⟩ => ⟨S2x64, .f32⟩
  | .hbm, ⟨14, _⟩ => ⟨S_, .f32⟩
  | .hbm, ⟨15, _⟩ => ⟨S2, .f32⟩
  | .hbm, ⟨16, _⟩ => ⟨S2, .f32⟩
  | .hbm, ⟨17, _⟩ => ⟨S1, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8x4x2x4096x4096, .f32⟩
  | .hbm, ⟨25, _⟩ => ⟨S_, .f32⟩
  | .hbm, ⟨26, _⟩ => ⟨S_, .f32⟩
  | .hbm, ⟨27, _⟩ => ⟨S8x4x2x4096x4096, .f32⟩
  | .hbm, ⟨28, _⟩ => ⟨S8x4x2x4096x4096, .f32⟩
  | .hbm, ⟨29, _⟩ => ⟨S4096, .i32⟩
  | .hbm, ⟨30, _⟩ => ⟨S1x4096, .i32⟩
  | .hbm, ⟨31, _⟩ => ⟨S4096x1, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S_, .f32⟩
  | .hbm, ⟨36, _⟩ => ⟨S_, .f32⟩
  | .hbm, ⟨37, _⟩ => ⟨S8x4x2x4096x4096, .i1⟩
  | .hbm, ⟨38, _⟩ => ⟨S8x4x2x4096x4096, .f32⟩
  | .hbm, ⟨39, _⟩ => ⟨S8x4x2x4096x4096, .f32⟩
  | .hbm, ⟨40, _⟩ => ⟨S_, .f32⟩
  | .hbm, ⟨41, _⟩ => ⟨S8x4x2x4096, .f32⟩
  | .hbm, ⟨42, _⟩ => ⟨S8x4x2x4096x1, .f32⟩
  | .hbm, ⟨43, _⟩ => ⟨S8x4x2x4096x4096, .f32⟩
  | .hbm, ⟨44, _⟩ => ⟨S8x4x2x4096x4096, .f32⟩
  | .hbm, ⟨45, _⟩ => ⟨S8x4x2x4096x4096, .f32⟩
  | .hbm, ⟨46, _⟩ => ⟨S_, .f32⟩
  | .hbm, ⟨47, _⟩ => ⟨S8x4x2x4096, .f32⟩
  | .hbm, ⟨48, _⟩ => ⟨S8x4x2x4096x1, .f32⟩
  | .hbm, ⟨49, _⟩ => ⟨S8x4x2x4096x4096, .f32⟩
  | .hbm, ⟨50, _⟩ => ⟨S8x4x2x4096x4096, .f32⟩
  | .hbm, ⟨51, _⟩ => ⟨S8x4x1x4096x4096, .f32⟩
  | .hbm, ⟨52, _⟩ => ⟨S8x4x4096x4096, .f32⟩
  | .hbm, ⟨53, _⟩ => ⟨S8x4x1x4096x4096, .f32⟩
  | .hbm, ⟨54, _⟩ => ⟨S8x4x4096x4096, .f32⟩
  | .hbm, ⟨55, _⟩ => ⟨S8x4x4096x4096, .f32⟩
  | .hbm, ⟨56, _⟩ => ⟨S8x4x4096x4096, .f32⟩
  | .hbm, ⟨57, _⟩ => ⟨S8x4x4096x4096, .f32⟩
  | .hbm, ⟨58, _⟩ => ⟨S8x4x128x4096, .f32⟩
  | .hbm, ⟨59, _⟩ => ⟨S8x4096x4x128, .f32⟩
  | .hbm, ⟨60, _⟩ => ⟨S128, .f32⟩
  | .hbm, ⟨61, _⟩ => ⟨S8x4096x4x128, .f32⟩
  | .hbm, ⟨62, _⟩ => ⟨S_, .f32⟩
  | .hbm, ⟨63, _⟩ => ⟨S8x4096x4, .f32⟩
  | .hbm, ⟨64, _⟩ => ⟨S8x4096x4x1, .f32⟩
  | .hbm, ⟨65, _⟩ => ⟨S_, .f32⟩
  | .hbm, ⟨66, _⟩ => ⟨S8x4096x4x1, .f32⟩
  | .hbm, ⟨67, _⟩ => ⟨S8x4096x4x1, .f32⟩
  | .hbm, ⟨68, _⟩ => ⟨S_, .f32⟩
  | .hbm, ⟨69, _⟩ => ⟨S8x4096x4x1, .f32⟩
  | .hbm, ⟨70, _⟩ => ⟨S8x4096x4x1, .f32⟩
  | .hbm, ⟨71, _⟩ => ⟨S8x4096x4x1, .f32⟩
  | .hbm, ⟨72, _⟩ => ⟨S8x4096x4x128, .f32⟩
  | .hbm, ⟨73, _⟩ => ⟨S8x4096x4x128, .f32⟩
  | .hbm, ⟨74, _⟩ => ⟨S1x1x1x128, .f32⟩
  | .hbm, ⟨75, _⟩ => ⟨S8x4096x4x128, .f32⟩
  | .hbm, ⟨76, _⟩ => ⟨S8x4096x4x128, .f32⟩
  | .hbm, ⟨77, _⟩ => ⟨S_, .f32⟩
  | .hbm, ⟨78, _⟩ => ⟨S8x4096x4x128, .f32⟩
  | .hbm, ⟨79, _⟩ => ⟨S8x4096x4x128, .f32⟩
  | .hbm, ⟨80, _⟩ => ⟨S8x4096x512, .f32⟩
  | .hbm, ⟨81, _⟩ => ⟨S8x4096x512, .f32⟩
  | .hbm, ⟨82, _⟩ => ⟨S8x4096x512, .f32⟩
  | .hbm, ⟨83, _⟩ => ⟨S8x4096x512, .bf16⟩
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== Kernel2.lean ====
abbrev S32768x1024 : Shape := ⟨2, ![32768, 1024]⟩
abbrev S1x1024 : Shape := ⟨2, ![1, 1024]⟩
abbrev S32768x512 : Shape := ⟨2, ![32768, 512]⟩
abbrev S1024x3072 : Shape := ⟨2, ![1024, 3072]⟩
abbrev S512x1024 : Shape := ⟨2, ![512, 1024]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩
abbrev S1024x256 : Shape := ⟨2, ![1024, 256]⟩
abbrev S512x256 : Shape := ⟨2, ![512, 256]⟩

abbrev nBuf : Space → Nat
  | .hbm => 11
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S1024x3072, .bf16⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x3072, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S32768x1024 : Shape := ⟨2, ![32768, 1024]⟩
abbrev S1x1024 : Shape := ⟨2, ![1, 1024]⟩
abbrev S32768x512 : Shape := ⟨2, ![32768, 512]⟩
abbrev S1024x3072 : Shape := ⟨2, ![1024, 3072]⟩
abbrev S512x1024 : Shape := ⟨2, ![512, 1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S32768x3072 : Shape := ⟨2, ![32768, 3072]⟩
abbrev S32768x3x1024 : Shape := ⟨3, ![32768, 3, 1024]⟩
abbrev S32768x1x1024 : Shape := ⟨3, ![32768, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S1024x3072, .bf16⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S1024x3072, .f32⟩
  | .hbm, ⟨26, _⟩ => ⟨S32768x3072, .f32⟩
  | .hbm, ⟨27, _⟩ => ⟨S32768x3072, .f32⟩
  | .hbm, ⟨28, _⟩ => ⟨S32768x3072, .f32⟩
  | .hbm, ⟨29, _⟩ => ⟨S_, .f32⟩
  | .hbm, ⟨30, _⟩ => ⟨S32768x3072, .f32⟩
  | .hbm, ⟨31, _⟩ => ⟨S32768x3072, .f32⟩
  | .hbm, ⟨32, _⟩ => ⟨S_, .f32⟩
  | .hbm, ⟨33, _⟩ => ⟨S32768x3072, .f32⟩
  | .hbm, ⟨34, _⟩ => ⟨S32768x3072, .f32⟩
  | .hbm, ⟨35, _⟩ => ⟨S32768x3x1024, .f32⟩
  | .hbm, ⟨36, _⟩ => ⟨S32768x1x1024, .f32⟩
  | .hbm, ⟨37, _⟩ => ⟨S32768x1024, .f32⟩
  | .hbm, ⟨38, _⟩ => ⟨S32768x512, .f32⟩
  | .hbm, ⟨39, _⟩ => ⟨S512x1024, .f32⟩
  | .hbm, ⟨40, _⟩ => ⟨S32768x1024, .f32⟩
  | .hbm, ⟨41, _⟩ => ⟨S32768x1024, .f32⟩
  | .hbm, ⟨42, _⟩ => ⟨S32768x1x1024, .f32⟩
  | .hbm, ⟨43, _⟩ => ⟨S32768x1024, .f32⟩
  | .hbm, ⟨44, _⟩ => ⟨S32768x512, .f32⟩
  | .hbm, ⟨45, _⟩ => ⟨S512x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1x1024, .f32⟩
  | .hbm, ⟨50, _⟩ => ⟨S32768x1024, .f32⟩
  | .hbm, ⟨51, _⟩ => ⟨S32768x512, .f32⟩
  | .hbm, ⟨52, _⟩ => ⟨S512x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S1024x1024, .f32⟩
  | .hbm, ⟨57, _⟩ => ⟨S32768x1024, .f32⟩
  | .hbm, ⟨58, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel3.lean ====
abbrev S8 : Shape := ⟨1, ![8]⟩
abbrev S8x4096x512 : Shape := ⟨3, ![8, 4096, 512]⟩
abbrev S8x4096x256 : Shape := ⟨3, ![8, 4096, 256]⟩
abbrev S8x128x4096 : Shape := ⟨3, ![8, 128, 4096]⟩
abbrev S1x2048x512 : Shape := ⟨3, ![1, 2048, 512]⟩
abbrev S1x2048x256 : Shape := ⟨3, ![1, 2048, 256]⟩
abbrev S1x128x256 : Shape := ⟨3, ![1, 128, 256]⟩
abbrev S1x128x2048 : Shape := ⟨3, ![1, 128, 2048]⟩
abbrev S1x128x128 : Shape := ⟨3, ![1, 128, 128]⟩
abbrev S128x256 : Shape := ⟨2, ![128, 256]⟩
abbrev S2048x256 : Shape := ⟨2, ![2048, 256]⟩
abbrev S2176x256 : Shape := ⟨2, ![2176, 256]⟩
abbrev S128x128 : Shape := ⟨2, ![128, 128]⟩
abbrev S128x2048 : Shape := ⟨2, ![128, 2048]⟩
abbrev S128x2176 : Shape := ⟨2, ![128, 2176]⟩
abbrev S256x256 : Shape := ⟨2, ![256, 256]⟩
abbrev S1x256 : Shape := ⟨2, ![1, 256]⟩
abbrev S16x256 : Shape := ⟨2, ![16, 256]⟩
abbrev S1x128x512 : Shape := ⟨3, ![1, 128, 512]⟩
abbrev S128x512 : Shape := ⟨2, ![128, 512]⟩
abbrev S256x128 : Shape := ⟨2, ![256, 128]⟩
abbrev S1 : Shape := ⟨1, ![1]⟩
abbrev S256 : Shape := ⟨1, ![256]⟩
abbrev S64x256 : Shape := ⟨2, ![64, 256]⟩
abbrev S80x256 : Shape := ⟨2, ![80, 256]⟩
abbrev S64x128 : Shape := ⟨2, ![64, 128]⟩

abbrev nBuf : Space → Nat
  | .hbm => 6
  | .vmem => 14
  | .smem => 1
  | _ => 0

abbrev bufTy : (tb : Table) → Fin (tcTables nBuf tb) → BufTy
  | .hbm, ⟨0, _⟩ => ⟨S8, .f32⟩
  | .hbm, ⟨1, _⟩ => ⟨S8x4096x512, .bf16⟩
  | .hbm, ⟨2, _⟩ => ⟨S8x4096x256, .bf16⟩
  | .hbm, ⟨3, _⟩ => ⟨S8x128x4096, .bf16⟩
  | .hbm, ⟨4, _⟩ => ⟨S8x4096x512, .bf16⟩
  | .hbm, ⟨5, _⟩ => ⟨S8x4096x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x2048, .bf16⟩
  | .local _ .vmem, ⟨7, _⟩ => ⟨S1x128x2048, .bf16⟩
  | .local _ .vmem, ⟨8, _⟩ => ⟨S1x128x128, .bf16⟩
  | .local _ .vmem, ⟨9, _⟩ => ⟨S1x128x128, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x2048x512, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 2], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel3Ideal.lean ====
variable {F : FTy → Type} [FloatOps F] [Named F]
def κ : String → Option EReal := fun
  | "log2e" => some (((Real.log 2)⁻¹ : ℝ) : EReal)
  | _ => none
-- ==== Reference3Ideal.lean ====
abbrev S8 : Shape := ⟨1, ![8]⟩
abbrev S8x4096x512 : Shape := ⟨3, ![8, 4096, 512]⟩
abbrev S8x4096x256 : Shape := ⟨3, ![8, 4096, 256]⟩
abbrev S8x128x4096 : Shape := ⟨3, ![8, 128, 4096]⟩
abbrev S8x4096x8x64 : Shape := ⟨4, ![8, 4096, 8, 64]⟩
abbrev S8x4096x4x64 : Shape := ⟨4, ![8, 4096, 4, 64]⟩
abbrev S8x4096x1x64 : Shape := ⟨4, ![8, 4096, 1, 64]⟩
abbrev S8x4096x64 : Shape := ⟨3, ![8, 4096, 64]⟩
abbrev S8x2x64x4096 : Shape := ⟨4, ![8, 2, 64, 4096]⟩
abbrev S8x2x4x64x4096 : Shape := ⟨5, ![8, 2, 4, 64, 4096]⟩
abbrev S8x8x64x4096 : Shape := ⟨4, ![8, 8, 64, 4096]⟩
abbrev S8x8x4096x4096 : Shape := ⟨4, ![8, 8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x8x1x1 : Shape := ⟨4, ![1, 8, 1, 1]⟩
abbrev S8x8x4096 : Shape := ⟨3, ![8, 8, 4096]⟩
abbrev S8x8x4096x1 : Shape := ⟨4, ![8, 8, 4096, 1]⟩

abbrev nBuf : Space → Nat
  | .hbm => 86
  | .vmem => 0
  | .smem => 0
  | _ => 0

abbrev bufTy : (tb : Table) → Fin (tcTables nBuf tb) → BufTy
  | .hbm, ⟨0, _⟩ => ⟨S8, .f32⟩
  | .hbm, ⟨1, _⟩ => ⟨S8x4096x512, .bf16⟩
  | .hbm, ⟨2, _⟩ => ⟨S8x4096x256, .bf16⟩
  | .hbm, ⟨3, _⟩ => ⟨S8x128x4096, .bf16⟩
  | .hbm, ⟨4, _⟩ => ⟨S8x4096x512, .bf16⟩
  | .hbm, ⟨5, _⟩ => ⟨S8x4096x512, .f32⟩
  | .hbm, ⟨6, _⟩ => ⟨S8x4096x8x64, .f32⟩
  | .hbm, ⟨7, _⟩ => ⟨S8x4096x256, .f32⟩
  | .hbm, ⟨8, _⟩ => ⟨S8x4096x4x64, .f32⟩
  | .hbm, ⟨9, _⟩ => ⟨S8x4096x1x64, .f32⟩
  | .hbm, ⟨10, _⟩ => ⟨S8x4096x64, .f32⟩
  | .hbm, ⟨11, _⟩ => ⟨S8x4096x1x64, .f32⟩
  | .hbm, ⟨12, _⟩ => ⟨S8x4096x64, .f32⟩
  | .hbm, ⟨13, _⟩ => ⟨S8x4096x1x64, .f32⟩
  | .hbm, ⟨14, _⟩ => ⟨S8x4096x64, .f32⟩
  | .hbm, ⟨15, _⟩ => ⟨S8x4096x1x64, .f32⟩
  | .hbm, ⟨16, _⟩ => ⟨S8x4096x64, .f32⟩
  | .hbm, ⟨17, _⟩ => ⟨S8x4096x1x64, .f32⟩
  | .hbm, ⟨18, _⟩ => ⟨S8x4096x64, .f32⟩
  | .hbm, ⟨19, _⟩ => ⟨S8x4096x1x64, .f32⟩
  | .hbm, ⟨20, _⟩ => ⟨S8x4096x64, .f32⟩
  | .hbm, ⟨21, _⟩ => ⟨S8x4096x1x64, .f32⟩
  | .hbm, ⟨22, _⟩ => ⟨S8x4096x64, .f32⟩
  | .hbm, ⟨23, _⟩ => ⟨S8x4096x1x64, .f32⟩
  | .hbm, ⟨24, _⟩ => ⟨S8x4096x64, .f32⟩
  | .hbm, ⟨25, _⟩ => ⟨S8x4096x1x64, .f32⟩
  | .hbm, ⟨26, _⟩ => ⟨S8x4096x1x64, .f32⟩
  | .hbm, ⟨27, _⟩ => ⟨S8x4096x1x64, .f32⟩
  | .hbm, ⟨28, _⟩ => ⟨S8x4096x1x64, .f32⟩
  | .hbm, ⟨29, _⟩ => ⟨S8x4096x1x64, .f32⟩
  | .hbm, ⟨30, _⟩ => ⟨S8x4096x1x64, .f32⟩
  | .hbm, ⟨31, _⟩ => ⟨S8x4096x1x64, .f32⟩
  | .hbm, ⟨32, _⟩ => ⟨S8x4096x1x64, .f32⟩
  | .hbm, ⟨33, _⟩ => ⟨S8x4096x8x64, .f32⟩
  | .hbm, ⟨34, _⟩ => ⟨S8x128x4096, .f32⟩
  | .hbm, ⟨35, _⟩ => ⟨S8x2x64x4096, .f32⟩
  | .hbm, ⟨36, _⟩ => ⟨S8x2x4x64x4096, .f32⟩
  | .hbm, ⟨37, _⟩ => ⟨S8x8x64x4096, .f32⟩
  | .hbm, ⟨38, _⟩ => ⟨S8x8x4096x4096, .f32⟩
  | .hbm, ⟨39, _⟩ => ⟨S_, .f32⟩
  | .hbm, ⟨40, _⟩ => ⟨S_, .f32⟩
  | .hbm, ⟨41, _⟩ => ⟨S8x8x4096x4096, .f32⟩
  | .hbm, ⟨42, _⟩ => ⟨S8x8x4096x4096, .f32⟩
  | .hbm, ⟨43, _⟩ => ⟨S4096, .i32⟩
  | .hbm, ⟨44, _⟩ => ⟨S4096x1, .i32⟩
  | .hbm, ⟨45, _⟩ => ⟨S4096, .i32⟩
  | .hbm, ⟨46, _⟩ => ⟨S1x4096, .i32⟩
  | .hbm, ⟨47, _⟩ => ⟨S4096x4096, .i32⟩
  | .hbm, ⟨48, _⟩ => ⟨S4096x4096, .i32⟩
  | .hbm, ⟨49, _⟩ => ⟨S4096x4096, .i32⟩
  | .hbm, ⟨50, _⟩ => ⟨S_, .i32⟩
  | .hbm, ⟨51, _⟩ => ⟨S4096x4096, .i32⟩
  | .hbm, ⟨52, _⟩ => ⟨S4096x4096, .i1⟩
  | .hbm, ⟨53, _⟩ => ⟨S_, .i32⟩
  | .hbm, ⟨54, _⟩ => ⟨S4096x4096, .i32⟩
  | .hbm, ⟨55, _⟩ => ⟨S4096x4096, .i1⟩
  | .hbm, ⟨56, _⟩ => ⟨S4096x4096, .i1⟩
  | .hbm, ⟨57, _⟩ => ⟨S_, .f32⟩
  | .hbm, ⟨58, _⟩ => ⟨S_, .f32⟩
  | .hbm, ⟨59, _⟩ => ⟨S8x8x4096x4096, .i1⟩
  | .hbm, ⟨60, _⟩ => ⟨S8x8x4096x4096, .f32⟩
  | .hbm, ⟨61, _⟩ => ⟨S8x8x4096x4096, .f32⟩
  | .hbm, ⟨62, _⟩ => ⟨S1x8x1x1, .f32⟩
  | .hbm, ⟨63, _⟩ => ⟨S_, .f32⟩
  | .hbm, ⟨64, _⟩ => ⟨S8x8x4096, .f32⟩
  | .hbm, ⟨65, _⟩ => ⟨S8x8x4096x1, .f32⟩
  | .hbm, ⟨66, _⟩ => ⟨S8x8x4096x1, .f32⟩
  | .hbm, ⟨67, _⟩ => ⟨S8x8x4096x1, .f32⟩
  | .hbm, ⟨68, _⟩ => ⟨S8x8x4096x4096, .f32⟩
  | .hbm, ⟨69, _⟩ => ⟨S8x8x4096x4096, .f32⟩
  | .hbm, ⟨70, _⟩ => ⟨S8x8x4096x4096, .f32⟩
  | .hbm, ⟨71, _⟩ => ⟨S_, .f32⟩
  | .hbm, ⟨72, _⟩ => ⟨S8x8x4096, .f32⟩
  | .hbm, ⟨73, _⟩ => ⟨S8x8x4096x1, .f32⟩
  | .hbm, ⟨74, _⟩ => ⟨S8x8x4096x1, .f32⟩
  | .hbm, ⟨75, _⟩ => ⟨S8x8x4096x1, .f32⟩
  | .hbm, ⟨76, _⟩ => ⟨S8x8x4096x1, .f32⟩
  | .hbm, ⟨77, _⟩ => ⟨S8x8x4096x1, .f32⟩
  | .hbm, ⟨78, _⟩ => ⟨S8x8x4096x4096, .f32⟩
  | .hbm, ⟨79, _⟩ => ⟨S8x8x4096x4096, .f32⟩
  | .hbm, ⟨80, _⟩ => ⟨S8x8x64x4096, .f32⟩
  | .hbm, ⟨81, _⟩ => ⟨S8x4096x8x64, .f32⟩
  | .hbm, ⟨82, _⟩ => ⟨S8x4096x512, .f32⟩
  | .hbm, ⟨83, _⟩ => ⟨S8x4096x512, .f32⟩
  | .hbm, ⟨84, _⟩ => ⟨S8x4096x512, .f32⟩
  | .hbm, ⟨85, _⟩ => ⟨S8x4096x512, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_c : Ref sig .tc := ⟨.hbm, 50, rfl⟩
abbrev main_v44 : Ref sig .tc := ⟨.hbm, 51, rfl⟩
abbrev main_v45 : Ref sig .tc := ⟨.hbm, 52, rfl⟩
abbrev main_c_0 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_1 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_v49 : Ref sig .tc := ⟨.hbm, 61, rfl⟩
abbrev main_v50 : Ref sig .tc := ⟨.hbm, 62, rfl⟩
abbrev main_cst_2 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_3 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩

abbrev nD : Nat := 1
abbrev τ : Topo := Topo.v7x

variable {F : FTy → Type} [FloatOps F]
-- ==== Kernel4.lean ====
abbrev S2x64 : Shape := ⟨2, ![2, 64]⟩
abbrev S8x4096x512 : Shape := ⟨3, ![8, 4096, 512]⟩
abbrev S8x512x4096 : Shape := ⟨3, ![8, 512, 4096]⟩
abbrev S1x128 : Shape := ⟨2, ![1, 128]⟩
abbrev S1x512x512 : Shape := ⟨3, ![1, 512, 512]⟩
abbrev S1x4096x512 : Shape := ⟨3, ![1, 4096, 512]⟩
abbrev S1x512x4096 : Shape := ⟨3, ![1, 512, 4096]⟩
abbrev S2 : Shape := ⟨1, ![2]⟩
abbrev S2x1 : Shape := ⟨2, ![2, 1]⟩
abbrev S1x1 : Shape := ⟨2, ![1, 1]⟩
abbrev S512x128 : Shape := ⟨2, ![512, 128]⟩
abbrev S1x512x128 : Shape := ⟨3, ![1, 512, 128]⟩
abbrev S1024x128 : Shape := ⟨2, ![1024, 128]⟩
abbrev S1x1024 : Shape := ⟨2, ![1, 1024]⟩
abbrev S144x1024 : Shape := ⟨2, ![144, 1024]⟩
abbrev S1x1024x128 : Shape := ⟨3, ![1, 1024, 128]⟩
abbrev S1024x1024 : Shape := ⟨2, ![1024, 1024]⟩
abbrev S1x128x1024 : Shape := ⟨3, ![1, 128, 1024]⟩
abbrev S128x1024 : Shape := ⟨2, ![128, 1024]⟩
abbrev S16x1024 : Shape := ⟨2, ![16, 1024]⟩
abbrev S1024 : Shape := ⟨1, ![1024]⟩
abbrev S512x1024 : Shape := ⟨2, ![512, 1024]⟩
abbrev S1x128x512 : Shape := ⟨3, ![1, 128, 512]⟩
abbrev S128x512 : Shape := ⟨2, ![128, 512]⟩
abbrev S16x512 : Shape := ⟨2, ![16, 512]⟩
abbrev S144x512 : Shape := ⟨2, ![144, 512]⟩
abbrev S512 : Shape := ⟨1, ![512]⟩
abbrev S1x512 : Shape := ⟨2, ![1, 512]⟩

abbrev nBuf : Space → Nat
  | .hbm => 8
  | .vmem => 13
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S8x4096x512, .bf16⟩
  | .hbm, ⟨3, _⟩ => ⟨S8x4096x512, .bf16⟩
  | .hbm, ⟨4, _⟩ => ⟨S8x512x4096, .bf16⟩
  | .hbm, ⟨5, _⟩ => ⟨S8x4096x512, .bf16⟩
  | .hbm, ⟨6, _⟩ => ⟨S1x128, .f32⟩
  | .hbm, ⟨7, _⟩ => ⟨S8x4096x512, .bf16⟩
  | .local _ .vmem, ⟨0, _⟩ => ⟨S2x64, .f32⟩
  | .local _ .vmem, ⟨1, _⟩ => ⟨S2x64, .f32⟩
  | .local _ .vmem, ⟨2, _⟩ => ⟨S1x512x512, .bf16⟩
  | .local _ .vmem, ⟨3, _⟩ => ⟨S1x512x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x512x4096, .bf16⟩
  | .local _ .vmem, ⟨7, _⟩ => ⟨S1x512x4096, .bf16⟩
  | .local _ .vmem, ⟨8, _⟩ => ⟨S1x512x512, .bf16⟩
  | .local _ .vmem, ⟨9, _⟩ => ⟨S1x512x512, .bf16⟩
  | .local _ .vmem, ⟨10, _⟩ => ⟨S1x128, .f32⟩
  | .local _ .vmem, ⟨11, _⟩ => ⟨S1x512x512, .bf16⟩
  | .local _ .vmem, ⟨12, _⟩ => ⟨S1x512x512, .bf16⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 8], ![false, false, false]⟩

@[reducible] def k0_t1_loop (i : grid0.Coords) : Scf.Loop 32 :=
  let c0_i32_30 : BitVec 32 := 0#32
  let arg2 : BitVec 32 := BitVec.ofNat 32 (i 2).val
  let c0_i32 : BitVec 32 := 0#32
  let v55 : BitVec 1 := Scalar.cmpi .sgt arg2 c0_i32
  let v56 : BitVec 32 := Scalar.extui v55
  let c0_i32_26 : BitVec 32 := 0#32
  let v57 : BitVec 1 := Scalar.cmpi .slt arg2 c0_i32_26
  let v58 : BitVec 32 := Scalar.extui v57
  let v59 : BitVec 32 := Scalar.subi v56 v58
  let c2_i32 : BitVec 32 := 2#32
  let c0_i32_27 : BitVec 32 := 0#32
  let v60 : BitVec 1 := Scalar.cmpi .sgt c2_i32 c0_i32_27
  let v61 : BitVec 32 := Scalar.extui v60
  let c0_i32_28 : BitVec 32 := 0#32
  let v62 : BitVec 1 := Scalar.cmpi .slt c2_i32 c0_i32_28
  let v63 : BitVec 32 := Scalar.extui v62
  let v64 : BitVec 32 := Scalar.subi v61 v63
  let v65 : BitVec 1 := Scalar.cmpi .ne v59 v64
  let v66 : BitVec 32 := Scalar.remsi arg2 c2_i32
  let c0_i32_29 : BitVec 32 := 0#32
  let v67 : BitVec 1 := Scalar.cmpi .ne v66 c0_i32_29
  let v68 : BitVec 1 := Scalar.andi v65 v67
  let v54 : BitVec 32 := Scalar.divsi arg2 c2_i32
  let c1_i32 : BitVec 32 := 1#32
  let v69 : BitVec 32 := Scalar.subi v54 c1_i32
  let v70 : BitVec 32 := Scalar.select v68 v69 v54
  let v71 : BitVec 32 := Scalar.subi v70 c0_i32_30
  let c1_i32_31 : BitVec 32 := 1#32
  let v73 : BitVec 32 := Scalar.divsi v71 c1_i32_31
  let v74 : BitVec 32 := Scalar.muli v73 c1_i32_31
  let v75 : BitVec 32 := Scalar.addi c0_i32_30 v74
  let c1_i32_32 : BitVec 32 := 1#32
  ⟨c0_i32_30, v75, c1_i32_32⟩
def k0_mult1 (i : grid0.Coords) (k0_t1 : Fin (k0_t1_loop i).trips) : BitVec 32 :=
  let c0_i32_30 : BitVec 32 := 0#32
  let c1_i32_32 : BitVec 32 := 1#32
  let arg11 : BitVec 32 := Scf.iv c0_i32_30 c1_i32_32 k0_t1
  let c1024_i32 : BitVec 32 := 1024#32
  let v350 : BitVec 32 := Scalar.muli arg11 c1024_i32
  v350
def k0_off1 (i : grid0.Coords) (k0_t1 : Fin (k0_t1_loop i).trips) : Fin 3 → Nat :=
  let c0_133 : Index := 0#32
  let c0_i32_30 : BitVec 32 := 0#32
  let c1_i32_32 : BitVec 32 := 1#32
  let arg11 : BitVec 32 := Scf.iv c0_i32_30 c1_i32_32 k0_t1
  let c1024_i32 : BitVec 32 := 1024#32
  let v350 : BitVec 32 := Scalar.muli arg11 c1024_i32
  let v351 : BitVec 32 := v350
  let v352 : Index := Scalar.indexCast v351
  let c0_134 : Index := 0#32
  ![0, v352.toNat, 0]
def k0_off2 (i : grid0.Coords) (k0_t1 : Fin (k0_t1_loop i).trips) : Fin 3 → Nat :=
  let c0_136 : Index := 0#32
  let c0_i32_30 : BitVec 32 := 0#32
  let c1_i32_32 : BitVec 32 := 1#32
  let arg11 : BitVec 32 := Scf.iv c0_i32_30 c1_i32_32 k0_t1
  let c1024_i32 : BitVec 32 := 1024#32
  let v350 : BitVec 32 := Scalar.muli arg11 c1024_i32
  let v351 : BitVec 32 := v350
  let v356 : Index := Scalar.indexCast v351
  let c128_137 : Index := 128#32
  ![0, v356.toNat, 128]
def k0_off3 (i : grid0.Coords) (k0_t1 : Fin (k0_t1_loop i).trips) : Fin 3 → Nat :=
  let c0_139 : Index := 0#32
  let c0_i32_30 : BitVec 32 := 0#32
  let c1_i32_32 : BitVec 32 := 1#32
  let arg11 : BitVec 32 := Scf.iv c0_i32_30 c1_i32_32 k0_t1
  let c1024_i32 : BitVec 32 := 1024#32
  let v350 : BitVec 32 := Scalar.muli arg11 c1024_i32
  let v351 : BitVec 32 := v350
  let v360 : Index := Scalar.indexCast v351
  let c256_140 : Index := 256#32
  ![0, v360.toNat, 256]
def k0_off4 (i : grid0.Coords) (k0_t1 : Fin (k0_t1_loop i).trips) : Fin 3 → Nat :=
  let c0_142 : Index := 0#32
  let c0_143 : Index := 0#32
  let c0_i32_30 : BitVec 32 := 0#32
  let c1_i32_32 : BitVec 32 := 1#32
  let arg11 : BitVec 32 := Scf.iv c0_i32_30 c1_i32_32 k0_t1
  let c1024_i32 : BitVec 32 := 1024#32
  let v350 : BitVec 32 := Scalar.muli arg11 c1024_i32
  let v351 : BitVec 32 := v350
  let v364 : Index := Scalar.indexCast v351
  ![0, 0, v364.toNat]
def k0_off5 (i : grid0.Coords) (k0_t1 : Fin (k0_t1_loop i).trips) : Fin 3 → Nat :=
  let c0_147 : Index := 0#32
  let c0_i32_30 : BitVec 32 := 0#32
  let c1_i32_32 : BitVec 32 := 1#32
  let arg11 : BitVec 32 := Scf.iv c0_i32_30 c1_i32_32 k0_t1
  let c1024_i32 : BitVec 32 := 1024#32
  let v350 : BitVec 32 := Scalar.muli arg11 c1024_i32
  let v351 : BitVec 32 := v350
  let v382 : Index := Scalar.indexCast v351
  let c384_148 : Index := 384#32
  ![0, v382.toNat, 384]
def k0_off6 (i : grid0.Coords) (k0_t1 : Fin (k0_t1_loop i).trips) : Fin 3 → Nat :=
  let c0_150 : Index := 0#32
  let c128_151 : Index := 128#32
  let c0_i32_30 : BitVec 32 := 0#32
  let c1_i32_32 : BitVec 32 := 1#32
  let arg11 : BitVec 32 := Scf.iv c0_i32_30 c1_i32_32 k0_t1
  let c1024_i32 : BitVec 32 := 1024#32
  let v350 : BitVec 32 := Scalar.muli arg11 c1024_i32
  let v351 : BitVec 32 := v350
  let v386 : Index := Scalar.indexCast v351
  ![0, 128, v386.toNat]
def k0_off7 (i : grid0.Coords) (k0_t1 : Fin (k0_t1_loop i).trips) : Fin 3 → Nat :=
  let c0_155 : Index := 0#32
  let c256_156 : Index := 256#32
  let c0_i32_30 : BitVec 32 := 0#32
  let c1_i32_32 : BitVec 32 := 1#32
  let arg11 : BitVec 32 := Scf.iv c0_i32_30 c1_i32_32 k0_t1
  let c1024_i32 : BitVec 32 := 1024#32
  let v350 : BitVec 32 := Scalar.muli arg11 c1024_i32
  let v351 : BitVec 32 := v350
  let v404 : Index := Scalar.indexCast v351
  ![0, 256, v404.toNat]
def k0_off8 (i : grid0.Coords) (k0_t1 : Fin (k0_t1_loop i).trips) : Fin 3 → Nat :=
  let c0_160 : Index := 0#32
  let c384_161 : Index := 384#32
  let c0_i32_30 : BitVec 32 := 0#32
  let c1_i32_32 : BitVec 32 := 1#32
  let arg11 : BitVec 32 := Scf.iv c0_i32_30 c1_i32_32 k0_t1
  let c1024_i32 : BitVec 32 := 1024#32
  let v350 : BitVec 32 := Scalar.muli arg11 c1024_i32
  let v351 : BitVec 32 := v350
  let v422 : Index := Scalar.indexCast v351
  ![0, 384, v422.toNat]
@[reducible] def k0_t2_loop (i : grid0.Coords) : Scf.Loop 32 :=
  let c0_i32_30 : BitVec 32 := 0#32
  let arg2 : BitVec 32 := BitVec.ofNat 32 (i 2).val
  let c0_i32 : BitVec 32 := 0#32
  let v55 : BitVec 1 := Scalar.cmpi .sgt arg2 c0_i32
  let v56 : BitVec 32 := Scalar.extui v55
  let c0_i32_26 : BitVec 32 := 0#32
  let v57 : BitVec 1 := Scalar.cmpi .slt arg2 c0_i32_26
  let v58 : BitVec 32 := Scalar.extui v57
  let v59 : BitVec 32 := Scalar.subi v56 v58
  let c2_i32 : BitVec 32 := 2#32
  let c0_i32_27 : BitVec 32 := 0#32
  let v60 : BitVec 1 := Scalar.cmpi .sgt c2_i32 c0_i32_27
  let v61 : BitVec 32 := Scalar.extui v60
  let c0_i32_28 : BitVec 32 := 0#32
  let v62 : BitVec 1 := Scalar.cmpi .slt c2_i32 c0_i32_28
  let v63 : BitVec 32 := Scalar.extui v62
  let v64 : BitVec 32 := Scalar.subi v61 v63
  let v65 : BitVec 1 := Scalar.cmpi .ne v59 v64
  let v66 : BitVec 32 := Scalar.remsi arg2 c2_i32
  let c0_i32_29 : BitVec 32 := 0#32
  let v67 : BitVec 1 := Scalar.cmpi .ne v66 c0_i32_29
  let v68 : BitVec 1 := Scalar.andi v65 v67
  let v54 : BitVec 32 := Scalar.divsi arg2 c2_i32
  let c1_i32 : BitVec 32 := 1#32
  let v69 : BitVec 32 := Scalar.subi v54 c1_i32
  let v70 : BitVec 32 := Scalar.select v68 v69 v54
  let v71 : BitVec 32 := Scalar.subi v70 c0_i32_30
  let c1_i32_31 : BitVec 32 := 1#32
  let v73 : BitVec 32 := Scalar.divsi v71 c1_i32_31
  let v74 : BitVec 32 := Scalar.muli v73 c1_i32_31
  let v75 : BitVec 32 := Scalar.addi c0_i32_30 v74
  let v72 : BitVec 32 := Scalar.addi c0_i32_30 v71
  let c1_i32_33 : BitVec 32 := 1#32
  ⟨v75, v72, c1_i32_33⟩
def k0_mult2 (i : grid0.Coords) (k0_t2 : Fin (k0_t2_loop i).trips) : BitVec 32 :=
  let c0_i32_30 : BitVec 32 := 0#32
  let arg2 : BitVec 32 := BitVec.ofNat 32 (i 2).val
  let c0_i32 : BitVec 32 := 0#32
  let v55 : BitVec 1 := Scalar.cmpi .sgt arg2 c0_i32
  let v56 : BitVec 32 := Scalar.extui v55
  let c0_i32_26 : BitVec 32 := 0#32
  let v57 : BitVec 1 := Scalar.cmpi .slt arg2 c0_i32_26
  let v58 : BitVec 32 := Scalar.extui v57
  let v59 : BitVec 32 := Scalar.subi v56 v58
  let c2_i32 : BitVec 32 := 2#32
  let c0_i32_27 : BitVec 32 := 0#32
  let v60 : BitVec 1 := Scalar.cmpi .sgt c2_i32 c0_i32_27
  let v61 : BitVec 32 := Scalar.extui v60
  let c0_i32_28 : BitVec 32 := 0#32
  let v62 : BitVec 1 := Scalar.cmpi .slt c2_i32 c0_i32_28
  let v63 : BitVec 32 := Scalar.extui v62
  let v64 : BitVec 32 := Scalar.subi v61 v63
  let v65 : BitVec 1 := Scalar.cmpi .ne v59 v64
  let v66 : BitVec 32 := Scalar.remsi arg2 c2_i32
  let c0_i32_29 : BitVec 32 := 0#32
  let v67 : BitVec 1 := Scalar.cmpi .ne v66 c0_i32_29
  let v68 : BitVec 1 := Scalar.andi v65 v67
  let v54 : BitVec 32 := Scalar.divsi arg2 c2_i32
  let c1_i32 : BitVec 32 := 1#32
  let v69 : BitVec 32 := Scalar.subi v54 c1_i32
  let v70 : BitVec 32 := Scalar.select v68 v69 v54
  let v71 : BitVec 32 := Scalar.subi v70 c0_i32_30
  let c1_i32_31 : BitVec 32 := 1#32
  let v73 : BitVec 32 := Scalar.divsi v71 c1_i32_31
  let v74 : BitVec 32 := Scalar.muli v73 c1_i32_31
  let v75 : BitVec 32 := Scalar.addi c0_i32_30 v74
  let c1_i32_33 : BitVec 32 := 1#32
  let arg11 : BitVec 32 := Scf.iv v75 c1_i32_33 k0_t2
  let c1024_i32 : BitVec 32 := 1024#32
  let v350 : BitVec 32 := Scalar.muli arg11 c1024_i32
  v350
def k0_off9 (i : grid0.Coords) (k0_t2 : Fin (k0_t2_loop i).trips) : Fin 3 → Nat :=
  let c0_133 : Index := 0#32
  let c0_i32_30 : BitVec 32 := 0#32
  let arg2 : BitVec 32 := BitVec.ofNat 32 (i 2).val
  let c0_i32 : BitVec 32 := 0#32
  let v55 : BitVec 1 := Scalar.cmpi .sgt arg2 c0_i32
  let v56 : BitVec 32 := Scalar.extui v55
  let c0_i32_26 : BitVec 32 := 0#32
  let v57 : BitVec 1 := Scalar.cmpi .slt arg2 c0_i32_26
  let v58 : BitVec 32 := Scalar.extui v57
  let v59 : BitVec 32 := Scalar.subi v56 v58
  let c2_i32 : BitVec 32 := 2#32
  let c0_i32_27 : BitVec 32 := 0#32
  let v60 : BitVec 1 := Scalar.cmpi .sgt c2_i32 c0_i32_27
  let v61 : BitVec 32 := Scalar.extui v60
  let c0_i32_28 : BitVec 32 := 0#32
  let v62 : BitVec 1 := Scalar.cmpi .slt c2_i32 c0_i32_28
  let v63 : BitVec 32 := Scalar.extui v62
  let v64 : BitVec 32 := Scalar.subi v61 v63
  let v65 : BitVec 1 := Scalar.cmpi .ne v59 v64
  let v66 : BitVec 32 := Scalar.remsi arg2 c2_i32
  let c0_i32_29 : BitVec 32 := 0#32
  let v67 : BitVec 1 := Scalar.cmpi .ne v66 c0_i32_29
  let v68 : BitVec 1 := Scalar.andi v65 v67
  let v54 : BitVec 32 := Scalar.divsi arg2 c2_i32
  let c1_i32 : BitVec 32 := 1#32
  let v69 : BitVec 32 := Scalar.subi v54 c1_i32
  let v70 : BitVec 32 := Scalar.select v68 v69 v54
  let v71 : BitVec 32 := Scalar.subi v70 c0_i32_30
  let c1_i32_31 : BitVec 32 := 1#32
  let v73 : BitVec 32 := Scalar.divsi v71 c1_i32_31
  let v74 : BitVec 32 := Scalar.muli v73 c1_i32_31
  let v75 : BitVec 32 := Scalar.addi c0_i32_30 v74
  let c1_i32_33 : BitVec 32 := 1#32
  let arg11 : BitVec 32 := Scf.iv v75 c1_i32_33 k0_t2
  let c1024_i32 : BitVec 32 := 1024#32
  let v350 : BitVec 32 := Scalar.muli arg11 c1024_i32
  let v351 : BitVec 32 := v350
  let v352 : Index := Scalar.indexCast v351
  let c0_134 : Index := 0#32
  ![0, v352.toNat, 0]
def k0_off10 (i : grid0.Coords) (k0_t2 : Fin (k0_t2_loop i).trips) : Fin 3 → Nat :=
  let c0_136 : Index := 0#32
  let c0_i32_30 : BitVec 32 := 0#32
  let arg2 : BitVec 32 := BitVec.ofNat 32 (i 2).val
  let c0_i32 : BitVec 32 := 0#32
  let v55 : BitVec 1 := Scalar.cmpi .sgt arg2 c0_i32
  let v56 : BitVec 32 := Scalar.extui v55
  let c0_i32_26 : BitVec 32 := 0#32
  let v57 : BitVec 1 := Scalar.cmpi .slt arg2 c0_i32_26
  let v58 : BitVec 32 := Scalar.extui v57
  let v59 : BitVec 32 := Scalar.subi v56 v58
  let c2_i32 : BitVec 32 := 2#32
  let c0_i32_27 : BitVec 32 := 0#32
  let v60 : BitVec 1 := Scalar.cmpi .sgt c2_i32 c0_i32_27
  let v61 : BitVec 32 := Scalar.extui v60
  let c0_i32_28 : BitVec 32 := 0#32
  let v62 : BitVec 1 := Scalar.cmpi .slt c2_i32 c0_i32_28
  let v63 : BitVec 32 := Scalar.extui v62
  let v64 : BitVec 32 := Scalar.subi v61 v63
  let v65 : BitVec 1 := Scalar.cmpi .ne v59 v64
  let v66 : BitVec 32 := Scalar.remsi arg2 c2_i32
  let c0_i32_29 : BitVec 32 := 0#32
  let v67 : BitVec 1 := Scalar.cmpi .ne v66 c0_i32_29
  let v68 : BitVec 1 := Scalar.andi v65 v67
  let v54 : BitVec 32 := Scalar.divsi arg2 c2_i32
  let c1_i32 : BitVec 32 := 1#32
  let v69 : BitVec 32 := Scalar.subi v54 c1_i32
  let v70 : BitVec 32 := Scalar.select v68 v69 v54
  let v71 : BitVec 32 := Scalar.subi v70 c0_i32_30
  let c1_i32_31 : BitVec 32 := 1#32
  let v73 : BitVec 32 := Scalar.divsi v71 c1_i32_31
  let v74 : BitVec 32 := Scalar.muli v73 c1_i32_31
  let v75 : BitVec 32 := Scalar.addi c0_i32_30 v74
  let c1_i32_33 : BitVec 32 := 1#32
  let arg11 : BitVec 32 := Scf.iv v75 c1_i32_33 k0_t2
  let c1024_i32 : BitVec 32 := 1024#32
  let v350 : BitVec 32 := Scalar.muli arg11 c1024_i32
  let v351 : BitVec 32 := v350
  let v356 : Index := Scalar.indexCast v351
  let c128_137 : Index := 128#32
  ![0, v356.toNat, 128]
def k0_off11 (i : grid0.Coords) (k0_t2 : Fin (k0_t2_loop i).trips) : Fin 3 → Nat :=
  let c0_139 : Index := 0#32
  let c0_i32_30 : BitVec 32 := 0#32
  let arg2 : BitVec 32 := BitVec.ofNat 32 (i 2).val
  let c0_i32 : BitVec 32 := 0#32
  let v55 : BitVec 1 := Scalar.cmpi .sgt arg2 c0_i32
  let v56 : BitVec 32 := Scalar.extui v55
  let c0_i32_26 : BitVec 32 := 0#32
  let v57 : BitVec 1 := Scalar.cmpi .slt arg2 c0_i32_26
  let v58 : BitVec 32 := Scalar.extui v57
  let v59 : BitVec 32 := Scalar.subi v56 v58
  let c2_i32 : BitVec 32 := 2#32
  let c0_i32_27 : BitVec 32 := 0#32
  let v60 : BitVec 1 := Scalar.cmpi .sgt c2_i32 c0_i32_27
  let v61 : BitVec 32 := Scalar.extui v60
  let c0_i32_28 : BitVec 32 := 0#32
  let v62 : BitVec 1 := Scalar.cmpi .slt c2_i32 c0_i32_28
  let v63 : BitVec 32 := Scalar.extui v62
  let v64 : BitVec 32 := Scalar.subi v61 v63
  let v65 : BitVec 1 := Scalar.cmpi .ne v59 v64
  let v66 : BitVec 32 := Scalar.remsi arg2 c2_i32
  let c0_i32_29 : BitVec 32 := 0#32
  let v67 : BitVec 1 := Scalar.cmpi .ne v66 c0_i32_29
  let v68 : BitVec 1 := Scalar.andi v65 v67
  let v54 : BitVec 32 := Scalar.divsi arg2 c2_i32
  let c1_i32 : BitVec 32 := 1#32
  let v69 : BitVec 32 := Scalar.subi v54 c1_i32
  let v70 : BitVec 32 := Scalar.select v68 v69 v54
  let v71 : BitVec 32 := Scalar.subi v70 c0_i32_30
  let c1_i32_31 : BitVec 32 := 1#32
  let v73 : BitVec 32 := Scalar.divsi v71 c1_i32_31
  let v74 : BitVec 32 := Scalar.muli v73 c1_i32_31
  let v75 : BitVec 32 := Scalar.addi c0_i32_30 v74
  let c1_i32_33 : BitVec 32 := 1#32
  let arg11 : BitVec 32 := Scf.iv v75 c1_i32_33 k0_t2
  let c1024_i32 : BitVec 32 := 1024#32
  let v350 : BitVec 32 := Scalar.muli arg11 c1024_i32
  let v351 : BitVec 32 := v350
  let v360 : Index := Scalar.indexCast v351
  let c256_140 : Index := 256#32
  ![0, v360.toNat, 256]
def k0_off12 (i : grid0.Coords) (k0_t2 : Fin (k0_t2_loop i).trips) : Fin 3 → Nat :=
  let c0_142 : Index := 0#32
  let c0_143 : Index := 0#32
  let c0_i32_30 : BitVec 32 := 0#32
  let arg2 : BitVec 32 := BitVec.ofNat 32 (i 2).val
  let c0_i32 : BitVec 32 := 0#32
  let v55 : BitVec 1 := Scalar.cmpi .sgt arg2 c0_i32
  let v56 : BitVec 32 := Scalar.extui v55
  let c0_i32_26 : BitVec 32 := 0#32
  let v57 : BitVec 1 := Scalar.cmpi .slt arg2 c0_i32_26
  let v58 : BitVec 32 := Scalar.extui v57
  let v59 : BitVec 32 := Scalar.subi v56 v58
  let c2_i32 : BitVec 32 := 2#32
  let c0_i32_27 : BitVec 32 := 0#32
  let v60 : BitVec 1 := Scalar.cmpi .sgt c2_i32 c0_i32_27
  let v61 : BitVec 32 := Scalar.extui v60
  let c0_i32_28 : BitVec 32 := 0#32
  let v62 : BitVec 1 := Scalar.cmpi .slt c2_i32 c0_i32_28
  let v63 : BitVec 32 := Scalar.extui v62
  let v64 : BitVec 32 := Scalar.subi v61 v63
  let v65 : BitVec 1 := Scalar.cmpi .ne v59 v64
  let v66 : BitVec 32 := Scalar.remsi arg2 c2_i32
  let c0_i32_29 : BitVec 32 := 0#32
  let v67 : BitVec 1 := Scalar.cmpi .ne v66 c0_i32_29
  let v68 : BitVec 1 := Scalar.andi v65 v67
  let v54 : BitVec 32 := Scalar.divsi arg2 c2_i32
  let c1_i32 : BitVec 32 := 1#32
  let v69 : BitVec 32 := Scalar.subi v54 c1_i32
  let v70 : BitVec 32 := Scalar.select v68 v69 v54
  let v71 : BitVec 32 := Scalar.subi v70 c0_i32_30
  let c1_i32_31 : BitVec 32 := 1#32
  let v73 : BitVec 32 := Scalar.divsi v71 c1_i32_31
  let v74 : BitVec 32 := Scalar.muli v73 c1_i32_31
  let v75 : BitVec 32 := Scalar.addi c0_i32_30 v74
  let c1_i32_33 : BitVec 32 := 1#32
  let arg11 : BitVec 32 := Scf.iv v75 c1_i32_33 k0_t2
  let c1024_i32 : BitVec 32 := 1024#32
  let v350 : BitVec 32 := Scalar.muli arg11 c1024_i32
  let v351 : BitVec 32 := v350
  let v364 : Index := Scalar.indexCast v351
  ![0, 0, v364.toNat]
def k0_off13 (i : grid0.Coords) (k0_t2 : Fin (k0_t2_loop i).trips) : Fin 3 → Nat :=
  let c0_147 : Index := 0#32
  let c0_i32_30 : BitVec 32 := 0#32
  let arg2 : BitVec 32 := BitVec.ofNat 32 (i 2).val
  let c0_i32 : BitVec 32 := 0#32
  let v55 : BitVec 1 := Scalar.cmpi .sgt arg2 c0_i32
  let v56 : BitVec 32 := Scalar.extui v55
  let c0_i32_26 : BitVec 32 := 0#32
  let v57 : BitVec 1 := Scalar.cmpi .slt arg2 c0_i32_26
  let v58 : BitVec 32 := Scalar.extui v57
  let v59 : BitVec 32 := Scalar.subi v56 v58
  let c2_i32 : BitVec 32 := 2#32
  let c0_i32_27 : BitVec 32 := 0#32
  let v60 : BitVec 1 := Scalar.cmpi .sgt c2_i32 c0_i32_27
  let v61 : BitVec 32 := Scalar.extui v60
  let c0_i32_28 : BitVec 32 := 0#32
  let v62 : BitVec 1 := Scalar.cmpi .slt c2_i32 c0_i32_28
  let v63 : BitVec 32 := Scalar.extui v62
  let v64 : BitVec 32 := Scalar.subi v61 v63
  let v65 : BitVec 1 := Scalar.cmpi .ne v59 v64
  let v66 : BitVec 32 := Scalar.remsi arg2 c2_i32
  let c0_i32_29 : BitVec 32 := 0#32
  let v67 : BitVec 1 := Scalar.cmpi .ne v66 c0_i32_29
  let v68 : BitVec 1 := Scalar.andi v65 v67
  let v54 : BitVec 32 := Scalar.divsi arg2 c2_i32
  let c1_i32 : BitVec 32 := 1#32
  let v69 : BitVec 32 := Scalar.subi v54 c1_i32
  let v70 : BitVec 32 := Scalar.select v68 v69 v54
  let v71 : BitVec 32 := Scalar.subi v70 c0_i32_30
  let c1_i32_31 : BitVec 32 := 1#32
  let v73 : BitVec 32 := Scalar.divsi v71 c1_i32_31
  let v74 : BitVec 32 := Scalar.muli v73 c1_i32_31
  let v75 : BitVec 32 := Scalar.addi c0_i32_30 v74
  let c1_i32_33 : BitVec 32 := 1#32
  let arg11 : BitVec 32 := Scf.iv v75 c1_i32_33 k0_t2
  let c1024_i32 : BitVec 32 := 1024#32
  let v350 : BitVec 32 := Scalar.muli arg11 c1024_i32
  let v351 : BitVec 32 := v350
  let v382 : Index := Scalar.indexCast v351
  let c384_148 : Index := 384#32
  ![0, v382.toNat, 384]
def k0_off14 (i : grid0.Coords) (k0_t2 : Fin (k0_t2_loop i).trips) : Fin 3 → Nat :=
  let c0_150 : Index := 0#32
  let c128_151 : Index := 128#32
  let c0_i32_30 : BitVec 32 := 0#32
  let arg2 : BitVec 32 := BitVec.ofNat 32 (i 2).val
  let c0_i32 : BitVec 32 := 0#32
  let v55 : BitVec 1 := Scalar.cmpi .sgt arg2 c0_i32
  let v56 : BitVec 32 := Scalar.extui v55
  let c0_i32_26 : BitVec 32 := 0#32
  let v57 : BitVec 1 := Scalar.cmpi .slt arg2 c0_i32_26
  let v58 : BitVec 32 := Scalar.extui v57
  let v59 : BitVec 32 := Scalar.subi v56 v58
  let c2_i32 : BitVec 32 := 2#32
  let c0_i32_27 : BitVec 32 := 0#32
  let v60 : BitVec 1 := Scalar.cmpi .sgt c2_i32 c0_i32_27
  let v61 : BitVec 32 := Scalar.extui v60
  let c0_i32_28 : BitVec 32 := 0#32
  let v62 : BitVec 1 := Scalar.cmpi .slt c2_i32 c0_i32_28
  let v63 : BitVec 32 := Scalar.extui v62
  let v64 : BitVec 32 := Scalar.subi v61 v63
  let v65 : BitVec 1 := Scalar.cmpi .ne v59 v64
  let v66 : BitVec 32 := Scalar.remsi arg2 c2_i32
  let c0_i32_29 : BitVec 32 := 0#32
  let v67 : BitVec 1 := Scalar.cmpi .ne v66 c0_i32_29
  let v68 : BitVec 1 := Scalar.andi v65 v67
  let v54 : BitVec 32 := Scalar.divsi arg2 c2_i32
  let c1_i32 : BitVec 32 := 1#32
  let v69 : BitVec 32 := Scalar.subi v54 c1_i32
  let v70 : BitVec 32 := Scalar.select v68 v69 v54
  let v71 : BitVec 32 := Scalar.subi v70 c0_i32_30
  let c1_i32_31 : BitVec 32 := 1#32
  let v73 : BitVec 32 := Scalar.divsi v71 c1_i32_31
  let v74 : BitVec 32 := Scalar.muli v73 c1_i32_31
  let v75 : BitVec 32 := Scalar.addi c0_i32_30 v74
  let c1_i32_33 : BitVec 32 := 1#32
  let arg11 : BitVec 32 := Scf.iv v75 c1_i32_33 k0_t2
  let c1024_i32 : BitVec 32 := 1024#32
  let v350 : BitVec 32 := Scalar.muli arg11 c1024_i32
  let v351 : BitVec 32 := v350
  let v386 : Index := Scalar.indexCast v351
  ![0, 128, v386.toNat]
def k0_off15 (i : grid0.Coords) (k0_t2 : Fin (k0_t2_loop i).trips) : Fin 3 → Nat :=
  let c0_155 : Index := 0#32
  let c256_156 : Index := 256#32
  let c0_i32_30 : BitVec 32 := 0#32
  let arg2 : BitVec 32 := BitVec.ofNat 32 (i 2).val
  let c0_i32 : BitVec 32 := 0#32
  let v55 : BitVec 1 := Scalar.cmpi .sgt arg2 c0_i32
  let v56 : BitVec 32 := Scalar.extui v55
  let c0_i32_26 : BitVec 32 := 0#32
  let v57 : BitVec 1 := Scalar.cmpi .slt arg2 c0_i32_26
  let v58 : BitVec 32 := Scalar.extui v57
  let v59 : BitVec 32 := Scalar.subi v56 v58
  let c2_i32 : BitVec 32 := 2#32
  let c0_i32_27 : BitVec 32 := 0#32
  let v60 : BitVec 1 := Scalar.cmpi .sgt c2_i32 c0_i32_27
  let v61 : BitVec 32 := Scalar.extui v60
  let c0_i32_28 : BitVec 32 := 0#32
  let v62 : BitVec 1 := Scalar.cmpi .slt c2_i32 c0_i32_28
  let v63 : BitVec 32 := Scalar.extui v62
  let v64 : BitVec 32 := Scalar.subi v61 v63
  let v65 : BitVec 1 := Scalar.cmpi .ne v59 v64
  let v66 : BitVec 32 := Scalar.remsi arg2 c2_i32
  let c0_i32_29 : BitVec 32 := 0#32
  let v67 : BitVec 1 := Scalar.cmpi .ne v66 c0_i32_29
  let v68 : BitVec 1 := Scalar.andi v65 v67
  let v54 : BitVec 32 := Scalar.divsi arg2 c2_i32
  let c1_i32 : BitVec 32 := 1#32
  let v69 : BitVec 32 := Scalar.subi v54 c1_i32
  let v70 : BitVec 32 := Scalar.select v68 v69 v54
  let v71 : BitVec 32 := Scalar.subi v70 c0_i32_30
  let c1_i32_31 : BitVec 32 := 1#32
  let v73 : BitVec 32 := Scalar.divsi v71 c1_i32_31
  let v74 : BitVec 32 := Scalar.muli v73 c1_i32_31
  let v75 : BitVec 32 := Scalar.addi c0_i32_30 v74
  let c1_i32_33 : BitVec 32 := 1#32
  let arg11 : BitVec 32 := Scf.iv v75 c1_i32_33 k0_t2
  let c1024_i32 : BitVec 32 := 1024#32
  let v350 : BitVec 32 := Scalar.muli arg11 c1024_i32
  let v351 : BitVec 32 := v350
  let v404 : Index := Scalar.indexCast v351
  ![0, 256, v404.toNat]
def k0_off16 (i : grid0.Coords) (k0_t2 : Fin (k0_t2_loop i).trips) : Fin 3 → Nat :=
  let c0_160 : Index := 0#32
  let c384_161 : Index := 384#32
  let c0_i32_30 : BitVec 32 := 0#32
  let arg2 : BitVec 32 := BitVec.ofNat 32 (i 2).val
  let c0_i32 : BitVec 32 := 0#32
  let v55 : BitVec 1 := Scalar.cmpi .sgt arg2 c0_i32
  let v56 : BitVec 32 := Scalar.extui v55
  let c0_i32_26 : BitVec 32 := 0#32
  let v57 : BitVec 1 := Scalar.cmpi .slt arg2 c0_i32_26
  let v58 : BitVec 32 := Scalar.extui v57
  let v59 : BitVec 32 := Scalar.subi v56 v58
  let c2_i32 : BitVec 32 := 2#32
  let c0_i32_27 : BitVec 32 := 0#32
  let v60 : BitVec 1 := Scalar.cmpi .sgt c2_i32 c0_i32_27
  let v61 : BitVec 32 := Scalar.extui v60
  let c0_i32_28 : BitVec 32 := 0#32
  let v62 : BitVec 1 := Scalar.cmpi .slt c2_i32 c0_i32_28
  let v63 : BitVec 32 := Scalar.extui v62
  let v64 : BitVec 32 := Scalar.subi v61 v63
  let v65 : BitVec 1 := Scalar.cmpi .ne v59 v64
  let v66 : BitVec 32 := Scalar.remsi arg2 c2_i32
  let c0_i32_29 : BitVec 32 := 0#32
  let v67 : BitVec 1 := Scalar.cmpi .ne v66 c0_i32_29
  let v68 : BitVec 1 := Scalar.andi v65 v67
  let v54 : BitVec 32 := Scalar.divsi arg2 c2_i32
  let c1_i32 : BitVec 32 := 1#32
  let v69 : BitVec 32 := Scalar.subi v54 c1_i32
  let v70 : BitVec 32 := Scalar.select v68 v69 v54
  let v71 : BitVec 32 := Scalar.subi v70 c0_i32_30
  let c1_i32_31 : BitVec 32 := 1#32
  let v73 : BitVec 32 := Scalar.divsi v71 c1_i32_31
  let v74 : BitVec 32 := Scalar.muli v73 c1_i32_31
  let v75 : BitVec 32 := Scalar.addi c0_i32_30 v74
  let c1_i32_33 : BitVec 32 := 1#32
  let arg11 : BitVec 32 := Scf.iv v75 c1_i32_33 k0_t2
  let c1024_i32 : BitVec 32 := 1024#32
  let v350 : BitVec 32 := Scalar.muli arg11 c1024_i32
  let v351 : BitVec 32 := v350
  let v422 : Index := Scalar.indexCast v351
  ![0, 384, v422.toNat]
def k0_cond1 (i : grid0.Coords) : BitVec 1 :=
  let arg2 : BitVec 32 := BitVec.ofNat 32 (i 2).val
  let c2_i32_34 : BitVec 32 := 2#32
  let c0_i32_35 : BitVec 32 := 0#32
  let v78 : BitVec 1 := Scalar.cmpi .eq c2_i32_34 c0_i32_35
  let c1_i32_36 : BitVec 32 := 1#32
  let v79 : BitVec 32 := Scalar.select v78 c1_i32_36 c2_i32_34
  let v80 : BitVec 32 := Scalar.remsi arg2 v79
  let c0_i32_38 : BitVec 32 := 0#32
  let v82 : BitVec 1 := Scalar.cmpi .slt v80 c0_i32_38
  let c0_i32_39 : BitVec 32 := 0#32
  let v83 : BitVec 1 := Scalar.cmpi .slt v79 c0_i32_39
  let v84 : BitVec 1 := Scalar.xori v82 v83
  let c0_i32_37 : BitVec 32 := 0#32
  let v81 : BitVec 1 := Scalar.cmpi .ne v80 c0_i32_37
  let v85 : BitVec 1 := Scalar.andi v84 v81
  let v86 : BitVec 32 := Scalar.addi v80 v79
  let v87 : BitVec 32 := Scalar.select v85 v86 v80
  let c1_i32_40 : BitVec 32 := 1#32
  let v88 : BitVec 1 := Scalar.cmpi .eq v87 c1_i32_40
  let v89 : BitVec 32 := Scalar.extui v88
  let c0_i32_41 : BitVec 32 := 0#32
  let v90 : BitVec 1 := Scalar.cmpi .ne v89 c0_i32_41
  v90

def k0_mult3 (i : grid0.Coords) : BitVec 32 :=
  let arg2 : BitVec 32 := BitVec.ofNat 32 (i 2).val
  let c1_i32_133 : BitVec 32 := 1#32
  let v350 : BitVec 32 := Scalar.subi arg2 c1_i32_133
  let c512_i32_134 : BitVec 32 := 512#32
  let v351 : BitVec 32 := Scalar.muli v350 c512_i32_134
  v351
def k0_off17 (i : grid0.Coords) : Fin 3 → Nat :=
  let c0_135 : Index := 0#32
  let arg2 : BitVec 32 := BitVec.ofNat 32 (i 2).val
  let c1_i32_133 : BitVec 32 := 1#32
  let v350 : BitVec 32 := Scalar.subi arg2 c1_i32_133
  let c512_i32_134 : BitVec 32 := 512#32
  let v351 : BitVec 32 := Scalar.muli v350 c512_i32_134
  let v352 : BitVec 32 := v351
  let v353 : Index := Scalar.indexCast v352
  let c0_136 : Index := 0#32
  ![0, v353.toNat, 0]
def k0_off18 (i : grid0.Coords) : Fin 3 → Nat :=
  let c0_138 : Index := 0#32
  let arg2 : BitVec 32 := BitVec.ofNat 32 (i 2).val
  let c1_i32_133 : BitVec 32 := 1#32
  let v350 : BitVec 32 := Scalar.subi arg2 c1_i32_133
  let c512_i32_134 : BitVec 32 := 512#32
  let v351 : BitVec 32 := Scalar.muli v350 c512_i32_134
  let v352 : BitVec 32 := v351
  let v357 : Index := Scalar.indexCast v352
  let c128_139 : Index := 128#32
  ![0, v357.toNat, 128]
def k0_off19 (i : grid0.Coords) : Fin 3 → Nat :=
  let c0_141 : Index := 0#32
  let arg2 : BitVec 32 := BitVec.ofNat 32 (i 2).val
  let c1_i32_133 : BitVec 32 := 1#32
  let v350 : BitVec 32 := Scalar.subi arg2 c1_i32_133
  let c512_i32_134 : BitVec 32 := 512#32
  let v351 : BitVec 32 := Scalar.muli v350 c512_i32_134
  let v352 : BitVec 32 := v351
  let v361 : Index := Scalar.indexCast v352
  let c256_142 : Index := 256#32
  ![0, v361.toNat, 256]
def k0_off20 (i : grid0.Coords) : Fin 3 → Nat :=
  let c0_144 : Index := 0#32
  let c0_145 : Index := 0#32
  let arg2 : BitVec 32 := BitVec.ofNat 32 (i 2).val
  let c1_i32_133 : BitVec 32 := 1#32
  let v350 : BitVec 32 := Scalar.subi arg2 c1_i32_133
  let c512_i32_134 : BitVec 32 := 512#32
  let v351 : BitVec 32 := Scalar.muli v350 c512_i32_134
  let v352 : BitVec 32 := v351
  let v365 : Index := Scalar.indexCast v352
  ![0, 0, v365.toNat]
def k0_off21 (i : grid0.Coords) : Fin 3 → Nat :=
  let c0_149 : Index := 0#32
  let arg2 : BitVec 32 := BitVec.ofNat 32 (i 2).val
  let c1_i32_133 : BitVec 32 := 1#32
  let v350 : BitVec 32 := Scalar.subi arg2 c1_i32_133
  let c512_i32_134 : BitVec 32 := 512#32
  let v351 : BitVec 32 := Scalar.muli v350 c512_i32_134
  let v352 : BitVec 32 := v351
  let v383 : Index := Scalar.indexCast v352
  let c384_150 : Index := 384#32
  ![0, v383.toNat, 384]
def k0_off22 (i : grid0.Coords) : Fin 3 → Nat :=
  let c0_152 : Index := 0#32
  let c128_153 : Index := 128#32
  let arg2 : BitVec 32 := BitVec.ofNat 32 (i 2).val
  let c1_i32_133 : BitVec 32 := 1#32
  let v350 : BitVec 32 := Scalar.subi arg2 c1_i32_133
  let c512_i32_134 : BitVec 32 := 512#32
  let v351 : BitVec 32 := Scalar.muli v350 c512_i32_134
  let v352 : BitVec 32 := v351
  let v387 : Index := Scalar.indexCast v352
  ![0, 128, v387.toNat]
def k0_off23 (i : grid0.Coords) : Fin 3 → Nat :=
  let c0_157 : Index := 0#32
  let c256_158 : Index := 256#32
  let arg2 : BitVec 32 := BitVec.ofNat 32 (i 2).val
  let c1_i32_133 : BitVec 32 := 1#32
  let v350 : BitVec 32 := Scalar.subi arg2 c1_i32_133
  let c512_i32_134 : BitVec 32 := 512#32
  let v351 : BitVec 32 := Scalar.muli v350 c512_i32_134
  let v352 : BitVec 32 := v351
  let v405 : Index := Scalar.indexCast v352
  ![0, 256, v405.toNat]
def k0_off24 (i : grid0.Coords) : Fin 3 → Nat :=
  let c0_162 : Index := 0#32
  let c384_163 : Index := 384#32
  let arg2 : BitVec 32 := BitVec.ofNat 32 (i 2).val
  let c1_i32_133 : BitVec 32 := 1#32
  let v350 : BitVec 32 := Scalar.subi arg2 c1_i32_133
  let c512_i32_134 : BitVec 32 := 512#32
  let v351 : BitVec 32 := Scalar.muli v350 c512_i32_134
  let v352 : BitVec 32 := v351
  let v423 : Index := Scalar.indexCast v352
  ![0, 384, v423.toNat]
def k0_mult4 (i : grid0.Coords) : BitVec 32 :=
  let arg2 : BitVec 32 := BitVec.ofNat 32 (i 2).val
  let c512_i32 : BitVec 32 := 512#32
  let v92 : BitVec 32 := Scalar.muli arg2 c512_i32
  v92
def k0_off25 (i : grid0.Coords) : Fin 3 → Nat :=
  let c0_42 : Index := 0#32
  let arg2 : BitVec 32 := BitVec.ofNat 32 (i 2).val
  let c512_i32 : BitVec 32 := 512#32
  let v92 : BitVec 32 := Scalar.muli arg2 c512_i32
  let v93 : BitVec 32 := v92
  let v94 : Index := Scalar.indexCast v93
  let c0_43 : Index := 0#32
  ![0, v94.toNat, 0]
def k0_off26 (i : grid0.Coords) : Fin 3 → Nat :=
  let c0_45 : Index := 0#32
  let arg2 : BitVec 32 := BitVec.ofNat 32 (i 2).val
  let c512_i32 : BitVec 32 := 512#32
  let v92 : BitVec 32 := Scalar.muli arg2 c512_i32
  let v93 : BitVec 32 := v92
  let v98 : Index := Scalar.indexCast v93
  let c128_46 : Index := 128#32
  ![0, v98.toNat, 128]
def k0_off27 (i : grid0.Coords) : Fin 3 → Nat :=
  let c0_48 : Index := 0#32
  let arg2 : BitVec 32 := BitVec.ofNat 32 (i 2).val
  let c512_i32 : BitVec 32 := 512#32
  let v92 : BitVec 32 := Scalar.muli arg2 c512_i32
  let v93 : BitVec 32 := v92
  let v102 : Index := Scalar.indexCast v93
  let c256_49 : Index := 256#32
  ![0, v102.toNat, 256]
def k0_off28 (i : grid0.Coords) : Fin 3 → Nat :=
  let c0_51 : Index := 0#32
  let c0_52 : Index := 0#32
  let arg2 : BitVec 32 := BitVec.ofNat 32 (i 2).val
  let c512_i32 : BitVec 32 := 512#32
  let v92 : BitVec 32 := Scalar.muli arg2 c512_i32
  let v93 : BitVec 32 := v92
  let v106 : Index := Scalar.indexCast v93
  ![0, 0, v106.toNat]
def k0_off29 (i : grid0.Coords) : Fin 3 → Nat :=
  let c0_57 : Index := 0#32
  let arg2 : BitVec 32 := BitVec.ofNat 32 (i 2).val
  let c512_i32 : BitVec 32 := 512#32
  let v92 : BitVec 32 := Scalar.muli arg2 c512_i32
  let v93 : BitVec 32 := v92
  let v131 : Index := Scalar.indexCast v93
  let c384_58 : Index := 384#32
  ![0, v131.toNat, 384]
def k0_off30 (i : grid0.Coords) : Fin 3 → Nat :=
  let c0_60 : Index := 0#32
  let c128_61 : Index := 128#32
  let arg2 : BitVec 32 := BitVec.ofNat 32 (i 2).val
  let c512_i32 : BitVec 32 := 512#32
  let v92 : BitVec 32 := Scalar.muli arg2 c512_i32
  let v93 : BitVec 32 := v92
  let v135 : Index := Scalar.indexCast v93
  ![0, 128, v135.toNat]
def k0_off31 (i : grid0.Coords) : Fin 3 → Nat :=
  let c0_67 : Index := 0#32
  let c256_68 : Index := 256#32
  let arg2 : BitVec 32 := BitVec.ofNat 32 (i 2).val
  let c512_i32 : BitVec 32 := 512#32
  let v92 : BitVec 32 := Scalar.muli arg2 c512_i32
  let v93 : BitVec 32 := v92
  let v160 : Index := Scalar.indexCast v93
  ![0, 256, v160.toNat]
def k0_off32 (i : grid0.Coords) : Fin 3 → Nat :=
  let c0_74 : Index := 0#32
  let c384_75 : Index := 384#32
  let arg2 : BitVec 32 := BitVec.ofNat 32 (i 2).val
  let c512_i32 : BitVec 32 := 512#32
  let v92 : BitVec 32 := Scalar.muli arg2 c512_i32
  let v93 : BitVec 32 := v92
  let v185 : Index := Scalar.indexCast v93
  ![0, 384, v185.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference4Ideal.lean ====
abbrev S2x64 : Shape := ⟨2, ![2, 64]⟩
abbrev S8x4096x512 : Shape := ⟨3, ![8, 4096, 512]⟩
abbrev S8x512x4096 : Shape := ⟨3, ![8, 512, 4096]⟩
abbrev S1x128 : Shape := ⟨2, ![1, 128]⟩
abbrev S8x4096x4x2x64 : Shape := ⟨5, ![8, 4096, 4, 2, 64]⟩
abbrev S8x4x128x4096 : Shape := ⟨4, ![8, 4, 128, 4096]⟩
abbrev S_ : Shape := ⟨0, ![]⟩
abbrev S2 : Shape := ⟨1, ![2]⟩
abbrev S1 : Shape := ⟨1, ![1]⟩
abbrev S8x4x2x4096x4096 : Shape := ⟨5, ![8, 4, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4x2x4096 : Shape := ⟨4, ![8, 4, 2, 4096]⟩
abbrev S8x4x2x4096x1 : Shape := ⟨5, ![8, 4, 2, 4096, 1]⟩
abbrev S8x4x1x4096x4096 : Shape := ⟨5, ![8, 4, 1, 4096, 4096]⟩
abbrev S8x4x4096x4096 : Shape := ⟨4, ![8, 4, 4096, 4096]⟩
abbrev S8x4096x4x128 : Shape := ⟨4, ![8, 4096, 4, 128]⟩
abbrev S128 : Shape := ⟨1, ![128]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩

abbrev nBuf : Space → Nat
  | .hbm => 84
  | .vmem => 0
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S8x4096x512, .bf16⟩
  | .hbm, ⟨3, _⟩ => ⟨S8x4096x512, .bf16⟩
  | .hbm, ⟨4, _⟩ => ⟨S8x512x4096, .bf16⟩
  | .hbm, ⟨5, _⟩ => ⟨S8x4096x512, .bf16⟩
  | .hbm, ⟨6, _⟩ => ⟨S1x128, .f32⟩
  | .hbm, ⟨7, _⟩ => ⟨S8x4096x512, .f32⟩
  | .hbm, ⟨8, _⟩ => ⟨S8x4096x4x2x64, .f32⟩
  | .hbm, ⟨9, _⟩ => ⟨S8x4096x512, .f32⟩
  | .hbm, ⟨10, _⟩ => ⟨S8x4096x4x2x64, .f32⟩
  | .hbm, ⟨11, _⟩ => ⟨S8x512x4096, .f32⟩
  | .hbm, ⟨12, _⟩ => ⟨S8x4x128x4096, .f32⟩
  | .hbm, ⟨13, _⟩ => ⟨S2x64, .f32⟩
  | .hbm, ⟨14, _⟩ => ⟨S_, .f32⟩
  | .hbm, ⟨15, _⟩ => ⟨S2, .f32⟩
  | .hbm, ⟨16, _⟩ => ⟨S2, .f32⟩
  | .hbm, ⟨17, _⟩ => ⟨S1, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8x4x2x4096x4096, .f32⟩
  | .hbm, ⟨25, _⟩ => ⟨S_, .f32⟩
  | .hbm, ⟨26, _⟩ => ⟨S_, .f32⟩
  | .hbm, ⟨27, _⟩ => ⟨S8x4x2x4096x4096, .f32⟩
  | .hbm, ⟨28, _⟩ => ⟨S8x4x2x4096x4096, .f32⟩
  | .hbm, ⟨29, _⟩ => ⟨S4096, .i32⟩
  | .hbm, ⟨30, _⟩ => ⟨S1x4096, .i32⟩
  | .hbm, ⟨31, _⟩ => ⟨S4096x1, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S_, .f32⟩
  | .hbm, ⟨36, _⟩ => ⟨S_, .f32⟩
  | .hbm, ⟨37, _⟩ => ⟨S8x4x2x4096x4096, .i1⟩
  | .hbm, ⟨38, _⟩ => ⟨S8x4x2x4096x4096, .f32⟩
  | .hbm, ⟨39, _⟩ => ⟨S8x4x2x4096x4096, .f32⟩
  | .hbm, ⟨40, _⟩ => ⟨S_, .f32⟩
  | .hbm, ⟨41, _⟩ => ⟨S8x4x2x4096, .f32⟩
  | .hbm, ⟨42, _⟩ => ⟨S8x4x2x4096x1, .f32⟩
  | .hbm, ⟨43, _⟩ => ⟨S8x4x2x4096x4096, .f32⟩
  | .hbm, ⟨44, _⟩ => ⟨S8x4x2x4096x4096, .f32⟩
  | .hbm, ⟨45, _⟩ => ⟨S8x4x2x4096x4096, .f32⟩
  | .hbm, ⟨46, _⟩ => ⟨S_, .f32⟩
  | .hbm, ⟨47, _⟩ => ⟨S8x4x2x4096, .f32⟩
  | .hbm, ⟨48, _⟩ => ⟨S8x4x2x4096x1, .f32⟩
  | .hbm, ⟨49, _⟩ => ⟨S8x4x2x4096x4096, .f32⟩
  | .hbm, ⟨50, _⟩ => ⟨S8x4x2x4096x4096, .f32⟩
  | .hbm, ⟨51, _⟩ => ⟨S8x4x1x4096x4096, .f32⟩
  | .hbm, ⟨52, _⟩ => ⟨S8x4x4096x4096, .f32⟩
  | .hbm, ⟨53, _⟩ => ⟨S8x4x1x4096x4096, .f32⟩
  | .hbm, ⟨54, _⟩ => ⟨S8x4x4096x4096, .f32⟩
  | .hbm, ⟨55, _⟩ => ⟨S8x4x4096x4096, .f32⟩
  | .hbm, ⟨56, _⟩ => ⟨S8x4x4096x4096, .f32⟩
  | .hbm, ⟨57, _⟩ => ⟨S8x4x4096x4096, .f32⟩
  | .hbm, ⟨58, _⟩ => ⟨S8x4x128x4096, .f32⟩
  | .hbm, ⟨59, _⟩ => ⟨S8x4096x4x128, .f32⟩
  | .hbm, ⟨60, _⟩ => ⟨S128, .f32⟩
  | .hbm, ⟨61, _⟩ => ⟨S8x4096x4x128, .f32⟩
  | .hbm, ⟨62, _⟩ => ⟨S_, .f32⟩
  | .hbm, ⟨63, _⟩ => ⟨S8x4096x4, .f32⟩
  | .hbm, ⟨64, _⟩ => ⟨S8x4096x4x1, .f32⟩
  | .hbm, ⟨65, _⟩ => ⟨S_, .f32⟩
  | .hbm, ⟨66, _⟩ => ⟨S8x4096x4x1, .f32⟩
  | .hbm, ⟨67, _⟩ => ⟨S8x4096x4x1, .f32⟩
  | .hbm, ⟨68, _⟩ => ⟨S_, .f32⟩
  | .hbm, ⟨69, _⟩ => ⟨S8x4096x4x1, .f32⟩
  | .hbm, ⟨70, _⟩ => ⟨S8x4096x4x1, .f32⟩
  | .hbm, ⟨71, _⟩ => ⟨S8x4096x4x1, .f32⟩
  | .hbm, ⟨72, _⟩ => ⟨S8x4096x4x128, .f32⟩
  | .hbm, ⟨73, _⟩ => ⟨S8x4096x4x128, .f32⟩
  | .hbm, ⟨74, _⟩ => ⟨S1x1x1x128, .f32⟩
  | .hbm, ⟨75, _⟩ => ⟨S8x4096x4x128, .f32⟩
  | .hbm, ⟨76, _⟩ => ⟨S8x4096x4x128, .f32⟩
  | .hbm, ⟨77, _⟩ => ⟨S_, .f32⟩
  | .hbm, ⟨78, _⟩ => ⟨S8x4096x4x128, .f32⟩
  | .hbm, ⟨79, _⟩ => ⟨S8x4096x4x128, .f32⟩
  | .hbm, ⟨80, _⟩ => ⟨S8x4096x512, .f32⟩
  | .hbm, ⟨81, _⟩ => ⟨S8x4096x512, .f32⟩
  | .hbm, ⟨82, _⟩ => ⟨S8x4096x512, .f32⟩
  | .hbm, ⟨83, _⟩ => ⟨S8x4096x512, .bf16⟩
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== Kernel5.lean ====
abbrev S2x1024x7936 : Shape := ⟨3, ![2, 1024, 7936]⟩
abbrev S1x256x7936 : Shape := ⟨3, ![1, 256, 7936]⟩
abbrev S256x7936 : Shape := ⟨2, ![256, 7936]⟩

abbrev nBuf : Space → Nat
  | .hbm => 2
  | .vmem => 4
  | .smem => 0
  | _ => 0

abbrev bufTy : (tb : Table) → Fin (tcTables nBuf tb) → BufTy
  | .hbm, ⟨0, _⟩ => ⟨S2x1024x7936, .f32⟩
  | .hbm, ⟨1, _⟩ => ⟨S2x1024x7936, .bf16⟩
  | .local _ .vmem, ⟨0, _⟩ => ⟨S1x256x7936, .f32⟩
  | .local _ .vmem, ⟨1, _⟩ => ⟨S1x256x7936, .f32⟩
  | .local _ .vmem, ⟨2, _⟩ => ⟨S1x256x7936, .bf16⟩
  | .local _ .vmem, ⟨3, _⟩ => ⟨S1x256x7936, .bf16⟩
  | _, _ => ⟨S2x1024x7936, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x7936 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x7936 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference5Ideal.lean ====
abbrev S2x1024x7936 : Shape := ⟨3, ![2, 1024, 7936]⟩

abbrev nBuf : Space → Nat
  | .hbm => 2
  | .vmem => 0
  | .smem => 0
  | _ => 0

abbrev bufTy : (tb : Table) → Fin (tcTables nBuf tb) → BufTy
  | .hbm, ⟨0, _⟩ => ⟨S2x1024x7936, .f32⟩
  | .hbm, ⟨1, _⟩ => ⟨S2x1024x7936, .bf16⟩
  | _, _ => ⟨S2x1024x7936, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Diff.KernelIdealBody.lean ====
/-
The run of the differential attention kernel's body on whole staging buffers. The body goes through its two counted
loops by their invariants; the conditional step over the odd 512-key block is taken on odd query blocks and skipped on
even ones, so there is one run for each. Each run finds the pieces the four heads' stores leave in the output block.
-/
module

public import proofs.«01_k».proof.Proof.Gen.KernelIdeal.Frame
public import proofs.«01_k».proof.Proof.Gen.KernelIdeal.Loops
public import Idealize.ShloMosaic.Lib.Ring
public import Idealize.ShloMosaic.Lib.Claim

@[expose] public section

set_option maxRecDepth 16384

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 4000000 in
/-- The body on a query block with an odd number of 512-key blocks before it. -/
noncomputable def oddRun (c : Dev nD) (i : grid0.Coords) (hc : k0_cond1 i = 1#1)
    (arg3 : Memref sig .tc .vmem S2x64 .f32) (harg3 : arg3.IsWhole)
    (arg4 : Memref sig .tc .vmem S2x64 .f32) (harg4 : arg4.IsWhole)
    (arg5 : Memref sig .tc .vmem S1x512x512 .bf16) (harg5 : arg5.IsWhole)
    (arg6 : Memref sig .tc .vmem S1x4096x512 .bf16) (harg6 : arg6.IsWhole)
    (arg7 : Memref sig .tc .vmem S1x512x4096 .bf16) (harg7 : arg7.IsWhole)
    (arg8 : Memref sig .tc .vmem S1x512x512 .bf16) (harg8 : arg8.IsWhole)
    (arg9 : Memref sig .tc .vmem S1x128 .f32) (harg9 : arg9.IsWhole)
    (arg10 : Memref sig .tc .vmem S1x512x512 .bf16) (harg10 : arg10.IsWhole)
    (x0 : Vec F S2x64 .f32) (x1 : Vec F S2x64 .f32) (x2 : Vec F S1x512x512 .bf16) (x3 : Vec F S1x4096x512 .bf16) (x4 : Vec F S1x512x4096 .bf16) (x5 : Vec F S1x512x512 .bf16) (x6 : Vec F S1x128 .f32) :
    { L : List (View.Piece (Elt F) S1x512x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L)) -∗ K ⟨⟩))
          ⊢ wp frame (wpE (defs₀ (F := F)) Variants.none c none) E (cc0_diff i arg3 harg3 arg4 harg4 arg5 harg5 arg6 harg6 arg7 harg7 arg8 harg8 arg9 harg9 arg10 harg10) K } := by
  refine ⟨?_, fun E K => ?run⟩
  case run =>
    simp only [cc0_diff_eq_skeleton]; unfold cc0_diff_skel
    simp only [k0_part7_eq_skeleton, k0_part8_eq_skeleton, k0_part9_eq_skeleton, k0_part10_eq_skeleton, k0_part11_eq_skeleton,
      k0_part12_eq_skeleton, k0_part13_eq_skeleton, k0_part14_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d, %f, -, H7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact H7

set_option maxHeartbeats 4000000 in
/-- The body on a query block with an even number of 512-key blocks before it. -/
noncomputable def evenRun (c : Dev nD) (i : grid0.Coords) (hc : ¬ k0_cond1 i = 1#1)
    (arg3 : Memref sig .tc .vmem S2x64 .f32) (harg3 : arg3.IsWhole)
    (arg4 : Memref sig .tc .vmem S2x64 .f32) (harg4 : arg4.IsWhole)
    (arg5 : Memref sig .tc .vmem S1x512x512 .bf16) (harg5 : arg5.IsWhole)
    (arg6 : Memref sig .tc .vmem S1x4096x512 .bf16) (harg6 : arg6.IsWhole)
    (arg7 : Memref sig .tc .vmem S1x512x4096 .bf16) (harg7 : arg7.IsWhole)
    (arg8 : Memref sig .tc .vmem S1x512x512 .bf16) (harg8 : arg8.IsWhole)
    (arg9 : Memref sig .tc .vmem S1x128 .f32) (harg9 : arg9.IsWhole)
    (arg10 : Memref sig .tc .vmem S1x512x512 .bf16) (harg10 : arg10.IsWhole)
    (x0 : Vec F S2x64 .f32) (x1 : Vec F S2x64 .f32) (x2 : Vec F S1x512x512 .bf16) (x3 : Vec F S1x4096x512 .bf16) (x4 : Vec F S1x512x4096 .bf16) (x5 : Vec F S1x512x512 .bf16) (x6 : Vec F S1x128 .f32) :
    { L : List (View.Piece (Elt F) S1x512x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L)) -∗ K ⟨⟩))
          ⊢ wp frame (wpE (defs₀ (F := F)) Variants.none c none) E (cc0_diff i arg3 harg3 arg4 harg4 arg5 harg5 arg6 harg6 arg7 harg7 arg8 harg8 arg9 harg9 arg10 harg10) K } := by
  refine ⟨?_, fun E K => ?run⟩
  case run =>
    simp only [cc0_diff_eq_skeleton]; unfold cc0_diff_skel
    simp only [k0_part7_eq_skeleton, k0_part8_eq_skeleton, k0_part9_eq_skeleton, k0_part10_eq_skeleton, k0_part11_eq_skeleton,
      k0_part12_eq_skeleton, k0_part13_eq_skeleton, k0_part14_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d, %f, -, H7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact H7

end Cert.KernelIdeal.Diff

end
-- ==== Proof.Diff.KernelIdealFrame.lean ====
/-
The frame of the differential attention kernel: the proof data of its one pipeline, the body's triple at every grid
point, the launch, and what the launch says of the argument arrays and the counters.
-/
module

public import proofs.«01_k».proof.Proof.Diff.KernelIdealBody
public import Idealize.ShloMosaic.Lib.Pipeline.FrameBody

@[expose] public section

set_option maxRecDepth 16384

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A staging buffer of the output, to read written pieces through. -/
abbrev outView : View sig .tc .vmem S1x512x512 .bf16 := (Memref.whole cc0_stg7_0 : Memref sig .tc .vmem S1x512x512 .bf16).view

/-! The staging buffers at a point, as the body is handed them. -/

abbrev stg0 (t : Fin cfg0.N) : Memref sig .tc .vmem S2x64 .f32 := win0_0.stage (cfg0.slots t 0)
abbrev whole0 (t : Fin cfg0.N) : (stg0 t).IsWhole := hstage0_0 ((cfg0.slots t 0).cast nbuf0_0)
abbrev stg1 (t : Fin cfg0.N) : Memref sig .tc .vmem S2x64 .f32 := win0_1.stage (cfg0.slots t 1)
abbrev whole1 (t : Fin cfg0.N) : (stg1 t).IsWhole := hstage0_1 ((cfg0.slots t 1).cast nbuf0_1)
abbrev stg2 (t : Fin cfg0.N) : Memref sig .tc .vmem S1x512x512 .bf16 := win0_2.stage (cfg0.slots t 2)
abbrev whole2 (t : Fin cfg0.N) : (stg2 t).IsWhole := hstage0_2 ((cfg0.slots t 2).cast nbuf0_2)
abbrev stg3 (t : Fin cfg0.N) : Memref sig .tc .vmem S1x4096x512 .bf16 := win0_3.stage (cfg0.slots t 3)
abbrev whole3 (t : Fin cfg0.N) : (stg3 t).IsWhole := hstage0_3 ((cfg0.slots t 3).cast nbuf0_3)
abbrev stg4 (t : Fin cfg0.N) : Memref sig .tc .vmem S1x512x4096 .bf16 := win0_4.stage (cfg0.slots t 4)
abbrev whole4 (t : Fin cfg0.N) : (stg4 t).IsWhole := hstage0_4 ((cfg0.slots t 4).cast nbuf0_4)
abbrev stg5 (t : Fin cfg0.N) : Memref sig .tc .vmem S1x512x512 .bf16 := win0_5.stage (cfg0.slots t 5)
abbrev whole5 (t : Fin cfg0.N) : (stg5 t).IsWhole := hstage0_5 ((cfg0.slots t 5).cast nbuf0_5)
abbrev stg6 (t : Fin cfg0.N) : Memref sig .tc .vmem S1x128 .f32 := win0_6.stage (cfg0.slots t 6)
abbrev whole6 (t : Fin cfg0.N) : (stg6 t).IsWhole := hstage0_6 ((cfg0.slots t 6).cast nbuf0_6)
abbrev stg7 (t : Fin cfg0.N) : Memref sig .tc .vmem S1x512x512 .bf16 := win0_7.stage (cfg0.slots t 7)
abbrev whole7 (t : Fin cfg0.N) : (stg7 t).IsWhole := hstage0_7 ((cfg0.slots t 7).cast nbuf0_7)

/-- The four heads' stores of the odd run tile the output block. -/
theorem odd_cover (c : Dev nD) (i : grid0.Coords) (hc : k0_cond1 i = 1#1)
    (arg3 : Memref sig .tc .vmem S2x64 .f32) (harg3 : arg3.IsWhole)
    (arg4 : Memref sig .tc .vmem S2x64 .f32) (harg4 : arg4.IsWhole)
    (arg5 : Memref sig .tc .vmem S1x512x512 .bf16) (harg5 : arg5.IsWhole)
    (arg6 : Memref sig .tc .vmem S1x4096x512 .bf16) (harg6 : arg6.IsWhole)
    (arg7 : Memref sig .tc .vmem S1x512x4096 .bf16) (harg7 : arg7.IsWhole)
    (arg8 : Memref sig .tc .vmem S1x512x512 .bf16) (harg8 : arg8.IsWhole)
    (arg9 : Memref sig .tc .vmem S1x128 .f32) (harg9 : arg9.IsWhole)
    (arg10 : Memref sig .tc .vmem S1x512x512 .bf16) (harg10 : arg10.IsWhole)
    (x0 : Vec F S2x64 .f32) (x1 : Vec F S2x64 .f32) (x2 : Vec F S1x512x512 .bf16) (x3 : Vec F S1x4096x512 .bf16) (x4 : Vec F S1x512x4096 .bf16) (x5 : Vec F S1x512x512 .bf16) (x6 : Vec F S1x128 .f32) (y : S1x512x512.Idx) :
    ∃ pc ∈ (oddRun c i hc arg3 harg3 arg4 harg4 arg5 harg5 arg6 harg6 arg7 harg7 arg8 harg8 arg9 harg9 arg10 harg10 x0 x1 x2 x3 x4 x5 x6).1, y ∈ pc.1.set :=
  View.cover_of_tiledL (oddRun c i hc arg3 harg3 arg4 harg4 arg5 harg5 arg6 harg6 arg7 harg7 arg8 harg8 arg9 harg9 arg10 harg10 x0 x1 x2 x3 x4 x5 x6).1 S1x512x128.size (by sl_kernel_rfl) y

/-- The output block after the odd run. -/
def oddOut (c : Dev nD) (i : grid0.Coords) (hc : k0_cond1 i = 1#1)
    (arg3 : Memref sig .tc .vmem S2x64 .f32) (harg3 : arg3.IsWhole)
    (arg4 : Memref sig .tc .vmem S2x64 .f32) (harg4 : arg4.IsWhole)
    (arg5 : Memref sig .tc .vmem S1x512x512 .bf16) (harg5 : arg5.IsWhole)
    (arg6 : Memref sig .tc .vmem S1x4096x512 .bf16) (harg6 : arg6.IsWhole)
    (arg7 : Memref sig .tc .vmem S1x512x4096 .bf16) (harg7 : arg7.IsWhole)
    (arg8 : Memref sig .tc .vmem S1x512x512 .bf16) (harg8 : arg8.IsWhole)
    (arg9 : Memref sig .tc .vmem S1x128 .f32) (harg9 : arg9.IsWhole)
    (arg10 : Memref sig .tc .vmem S1x512x512 .bf16) (harg10 : arg10.IsWhole)
    (x0 : Vec F S2x64 .f32) (x1 : Vec F S2x64 .f32) (x2 : Vec F S1x512x512 .bf16) (x3 : Vec F S1x4096x512 .bf16) (x4 : Vec F S1x512x4096 .bf16) (x5 : Vec F S1x512x512 .bf16) (x6 : Vec F S1x128 .f32) : Vec F S1x512x512 .bf16 :=
  outView.read (Elt F) (outView.writes (Elt F) outView.junk (oddRun c i hc arg3 harg3 arg4 harg4 arg5 harg5 arg6 harg6 arg7 harg7 arg8 harg8 arg9 harg9 arg10 harg10 x0 x1 x2 x3 x4 x5 x6).1)

/-- The four heads' stores of the even run tile the output block. -/
theorem even_cover (c : Dev nD) (i : grid0.Coords) (hc : ¬ k0_cond1 i = 1#1)
    (arg3 : Memref sig .tc .vmem S2x64 .f32) (harg3 : arg3.IsWhole)
    (arg4 : Memref sig .tc .vmem S2x64 .f32) (harg4 : arg4.IsWhole)
    (arg5 : Memref sig .tc .vmem S1x512x512 .bf16) (harg5 : arg5.IsWhole)
    (arg6 : Memref sig .tc .vmem S1x4096x512 .bf16) (harg6 : arg6.IsWhole)
    (arg7 : Memref sig .tc .vmem S1x512x4096 .bf16) (harg7 : arg7.IsWhole)
    (arg8 : Memref sig .tc .vmem S1x512x512 .bf16) (harg8 : arg8.IsWhole)
    (arg9 : Memref sig .tc .vmem S1x128 .f32) (harg9 : arg9.IsWhole)
    (arg10 : Memref sig .tc .vmem S1x512x512 .bf16) (harg10 : arg10.IsWhole)
    (x0 : Vec F S2x64 .f32) (x1 : Vec F S2x64 .f32) (x2 : Vec F S1x512x512 .bf16) (x3 : Vec F S1x4096x512 .bf16) (x4 : Vec F S1x512x4096 .bf16) (x5 : Vec F S1x512x512 .bf16) (x6 : Vec F S1x128 .f32) (y : S1x512x512.Idx) :
    ∃ pc ∈ (evenRun c i hc arg3 harg3 arg4 harg4 arg5 harg5 arg6 harg6 arg7 harg7 arg8 harg8 arg9 harg9 arg10 harg10 x0 x1 x2 x3 x4 x5 x6).1, y ∈ pc.1.set :=
  View.cover_of_tiledL (evenRun c i hc arg3 harg3 arg4 harg4 arg5 harg5 arg6 harg6 arg7 harg7 arg8 harg8 arg9 harg9 arg10 harg10 x0 x1 x2 x3 x4 x5 x6).1 S1x512x128.size (by sl_kernel_rfl) y

/-- The output block after the even run. -/
def evenOut (c : Dev nD) (i : grid0.Coords) (hc : ¬ k0_cond1 i = 1#1)
    (arg3 : Memref sig .tc .vmem S2x64 .f32) (harg3 : arg3.IsWhole)
    (arg4 : Memref sig .tc .vmem S2x64 .f32) (harg4 : arg4.IsWhole)
    (arg5 : Memref sig .tc .vmem S1x512x512 .bf16) (harg5 : arg5.IsWhole)
    (arg6 : Memref sig .tc .vmem S1x4096x512 .bf16) (harg6 : arg6.IsWhole)
    (arg7 : Memref sig .tc .vmem S1x512x4096 .bf16) (harg7 : arg7.IsWhole)
    (arg8 : Memref sig .tc .vmem S1x512x512 .bf16) (harg8 : arg8.IsWhole)
    (arg9 : Memref sig .tc .vmem S1x128 .f32) (harg9 : arg9.IsWhole)
    (arg10 : Memref sig .tc .vmem S1x512x512 .bf16) (harg10 : arg10.IsWhole)
    (x0 : Vec F S2x64 .f32) (x1 : Vec F S2x64 .f32) (x2 : Vec F S1x512x512 .bf16) (x3 : Vec F S1x4096x512 .bf16) (x4 : Vec F S1x512x4096 .bf16) (x5 : Vec F S1x512x512 .bf16) (x6 : Vec F S1x128 .f32) : Vec F S1x512x512 .bf16 :=
  outView.read (Elt F) (outView.writes (Elt F) outView.junk (evenRun c i hc arg3 harg3 arg4 harg4 arg5 harg5 arg6 harg6 arg7 harg7 arg8 harg8 arg9 harg9 arg10 harg10 x0 x1 x2 x3 x4 x5 x6).1)

open Classical in
/-- The output block after the body at point `t`. -/
def outAt (c : Dev nD) (t : Fin cfg0.N) : Vec F S1x512x512 .bf16 :=
  if hc : k0_cond1 (grid0.coords t) = 1#1 then
    oddOut c (grid0.coords t) hc (stg0 t) (whole0 t) (stg1 t) (whole1 t) (stg2 t) (whole2 t) (stg3 t) (whole3 t) (stg4 t) (whole4 t) (stg5 t) (whole5 t) (stg6 t) (whole6 t) (stg7 t) (whole7 t) (iblk m c 0 t) (iblk m c 1 t) (iblk m c 2 t) (iblk m c 3 t) (iblk m c 4 t) (iblk m c 5 t) (iblk m c 6 t)
  else
    evenOut c (grid0.coords t) hc (stg0 t) (whole0 t) (stg1 t) (whole1 t) (stg2 t) (whole2 t) (stg3 t) (whole3 t) (stg4 t) (whole4 t) (stg5 t) (whole5 t) (stg6 t) (whole6 t) (stg7 t) (whole7 t) (iblk m c 0 t) (iblk m c 1 t) (iblk m c 2 t) (iblk m c 3 t) (iblk m c 4 t) (iblk m c 5 t) (iblk m c 6 t)

/-- The pipeline's proof data: every input's buffer keeps its block, the output's buffer ends at `outAt`. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q _ := fullShare
  owed _ := 0

theorem data_A (c : Dev nD) (w : Fin cfg0.W) : (data m 0 c).A w = V m c (Pipeline.arrRef spec0 w) := by
  dsimp only [data]

theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = iblk m c 3 t := by dsimp only [data]
theorem after_4 (c : Dev nD) (t : Fin cfg0.N) : (data m 0 c).after 4 t = iblk m c 4 t := by dsimp only [data]
theorem after_5 (c : Dev nD) (t : Fin cfg0.N) : (data m 0 c).after 5 t = iblk m c 5 t := by dsimp only [data]
theorem after_6 (c : Dev nD) (t : Fin cfg0.N) : (data m 0 c).after 6 t = iblk m c 6 t := by dsimp only [data]
theorem after_7 (c : Dev nD) (t : Fin cfg0.N) : (data m 0 c).after 7 t = outAt m c t := by dsimp only [data]

theorem before_0 (c : Dev nD) (t : Fin cfg0.N) (d) : (data m 0 c).before 0 t d = iblk m c 0 t :=
  before0_0_of m (data m 0 c) (data_A m c 0) (after_0 m c) t d
theorem before_1 (c : Dev nD) (t : Fin cfg0.N) (d) : (data m 0 c).before 1 t d = iblk m c 1 t :=
  before0_1_of m (data m 0 c) (data_A m c 1) (after_1 m c) t d
theorem before_2 (c : Dev nD) (t : Fin cfg0.N) (d) : (data m 0 c).before 2 t d = iblk m c 2 t :=
  before0_2_of m (data m 0 c) (data_A m c 2) (after_2 m c) t d
theorem before_3 (c : Dev nD) (t : Fin cfg0.N) (d) : (data m 0 c).before 3 t d = iblk m c 3 t :=
  before0_3_of m (data m 0 c) (data_A m c 3) (after_3 m c) t d
theorem before_4 (c : Dev nD) (t : Fin cfg0.N) (d) : (data m 0 c).before 4 t d = iblk m c 4 t :=
  before0_4_of m (data m 0 c) (data_A m c 4) (after_4 m c) t d
theorem before_5 (c : Dev nD) (t : Fin cfg0.N) (d) : (data m 0 c).before 5 t d = iblk m c 5 t :=
  before0_5_of m (data m 0 c) (data_A m c 5) (after_5 m c) t d
theorem before_6 (c : Dev nD) (t : Fin cfg0.N) (d) : (data m 0 c).before 6 t d = iblk m c 6 t :=
  before0_6_of m (data m 0 c) (data_A m c 6) (after_6 m c) t d

/-- What the body finds at point `t`. -/
def bodyFinds (c : Dev nD) (t : Fin cfg0.N) : sProp 𝕄 :=
  iprop((data m 0 c).Φ t.castSucc ∗ (data m 0 c).owesAt () t.castSucc
    ∗ (∃ d, owns (c : Thread nD τ) (stg0 t) fullShare ((data m 0 c).before 0 t d))
    ∗ (∃ d, owns (c : Thread nD τ) (stg1 t) fullShare ((data m 0 c).before 1 t d))
    ∗ (∃ d, owns (c : Thread nD τ) (stg2 t) fullShare ((data m 0 c).before 2 t d))
    ∗ (∃ d, owns (c : Thread nD τ) (stg3 t) fullShare ((data m 0 c).before 3 t d))
    ∗ (∃ d, owns (c : Thread nD τ) (stg4 t) fullShare ((data m 0 c).before 4 t d))
    ∗ (∃ d, owns (c : Thread nD τ) (stg5 t) fullShare ((data m 0 c).before 5 t d))
    ∗ (∃ d, owns (c : Thread nD τ) (stg6 t) fullShare ((data m 0 c).before 6 t d))
    ∗ (∃ d, owns (c : Thread nD τ) (stg7 t) fullShare ((data m 0 c).before 7 t d)))

/-- What the body leaves at point `t`. -/
def bodyLeaves (c : Dev nD) (t : Fin cfg0.N) : sProp 𝕄 :=
  iprop((data m 0 c).Φ t.succ ∗ (data m 0 c).owesAt () t.succ
    ∗ owns (c : Thread nD τ) (stg0 t) fullShare ((data m 0 c).after 0 t)
    ∗ owns (c : Thread nD τ) (stg1 t) fullShare ((data m 0 c).after 1 t)
    ∗ owns (c : Thread nD τ) (stg2 t) fullShare ((data m 0 c).after 2 t)
    ∗ owns (c : Thread nD τ) (stg3 t) fullShare ((data m 0 c).after 3 t)
    ∗ owns (c : Thread nD τ) (stg4 t) fullShare ((data m 0 c).after 4 t)
    ∗ owns (c : Thread nD τ) (stg5 t) fullShare ((data m 0 c).after 5 t)
    ∗ owns (c : Thread nD τ) (stg6 t) fullShare ((data m 0 c).after 6 t)
    ∗ owns (c : Thread nD τ) (stg7 t) fullShare ((data m 0 c).after 7 t))

set_option maxHeartbeats 2000000 in
/-- The body's triple at every point, on the run of the point's parity. -/
theorem body_triple (c : Dev nD) (t : Fin cfg0.N) :
    bodyFinds m c t ⊢ wp frame (wpE (defs₀ (F := F)) Variants.none c none) Set.univ (bodyAt0 t) (fun _ => bodyLeaves m c t) := by
  unfold bodyFinds bodyLeaves bodyAt0
  simp only [before_0, before_1, before_2, before_3, before_4, before_5, before_6]
  rw [show (data m 0 c).Φ t.succ = (data m 0 c).Φ t.castSucc from rfl,
    show (data m 0 c).owesAt () t.succ = (data m 0 c).owesAt () t.castSucc from rfl,
    after_0, after_1, after_2, after_3, after_4, after_5, after_6, after_7]
  iintro ⟨Hinv, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases hc : k0_cond1 (grid0.coords t) = 1#1
  · skip
    rw [show outAt m c t = (oddOut c (grid0.coords t) hc (stg0 t) (whole0 t) (stg1 t) (whole1 t) (stg2 t) (whole2 t) (stg3 t) (whole3 t) (stg4 t) (whole4 t) (stg5 t) (whole5 t) (stg6 t) (whole6 t) (stg7 t) (whole7 t) (iblk m c 0 t) (iblk m c 1 t) (iblk m c 2 t) (iblk m c 3 t) (iblk m c 4 t) (iblk m c 5 t) (iblk m c 6 t)) from dif_pos hc]
    unfold oddOut
    iapply ((oddRun c (grid0.coords t) hc _ _ _ _ _ _ _ _ _ _ _ _ _ _ _ _ (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [Hinv]; · iexact Hinv
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (odd_cover c _ hc _ _ _ _ _ _ _ _ _ _ _ _ _ _ _ _ _ _ _ _ _ _ _)
  · skip
    rw [show outAt m c t = (evenOut c (grid0.coords t) hc (stg0 t) (whole0 t) (stg1 t) (whole1 t) (stg2 t) (whole2 t) (stg3 t) (whole3 t) (stg4 t) (whole4 t) (stg5 t) (whole5 t) (stg6 t) (whole6 t) (stg7 t) (whole7 t) (iblk m c 0 t) (iblk m c 1 t) (iblk m c 2 t) (iblk m c 3 t) (iblk m c 4 t) (iblk m c 5 t) (iblk m c 6 t)) from dif_neg hc]
    unfold evenOut
    iapply ((evenRun c (grid0.coords t) hc _ _ _ _ _ _ _ _ _ _ _ _ _ _ _ _ (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [Hinv]; · iexact Hinv
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (even_cover c _ hc _ _ _ _ _ _ _ _ _ _ _ _ _ _ _ _ _ _ _ _ _ _ _)

/-- The body row of the definitions, at a point's slots. -/
theorem defs₀_at (t : Fin cfg0.N) :
    defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, defs₀_at]
  exact triple_restated (body_triple m c t) rfl .rfl fun _ => .rfl

set_option backward.isDefEq.respectTransparency.types false in
/-- The launch: the arrays end at what the proof data compute, and every counter ends at zero. -/
theorem launch_quiescent : θ_run defs (onTc (τ := τ) (main (F := F))) (s₀ m ρ)
    (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hΦ := fun _ _ => rfl)

theorem launch : θ_run defs (onTc (τ := τ) (main (F := F))) (s₀ m ρ) (Pipeline.FramePost cfgs (data m) 0 (V m)) :=
  (θ_run defs _ _).mono (fun _ h => h.1) (launch_quiescent m ρ)

/-- The frame: the arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
       ∧ r.2.mem ((c.tc : Thread nD τ).loc main_arg1) = m ((c.tc : Thread nD τ).loc main_arg1)
       ∧ r.2.mem ((c.tc : Thread nD τ).loc main_arg2) = m ((c.tc : Thread nD τ).loc main_arg2)
       ∧ r.2.mem ((c.tc : Thread nD τ).loc main_arg3) = m ((c.tc : Thread nD τ).loc main_arg3)
       ∧ r.2.mem ((c.tc : Thread nD τ).loc main_arg4) = m ((c.tc : Thread nD τ).loc main_arg4)
       ∧ r.2.mem ((c.tc : Thread nD τ).loc main_arg5) = m ((c.tc : Thread nD τ).loc main_arg5)
       ∧ r.2.mem ((c.tc : Thread nD τ).loc main_arg6) = m ((c.tc : Thread nD τ).loc main_arg6))
      ∧ r.2.sem = fun _ => 0) :=
  θ_run_and (frame_of m ρ (data m) (data_A m) (launch m ρ))
    ((θ_run defs _ _).mono (fun _ h => h.2) (launch_quiescent m ρ))

end Cert.KernelIdeal.Diff

end
-- ==== Proof.Diff.Softmax.lean ====
module

public import Idealize.ShloMosaic.PureOps.Ideal
public import Idealize.ShloMosaic.PureOps.Ideal.Laws

/-!
# The running softmax over the reals

Scores are extended reals: a real number, or `⊥` at a key the mask hides. `top s n` is the largest of the first `n`
scores and `tot s v n` the sum of the first `n` values, each weighted with two to its score less `top s n`. A block of
further keys changes the pair by the kernel's step: the new maximum is the old one's maximum with the block's, the old sum
is scaled with two to the difference of the maxima, and the block's weighted values are added. The last part turns the
normalised sums of two softmaxes into one sum against the difference of the softmaxes, as the reference writes it.
-/

@[expose] public section

noncomputable section

namespace Cert.Proof.Diff

open Idealize.ShloMosaic

/-- A number that is neither of the infinities. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem IsReal.mul {x y : EReal} : IsReal x → IsReal y → IsReal (x * y)
  | ⟨a, ha⟩, ⟨b, hb⟩ => ⟨a * b, by rw [ha, hb, EReal.coe_mul]⟩

theorem IsReal.ne_top {x : EReal} : IsReal x → x ≠ ⊤
  | ⟨a, ha⟩ => ha ▸ EReal.coe_ne_top a

theorem IsReal.ne_bot {x : EReal} : IsReal x → x ≠ ⊥
  | ⟨a, ha⟩ => ha ▸ EReal.coe_ne_bot a

theorem isReal_of_ne {x : EReal} (hb : x ≠ ⊥) (ht : x ≠ ⊤) : IsReal x := ⟨x.toReal, (EReal.coe_toReal ht hb).symm⟩

theorem isReal_zero : IsReal 0 := ⟨0, rfl⟩

theorem isReal_one : IsReal 1 := ⟨1, rfl⟩

theorem IsReal.exp {x : EReal} : IsReal x → IsReal (Ideal.exp x)
  | ⟨a, ha⟩ => ⟨Real.exp a, by rw [ha]; rfl⟩

theorem isReal_sum {ι : Type} (t : Finset ι) (f : ι → EReal) (hf : ∀ j ∈ t, IsReal (f j)) : IsReal (∑ j ∈ t, f j) := by
  classical
  induction t using Finset.induction_on with
  | empty => exact isReal_zero
  | insert a t ha ih =>
      rw [Finset.sum_insert ha]
      exact (hf a (Finset.mem_insert_self a t)).add (ih fun j hj => hf j (Finset.mem_insert_of_mem hj))

/-- A sum of real numbers, taken among the reals. -/
theorem sum_coe {ι : Type} (t : Finset ι) (f : ι → ℝ) : (∑ j ∈ t, ((f j : ℝ) : EReal)) = ((∑ j ∈ t, f j : ℝ) : EReal) := by
  classical
  induction t using Finset.induction_on with
  | empty => rfl
  | insert a t ha ih => rw [Finset.sum_insert ha, Finset.sum_insert ha, ih, EReal.coe_add]

/-- A real factor goes into a sum of reals. -/
theorem mul_sum_real {ι : Type} (t : Finset ι) (c : EReal) (f : ι → EReal) (hc : IsReal c) (hf : ∀ j ∈ t, IsReal (f j)) :
    c * ∑ j ∈ t, f j = ∑ j ∈ t, c * f j := by
  obtain ⟨r, rfl⟩ := hc
  have hg : ∀ j ∈ t, f j = ((f j).toReal : EReal) := fun j hj => (EReal.coe_toReal (hf j hj).ne_top (hf j hj).ne_bot).symm
  rw [Finset.sum_congr rfl hg, sum_coe, ← EReal.coe_mul, Finset.mul_sum, ← sum_coe]
  refine Finset.sum_congr rfl fun j hj => ?_
  rw [EReal.coe_mul, ← hg j hj]

/-- Two to a number below `⊤` is real. -/
theorem isReal_exp2 {x : EReal} (hx : x ≠ ⊤) : IsReal (Ideal.exp2 x) := by
  induction x with
  | bot => exact isReal_zero
  | top => exact absurd rfl hx
  | coe r => exact ⟨Real.rpow 2 r, rfl⟩

theorem sub_ne_top {a m : EReal} (ha : a ≠ ⊤) (h : a ≤ m) : a - m ≠ ⊤ := by
  induction a with
  | bot => rw [EReal.bot_sub]; exact bot_ne_top
  | top => exact absurd rfl ha
  | coe r =>
      induction m with
      | bot => exact absurd (le_bot_iff.mp h) (EReal.coe_ne_bot r)
      | top => rw [sub_eq_add_neg, EReal.neg_top, EReal.add_bot]; exact bot_ne_top
      | coe q => rw [← EReal.coe_sub]; exact EReal.coe_ne_top _

/-- Rescaling: weights relative to `m` become weights relative to a larger `m'`. -/
theorem exp2_rescale {a m m' : EReal} (h : a ≤ m) (hm : m ≤ m') (hm' : m' ≠ ⊤) :
    Ideal.exp2 (m - m') * Ideal.exp2 (a - m) = Ideal.exp2 (a - m') := by
  induction a with
  | bot => rw [EReal.bot_sub, EReal.bot_sub, Ideal.exp2_bot, mul_zero]
  | top => exact absurd (top_le_iff.mp (h.trans hm)) hm'
  | coe r =>
      have h1 : IsReal m := isReal_of_ne (fun e => EReal.coe_ne_bot r (le_bot_iff.mp (e ▸ h))) (fun e => hm' (top_le_iff.mp (e ▸ hm)))
      have h2 : IsReal m' := isReal_of_ne (fun e => EReal.coe_ne_bot r (le_bot_iff.mp (e ▸ (h.trans hm)))) hm'
      obtain ⟨x, rfl⟩ := h1
      obtain ⟨y, rfl⟩ := h2
      rw [← EReal.coe_sub, ← EReal.coe_sub, ← EReal.coe_sub, Ideal.exp2_coe, Ideal.exp2_coe, Ideal.exp2_coe, ← EReal.coe_mul]
      refine congrArg _ ?_
      refine (Real.rpow_add two_pos (x - y) (r - x)).symm.trans ?_
      refine congrArg _ ?_
      ring

/-- The largest of the first `n` scores. -/
def top (s : ℕ → EReal) (n : ℕ) : EReal := (Finset.range n).sup s

/-- The first `n` values, weighted with two to their score less the largest. -/
def tot (s v : ℕ → EReal) (n : ℕ) : EReal := ∑ j ∈ Finset.range n, v j * Ideal.exp2 (s j - top s n)

/-- The maximum after a block of scores. -/
def newMax {b : ℕ} (m : EReal) (s : Fin b → EReal) : EReal := max m (Finset.fold max ⊥ s Finset.univ)

/-- The weighted sum after a block of scores and values. -/
def newAcc {b : ℕ} (m a : EReal) (s v : Fin b → EReal) : EReal :=
  Ideal.exp2 (m - newMax m s) * a + ∑ x, v x * Ideal.exp2 (s x - newMax m s)

theorem top_zero (s : ℕ → EReal) : top s 0 = ⊥ := rfl

theorem tot_zero (s v : ℕ → EReal) : tot s v 0 = 0 := rfl

theorem le_top (s : ℕ → EReal) {n j : ℕ} (h : j < n) : s j ≤ top s n := Finset.le_sup (Finset.mem_range.mpr h)

theorem top_ne_top (s : ℕ → EReal) (hs : ∀ j, s j ≠ ⊤) (n : ℕ) : top s n ≠ ⊤ :=
  ne_of_lt ((Finset.sup_lt_iff bot_lt_top).mpr fun j _ => lt_top_iff_ne_top.mpr (hs j))

theorem fold_eq_sup {ι : Type} (t : Finset ι) (f : ι → EReal) : Finset.fold max ⊥ f t = t.sup f := rfl

theorem top_fin (s : ℕ → EReal) (n : ℕ) : Finset.fold max ⊥ (fun x : Fin n => s x) Finset.univ = top s n := by
  rw [fold_eq_sup]
  refine le_antisymm (Finset.sup_le fun x _ => le_top s x.isLt) (Finset.sup_le fun j hj => ?_)
  exact Finset.le_sup (f := fun x : Fin n => s x) (Finset.mem_univ (⟨j, Finset.mem_range.mp hj⟩ : Fin n))

theorem top_add (s : ℕ → EReal) (n b : ℕ) : newMax (top s n) (fun x : Fin b => s (n + x)) = top s (n + b) := by
  unfold newMax
  rw [fold_eq_sup]
  refine le_antisymm (max_le (Finset.sup_le fun j hj => ?_) (Finset.sup_le fun x _ => ?_)) (Finset.sup_le fun j hj => ?_)
  · exact le_top s (lt_of_lt_of_le (Finset.mem_range.mp hj) (Nat.le_add_right n b))
  · exact le_top s (Nat.add_lt_add_left x.isLt n)
  · have hj := Finset.mem_range.mp hj
    by_cases h : j < n
    · exact le_max_of_le_left (le_top s h)
    · refine le_max_of_le_right ?_
      have e : s j = (fun x : Fin b => s (n + x)) ⟨j - n, by omega⟩ := congrArg s (by simp; omega)
      rw [e]
      exact Finset.le_sup (f := fun x : Fin b => s (n + x)) (Finset.mem_univ _)

theorem tot_add (s v : ℕ → EReal) (hs : ∀ j, s j ≠ ⊤) (hv : ∀ j, IsReal (v j)) (n b : ℕ) :
    newAcc (top s n) (tot s v n) (fun x : Fin b => s (n + x)) (fun x : Fin b => v (n + x)) = tot s v (n + b) := by
  unfold newAcc
  rw [top_add]
  have hle : top s n ≤ top s (n + b) := (top_add s n b) ▸ le_max_left _ _
  unfold tot
  rw [Finset.sum_range_add, Finset.sum_range (fun x => v (n + x) * Ideal.exp2 (s (n + x) - top s (n + b)))]
  refine congrArg (· + _) ?_
  rw [mul_sum_real]
  · refine Finset.sum_congr rfl fun j hj => ?_
    rw [mul_left_comm, exp2_rescale (le_top s (Finset.mem_range.mp hj)) hle (top_ne_top s hs _)]
  · exact isReal_exp2 (sub_ne_top (top_ne_top s hs n) hle)
  · exact fun j hj => (hv j).mul (isReal_exp2 (sub_ne_top (hs j) (le_top s (Finset.mem_range.mp hj))))

/-- Hidden keys after the first `n` change nothing. -/
theorem top_hidden (s : ℕ → EReal) (n k : ℕ) (h : ∀ j, n ≤ j → s j = ⊥) : top s (n + k) = top s n := by
  refine le_antisymm (Finset.sup_le fun j hj => ?_) (Finset.sup_le fun j hj => le_top s ?_)
  · by_cases hn : j < n
    · exact le_top s hn
    · rw [h j (by omega)]; exact bot_le
  · have := Finset.mem_range.mp hj; omega

theorem tot_hidden (s v : ℕ → EReal) (n k : ℕ) (h : ∀ j, n ≤ j → s j = ⊥) : tot s v (n + k) = tot s v n := by
  unfold tot
  rw [Finset.sum_range_add, top_hidden s n k h]
  rw [Finset.sum_eq_zero (s := Finset.range k), add_zero]
  intro j _
  rw [h (n + j) (Nat.le_add_right n j), EReal.bot_sub, Ideal.exp2_bot, mul_zero]

/-! ## The normalised sums, as the reference writes them -/

/-- The logarithm of two. -/
def ln2 : ℝ := Real.log 2

theorem exp_mul_ln2 {x : EReal} (hx : x ≠ ⊤) : Ideal.exp (x * (ln2 : EReal)) = Ideal.exp2 x := by
  have hpos : (0 : ℝ) < ln2 := Real.log_pos one_lt_two
  induction x with
  | bot => rw [EReal.bot_mul_coe_of_pos hpos]; rfl
  | top => exact absurd rfl hx
  | coe r =>
      rw [← EReal.coe_mul]
      show ((Real.exp (r * ln2) : ℝ) : EReal) = ((Real.rpow 2 r : ℝ) : EReal)
      refine congrArg _ ?_
      rw [mul_comm]
      exact (Real.rpow_def_of_pos two_pos r).symm

theorem sub_mul_ln2 {a m : EReal} (ha : a ≠ ⊤) (hm : IsReal m) :
    a * (ln2 : EReal) - m * (ln2 : EReal) = (a - m) * (ln2 : EReal) := by
  have hpos : (0 : ℝ) < ln2 := Real.log_pos one_lt_two
  obtain ⟨q, rfl⟩ := hm
  induction a with
  | bot => rw [EReal.bot_sub, EReal.bot_mul_coe_of_pos hpos, EReal.bot_sub]
  | top => exact absurd rfl ha
  | coe r => rw [← EReal.coe_mul, ← EReal.coe_mul, ← EReal.coe_sub, ← EReal.coe_sub, ← EReal.coe_mul, sub_mul]

theorem top_mul_ln2 (s : ℕ → EReal) (n : ℕ) : top (fun j => s j * (ln2 : EReal)) n = top s n * (ln2 : EReal) := by
  have hpos : (0 : ℝ) < ln2 := Real.log_pos one_lt_two
  unfold top
  refine (Finset.comp_sup_eq_sup_comp (fun x : EReal => x * (ln2 : EReal)) (fun x y => ?_) ?_).symm
  · exact (Monotone.map_max (fun a b h => mul_le_mul_of_nonneg_right h (EReal.coe_nonneg.mpr hpos.le)))
  · exact EReal.bot_mul_coe_of_pos hpos

/-- The unnormalised softmax weight of key `j` among the first `n`, of natural scores `r`. -/
def wexp (r : ℕ → EReal) (n j : ℕ) : EReal := Ideal.exp (r j - top r n)

/-- With natural scores `s · log 2` the weight is two to the score less the largest. -/
theorem wexp_eq (s : ℕ → EReal) (hs : ∀ j, s j ≠ ⊤) (n : ℕ) (h0 : s 0 ≠ ⊥) (hn : 0 < n) (j : ℕ) :
    wexp (fun j => s j * (ln2 : EReal)) n j = Ideal.exp2 (s j - top s n) := by
  unfold wexp
  have hm : IsReal (top s n) := isReal_of_ne (fun e => h0 (le_bot_iff.mp (e ▸ le_top s hn))) (top_ne_top s hs n)
  rw [top_mul_ln2, sub_mul_ln2 (hs j) hm]
  refine exp_mul_ln2 ?_
  intro e
  obtain ⟨q, hq⟩ := hm
  rw [hq] at e
  have := hs j
  generalize s j = a at e this
  induction a with
  | bot => rw [EReal.bot_sub] at e; exact bot_ne_top e
  | top => exact this rfl
  | coe r => rw [← EReal.coe_sub] at e; exact EReal.coe_ne_top _ e

theorem exp2_nonneg (x : EReal) : 0 ≤ Ideal.exp2 x := by
  induction x with
  | bot => exact le_rfl
  | top => exact _root_.le_top
  | coe r => exact EReal.coe_nonneg.mpr (Real.rpow_nonneg two_pos.le r)

/-- The two ways of writing one lane of the head's output. -/
theorem lane_eq (s0 s1 v : ℕ → EReal) (lam : EReal) (n : ℕ) (hn : 0 < n) (h0 : ∀ j, s0 j ≠ ⊤) (h1 : ∀ j, s1 j ≠ ⊤)
    (z0 : s0 0 ≠ ⊥) (z1 : s1 0 ≠ ⊥) (hv : ∀ j, IsReal (v j)) (hl : IsReal lam) :
    tot s0 v n * Ideal.div 1 (tot s0 (fun _ => 1) n) - lam * (tot s1 v n * Ideal.div 1 (tot s1 (fun _ => 1) n))
      = ∑ j : Fin n, v j *
          (Ideal.div (wexp (fun j => s0 j * (ln2 : EReal)) n j) (∑ k : Fin n, wexp (fun j => s0 j * (ln2 : EReal)) n k)
            - lam * Ideal.div (wexp (fun j => s1 j * (ln2 : EReal)) n j) (∑ k : Fin n, wexp (fun j => s1 j * (ln2 : EReal)) n k)) := by
  simp only [wexp_eq s0 h0 n z0 hn, wexp_eq s1 h1 n z1 hn]
  have key : ∀ s : ℕ → EReal, (∀ j, s j ≠ ⊤) → s 0 ≠ ⊥ → ∃ p : Fin n → ℝ, (∀ j : Fin n, Ideal.exp2 (s j - top s n) = (p j : EReal)) ∧ 0 < ∑ j, p j := by
    intro s hs hz
    have hr : ∀ j : Fin n, IsReal (Ideal.exp2 (s j - top s n)) := fun j => isReal_exp2 (sub_ne_top (hs j) (le_top s j.isLt))
    choose p hp using hr
    refine ⟨p, hp, ?_⟩
    have hm : IsReal (top s n) := isReal_of_ne (fun e => hz (le_bot_iff.mp (e ▸ le_top s hn))) (top_ne_top s hs n)
    have hpos : ∀ j, 0 ≤ p j := fun j => EReal.coe_nonneg.mp (hp j ▸ exp2_nonneg _)
    refine Finset.sum_pos' (fun j _ => hpos j) ⟨⟨0, hn⟩, Finset.mem_univ _, ?_⟩
    obtain ⟨q, hq⟩ := hm
    obtain ⟨r, hr⟩ := isReal_of_ne hz (hs 0)
    have e := hp ⟨0, hn⟩
    rw [hq, hr, ← EReal.coe_sub, Ideal.exp2_coe] at e
    rw [← EReal.coe_eq_coe_iff.mp e]
    exact Real.rpow_pos_of_pos two_pos _
  obtain ⟨p0, e0, l0⟩ := key s0 h0 z0
  obtain ⟨p1, e1, l1⟩ := key s1 h1 z1
  choose w hw using hv
  obtain ⟨c, rfl⟩ := hl
  have hdiv : ∀ x y : ℝ, 0 < y → Ideal.div (x : EReal) (y : EReal) = ((x / y : ℝ) : EReal) := by
    intro x y hy
    unfold Ideal.div
    rw [if_neg (by simpa using hy.ne'), ← EReal.coe_inv, ← EReal.coe_mul, div_eq_mul_inv]
  unfold tot
  simp only [Finset.sum_range, e0, e1, hw, one_mul, ← EReal.coe_mul, sum_coe]
  rw [show (1 : EReal) = ((1 : ℝ) : EReal) from rfl, hdiv _ _ l0, hdiv _ _ l1]
  simp only [hdiv _ _ l0, hdiv _ _ l1, ← EReal.coe_mul, ← EReal.coe_sub, sum_coe]
  refine congrArg _ ?_
  rw [Finset.sum_mul, Finset.sum_mul, Finset.mul_sum, ← Finset.sum_sub_distrib]
  refine Finset.sum_congr rfl fun j _ => ?_
  ring

end Cert.Proof.Diff

end
-- ==== Proof.Diff.Finite.lean ====
module

public import proofs.«01_k».proof.Proof.Gen.Pre_finite
public import proofs.«01_k».proof.Proof.Diff.Softmax
public import Idealize.ShloMosaic.Lib.ReduceAll
public import Idealize.ShloMosaic.Lib.Pointwise

/-!
# What the precondition says

The precondition compares the absolute value of every element of the first five arguments with infinity. So each of
these elements is a real number.
-/

@[expose] public section

noncomputable section

namespace Cert.Proof.Diff

open Idealize.ShloMosaic Cert.Pre_finite

/-- An element whose absolute value is below infinity is real. -/
theorem isReal_of_abs (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hl : max x (-x) < ⊤ := by
    by_contra hn
    have e : Ideal.cmp .olt (max x (-x)) ⊤ = 0#1 := by
      show BitVec.ofBool (decide (max x (-x) < ⊤)) = 0#1
      rw [decide_eq_false hn]
      rfl
    rw [e] at h
    exact absurd h (by decide)
  rw [max_lt_iff] at hl
  refine isReal_of_ne (fun e => ?_) hl.1.ne
  rw [e, EReal.neg_bot] at hl
  exact absurd hl.2 (lt_irrefl _)

/-- Under the precondition every element of the first five arguments is real. -/
theorem reals (a0 a1 : FVec Ideal S2x64 .f32) (a2 a3 : FVec Ideal S8x4096x512 .bf16) (a4 : FVec Ideal S8x512x4096 .bf16)
    (a5 : FVec Ideal S8x4096x512 .bf16) (a6 : FVec Ideal S1x128 .f32) (h : fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ ∀ i, IsReal (a4 i) := by
  haveI : Subsingleton S_.Idx := ⟨fun x y => funext fun a => a.elim0⟩
  have h0 := congrFun h ix0
  dsimp only [fn, fn_part1] at h0
  obtain ⟨h20, h25⟩ := IntOp.andi_eq_one.1 h0
  obtain ⟨h14, h19⟩ := IntOp.andi_eq_one.1 h20
  obtain ⟨h8, h13⟩ := IntOp.andi_eq_one.1 h14
  obtain ⟨h3, h7⟩ := IntOp.andi_eq_one.1 h8
  exact ⟨fun i => isReal_of_abs _ (Host.reduce_andi_all _ _ _ _ _ h3 i), fun i => isReal_of_abs _ (Host.reduce_andi_all _ _ _ _ _ h7 i),
    fun i => isReal_of_abs _ (Host.reduce_andi_all _ _ _ _ _ h13 i), fun i => isReal_of_abs _ (Host.reduce_andi_all _ _ _ _ _ h19 i),
    fun i => isReal_of_abs _ (Host.reduce_andi_all _ _ _ _ _ h25 i)⟩

end Cert.Proof.Diff
end
-- ==== Proof.Diff.Lanes.lean ====
module

public import proofs.«01_k».proof.Proof.Diff.Softmax
public import proofs.«01_k».proof.Proof.Gen.KernelIdeal.Skeleton
public import Idealize.ShloMosaic.Lib.Pointwise
public import Idealize.ShloMosaic.Lib.WordCmp

/-!
# Words the head steps share

The largest-score fold starts at minus infinity; the mask's comparison of positions and the comparison that picks
a query component's lanes, as conditions on numbers; and the shapes of a head step: scores of a block of keys, its values
with the rows of ones below, and the four payload forms a step is printed in.
-/

@[expose] public section

set_option maxRecDepth 16384

noncomputable section

namespace Cert.KernelIdeal.Diff

open Idealize.ShloMosaic Idealize.ShloMosaic.TcCoe
open Cert.KernelIdeal Cert.KernelIdeal.Gen Cert.Proof.Diff

/-- The word minus infinity is written with. -/
theorem ofBits_ninf : Ideal.ofBits .f32 0xFF800000#32 = ⊥ := by simp [Ideal.ofBits, Ideal.ieee]

/-- A lane is in the first component. -/
theorem select_first {α : Type} (l : Fin 128) (x y : α) :
    Scalar.select (IntOp.cmpi CmpIPredicate.slt (BitVec.ofNat 32 l) 64#32) x y = if l.val < 64 then x else y := by
  have h : ∀ l : Fin 128, IntOp.cmpi CmpIPredicate.slt (BitVec.ofNat 32 l) 64#32 = if l.val < 64 then 1#1 else 0#1 := by decide
  rw [h l]
  split <;> rfl

/-- A lane is in the second component. -/
theorem select_second {α : Type} (l : Fin 128) (x y : α) :
    Scalar.select (IntOp.cmpi CmpIPredicate.sge (BitVec.ofNat 32 l) 64#32) x y = if l.val < 64 then y else x := by
  have h : ∀ l : Fin 128, IntOp.cmpi CmpIPredicate.sge (BitVec.ofNat 32 l) 64#32 = if l.val < 64 then 0#1 else 1#1 := by decide
  rw [h l]
  split <;> rfl

/-- The diagonal block's mask: the key is not after the query. -/
theorem select_causal {α : Type} (j : Fin 512) (c : Fin 1024) (x y : α) :
    Scalar.select (IntOp.cmpi CmpIPredicate.sle (BitVec.ofNat 32 j) (IntOp.andi (BitVec.ofNat 32 c) 511#32)) x y
      = if j.val ≤ c.val % 512 then x else y := by
  have hc : ∀ c : Fin 1024, IntOp.andi (BitVec.ofNat 32 c) 511#32 = BitVec.ofNat 32 (c.val % 512) := by decide +kernel
  rw [hc c, WordCmp.cmpi_sle_of_lt (by simp; omega) (by simp; omega)]
  have e1 : (BitVec.ofNat 32 j.val).toNat = j.val := by simp; omega
  have e2 : (BitVec.ofNat 32 (c.val % 512)).toNat = c.val % 512 := by simp; omega
  rw [e1, e2]
  by_cases h : j.val ≤ c.val % 512
  · rw [if_pos h, decide_eq_true h]; rfl
  · rw [if_neg h, decide_eq_false h]; rfl

/-- A block's values with the rows of ones below them. -/
def withOnes {b : ℕ} (v : Fin 128 → Fin b → EReal) (e : Fin 144) (x : Fin b) : EReal :=
  if h : e.val < 128 then v ⟨e.val, h⟩ x else 1

end Cert.KernelIdeal.Diff

end
-- ==== Proof.Diff.Outputs.lean ====
module

public import proofs.«01_k».proof.Proof.Diff.Lanes

/-!
# A head's queries and a head's output

A head's queries are laid out as 1024 rows: 512 with only the first component's lanes kept, 512 with only the second's. The
output of a head is, per query, the difference of the two normalised sums, rms-normalised over the 128 lanes, times
the gain and the gate.
-/

@[expose] public section

set_option maxRecDepth 16384

noncomputable section

namespace Cert.KernelIdeal.Diff

open Idealize.ShloMosaic Idealize.ShloMosaic.TcCoe
open Cert.KernelIdeal Cert.KernelIdeal.Gen Cert.Proof.Diff

/-- Row `c` of a head's masked queries, from the 128 lanes of its 512 queries. -/
def lanes (q : Fin 512 → Fin 128 → EReal) (c : Fin 1024) (l : Fin 128) : EReal :=
  if h : c.val < 512 then (if l.val < 64 then q ⟨c.val, h⟩ l else 0)
  else (if l.val < 64 then 0 else q ⟨c.val - 512, by omega⟩ l)

/-- The queries of head 0. -/
theorem lanes0 (q : Vec Ideal S1x512x128 .bf16) (c : Fin 1024) (l : Fin 128) :
    k0_pay47 q (ix2 c l)
      = lanes (fun r l => q (ix3 0 r l)) c l := by
  pointwise [k0_pay47]
  simp only [select_first, select_second]
  rfl

/-- The queries of head 1. -/
theorem lanes1 (q : Vec Ideal S1x512x128 .bf16) (c : Fin 1024) (l : Fin 128) :
    k0_pay48 q (ix2 c l)
      = lanes (fun r l => q (ix3 0 r l)) c l := by
  pointwise [k0_pay48]
  simp only [select_first, select_second]
  rfl

/-- The queries of head 2. -/
theorem lanes2 (q : Vec Ideal S1x512x128 .bf16) (c : Fin 1024) (l : Fin 128) :
    k0_pay51 (iota .tc S512x128 32 [1] iota_S512x128_d1_w32) (k0_pay49 q) k0_pay50 (ix2 c l)
      = lanes (fun r l => q (ix3 0 r l)) c l := by
  pointwise [k0_pay51, k0_pay49, k0_pay50]
  simp only [select_first, select_second]
  rfl

/-- The queries of head 3. -/
theorem lanes3 (q : Vec Ideal S1x512x128 .bf16) (c : Fin 1024) (l : Fin 128) :
    k0_pay52 (iota .tc S512x128 32 [1] iota_S512x128_d1_w32) q (ix2 c l)
      = lanes (fun r l => q (ix3 0 r l)) c l := by
  pointwise [k0_pay52]
  simp only [select_first, select_second]
  rfl

/-- The scalar the second component's attention is scaled with. -/
def lam (a b : Fin 2 → Fin 64 → EReal) : EReal :=
  Ideal.exp (∑ x, a 0 x * b 0 x) - Ideal.exp (∑ x, a 1 x * b 1 x) + Ideal.ofBits .f32 0x3E4CCCCD#32

theorem lam_apply (a b : Vec Ideal S2x64 .f32) :
    k0_pay46 a b (ix2 0 0) = lam (fun i x => a (ix2 i x)) (fun i x => b (ix2 i x)) := by
  pointwise [k0_pay46]
  rfl

/-- Lane `l` of query `r`: the first component's normalised sum less `z` times the second's. -/
def lane (a : Fin 144 → Fin 1024 → EReal) (z : EReal) (r : Fin 512) (l : Fin 128) : EReal :=
  a ⟨l.val, by omega⟩ ⟨r.val, by omega⟩ * Ideal.div 1 (a 128 ⟨r.val, by omega⟩)
    - z * (a ⟨l.val, by omega⟩ ⟨512 + r.val, by omega⟩ * Ideal.div 1 (a 128 ⟨512 + r.val, by omega⟩))

/-- Lane `l` of a row normalised by its root mean square, times the gain `g` and the gate `w`. -/
def normed (o : Fin 128 → EReal) (g w : EReal) (l : Fin 128) : EReal :=
  o l * Ideal.rsqrt (Ideal.div (∑ x, o x * o x) (Ideal.ofBits .f32 0x43000000#32) + Ideal.ofBits .f32 0x358637BD#32)
    * (g * Ideal.ofBits .f32 0x3F4CCCCD#32) * w

/-- The output of head 0. -/
theorem out0 (z : FVec Ideal S1x1 .f32) (a : FVec Ideal S144x1024 .f32) (g : Vec Ideal S1x128 .f32) (w : Vec Ideal S1x512x128 .bf16) (r : Fin 512) (l : Fin 128) :
    k0_pay76 z a g w (ix3 0 r l)
      = normed (lane (fun e c => a (ix2 e c)) (z (ix2 0 0)) r) (g (ix2 0 l)) (w (ix3 0 r l)) l := by
  pointwise [k0_pay76]
  rfl

/-- The output of head 1. -/
theorem out1 (z : FVec Ideal S1x1 .f32) (a : FVec Ideal S144x1024 .f32) (g : Vec Ideal S1x128 .f32) (w : Vec Ideal S1x512x128 .bf16) (r : Fin 512) (l : Fin 128) :
    k0_pay79 z (k0_pay77 a) (k0_pay78 a) g w (ix3 0 r l)
      = normed (lane (fun e c => a (ix2 e c)) (z (ix2 0 0)) r) (g (ix2 0 l)) (w (ix3 0 r l)) l := by
  pointwise [k0_pay79, k0_pay77, k0_pay78]
  rfl

/-- The output of head 2. -/
theorem out2 (z : FVec Ideal S1x1 .f32) (a : FVec Ideal S144x1024 .f32) (g : Vec Ideal S1x128 .f32) (w : Vec Ideal S1x512x128 .bf16) (r : Fin 512) (l : Fin 128) :
    k0_pay82 (k0_pay80 z a) (k0_pay81 z a) (FloatOps.ofBits .f32 0x43000000#32) g w (ix3 0 r l)
      = normed (lane (fun e c => a (ix2 e c)) (z (ix2 0 0)) r) (g (ix2 0 l)) (w (ix3 0 r l)) l := by
  pointwise [k0_pay82, k0_pay80, k0_pay81]
  rfl

/-- The output of head 3. -/
theorem out3 (z : FVec Ideal S1x1 .f32) (a : FVec Ideal S144x1024 .f32) (g : Vec Ideal S1x128 .f32) (w : Vec Ideal S1x512x128 .bf16) (r : Fin 512) (l : Fin 128) :
    k0_pay1 (k0_pay83 z a) g w (ix3 0 r l)
      = normed (lane (fun e c => a (ix2 e c)) (z (ix2 0 0)) r) (g (ix2 0 l)) (w (ix3 0 r l)) l := by
  pointwise [k0_pay1, k0_pay83]
  rfl

end Cert.KernelIdeal.Diff

end
-- ==== Proof.Diff.Seen.lean ====
module

public import proofs.«01_k».proof.Proof.Gen.KernelIdeal.Loops
public import proofs.«01_k».proof.Proof.Diff.Outputs
public import Idealize.ShloMosaic.Lib.Pipeline.ValueKit.Tiles
public import Idealize.ShloMosaic.Lib.WholeRead
public import Idealize.ShloMosaic.Lib.Pipeline.ValueKit.Basic

/-!
# Where the kernel reads, and what the heads have seen

The counted loop of a query block `i` makes `i / 2` trips, the loop after it none; the offsets of every load, as
numbers; a load read at an index; and the statement `Seen` that a head's pair of vectors holds the running softmax of
its first `n` keys, with the step over a further block.
-/

@[expose] public section

set_option maxRecDepth 16384

noncomputable section

namespace Cert.KernelIdeal.Diff

open Idealize.ShloMosaic Idealize.ShloMosaic.TcCoe
open Cert.KernelIdeal Cert.KernelIdeal.Gen Cert.Proof.Diff

/-- A load through a unit-stride rectangle of a buffer that holds `X` reads `X` at the offset plus the index. -/
theorem load_at {S : Shape} {e : EltTy} {sp : Space} {μ : Memref sig .tc sp S e} (hμ : μ.IsWhole)
    (X : S.Idx → Elt Ideal e) (off size : Fin S.rank → Nat) (inb : ∀ a, off a + size a ≤ S.size a)
    (x : (Rect.unit off size inb).shape.Idx) (i : S.Idx) (hi : ∀ a, (i a : Nat) = off a + x a) :
    View.readAt (Elt Ideal) μ.view (Rect.unit off size inb).toLoadRect (hμ.unread X) x = X i :=
  (hμ.readAt_unread X _ x).trans (View.ld_unit_apply_of X off size inb x i hi)

/-- The same at rank three, with the offset named. -/
theorem load3 {A B C a b c : ℕ} {e : EltTy} {sp : Space} {μ : Memref sig .tc sp ⟨3, ![A, B, C]⟩ e} (hμ : μ.IsWhole)
    (X : Shape.Idx ⟨3, ![A, B, C]⟩ → Elt Ideal e) (off : Fin 3 → Nat)
    (inb : ∀ t, off t + (![a, b, c] : Fin 3 → Nat) t ≤ (![A, B, C] : Fin 3 → Nat) t) (p q r : ℕ) (hoff : off = ![p, q, r])
    (x : Fin a) (y : Fin b) (z : Fin c) (hp : p + x < A) (hq : q + y < B) (hr : r + z < C) :
    View.readAt (Elt Ideal) μ.view (Rect.unit (s := ⟨3, ![A, B, C]⟩) off ![a, b, c] inb).toLoadRect (hμ.unread X) (ix3 x y z)
      = X (ix3 ⟨p + x, hp⟩ ⟨q + y, hq⟩ ⟨r + z, hr⟩) := by
  subst hoff
  refine load_at hμ X _ _ inb _ _ fun t => ?_
  match t with | ⟨0, _⟩ => rfl | ⟨1, _⟩ => rfl | ⟨2, _⟩ => rfl

/-- The same at rank two. -/
theorem load2 {A B : ℕ} {e : EltTy} {sp : Space} {μ : Memref sig .tc sp ⟨2, ![A, B]⟩ e} (hμ : μ.IsWhole)
    (X : Shape.Idx ⟨2, ![A, B]⟩ → Elt Ideal e)
    (inb : ∀ t, (![0, 0] : Fin 2 → Nat) t + (![A, B] : Fin 2 → Nat) t ≤ (![A, B] : Fin 2 → Nat) t) (x : Fin A) (y : Fin B) :
    View.readAt (Elt Ideal) μ.view (Rect.unit (s := ⟨2, ![A, B]⟩) ![0, 0] ![A, B] inb).toLoadRect (hμ.unread X) (ix2 x y)
      = X (ix2 x y) := by
  refine load_at hμ X _ _ inb _ _ fun t => ?_
  match t with | ⟨0, _⟩ => exact (Nat.zero_add _).symm | ⟨1, _⟩ => exact (Nat.zero_add _).symm

/-- The grid point of query block `n` in batch zero. -/
def at3 (n : Fin 8) : grid0.Coords
  | ⟨0, _⟩ => (0 : Fin 8)
  | ⟨1, _⟩ => (0 : Fin 1)
  | ⟨2, _⟩ => n

theorem t1_trips (i : grid0.Coords) : (k0_t1_loop i).trips = (i 2).val / 2 := by
  have h : ∀ n : Fin 8, (k0_t1_loop (at3 n)).trips = n.val / 2 := by decide +kernel
  exact h (i 2)

theorem t2_trips (i : grid0.Coords) : (k0_t2_loop i).trips = 0 := by
  have h : ∀ n : Fin 8, (k0_t2_loop (at3 n)).trips = 0 := by decide +kernel
  exact h (i 2)

theorem cond_iff (i : grid0.Coords) : k0_cond1 i = 1#1 ↔ (i 2).val % 2 = 1 := by
  have h : ∀ n : Fin 8, k0_cond1 (at3 n) = 1#1 ↔ n.val % 2 = 1 := by decide +kernel
  exact h (i 2)

theorem i2_lt (i : grid0.Coords) : (i 2).val < 8 := (i 2).isLt

/-- The first key of trip `k`. -/
theorem trip_key (k : ℕ) (hk : k < 4) :
    (Scalar.indexCast (Scalar.muli (Scf.iv 0#32 1#32 k) 1024#32) : BitVec 32).toNat = 1024 * k := by
  have h : ∀ n : Fin 4, (Scalar.indexCast (Scalar.muli (Scf.iv 0#32 1#32 n.val) 1024#32) : BitVec 32).toNat = 1024 * n.val := by
    decide +kernel
  exact h ⟨k, hk⟩

theorem trip_lt (i : grid0.Coords) (k : Fin (k0_t1_loop i).trips) : k.val < 4 := by
  have h := k.isLt
  have := t1_trips i
  have := i2_lt i
  omega

/-- The first key of the odd block. -/
theorem odd_key (i : grid0.Coords) (h : (i 2).val % 2 = 1) :
    (Scalar.indexCast (Scalar.muli (Scalar.subi (BitVec.ofNat 32 (i 2).val) 1#32) 512#32) : BitVec 32).toNat = 512 * ((i 2).val - 1) := by
  have e : ∀ n : Fin 8, n.val % 2 = 1 → (Scalar.indexCast (Scalar.muli (Scalar.subi (BitVec.ofNat 32 n.val) 1#32) 512#32) : BitVec 32).toNat = 512 * (n.val - 1) := by
    decide +kernel
  exact e (i 2) h

/-- The first key of the diagonal block. -/
theorem diag_key (i : grid0.Coords) :
    (Scalar.indexCast (Scalar.muli (BitVec.ofNat 32 (i 2).val) 512#32) : BitVec 32).toNat = 512 * (i 2).val := by
  have e : ∀ n : Fin 8, (Scalar.indexCast (Scalar.muli (BitVec.ofNat 32 n.val) 512#32) : BitVec 32).toNat = 512 * n.val := by
    decide +kernel
  exact e (i 2)

/-! The loads' offsets. -/

theorem off1 (i : grid0.Coords) (k : Fin (k0_t1_loop i).trips) : k0_off1 i k = ![0, 1024 * k.val, 0] :=
  congrArg (fun x : ℕ => (![0, x, 0] : Fin 3 → ℕ)) (trip_key k.val (trip_lt i k))
theorem off4 (i : grid0.Coords) (k : Fin (k0_t1_loop i).trips) : k0_off4 i k = ![0, 0, 1024 * k.val] :=
  congrArg (fun x : ℕ => (![0, 0, x] : Fin 3 → ℕ)) (trip_key k.val (trip_lt i k))
theorem off17 (i : grid0.Coords) (h : (i 2).val % 2 = 1) : k0_off17 i = ![0, 512 * ((i 2).val - 1), 0] :=
  congrArg (fun x : ℕ => (![0, x, 0] : Fin 3 → ℕ)) (odd_key i h)
theorem off20 (i : grid0.Coords) (h : (i 2).val % 2 = 1) : k0_off20 i = ![0, 0, 512 * ((i 2).val - 1)] :=
  congrArg (fun x : ℕ => (![0, 0, x] : Fin 3 → ℕ)) (odd_key i h)
theorem off25 (i : grid0.Coords) : k0_off25 i = ![0, 512 * (i 2).val, 0] :=
  congrArg (fun x : ℕ => (![0, x, 0] : Fin 3 → ℕ)) (diag_key i)
theorem off28 (i : grid0.Coords) : k0_off28 i = ![0, 0, 512 * (i 2).val] :=
  congrArg (fun x : ℕ => (![0, 0, x] : Fin 3 → ℕ)) (diag_key i)
theorem off2 (i : grid0.Coords) (k : Fin (k0_t1_loop i).trips) : k0_off2 i k = ![0, 1024 * k.val, 128] :=
  congrArg (fun x : ℕ => (![0, x, 128] : Fin 3 → ℕ)) (trip_key k.val (trip_lt i k))
theorem off6 (i : grid0.Coords) (k : Fin (k0_t1_loop i).trips) : k0_off6 i k = ![0, 128, 1024 * k.val] :=
  congrArg (fun x : ℕ => (![0, 128, x] : Fin 3 → ℕ)) (trip_key k.val (trip_lt i k))
theorem off18 (i : grid0.Coords) (h : (i 2).val % 2 = 1) : k0_off18 i = ![0, 512 * ((i 2).val - 1), 128] :=
  congrArg (fun x : ℕ => (![0, x, 128] : Fin 3 → ℕ)) (odd_key i h)
theorem off22 (i : grid0.Coords) (h : (i 2).val % 2 = 1) : k0_off22 i = ![0, 128, 512 * ((i 2).val - 1)] :=
  congrArg (fun x : ℕ => (![0, 128, x] : Fin 3 → ℕ)) (odd_key i h)
theorem off26 (i : grid0.Coords) : k0_off26 i = ![0, 512 * (i 2).val, 128] :=
  congrArg (fun x : ℕ => (![0, x, 128] : Fin 3 → ℕ)) (diag_key i)
theorem off30 (i : grid0.Coords) : k0_off30 i = ![0, 128, 512 * (i 2).val] :=
  congrArg (fun x : ℕ => (![0, 128, x] : Fin 3 → ℕ)) (diag_key i)
theorem off3 (i : grid0.Coords) (k : Fin (k0_t1_loop i).trips) : k0_off3 i k = ![0, 1024 * k.val, 256] :=
  congrArg (fun x : ℕ => (![0, x, 256] : Fin 3 → ℕ)) (trip_key k.val (trip_lt i k))
theorem off7 (i : grid0.Coords) (k : Fin (k0_t1_loop i).trips) : k0_off7 i k = ![0, 256, 1024 * k.val] :=
  congrArg (fun x : ℕ => (![0, 256, x] : Fin 3 → ℕ)) (trip_key k.val (trip_lt i k))
theorem off19 (i : grid0.Coords) (h : (i 2).val % 2 = 1) : k0_off19 i = ![0, 512 * ((i 2).val - 1), 256] :=
  congrArg (fun x : ℕ => (![0, x, 256] : Fin 3 → ℕ)) (odd_key i h)
theorem off23 (i : grid0.Coords) (h : (i 2).val % 2 = 1) : k0_off23 i = ![0, 256, 512 * ((i 2).val - 1)] :=
  congrArg (fun x : ℕ => (![0, 256, x] : Fin 3 → ℕ)) (odd_key i h)
theorem off27 (i : grid0.Coords) : k0_off27 i = ![0, 512 * (i 2).val, 256] :=
  congrArg (fun x : ℕ => (![0, x, 256] : Fin 3 → ℕ)) (diag_key i)
theorem off31 (i : grid0.Coords) : k0_off31 i = ![0, 256, 512 * (i 2).val] :=
  congrArg (fun x : ℕ => (![0, 256, x] : Fin 3 → ℕ)) (diag_key i)
theorem off5 (i : grid0.Coords) (k : Fin (k0_t1_loop i).trips) : k0_off5 i k = ![0, 1024 * k.val, 384] :=
  congrArg (fun x : ℕ => (![0, x, 384] : Fin 3 → ℕ)) (trip_key k.val (trip_lt i k))
theorem off8 (i : grid0.Coords) (k : Fin (k0_t1_loop i).trips) : k0_off8 i k = ![0, 384, 1024 * k.val] :=
  congrArg (fun x : ℕ => (![0, 384, x] : Fin 3 → ℕ)) (trip_key k.val (trip_lt i k))
theorem off21 (i : grid0.Coords) (h : (i 2).val % 2 = 1) : k0_off21 i = ![0, 512 * ((i 2).val - 1), 384] :=
  congrArg (fun x : ℕ => (![0, x, 384] : Fin 3 → ℕ)) (odd_key i h)
theorem off24 (i : grid0.Coords) (h : (i 2).val % 2 = 1) : k0_off24 i = ![0, 384, 512 * ((i 2).val - 1)] :=
  congrArg (fun x : ℕ => (![0, 384, x] : Fin 3 → ℕ)) (odd_key i h)
theorem off29 (i : grid0.Coords) : k0_off29 i = ![0, 512 * (i 2).val, 384] :=
  congrArg (fun x : ℕ => (![0, x, 384] : Fin 3 → ℕ)) (diag_key i)
theorem off32 (i : grid0.Coords) : k0_off32 i = ![0, 384, 512 * (i 2).val] :=
  congrArg (fun x : ℕ => (![0, 384, x] : Fin 3 → ℕ)) (diag_key i)

/-! ## Scores and values of a block of queries -/

/-- The 128 lanes of head `h` of query `r`. -/
def qhead (Q : S1x512x512.Idx → EReal) (h : Fin 4) (r : Fin 512) (l : Fin 128) : EReal :=
  Q (ix3 0 r ⟨128 * h.val + l.val, by omega⟩)

/-- The score of key `j` with row `c` of head `h`'s masked queries. -/
def score (Q : S1x512x512.Idx → EReal) (K : S1x4096x512.Idx → EReal) (h : Fin 4) (c : Fin 1024) (j : ℕ) : EReal :=
  if hj : j < 4096 then ∑ l : Fin 128, K (ix3 0 ⟨j, hj⟩ ⟨128 * h.val + l.val, by omega⟩) * lanes (qhead Q h) c l else ⊥

/-- The score with the keys after the query hidden; the query block is the `p`-th. -/
def shown (Q : S1x512x512.Idx → EReal) (K : S1x4096x512.Idx → EReal) (p : ℕ) (h : Fin 4) (c : Fin 1024) (j : ℕ) : EReal :=
  if j ≤ 512 * p + c.val % 512 then score Q K h c j else ⊥

/-- Value lane `e` of key `j` of head `h`, with the lanes from 128 on being ones. -/
def value (Vt : S1x512x4096.Idx → EReal) (h : Fin 4) (e : Fin 144) (j : ℕ) : EReal :=
  if he : e.val < 128 then (if hj : j < 4096 then Vt (ix3 0 ⟨128 * h.val + e.val, by omega⟩ ⟨j, hj⟩) else 0) else 1

/-- A head's two vectors hold the running softmax of the first `n` keys. -/
def Seen (s : Fin 1024 → ℕ → EReal) (v : Fin 144 → ℕ → EReal) (n : ℕ) (m : FVec Ideal S1x1024 .f32) (a : FVec Ideal S144x1024 .f32) : Prop :=
  ∀ c, m (ix2 0 c) = top (s c) n ∧ ∀ e, a (ix2 e c) = tot (s c) (v e) n

variable {s : Fin 1024 → ℕ → EReal} {v : Fin 144 → ℕ → EReal}

/-- The weighted sums after a block. -/
theorem Seen.acc {b n : ℕ} (hs : ∀ c j, s c j ≠ ⊤) (hv : ∀ e j, IsReal (v e j)) {m : FVec Ideal S1x1024 .f32} {a a' : FVec Ideal S144x1024 .f32}
    (h : Seen s v n m a) (sb : Fin 1024 → Fin b → EReal) (vb : Fin 144 → Fin b → EReal)
    (es : ∀ c x, sb c x = s c (n + x)) (ev : ∀ e x, vb e x = v e (n + x))
    (ha : ∀ e c, a' (ix2 e c) = newAcc (m (ix2 0 c)) (a (ix2 e c)) (sb c) (vb e)) (e : Fin 144) (c : Fin 1024) :
    a' (ix2 e c) = tot (s c) (v e) (n + b) := by
  rw [ha e c, (h c).1, (h c).2 e, show sb c = fun x : Fin b => s c (n + x) from funext (es c),
    show vb e = fun x : Fin b => v e (n + x) from funext (ev e)]
  exact tot_add (s c) (v e) (hs c) (hv e) n b

/-- The step over a block. -/
theorem Seen.step {b n : ℕ} (hs : ∀ c j, s c j ≠ ⊤) (hv : ∀ e j, IsReal (v e j)) {m m' : FVec Ideal S1x1024 .f32} {a a' : FVec Ideal S144x1024 .f32}
    (h : Seen s v n m a) (sb : Fin 1024 → Fin b → EReal) (vb : Fin 144 → Fin b → EReal)
    (es : ∀ c x, sb c x = s c (n + x)) (ev : ∀ e x, vb e x = v e (n + x))
    (hm : ∀ c, m' (ix2 0 c) = newMax (m (ix2 0 c)) (sb c))
    (ha : ∀ e c, a' (ix2 e c) = newAcc (m (ix2 0 c)) (a (ix2 e c)) (sb c) (vb e)) : Seen s v (n + b) m' a' := by
  refine fun c => ⟨?_, fun e => Seen.acc hs hv h sb vb es ev ha e c⟩
  rw [hm c, (h c).1, show sb c = fun x : Fin b => s c (n + x) from funext (es c)]
  exact top_add (s c) n b

variable (Q : S1x512x512.Idx → EReal) (K : S1x4096x512.Idx → EReal) (Vt : S1x512x4096.Idx → EReal)

/-- The scores of a block of keys none of which is after any query of the block. -/
theorem shown_block {b : ℕ} (p n : ℕ) (h : Fin 4) (hn : n + b ≤ 512 * p) (hp : p < 8) (kb : Fin b → Fin 128 → EReal) (qs : Fin 1024 → Fin 128 → EReal)
    (hq : ∀ c l, qs c l = lanes (qhead Q h) c l)
    (hk : ∀ (x : Fin b) (l : Fin 128) (hx : n + x.val < 4096) (hl : 128 * h.val + l.val < 512), kb x l = K (ix3 0 ⟨n + x.val, hx⟩ ⟨128 * h.val + l.val, hl⟩))
    (c : Fin 1024) (x : Fin b) : ∑ l, kb x l * qs c l = shown Q K p h c (n + x) := by
  have hx : n + x.val < 4096 := by omega
  unfold shown score
  rw [if_pos (by omega), dif_pos hx]
  exact Finset.sum_congr rfl fun l _ => congrArg₂ (· * ·) (hk x l hx (by omega)) (hq c l)

/-- The scores of the diagonal block. -/
theorem shown_diag (p : ℕ) (h : Fin 4) (hp : p < 8) (kb : Fin 512 → Fin 128 → EReal) (qs : Fin 1024 → Fin 128 → EReal)
    (hq : ∀ c l, qs c l = lanes (qhead Q h) c l)
    (hk : ∀ (x : Fin 512) (l : Fin 128) (hx : 512 * p + x.val < 4096) (hl : 128 * h.val + l.val < 512), kb x l = K (ix3 0 ⟨512 * p + x.val, hx⟩ ⟨128 * h.val + l.val, hl⟩))
    (c : Fin 1024) (x : Fin 512) :
    (if x.val ≤ c.val % 512 then ∑ l, kb x l * qs c l else ⊥) = shown Q K p h c (512 * p + x) := by
  have hx : 512 * p + x.val < 4096 := by omega
  unfold shown score
  by_cases hc : x.val ≤ c.val % 512
  · rw [if_pos hc, if_pos (by omega), dif_pos hx]
    exact Finset.sum_congr rfl fun l _ => congrArg₂ (· * ·) (hk x l hx (by omega)) (hq c l)
  · rw [if_neg hc, if_neg (by omega)]

/-- The values of a block. -/
theorem value_block {b : ℕ} (n : ℕ) (h : Fin 4) (hn : n + b ≤ 4096) (vb : Fin 128 → Fin b → EReal)
    (hk : ∀ (e : Fin 128) (x : Fin b) (hx : n + x.val < 4096) (hl : 128 * h.val + e.val < 512), vb e x = Vt (ix3 0 ⟨128 * h.val + e.val, hl⟩ ⟨n + x.val, hx⟩))
    (e : Fin 144) (x : Fin b) : withOnes vb e x = value Vt h e (n + x) := by
  have hx : n + x.val < 4096 := by omega
  unfold withOnes value
  by_cases he : e.val < 128
  · rw [dif_pos he, dif_pos he, dif_pos hx]
    exact hk ⟨e.val, he⟩ x hx (by have := h.isLt; show 128 * h.val + e.val < 512; omega)
  · rw [dif_neg he, dif_neg he]

end Cert.KernelIdeal.Diff

end
-- ==== Proof.Diff.StepsLoop.lean ====
module

public import proofs.«01_k».proof.Proof.Diff.Lanes

/-!
# The step over a 1024-key block

Each head's step in the counted loop: its maximum and its weighted sums after the block.
-/

@[expose] public section

set_option maxRecDepth 16384

noncomputable section

namespace Cert.KernelIdeal.Diff

open Idealize.ShloMosaic Idealize.ShloMosaic.TcCoe
open Cert.KernelIdeal Cert.KernelIdeal.Gen Cert.Proof.Diff

/-- Head 0: the maximum after the block. -/
theorem trip_max0 (q : FVec Ideal S1024x128 .bf16) (m : FVec Ideal S1x1024 .f32) (k : Vec Ideal S1x1024x128 .bf16) (c : Fin 1024) :
    k0_pay5 q m k (ix2 0 c)
      = newMax (m (ix2 0 c)) (fun x => ∑ l, k (ix3 0 x l) * q (ix2 c l)) := by
  pointwise [k0_pay5, k0_pay6, k0_pay2]
  rw [newMax, ← ofBits_ninf]

/-- Head 0: the weighted sums after the block. -/
theorem trip_acc0 (q : FVec Ideal S1024x128 .bf16) (m : FVec Ideal S1x1024 .f32) (a : FVec Ideal S144x1024 .f32) (k : Vec Ideal S1x1024x128 .bf16) (v : Vec Ideal S1x128x1024 .bf16) (e : Fin 144) (c : Fin 1024) :
    k0_pay6 q m a k v (ix2 e c)
      = newAcc (m (ix2 0 c)) (a (ix2 e c)) (fun x => ∑ l, k (ix3 0 x l) * q (ix2 c l)) (withOnes (fun e x => v (ix3 0 e x)) e) := by
  pointwise [k0_pay5, k0_pay6, k0_pay2]
  rw [newAcc, newMax, ← ofBits_ninf]
  rfl

/-- Head 1: the maximum after the block. -/
theorem trip_max1 (q : FVec Ideal S1024x128 .bf16) (m : FVec Ideal S1x1024 .f32) (k : Vec Ideal S1x1024x128 .bf16) (c : Fin 1024) :
    k0_pay9 m (k0_pay3 q k) (ix2 0 c)
      = newMax (m (ix2 0 c)) (fun x => ∑ l, k (ix3 0 x l) * q (ix2 c l)) := by
  pointwise [k0_pay9, k0_pay10, k0_pay3, k0_pay8]
  rw [newMax, ← ofBits_ninf]

/-- Head 1: the weighted sums after the block. -/
theorem trip_acc1 (q : FVec Ideal S1024x128 .bf16) (m : FVec Ideal S1x1024 .f32) (a : FVec Ideal S144x1024 .f32) (k : Vec Ideal S1x1024x128 .bf16) (v : Vec Ideal S1x128x1024 .bf16) (e : Fin 144) (c : Fin 1024) :
    k0_pay10 m a (k0_pay3 q k) (k0_pay8 v) (ix2 e c)
      = newAcc (m (ix2 0 c)) (a (ix2 e c)) (fun x => ∑ l, k (ix3 0 x l) * q (ix2 c l)) (withOnes (fun e x => v (ix3 0 e x)) e) := by
  pointwise [k0_pay9, k0_pay10, k0_pay3, k0_pay8]
  rw [newAcc, newMax, ← ofBits_ninf]
  rfl

/-- Head 2: the maximum after the block. -/
theorem trip_max2 (q : FVec Ideal S1024x128 .bf16) (m : FVec Ideal S1x1024 .f32) (k : Vec Ideal S1x1024x128 .bf16) (c : Fin 1024) :
    k0_pay11 m (k0_pay4 q k) (ix2 0 c)
      = newMax (m (ix2 0 c)) (fun x => ∑ l, k (ix3 0 x l) * q (ix2 c l)) := by
  pointwise [k0_pay11, k0_pay12, k0_pay4]
  rw [newMax, ← ofBits_ninf]

/-- Head 2: the weighted sums after the block. -/
theorem trip_acc2 (q : FVec Ideal S1024x128 .bf16) (m : FVec Ideal S1x1024 .f32) (a : FVec Ideal S144x1024 .f32) (k : Vec Ideal S1x1024x128 .bf16) (v : Vec Ideal S1x128x1024 .bf16) (e : Fin 144) (c : Fin 1024) :
    k0_pay12 m a (k0_pay4 q k) v (ix2 e c)
      = newAcc (m (ix2 0 c)) (a (ix2 e c)) (fun x => ∑ l, k (ix3 0 x l) * q (ix2 c l)) (withOnes (fun e x => v (ix3 0 e x)) e) := by
  pointwise [k0_pay11, k0_pay12, k0_pay4]
  rw [newAcc, newMax, ← ofBits_ninf]
  rfl

/-- Head 3: the maximum after the block. -/
theorem trip_max3 (q : FVec Ideal S1024x128 .bf16) (m : FVec Ideal S1x1024 .f32) (k : Vec Ideal S1x1024x128 .bf16) (c : Fin 1024) :
    k0_pay14 m (k0_pay7 q k) (ix2 0 c)
      = newMax (m (ix2 0 c)) (fun x => ∑ l, k (ix3 0 x l) * q (ix2 c l)) := by
  pointwise [k0_pay14, k0_pay55, k0_pay13, k0_pay15, k0_pay16, k0_pay7]
  rw [newMax, ← ofBits_ninf]

/-- Head 3: the weighted sums after the block. -/
theorem trip_acc3 (q : FVec Ideal S1024x128 .bf16) (m : FVec Ideal S1x1024 .f32) (a : FVec Ideal S144x1024 .f32) (k : Vec Ideal S1x1024x128 .bf16) (v : Vec Ideal S1x128x1024 .bf16) (e : Fin 144) (c : Fin 1024) :
    k0_pay55 a (k0_pay13 v) (k0_pay15 m (k0_pay7 q k)) (k0_pay16 m (k0_pay7 q k)) (ix2 e c)
      = newAcc (m (ix2 0 c)) (a (ix2 e c)) (fun x => ∑ l, k (ix3 0 x l) * q (ix2 c l)) (withOnes (fun e x => v (ix3 0 e x)) e) := by
  pointwise [k0_pay14, k0_pay55, k0_pay13, k0_pay15, k0_pay16, k0_pay7]
  rw [newAcc, newMax, ← ofBits_ninf]
  rfl

end Cert.KernelIdeal.Diff

end
-- ==== Proof.Diff.Trip.lean ====
module

public import proofs.«01_k».proof.Proof.Diff.Seen
public import proofs.«01_k».proof.Proof.Diff.StepsLoop

/-!
# The counted loop

A trip of the loop over the blocks of 1024 keys takes all four heads from having seen `1024 k` keys to having seen
`1024 (k + 1)`; the loop makes `i / 2` trips, so after it the heads have seen `1024 (i / 2)` keys.
-/

@[expose] public section

set_option maxRecDepth 16384

noncomputable section

namespace Cert.KernelIdeal.Diff

open Idealize.ShloMosaic Idealize.ShloMosaic.TcCoe
open Cert.KernelIdeal Cert.KernelIdeal.Gen Cert.Proof.Diff

/-- What the loop carries: for each head the running maxima and the weighted sums. -/
abbrev Carry : Type := FVec Ideal S1x1024 .f32 × FVec Ideal S144x1024 .f32 × FVec Ideal S1x1024 .f32 × FVec Ideal S144x1024 .f32 × FVec Ideal S1x1024 .f32 × FVec Ideal S144x1024 .f32 × FVec Ideal S1x1024 .f32 × FVec Ideal S144x1024 .f32

/-- All four heads have seen the first `n` keys. -/
def AllSeen (Q : S1x512x512.Idx → EReal) (K : S1x4096x512.Idx → EReal) (Vt : S1x512x4096.Idx → EReal) (p n : ℕ) (S : Carry) : Prop :=
  Seen (shown Q K p 0) (value Vt 0) n S.1 S.2.1 ∧ Seen (shown Q K p 1) (value Vt 1) n S.2.2.1 S.2.2.2.1
    ∧ Seen (shown Q K p 2) (value Vt 2) n S.2.2.2.2.1 S.2.2.2.2.2.1 ∧ Seen (shown Q K p 3) (value Vt 3) n S.2.2.2.2.2.2.1 S.2.2.2.2.2.2.2

/-- The four heads' masked queries. -/
def Queries (Q : S1x512x512.Idx → EReal) (h : Fin 4) (q : FVec Ideal S1024x128 .bf16) : Prop :=
  ∀ c l, q (ix2 c l) = lanes (qhead Q h) c l

variable (Q : S1x512x512.Idx → EReal) (K : S1x4096x512.Idx → EReal) (Vt : S1x512x4096.Idx → EReal)

/-- No score is infinite upwards and every value is real. -/
def Tame (p : ℕ) : Prop := (∀ h c j, shown Q K p h c j ≠ ⊤) ∧ ∀ h e j, IsReal (value Vt h e j)

/-- Before the first trip no key has been seen. -/
theorem init_seen (p : ℕ) : AllSeen Q K Vt p 0 (k0_pay53 (F := Ideal), k0_pay54 (F := Ideal), k0_pay53 (F := Ideal), k0_pay54 (F := Ideal), k0_pay53 (F := Ideal), k0_pay54 (F := Ideal), k0_pay53 (F := Ideal), k0_pay54 (F := Ideal)) := by
  have h : ∀ (s : Fin 1024 → ℕ → EReal) (v : Fin 144 → ℕ → EReal), Seen s v 0 (k0_pay53 (F := Ideal)) (k0_pay54 (F := Ideal)) := fun s v c =>
    ⟨ofBits_ninf.trans (top_zero (s c)).symm, fun e => Ideal.ofBits_zero_f32.trans (tot_zero (s c) (v e)).symm⟩
  exact ⟨h _ _, h _ _, h _ _, h _ _⟩

/-! The step of each head over a block of 1024 keys. -/

theorem block_seen0 (p n : ℕ) (hn : n + 1024 ≤ 512 * p) (hp : p < 8) (ht : Tame Q K Vt p) (q : FVec Ideal S1024x128 .bf16) (hq : Queries Q 0 q)
    (m : FVec Ideal S1x1024 .f32) (a : FVec Ideal S144x1024 .f32) (h : Seen (shown Q K p 0) (value Vt 0) n m a)
    (k : FVec Ideal S1x1024x128 .bf16) (v : FVec Ideal S1x128x1024 .bf16)
    (hk : ∀ (x : Fin 1024) (l : Fin 128) (hx : n + x.val < 4096) (hl : 128 * ((0 : Fin 4)).val + l.val < 512), k (ix3 0 x l) = K (ix3 0 ⟨n + x.val, hx⟩ ⟨128 * ((0 : Fin 4)).val + l.val, hl⟩))
    (hv : ∀ (e : Fin 128) (x : Fin 1024) (hx : n + x.val < 4096) (hl : 128 * ((0 : Fin 4)).val + e.val < 512), v (ix3 0 e x) = Vt (ix3 0 ⟨128 * ((0 : Fin 4)).val + e.val, hl⟩ ⟨n + x.val, hx⟩)) :
    Seen (shown Q K p 0) (value Vt 0) (n + 1024) (k0_pay5 q m k) (k0_pay6 q m a k v) :=
  Seen.step (ht.1 0) (ht.2 0) h (fun c x => ∑ l, k (ix3 0 x l) * q (ix2 c l)) (withOnes fun e x => v (ix3 0 e x))
    (shown_block Q K p n 0 hn hp (fun x l => k (ix3 0 x l)) (fun c l => q (ix2 c l)) hq hk)
    (value_block Vt n 0 (by omega) (fun e x => v (ix3 0 e x)) hv)
    (fun c => trip_max0 q m k c) (fun e c => trip_acc0 q m a k v e c)

theorem block_seen1 (p n : ℕ) (hn : n + 1024 ≤ 512 * p) (hp : p < 8) (ht : Tame Q K Vt p) (q : FVec Ideal S1024x128 .bf16) (hq : Queries Q 1 q)
    (m : FVec Ideal S1x1024 .f32) (a : FVec Ideal S144x1024 .f32) (h : Seen (shown Q K p 1) (value Vt 1) n m a)
    (k : FVec Ideal S1x1024x128 .bf16) (v : FVec Ideal S1x128x1024 .bf16)
    (hk : ∀ (x : Fin 1024) (l : Fin 128) (hx : n + x.val < 4096) (hl : 128 * ((1 : Fin 4)).val + l.val < 512), k (ix3 0 x l) = K (ix3 0 ⟨n + x.val, hx⟩ ⟨128 * ((1 : Fin 4)).val + l.val, hl⟩))
    (hv : ∀ (e : Fin 128) (x : Fin 1024) (hx : n + x.val < 4096) (hl : 128 * ((1 : Fin 4)).val + e.val < 512), v (ix3 0 e x) = Vt (ix3 0 ⟨128 * ((1 : Fin 4)).val + e.val, hl⟩ ⟨n + x.val, hx⟩)) :
    Seen (shown Q K p 1) (value Vt 1) (n + 1024) (k0_pay9 m (k0_pay3 q k)) (k0_pay10 m a (k0_pay3 q k) (k0_pay8 v)) :=
  Seen.step (ht.1 1) (ht.2 1) h (fun c x => ∑ l, k (ix3 0 x l) * q (ix2 c l)) (withOnes fun e x => v (ix3 0 e x))
    (shown_block Q K p n 1 hn hp (fun x l => k (ix3 0 x l)) (fun c l => q (ix2 c l)) hq hk)
    (value_block Vt n 1 (by omega) (fun e x => v (ix3 0 e x)) hv)
    (fun c => trip_max1 q m k c) (fun e c => trip_acc1 q m a k v e c)

theorem block_seen2 (p n : ℕ) (hn : n + 1024 ≤ 512 * p) (hp : p < 8) (ht : Tame Q K Vt p) (q : FVec Ideal S1024x128 .bf16) (hq : Queries Q 2 q)
    (m : FVec Ideal S1x1024 .f32) (a : FVec Ideal S144x1024 .f32) (h : Seen (shown Q K p 2) (value Vt 2) n m a)
    (k : FVec Ideal S1x1024x128 .bf16) (v : FVec Ideal S1x128x1024 .bf16)
    (hk : ∀ (x : Fin 1024) (l : Fin 128) (hx : n + x.val < 4096) (hl : 128 * ((2 : Fin 4)).val + l.val < 512), k (ix3 0 x l) = K (ix3 0 ⟨n + x.val, hx⟩ ⟨128 * ((2 : Fin 4)).val + l.val, hl⟩))
    (hv : ∀ (e : Fin 128) (x : Fin 1024) (hx : n + x.val < 4096) (hl : 128 * ((2 : Fin 4)).val + e.val < 512), v (ix3 0 e x) = Vt (ix3 0 ⟨128 * ((2 : Fin 4)).val + e.val, hl⟩ ⟨n + x.val, hx⟩)) :
    Seen (shown Q K p 2) (value Vt 2) (n + 1024) (k0_pay11 m (k0_pay4 q k)) (k0_pay12 m a (k0_pay4 q k) v) :=
  Seen.step (ht.1 2) (ht.2 2) h (fun c x => ∑ l, k (ix3 0 x l) * q (ix2 c l)) (withOnes fun e x => v (ix3 0 e x))
    (shown_block Q K p n 2 hn hp (fun x l => k (ix3 0 x l)) (fun c l => q (ix2 c l)) hq hk)
    (value_block Vt n 2 (by omega) (fun e x => v (ix3 0 e x)) hv)
    (fun c => trip_max2 q m k c) (fun e c => trip_acc2 q m a k v e c)

theorem block_seen3 (p n : ℕ) (hn : n + 1024 ≤ 512 * p) (hp : p < 8) (ht : Tame Q K Vt p) (q : FVec Ideal S1024x128 .bf16) (hq : Queries Q 3 q)
    (m : FVec Ideal S1x1024 .f32) (a : FVec Ideal S144x1024 .f32) (h : Seen (shown Q K p 3) (value Vt 3) n m a)
    (k : FVec Ideal S1x1024x128 .bf16) (v : FVec Ideal S1x128x1024 .bf16)
    (hk : ∀ (x : Fin 1024) (l : Fin 128) (hx : n + x.val < 4096) (hl : 128 * ((3 : Fin 4)).val + l.val < 512), k (ix3 0 x l) = K (ix3 0 ⟨n + x.val, hx⟩ ⟨128 * ((3 : Fin 4)).val + l.val, hl⟩))
    (hv : ∀ (e : Fin 128) (x : Fin 1024) (hx : n + x.val < 4096) (hl : 128 * ((3 : Fin 4)).val + e.val < 512), v (ix3 0 e x) = Vt (ix3 0 ⟨128 * ((3 : Fin 4)).val + e.val, hl⟩ ⟨n + x.val, hx⟩)) :
    Seen (shown Q K p 3) (value Vt 3) (n + 1024) (k0_pay14 m (k0_pay7 q k)) (k0_pay55 a (k0_pay13 v) (k0_pay15 m (k0_pay7 q k)) (k0_pay16 m (k0_pay7 q k))) :=
  Seen.step (ht.1 3) (ht.2 3) h (fun c x => ∑ l, k (ix3 0 x l) * q (ix2 c l)) (withOnes fun e x => v (ix3 0 e x))
    (shown_block Q K p n 3 hn hp (fun x l => k (ix3 0 x l)) (fun c l => q (ix2 c l)) hq hk)
    (value_block Vt n 3 (by omega) (fun e x => v (ix3 0 e x)) hv)
    (fun c => trip_max3 q m k c) (fun e c => trip_acc3 q m a k v e c)

variable (c : Dev nD) (i : grid0.Coords)
    (arg3 : Memref sig .tc .vmem S2x64 .f32) (harg3 : arg3.IsWhole) (arg4 : Memref sig .tc .vmem S2x64 .f32) (harg4 : arg4.IsWhole)
    (arg5 : Memref sig .tc .vmem S1x512x512 .bf16) (harg5 : arg5.IsWhole) (arg6 : Memref sig .tc .vmem S1x4096x512 .bf16) (harg6 : arg6.IsWhole)
    (arg7 : Memref sig .tc .vmem S1x512x4096 .bf16) (harg7 : arg7.IsWhole) (arg8 : Memref sig .tc .vmem S1x512x512 .bf16) (harg8 : arg8.IsWhole)
    (arg9 : Memref sig .tc .vmem S1x128 .f32) (harg9 : arg9.IsWhole) (arg10 : Memref sig .tc .vmem S1x512x512 .bf16) (harg10 : arg10.IsWhole)
  (arg2 : BitVec 32) (v21 v31 v41 v51 : FVec Ideal S1024x128 .bf16) (v52 : FVec Ideal S1x1024 .f32) (v53 : FVec Ideal S144x1024 .f32)
  (z w : BitVec 32) (hq0 : Queries Q 0 v21) (hq1 : Queries Q 1 v31) (hq2 : Queries Q 2 v41) (hq3 : Queries Q 3 v51)

include hq0 hq1 hq2 hq3 in
/-- One trip. -/
theorem trip_seen (ht : Tame Q K Vt (i 2).val) (k : Fin (k0_t1_loop i).trips) (S : Carry) (h : AllSeen Q K Vt (i 2).val (1024 * k.val) S) :
    AllSeen Q K Vt (i 2).val (1024 * k.val + 1024) (tripR_k0_t1 (F := Ideal) Variants.none c none i arg3 harg3 arg4 harg4 arg5 harg5 arg6 harg6 arg7 harg7 arg8 harg8 arg9 harg9 arg10 harg10 arg2 v21 v31 v41 v51 v52 v53 z w (harg6.unread K) (harg7.unread Vt) k S) := by
  have hp := i2_lt i
  have hk : 1024 * k.val + 1024 ≤ 512 * (i 2).val := by
    have := k.isLt
    have := t1_trips i
    omega
  unfold tripR_k0_t1 trip_k0_t1
  dsimp only [AllSeen]
  dsimp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13]
  refine ⟨?_, ?_, ?_, ?_⟩
  · exact block_seen0 Q K Vt (i 2).val (1024 * k.val) hk hp ht _ hq0 _ _ h.1 _ _
      (fun x l hx hl => load3 harg6 K _ _ 0 (1024 * k.val) (128 * ((0 : Fin 4)).val) (off1 i k) 0 x l (by decide) hx hl)
      (fun e x hx hl => load3 harg7 Vt _ _ 0 (128 * ((0 : Fin 4)).val) (1024 * k.val) (off4 i k) 0 e x (by decide) hl hx)
  · exact block_seen1 Q K Vt (i 2).val (1024 * k.val) hk hp ht _ hq1 _ _ h.2.1 _ _
      (fun x l hx hl => load3 harg6 K _ _ 0 (1024 * k.val) (128 * ((1 : Fin 4)).val) (off2 i k) 0 x l (by decide) hx hl)
      (fun e x hx hl => load3 harg7 Vt _ _ 0 (128 * ((1 : Fin 4)).val) (1024 * k.val) (off6 i k) 0 e x (by decide) hl hx)
  · exact block_seen2 Q K Vt (i 2).val (1024 * k.val) hk hp ht _ hq2 _ _ h.2.2.1 _ _
      (fun x l hx hl => load3 harg6 K _ _ 0 (1024 * k.val) (128 * ((2 : Fin 4)).val) (off3 i k) 0 x l (by decide) hx hl)
      (fun e x hx hl => load3 harg7 Vt _ _ 0 (128 * ((2 : Fin 4)).val) (1024 * k.val) (off7 i k) 0 e x (by decide) hl hx)
  · exact block_seen3 Q K Vt (i 2).val (1024 * k.val) hk hp ht _ hq3 _ _ h.2.2.2 _ _
      (fun x l hx hl => load3 harg6 K _ _ 0 (1024 * k.val) (128 * ((3 : Fin 4)).val) (off5 i k) 0 x l (by decide) hx hl)
      (fun e x hx hl => load3 harg7 Vt _ _ 0 (128 * ((3 : Fin 4)).val) (1024 * k.val) (off8 i k) 0 e x (by decide) hl hx)

include hq0 hq1 hq2 hq3 in
/-- Before trip `k`. -/
theorem loop_seen (ht : Tame Q K Vt (i 2).val) (S : Carry) (h : AllSeen Q K Vt (i 2).val 0 S) (k : ℕ) (hk : k ≤ (k0_t1_loop i).trips) :
    AllSeen Q K Vt (i 2).val (1024 * k) (st_k0_t1 (F := Ideal) Variants.none c none i arg3 harg3 arg4 harg4 arg5 harg5 arg6 harg6 arg7 harg7 arg8 harg8 arg9 harg9 arg10 harg10 arg2 v21 v31 v41 v51 v52 v53 z w (harg6.unread K) (harg7.unread Vt) S k) := by
  induction k with
  | zero => exact h
  | succ k ih =>
    refine (congrArg (AllSeen Q K Vt (i 2).val (1024 * k + 1024)) (st_k0_t1_succ (F := Ideal) Variants.none c none i arg3 harg3 arg4 harg4 arg5 harg5 arg6 harg6 arg7 harg7 arg8 harg8 arg9 harg9 arg10 harg10 arg2 v21 v31 v41 v51 v52 v53 z w (harg6.unread K) (harg7.unread Vt) S ⟨k, hk⟩)).mpr ?_
    exact trip_seen Q K Vt c i arg3 harg3 arg4 harg4 arg5 harg5 arg6 harg6 arg7 harg7 arg8 harg8 arg9 harg9 arg10 harg10 arg2 v21 v31 v41 v51 v52 v53 z w hq0 hq1 hq2 hq3 ht ⟨k, hk⟩ _ (ih (Nat.le_of_succ_le hk))

end Cert.KernelIdeal.Diff

end
-- ==== Proof.Diff.StepsOdd.lean ====
module

public import proofs.«01_k».proof.Proof.Diff.Lanes

/-!
# The step over the odd 512-key block

Each head's step when the number of 512-key blocks before the query block is odd.
-/

@[expose] public section

set_option maxRecDepth 16384

noncomputable section

namespace Cert.KernelIdeal.Diff

open Idealize.ShloMosaic Idealize.ShloMosaic.TcCoe
open Cert.KernelIdeal Cert.KernelIdeal.Gen Cert.Proof.Diff

/-- Head 0: the maximum after the block. -/
theorem odd_max0 (q : FVec Ideal S1024x128 .bf16) (m : FVec Ideal S1x1024 .f32) (k : Vec Ideal S1x512x128 .bf16) (c : Fin 1024) :
    k0_pay35 q m k (ix2 0 c)
      = newMax (m (ix2 0 c)) (fun x => ∑ l, k (ix3 0 x l) * q (ix2 c l)) := by
  pointwise [k0_pay35, k0_pay36, k0_pay32]
  rw [newMax, ← ofBits_ninf]

/-- Head 0: the weighted sums after the block. -/
theorem odd_acc0 (q : FVec Ideal S1024x128 .bf16) (m : FVec Ideal S1x1024 .f32) (a : FVec Ideal S144x1024 .f32) (k : Vec Ideal S1x512x128 .bf16) (v : Vec Ideal S1x128x512 .bf16) (e : Fin 144) (c : Fin 1024) :
    k0_pay36 q m a k v (ix2 e c)
      = newAcc (m (ix2 0 c)) (a (ix2 e c)) (fun x => ∑ l, k (ix3 0 x l) * q (ix2 c l)) (withOnes (fun e x => v (ix3 0 e x)) e) := by
  pointwise [k0_pay35, k0_pay36, k0_pay32]
  rw [newAcc, newMax, ← ofBits_ninf]
  rfl

/-- Head 1: the maximum after the block. -/
theorem odd_max1 (q : FVec Ideal S1024x128 .bf16) (m : FVec Ideal S1x1024 .f32) (k : Vec Ideal S1x512x128 .bf16) (c : Fin 1024) :
    k0_pay38 m (k0_pay33 q k) (ix2 0 c)
      = newMax (m (ix2 0 c)) (fun x => ∑ l, k (ix3 0 x l) * q (ix2 c l)) := by
  pointwise [k0_pay38, k0_pay39, k0_pay33]
  rw [newMax, ← ofBits_ninf]

/-- Head 1: the weighted sums after the block. -/
theorem odd_acc1 (q : FVec Ideal S1024x128 .bf16) (m : FVec Ideal S1x1024 .f32) (a : FVec Ideal S144x1024 .f32) (k : Vec Ideal S1x512x128 .bf16) (v : Vec Ideal S1x128x512 .bf16) (e : Fin 144) (c : Fin 1024) :
    k0_pay39 m a (k0_pay33 q k) v (ix2 e c)
      = newAcc (m (ix2 0 c)) (a (ix2 e c)) (fun x => ∑ l, k (ix3 0 x l) * q (ix2 c l)) (withOnes (fun e x => v (ix3 0 e x)) e) := by
  pointwise [k0_pay38, k0_pay39, k0_pay33]
  rw [newAcc, newMax, ← ofBits_ninf]
  rfl

/-- Head 2: the maximum after the block. -/
theorem odd_max2 (q : FVec Ideal S1024x128 .bf16) (m : FVec Ideal S1x1024 .f32) (k : Vec Ideal S1x512x128 .bf16) (c : Fin 1024) :
    k0_pay40 m (k0_pay34 q k) (ix2 0 c)
      = newMax (m (ix2 0 c)) (fun x => ∑ l, k (ix3 0 x l) * q (ix2 c l)) := by
  pointwise [k0_pay40, k0_pay41, k0_pay34]
  rw [newMax, ← ofBits_ninf]

/-- Head 2: the weighted sums after the block. -/
theorem odd_acc2 (q : FVec Ideal S1024x128 .bf16) (m : FVec Ideal S1x1024 .f32) (a : FVec Ideal S144x1024 .f32) (k : Vec Ideal S1x512x128 .bf16) (v : Vec Ideal S1x128x512 .bf16) (e : Fin 144) (c : Fin 1024) :
    k0_pay41 m a (k0_pay34 q k) v (ix2 e c)
      = newAcc (m (ix2 0 c)) (a (ix2 e c)) (fun x => ∑ l, k (ix3 0 x l) * q (ix2 c l)) (withOnes (fun e x => v (ix3 0 e x)) e) := by
  pointwise [k0_pay40, k0_pay41, k0_pay34]
  rw [newAcc, newMax, ← ofBits_ninf]
  rfl

/-- Head 3: the maximum after the block. -/
theorem odd_max3 (q : FVec Ideal S1024x128 .bf16) (m : FVec Ideal S1x1024 .f32) (k : Vec Ideal S1x512x128 .bf16) (c : Fin 1024) :
    k0_pay43 m (k0_pay37 q k) (ix2 0 c)
      = newMax (m (ix2 0 c)) (fun x => ∑ l, k (ix3 0 x l) * q (ix2 c l)) := by
  pointwise [k0_pay43, k0_pay57, k0_pay42, k0_pay44, k0_pay45, k0_pay37]
  rw [newMax, ← ofBits_ninf]

/-- Head 3: the weighted sums after the block. -/
theorem odd_acc3 (q : FVec Ideal S1024x128 .bf16) (m : FVec Ideal S1x1024 .f32) (a : FVec Ideal S144x1024 .f32) (k : Vec Ideal S1x512x128 .bf16) (v : Vec Ideal S1x128x512 .bf16) (e : Fin 144) (c : Fin 1024) :
    k0_pay57 a (k0_pay42 v) (k0_pay44 m (k0_pay37 q k)) (k0_pay45 m (k0_pay37 q k)) (ix2 e c)
      = newAcc (m (ix2 0 c)) (a (ix2 e c)) (fun x => ∑ l, k (ix3 0 x l) * q (ix2 c l)) (withOnes (fun e x => v (ix3 0 e x)) e) := by
  pointwise [k0_pay43, k0_pay57, k0_pay42, k0_pay44, k0_pay45, k0_pay37]
  rw [newAcc, newMax, ← ofBits_ninf]
  rfl

end Cert.KernelIdeal.Diff

end
-- ==== Proof.Diff.StepsDiag.lean ====
module

public import proofs.«01_k».proof.Proof.Diff.Lanes

/-!
# The step over the diagonal block

Each head's last step, with the keys after the query hidden.
-/

@[expose] public section

set_option maxRecDepth 16384

noncomputable section

namespace Cert.KernelIdeal.Diff

open Idealize.ShloMosaic Idealize.ShloMosaic.TcCoe
open Cert.KernelIdeal Cert.KernelIdeal.Gen Cert.Proof.Diff

/-- Head 0: the weighted sums after the diagonal block. -/
theorem diag_acc0 (q : FVec Ideal S1024x128 .bf16) (m : FVec Ideal S1x1024 .f32) (a : FVec Ideal S144x1024 .f32) (k : Vec Ideal S1x512x128 .bf16) (v : Vec Ideal S1x128x512 .bf16) (e : Fin 144) (c : Fin 1024) :
    k0_pay62 m a (k0_pay58 q k) (k0_pay61 v) (iota .tc S512x1024 32 [0] iota_S512x1024_d0_w32) (iota .tc S512x1024 32 [1] iota_S512x1024_d1_w32) (ix2 e c)
      = newAcc (m (ix2 0 c)) (a (ix2 e c)) (fun x => if x.val ≤ c.val % 512 then ∑ l, k (ix3 0 x l) * q (ix2 c l) else ⊥) (withOnes (fun e x => v (ix3 0 e x)) e) := by
  pointwise [k0_pay62, k0_pay58, k0_pay61]
  simp only [select_causal, ofBits_ninf]
  rw [newAcc, newMax]
  rfl

/-- Head 1: the weighted sums after the diagonal block. -/
theorem diag_acc1 (q : FVec Ideal S1024x128 .bf16) (m : FVec Ideal S1x1024 .f32) (a : FVec Ideal S144x1024 .f32) (k : Vec Ideal S1x512x128 .bf16) (v : Vec Ideal S1x128x512 .bf16) (e : Fin 144) (c : Fin 1024) :
    k0_pay68 (k0_pay66 m a (k0_pay59 q k)) (k0_pay67 m (k0_pay59 q k) v) (ix2 e c)
      = newAcc (m (ix2 0 c)) (a (ix2 e c)) (fun x => if x.val ≤ c.val % 512 then ∑ l, k (ix3 0 x l) * q (ix2 c l) else ⊥) (withOnes (fun e x => v (ix3 0 e x)) e) := by
  pointwise [k0_pay68, k0_pay66, k0_pay67, k0_pay65, k0_pay64, k0_pay59]
  simp only [select_causal, ofBits_ninf]
  rw [newAcc, newMax]
  rfl

/-- Head 2: the weighted sums after the diagonal block. -/
theorem diag_acc2 (q : FVec Ideal S1024x128 .bf16) (m : FVec Ideal S1x1024 .f32) (a : FVec Ideal S144x1024 .f32) (k : Vec Ideal S1x512x128 .bf16) (v : Vec Ideal S1x128x512 .bf16) (e : Fin 144) (c : Fin 1024) :
    k0_pay69 m a (k0_pay60 q k) v (ix2 e c)
      = newAcc (m (ix2 0 c)) (a (ix2 e c)) (fun x => if x.val ≤ c.val % 512 then ∑ l, k (ix3 0 x l) * q (ix2 c l) else ⊥) (withOnes (fun e x => v (ix3 0 e x)) e) := by
  pointwise [k0_pay69, k0_pay60]
  simp only [select_causal, ofBits_ninf]
  rw [newAcc, newMax]
  rfl

/-- Head 3: the weighted sums after the diagonal block. -/
theorem diag_acc3 (q : FVec Ideal S1024x128 .bf16) (m : FVec Ideal S1x1024 .f32) (a : FVec Ideal S144x1024 .f32) (k : Vec Ideal S1x512x128 .bf16) (v : Vec Ideal S1x128x512 .bf16) (e : Fin 144) (c : Fin 1024) :
    k0_pay75 a (k0_pay70 v) (k0_pay73 m (k0_pay63 q k)) (k0_pay74 m (k0_pay63 q k)) (ix2 e c)
      = newAcc (m (ix2 0 c)) (a (ix2 e c)) (fun x => if x.val ≤ c.val % 512 then ∑ l, k (ix3 0 x l) * q (ix2 c l) else ⊥) (withOnes (fun e x => v (ix3 0 e x)) e) := by
  pointwise [k0_pay75, k0_pay70, k0_pay73, k0_pay74, k0_pay72, k0_pay71, k0_pay63]
  simp only [select_causal, ofBits_ninf]
  rw [newAcc, newMax]
  rfl

end Cert.KernelIdeal.Diff

end
-- ==== Proof.Diff.Ends.lean ====
module

public import proofs.«01_k».proof.Proof.Diff.Trip
public import proofs.«01_k».proof.Proof.Diff.StepsOdd
public import proofs.«01_k».proof.Proof.Diff.StepsDiag

/-!
# The last two blocks of keys and the head's output

The step over the odd block of 512 keys, the step over the diagonal block, and what a head writes out of the weighted
sums these leave.
-/

@[expose] public section

set_option maxRecDepth 16384

noncomputable section

namespace Cert.KernelIdeal.Diff

open Idealize.ShloMosaic Idealize.ShloMosaic.TcCoe
open Cert.KernelIdeal Cert.KernelIdeal.Gen Cert.Proof.Diff

variable (Q : S1x512x512.Idx → EReal) (K : S1x4096x512.Idx → EReal) (Vt : S1x512x4096.Idx → EReal)

/-- What head `h` writes at row `r`, lane `l`, of the `p`-th query block. -/
def headOut (L0 L1 : S2x64.Idx → EReal) (W : S1x512x512.Idx → EReal) (G : S1x128.Idx → EReal) (p : ℕ) (h : Fin 4) (r : Fin 512) (l : Fin 128) : EReal :=
  normed (lane (fun e c => tot (shown Q K p h c) (value Vt h e) 4096) (lam (fun i x => L0 (ix2 i x)) (fun i x => L1 (ix2 i x))) r)
    (G (ix2 0 l)) (W (ix3 0 r ⟨128 * h.val + l.val, by omega⟩)) l

/-- The weighted sums of the first `512 (p + 1)` keys are those of all keys. -/
theorem tot_all (p : ℕ) (hp : p < 8) (h : Fin 4) (e : Fin 144) (c : Fin 1024) :
    tot (shown Q K p h c) (value Vt h e) (512 * p + 512) = tot (shown Q K p h c) (value Vt h e) 4096 := by
  obtain ⟨k, hk⟩ := Nat.exists_eq_add_of_le (show 512 * p + 512 ≤ 4096 by omega)
  rw [hk]
  refine (tot_hidden _ _ _ k fun j hj => ?_).symm
  unfold shown
  exact if_neg (by omega)

/-! ## Head 0 -/

theorem odd_seen0 (p n : ℕ) (hn : n + 512 ≤ 512 * p) (hp : p < 8) (ht : Tame Q K Vt p) (q : FVec Ideal S1024x128 .bf16) (hq : Queries Q 0 q)
    (m : FVec Ideal S1x1024 .f32) (a : FVec Ideal S144x1024 .f32) (h : Seen (shown Q K p 0) (value Vt 0) n m a)
    (k : FVec Ideal S1x512x128 .bf16) (v : FVec Ideal S1x128x512 .bf16)
    (hk : ∀ (x : Fin 512) (l : Fin 128) (hx : n + x.val < 4096) (hl : 128 * ((0 : Fin 4)).val + l.val < 512), k (ix3 0 x l) = K (ix3 0 ⟨n + x.val, hx⟩ ⟨128 * ((0 : Fin 4)).val + l.val, hl⟩))
    (hv : ∀ (e : Fin 128) (x : Fin 512) (hx : n + x.val < 4096) (hl : 128 * ((0 : Fin 4)).val + e.val < 512), v (ix3 0 e x) = Vt (ix3 0 ⟨128 * ((0 : Fin 4)).val + e.val, hl⟩ ⟨n + x.val, hx⟩)) :
    Seen (shown Q K p 0) (value Vt 0) (n + 512) (k0_pay35 q m k) (k0_pay36 q m a k v) :=
  Seen.step (ht.1 0) (ht.2 0) h (fun c x => ∑ l, k (ix3 0 x l) * q (ix2 c l)) (withOnes fun e x => v (ix3 0 e x))
    (shown_block Q K p n 0 hn hp (fun x l => k (ix3 0 x l)) (fun c l => q (ix2 c l)) hq hk)
    (value_block Vt n 0 (by omega) (fun e x => v (ix3 0 e x)) hv)
    (fun c => odd_max0 q m k c) (fun e c => odd_acc0 q m a k v e c)

theorem diag_seen0 (p : ℕ) (hp : p < 8) (ht : Tame Q K Vt p) (q : FVec Ideal S1024x128 .bf16) (hq : Queries Q 0 q)
    (m : FVec Ideal S1x1024 .f32) (a : FVec Ideal S144x1024 .f32) (h : Seen (shown Q K p 0) (value Vt 0) (512 * p) m a)
    (k : FVec Ideal S1x512x128 .bf16) (v : FVec Ideal S1x128x512 .bf16)
    (hk : ∀ (x : Fin 512) (l : Fin 128) (hx : 512 * p + x.val < 4096) (hl : 128 * ((0 : Fin 4)).val + l.val < 512), k (ix3 0 x l) = K (ix3 0 ⟨512 * p + x.val, hx⟩ ⟨128 * ((0 : Fin 4)).val + l.val, hl⟩))
    (hv : ∀ (e : Fin 128) (x : Fin 512) (hx : 512 * p + x.val < 4096) (hl : 128 * ((0 : Fin 4)).val + e.val < 512), v (ix3 0 e x) = Vt (ix3 0 ⟨128 * ((0 : Fin 4)).val + e.val, hl⟩ ⟨512 * p + x.val, hx⟩)) :
    ∀ (e : Fin 144) (c : Fin 1024), (k0_pay62 m a (k0_pay58 q k) (k0_pay61 v) (iota .tc S512x1024 32 [0] iota_S512x1024_d0_w32) (iota .tc S512x1024 32 [1] iota_S512x1024_d1_w32)) (ix2 e c) = tot (shown Q K p 0 c) (value Vt 0 e) 4096 := fun e c =>
  (Seen.acc (ht.1 0) (ht.2 0) h (fun c x => if x.val ≤ c.val % 512 then ∑ l, k (ix3 0 x l) * q (ix2 c l) else ⊥) (withOnes fun e x => v (ix3 0 e x))
    (shown_diag Q K p 0 hp (fun x l => k (ix3 0 x l)) (fun c l => q (ix2 c l)) hq hk)
    (value_block Vt (512 * p) 0 (by omega) (fun e x => v (ix3 0 e x)) hv)
    (fun e c => diag_acc0 q m a k v e c) e c).trans (tot_all Q K Vt p hp 0 e c)

theorem head_out0 (L0 L1 : S2x64.Idx → EReal) (W : S1x512x512.Idx → EReal) (G : S1x128.Idx → EReal) (p : ℕ)
    (z : FVec Ideal S1x1 .f32) (a : FVec Ideal S144x1024 .f32) (g : FVec Ideal S1x128 .f32) (w : FVec Ideal S1x512x128 .bf16)
    (hz : z (ix2 0 0) = lam (fun i x => L0 (ix2 i x)) (fun i x => L1 (ix2 i x)))
    (ha : ∀ e c, a (ix2 e c) = tot (shown Q K p 0 c) (value Vt 0 e) 4096)
    (hg : ∀ l, g (ix2 0 l) = G (ix2 0 l))
    (hw : ∀ (r : Fin 512) (l : Fin 128) (hl : 128 * ((0 : Fin 4)).val + l.val < 512), w (ix3 0 r l) = W (ix3 0 r ⟨128 * ((0 : Fin 4)).val + l.val, hl⟩)) (r : Fin 512) (l : Fin 128) :
    (k0_pay76 z a g w) (ix3 0 r l) = headOut Q K Vt L0 L1 W G p 0 r l := by
  refine (out0 z a g w r l).trans ?_
  unfold headOut
  rw [hz, hg l, hw r l (by have := l.isLt; show 128 * 0 + l.val < 512; omega), show (fun e c => a (ix2 e c)) = fun e c => tot (shown Q K p 0 c) (value Vt 0 e) 4096 from funext fun e => funext fun c => ha e c]

/-! ## Head 1 -/

theorem odd_seen1 (p n : ℕ) (hn : n + 512 ≤ 512 * p) (hp : p < 8) (ht : Tame Q K Vt p) (q : FVec Ideal S1024x128 .bf16) (hq : Queries Q 1 q)
    (m : FVec Ideal S1x1024 .f32) (a : FVec Ideal S144x1024 .f32) (h : Seen (shown Q K p 1) (value Vt 1) n m a)
    (k : FVec Ideal S1x512x128 .bf16) (v : FVec Ideal S1x128x512 .bf16)
    (hk : ∀ (x : Fin 512) (l : Fin 128) (hx : n + x.val < 4096) (hl : 128 * ((1 : Fin 4)).val + l.val < 512), k (ix3 0 x l) = K (ix3 0 ⟨n + x.val, hx⟩ ⟨128 * ((1 : Fin 4)).val + l.val, hl⟩))
    (hv : ∀ (e : Fin 128) (x : Fin 512) (hx : n + x.val < 4096) (hl : 128 * ((1 : Fin 4)).val + e.val < 512), v (ix3 0 e x) = Vt (ix3 0 ⟨128 * ((1 : Fin 4)).val + e.val, hl⟩ ⟨n + x.val, hx⟩)) :
    Seen (shown Q K p 1) (value Vt 1) (n + 512) (k0_pay38 m (k0_pay33 q k)) (k0_pay39 m a (k0_pay33 q k) v) :=
  Seen.step (ht.1 1) (ht.2 1) h (fun c x => ∑ l, k (ix3 0 x l) * q (ix2 c l)) (withOnes fun e x => v (ix3 0 e x))
    (shown_block Q K p n 1 hn hp (fun x l => k (ix3 0 x l)) (fun c l => q (ix2 c l)) hq hk)
    (value_block Vt n 1 (by omega) (fun e x => v (ix3 0 e x)) hv)
    (fun c => odd_max1 q m k c) (fun e c => odd_acc1 q m a k v e c)

theorem diag_seen1 (p : ℕ) (hp : p < 8) (ht : Tame Q K Vt p) (q : FVec Ideal S1024x128 .bf16) (hq : Queries Q 1 q)
    (m : FVec Ideal S1x1024 .f32) (a : FVec Ideal S144x1024 .f32) (h : Seen (shown Q K p 1) (value Vt 1) (512 * p) m a)
    (k : FVec Ideal S1x512x128 .bf16) (v : FVec Ideal S1x128x512 .bf16)
    (hk : ∀ (x : Fin 512) (l : Fin 128) (hx : 512 * p + x.val < 4096) (hl : 128 * ((1 : Fin 4)).val + l.val < 512), k (ix3 0 x l) = K (ix3 0 ⟨512 * p + x.val, hx⟩ ⟨128 * ((1 : Fin 4)).val + l.val, hl⟩))
    (hv : ∀ (e : Fin 128) (x : Fin 512) (hx : 512 * p + x.val < 4096) (hl : 128 * ((1 : Fin 4)).val + e.val < 512), v (ix3 0 e x) = Vt (ix3 0 ⟨128 * ((1 : Fin 4)).val + e.val, hl⟩ ⟨512 * p + x.val, hx⟩)) :
    ∀ (e : Fin 144) (c : Fin 1024), (k0_pay68 (k0_pay66 m a (k0_pay59 q k)) (k0_pay67 m (k0_pay59 q k) v)) (ix2 e c) = tot (shown Q K p 1 c) (value Vt 1 e) 4096 := fun e c =>
  (Seen.acc (ht.1 1) (ht.2 1) h (fun c x => if x.val ≤ c.val % 512 then ∑ l, k (ix3 0 x l) * q (ix2 c l) else ⊥) (withOnes fun e x => v (ix3 0 e x))
    (shown_diag Q K p 1 hp (fun x l => k (ix3 0 x l)) (fun c l => q (ix2 c l)) hq hk)
    (value_block Vt (512 * p) 1 (by omega) (fun e x => v (ix3 0 e x)) hv)
    (fun e c => diag_acc1 q m a k v e c) e c).trans (tot_all Q K Vt p hp 1 e c)

theorem head_out1 (L0 L1 : S2x64.Idx → EReal) (W : S1x512x512.Idx → EReal) (G : S1x128.Idx → EReal) (p : ℕ)
    (z : FVec Ideal S1x1 .f32) (a : FVec Ideal S144x1024 .f32) (g : FVec Ideal S1x128 .f32) (w : FVec Ideal S1x512x128 .bf16)
    (hz : z (ix2 0 0) = lam (fun i x => L0 (ix2 i x)) (fun i x => L1 (ix2 i x)))
    (ha : ∀ e c, a (ix2 e c) = tot (shown Q K p 1 c) (value Vt 1 e) 4096)
    (hg : ∀ l, g (ix2 0 l) = G (ix2 0 l))
    (hw : ∀ (r : Fin 512) (l : Fin 128) (hl : 128 * ((1 : Fin 4)).val + l.val < 512), w (ix3 0 r l) = W (ix3 0 r ⟨128 * ((1 : Fin 4)).val + l.val, hl⟩)) (r : Fin 512) (l : Fin 128) :
    (k0_pay79 z (k0_pay77 a) (k0_pay78 a) g w) (ix3 0 r l) = headOut Q K Vt L0 L1 W G p 1 r l := by
  refine (out1 z a g w r l).trans ?_
  unfold headOut
  rw [hz, hg l, hw r l (by have := l.isLt; show 128 * 1 + l.val < 512; omega), show (fun e c => a (ix2 e c)) = fun e c => tot (shown Q K p 1 c) (value Vt 1 e) 4096 from funext fun e => funext fun c => ha e c]

/-! ## Head 2 -/

theorem odd_seen2 (p n : ℕ) (hn : n + 512 ≤ 512 * p) (hp : p < 8) (ht : Tame Q K Vt p) (q : FVec Ideal S1024x128 .bf16) (hq : Queries Q 2 q)
    (m : FVec Ideal S1x1024 .f32) (a : FVec Ideal S144x1024 .f32) (h : Seen (shown Q K p 2) (value Vt 2) n m a)
    (k : FVec Ideal S1x512x128 .bf16) (v : FVec Ideal S1x128x512 .bf16)
    (hk : ∀ (x : Fin 512) (l : Fin 128) (hx : n + x.val < 4096) (hl : 128 * ((2 : Fin 4)).val + l.val < 512), k (ix3 0 x l) = K (ix3 0 ⟨n + x.val, hx⟩ ⟨128 * ((2 : Fin 4)).val + l.val, hl⟩))
    (hv : ∀ (e : Fin 128) (x : Fin 512) (hx : n + x.val < 4096) (hl : 128 * ((2 : Fin 4)).val + e.val < 512), v (ix3 0 e x) = Vt (ix3 0 ⟨128 * ((2 : Fin 4)).val + e.val, hl⟩ ⟨n + x.val, hx⟩)) :
    Seen (shown Q K p 2) (value Vt 2) (n + 512) (k0_pay40 m (k0_pay34 q k)) (k0_pay41 m a (k0_pay34 q k) v) :=
  Seen.step (ht.1 2) (ht.2 2) h (fun c x => ∑ l, k (ix3 0 x l) * q (ix2 c l)) (withOnes fun e x => v (ix3 0 e x))
    (shown_block Q K p n 2 hn hp (fun x l => k (ix3 0 x l)) (fun c l => q (ix2 c l)) hq hk)
    (value_block Vt n 2 (by omega) (fun e x => v (ix3 0 e x)) hv)
    (fun c => odd_max2 q m k c) (fun e c => odd_acc2 q m a k v e c)

theorem diag_seen2 (p : ℕ) (hp : p < 8) (ht : Tame Q K Vt p) (q : FVec Ideal S1024x128 .bf16) (hq : Queries Q 2 q)
    (m : FVec Ideal S1x1024 .f32) (a : FVec Ideal S144x1024 .f32) (h : Seen (shown Q K p 2) (value Vt 2) (512 * p) m a)
    (k : FVec Ideal S1x512x128 .bf16) (v : FVec Ideal S1x128x512 .bf16)
    (hk : ∀ (x : Fin 512) (l : Fin 128) (hx : 512 * p + x.val < 4096) (hl : 128 * ((2 : Fin 4)).val + l.val < 512), k (ix3 0 x l) = K (ix3 0 ⟨512 * p + x.val, hx⟩ ⟨128 * ((2 : Fin 4)).val + l.val, hl⟩))
    (hv : ∀ (e : Fin 128) (x : Fin 512) (hx : 512 * p + x.val < 4096) (hl : 128 * ((2 : Fin 4)).val + e.val < 512), v (ix3 0 e x) = Vt (ix3 0 ⟨128 * ((2 : Fin 4)).val + e.val, hl⟩ ⟨512 * p + x.val, hx⟩)) :
    ∀ (e : Fin 144) (c : Fin 1024), (k0_pay69 m a (k0_pay60 q k) v) (ix2 e c) = tot (shown Q K p 2 c) (value Vt 2 e) 4096 := fun e c =>
  (Seen.acc (ht.1 2) (ht.2 2) h (fun c x => if x.val ≤ c.val % 512 then ∑ l, k (ix3 0 x l) * q (ix2 c l) else ⊥) (withOnes fun e x => v (ix3 0 e x))
    (shown_diag Q K p 2 hp (fun x l => k (ix3 0 x l)) (fun c l => q (ix2 c l)) hq hk)
    (value_block Vt (512 * p) 2 (by omega) (fun e x => v (ix3 0 e x)) hv)
    (fun e c => diag_acc2 q m a k v e c) e c).trans (tot_all Q K Vt p hp 2 e c)

theorem head_out2 (L0 L1 : S2x64.Idx → EReal) (W : S1x512x512.Idx → EReal) (G : S1x128.Idx → EReal) (p : ℕ)
    (z : FVec Ideal S1x1 .f32) (a : FVec Ideal S144x1024 .f32) (g : FVec Ideal S1x128 .f32) (w : FVec Ideal S1x512x128 .bf16)
    (hz : z (ix2 0 0) = lam (fun i x => L0 (ix2 i x)) (fun i x => L1 (ix2 i x)))
    (ha : ∀ e c, a (ix2 e c) = tot (shown Q K p 2 c) (value Vt 2 e) 4096)
    (hg : ∀ l, g (ix2 0 l) = G (ix2 0 l))
    (hw : ∀ (r : Fin 512) (l : Fin 128) (hl : 128 * ((2 : Fin 4)).val + l.val < 512), w (ix3 0 r l) = W (ix3 0 r ⟨128 * ((2 : Fin 4)).val + l.val, hl⟩)) (r : Fin 512) (l : Fin 128) :
    (k0_pay82 (k0_pay80 z a) (k0_pay81 z a) (FloatOps.ofBits .f32 0x43000000#32) g w) (ix3 0 r l) = headOut Q K Vt L0 L1 W G p 2 r l := by
  refine (out2 z a g w r l).trans ?_
  unfold headOut
  rw [hz, hg l, hw r l (by have := l.isLt; show 128 * 2 + l.val < 512; omega), show (fun e c => a (ix2 e c)) = fun e c => tot (shown Q K p 2 c) (value Vt 2 e) 4096 from funext fun e => funext fun c => ha e c]

/-! ## Head 3 -/

theorem odd_seen3 (p n : ℕ) (hn : n + 512 ≤ 512 * p) (hp : p < 8) (ht : Tame Q K Vt p) (q : FVec Ideal S1024x128 .bf16) (hq : Queries Q 3 q)
    (m : FVec Ideal S1x1024 .f32) (a : FVec Ideal S144x1024 .f32) (h : Seen (shown Q K p 3) (value Vt 3) n m a)
    (k : FVec Ideal S1x512x128 .bf16) (v : FVec Ideal S1x128x512 .bf16)
    (hk : ∀ (x : Fin 512) (l : Fin 128) (hx : n + x.val < 4096) (hl : 128 * ((3 : Fin 4)).val + l.val < 512), k (ix3 0 x l) = K (ix3 0 ⟨n + x.val, hx⟩ ⟨128 * ((3 : Fin 4)).val + l.val, hl⟩))
    (hv : ∀ (e : Fin 128) (x : Fin 512) (hx : n + x.val < 4096) (hl : 128 * ((3 : Fin 4)).val + e.val < 512), v (ix3 0 e x) = Vt (ix3 0 ⟨128 * ((3 : Fin 4)).val + e.val, hl⟩ ⟨n + x.val, hx⟩)) :
    Seen (shown Q K p 3) (value Vt 3) (n + 512) (k0_pay43 m (k0_pay37 q k)) (k0_pay57 a (k0_pay42 v) (k0_pay44 m (k0_pay37 q k)) (k0_pay45 m (k0_pay37 q k))) :=
  Seen.step (ht.1 3) (ht.2 3) h (fun c x => ∑ l, k (ix3 0 x l) * q (ix2 c l)) (withOnes fun e x => v (ix3 0 e x))
    (shown_block Q K p n 3 hn hp (fun x l => k (ix3 0 x l)) (fun c l => q (ix2 c l)) hq hk)
    (value_block Vt n 3 (by omega) (fun e x => v (ix3 0 e x)) hv)
    (fun c => odd_max3 q m k c) (fun e c => odd_acc3 q m a k v e c)

theorem diag_seen3 (p : ℕ) (hp : p < 8) (ht : Tame Q K Vt p) (q : FVec Ideal S1024x128 .bf16) (hq : Queries Q 3 q)
    (m : FVec Ideal S1x1024 .f32) (a : FVec Ideal S144x1024 .f32) (h : Seen (shown Q K p 3) (value Vt 3) (512 * p) m a)
    (k : FVec Ideal S1x512x128 .bf16) (v : FVec Ideal S1x128x512 .bf16)
    (hk : ∀ (x : Fin 512) (l : Fin 128) (hx : 512 * p + x.val < 4096) (hl : 128 * ((3 : Fin 4)).val + l.val < 512), k (ix3 0 x l) = K (ix3 0 ⟨512 * p + x.val, hx⟩ ⟨128 * ((3 : Fin 4)).val + l.val, hl⟩))
    (hv : ∀ (e : Fin 128) (x : Fin 512) (hx : 512 * p + x.val < 4096) (hl : 128 * ((3 : Fin 4)).val + e.val < 512), v (ix3 0 e x) = Vt (ix3 0 ⟨128 * ((3 : Fin 4)).val + e.val, hl⟩ ⟨512 * p + x.val, hx⟩)) :
    ∀ (e : Fin 144) (c : Fin 1024), (k0_pay75 a (k0_pay70 v) (k0_pay73 m (k0_pay63 q k)) (k0_pay74 m (k0_pay63 q k))) (ix2 e c) = tot (shown Q K p 3 c) (value Vt 3 e) 4096 := fun e c =>
  (Seen.acc (ht.1 3) (ht.2 3) h (fun c x => if x.val ≤ c.val % 512 then ∑ l, k (ix3 0 x l) * q (ix2 c l) else ⊥) (withOnes fun e x => v (ix3 0 e x))
    (shown_diag Q K p 3 hp (fun x l => k (ix3 0 x l)) (fun c l => q (ix2 c l)) hq hk)
    (value_block Vt (512 * p) 3 (by omega) (fun e x => v (ix3 0 e x)) hv)
    (fun e c => diag_acc3 q m a k v e c) e c).trans (tot_all Q K Vt p hp 3 e c)

theorem head_out3 (L0 L1 : S2x64.Idx → EReal) (W : S1x512x512.Idx → EReal) (G : S1x128.Idx → EReal) (p : ℕ)
    (z : FVec Ideal S1x1 .f32) (a : FVec Ideal S144x1024 .f32) (g : FVec Ideal S1x128 .f32) (w : FVec Ideal S1x512x128 .bf16)
    (hz : z (ix2 0 0) = lam (fun i x => L0 (ix2 i x)) (fun i x => L1 (ix2 i x)))
    (ha : ∀ e c, a (ix2 e c) = tot (shown Q K p 3 c) (value Vt 3 e) 4096)
    (hg : ∀ l, g (ix2 0 l) = G (ix2 0 l))
    (hw : ∀ (r : Fin 512) (l : Fin 128) (hl : 128 * ((3 : Fin 4)).val + l.val < 512), w (ix3 0 r l) = W (ix3 0 r ⟨128 * ((3 : Fin 4)).val + l.val, hl⟩)) (r : Fin 512) (l : Fin 128) :
    (k0_pay1 (k0_pay83 z a) g w) (ix3 0 r l) = headOut Q K Vt L0 L1 W G p 3 r l := by
  refine (out3 z a g w r l).trans ?_
  unfold headOut
  rw [hz, hg l, hw r l (by have := l.isLt; show 128 * 3 + l.val < 512; omega), show (fun e c => a (ix2 e c)) = fun e c => tot (shown Q K p 3 c) (value Vt 3 e) 4096 from funext fun e => funext fun c => ha e c]

end Cert.KernelIdeal.Diff

end
-- ==== Proof.Diff.Written.lean ====
module

public import proofs.«01_k».proof.Proof.Diff.Ends
public import proofs.«01_k».proof.Proof.Diff.KernelIdealFrame

/-!
# The written block, and the loads that start at row zero

The block a query block writes as one array, and the loads of the queries, the gate and the gain.
-/

@[expose] public section

set_option maxRecDepth 16384

noncomputable section

namespace Cert.KernelIdeal.Diff

open Idealize.ShloMosaic Idealize.ShloMosaic.TcCoe
open Cert.KernelIdeal Cert.KernelIdeal.Gen Cert.Proof.Diff

/-- The whole block: head `y 2 / 128`, lane `y 2 % 128`. -/
def blockOut (L0 L1 : S2x64.Idx → EReal) (Q : S1x512x512.Idx → EReal) (K : S1x4096x512.Idx → EReal) (Vt : S1x512x4096.Idx → EReal)
    (W : S1x512x512.Idx → EReal) (G : S1x128.Idx → EReal) (p : ℕ) (y : S1x512x512.Idx) : EReal :=
  headOut Q K Vt L0 L1 W G p ⟨(y 2).val / 128, by have : (y 2).val < 512 := (y 2).isLt; omega⟩ (y 1) ⟨(y 2).val % 128, Nat.mod_lt _ (by decide)⟩

/-- The block at an index of head `h`. -/
theorem blockOut_at (L0 L1 : S2x64.Idx → EReal) (Q : S1x512x512.Idx → EReal) (K : S1x4096x512.Idx → EReal) (Vt : S1x512x4096.Idx → EReal)
    (W : S1x512x512.Idx → EReal) (G : S1x128.Idx → EReal) (p : ℕ) (y : S1x512x512.Idx) (h : Fin 4) (r : Fin 512) (l : Fin 128)
    (h1 : (y 1).val = 0 + r.val) (h2 : (y 2).val = 128 * h.val + l.val) : blockOut L0 L1 Q K Vt W G p y = headOut Q K Vt L0 L1 W G p h r l := by
  unfold blockOut
  have e1 : (⟨(y 2).val / 128, by have : (y 2).val < 512 := (y 2).isLt; omega⟩ : Fin 4) = h := Fin.ext (by show (y 2).val / 128 = h.val; omega)
  have e2 : (y 1 : Fin 512) = r := Fin.ext (by show (y 1).val = r.val; omega)
  have e3 : (⟨(y 2).val % 128, Nat.mod_lt _ (by decide)⟩ : Fin 128) = l := Fin.ext (by show (y 2).val % 128 = l.val; omega)
  rw [e1, e2, e3]

/-- A load of all rows of a block from lane `r` on. -/
theorem load3z {B C b c : ℕ} {e : EltTy} {sp : Space} {μ : Memref sig .tc sp ⟨3, ![1, B, C]⟩ e} (hμ : μ.IsWhole)
    (X : Shape.Idx ⟨3, ![1, B, C]⟩ → Elt Ideal e) (r : ℕ)
    (inb : ∀ t, (![0, 0, r] : Fin 3 → Nat) t + (![1, b, c] : Fin 3 → Nat) t ≤ (![1, B, C] : Fin 3 → Nat) t)
    (y : Fin b) (z : Fin c) (hy : y.val < B) (hr : r + z < C) :
    View.readAt (Elt Ideal) μ.view (Rect.unit (s := ⟨3, ![1, B, C]⟩) ![0, 0, r] ![1, b, c] inb).toLoadRect (hμ.unread X) (ix3 0 y z)
      = X (ix3 0 ⟨y, hy⟩ ⟨r + z, hr⟩) := by
  refine load_at hμ X _ _ inb _ _ fun t => ?_
  match t with | ⟨0, _⟩ => rfl | ⟨1, _⟩ => exact (Nat.zero_add _).symm | ⟨2, _⟩ => rfl

theorem ix3_all {B C : ℕ} (x : Shape.Idx ⟨3, ![1, B, C]⟩) : x = ix3 0 (x 1) (x 2) := by
  funext t
  match t with
  | ⟨0, _⟩ => exact Fin.ext (by have : (x 0).val < 1 := (x 0).isLt; show (x 0).val = 0; omega)
  | ⟨1, _⟩ => rfl
  | ⟨2, _⟩ => rfl

/-! The four heads' queries. -/

variable {arg5 : Memref sig .tc .vmem S1x512x512 .bf16} (harg5 : arg5.IsWhole) (Q : S1x512x512.Idx → EReal)

theorem query0 (inb : ∀ t, (![0, 0, 0] : Fin 3 → Nat) t + (![1, 512, 128] : Fin 3 → Nat) t ≤ S1x512x512.size t) :
    Queries Q 0 (k0_pay47 (View.readAt (Elt Ideal) arg5.view (Rect.unit (s := S1x512x512) ![0, 0, 0] ![1, 512, 128] inb).toLoadRect (harg5.unread Q))) := fun c l =>
  (lanes0 _ c l).trans (congrArg (fun q => lanes q c l) (funext fun r => funext fun l => load3z harg5 Q 0 inb r l r.isLt (by omega)))

theorem query1 (inb : ∀ t, (![0, 0, 128] : Fin 3 → Nat) t + (![1, 512, 128] : Fin 3 → Nat) t ≤ S1x512x512.size t) :
    Queries Q 1 (k0_pay48 (View.readAt (Elt Ideal) arg5.view (Rect.unit (s := S1x512x512) ![0, 0, 128] ![1, 512, 128] inb).toLoadRect (harg5.unread Q))) := fun c l =>
  (lanes1 _ c l).trans (congrArg (fun q => lanes q c l) (funext fun r => funext fun l => load3z harg5 Q 128 inb r l r.isLt (by omega)))

theorem query2 (inb : ∀ t, (![0, 0, 256] : Fin 3 → Nat) t + (![1, 512, 128] : Fin 3 → Nat) t ≤ S1x512x512.size t) :
    Queries Q 2 (k0_pay51 (iota .tc S512x128 32 [1] iota_S512x128_d1_w32) (k0_pay49 (View.readAt (Elt Ideal) arg5.view (Rect.unit (s := S1x512x512) ![0, 0, 256] ![1, 512, 128] inb).toLoadRect (harg5.unread Q))) k0_pay50) := fun c l =>
  (lanes2 _ c l).trans (congrArg (fun q => lanes q c l) (funext fun r => funext fun l => load3z harg5 Q 256 inb r l r.isLt (by omega)))

theorem query3 (inb : ∀ t, (![0, 0, 384] : Fin 3 → Nat) t + (![1, 512, 128] : Fin 3 → Nat) t ≤ S1x512x512.size t) :
    Queries Q 3 (k0_pay52 (iota .tc S512x128 32 [1] iota_S512x128_d1_w32) (View.readAt (Elt Ideal) arg5.view (Rect.unit (s := S1x512x512) ![0, 0, 384] ![1, 512, 128] inb).toLoadRect (harg5.unread Q))) := fun c l =>
  (lanes3 _ c l).trans (congrArg (fun q => lanes q c l) (funext fun r => funext fun l => load3z harg5 Q 384 inb r l r.isLt (by omega)))

end Cert.KernelIdeal.Diff

end
-- ==== Proof.Diff.EvenOut.lean ====
module

public import proofs.«01_k».proof.Proof.Diff.Written

/-!
# The block an even query block writes

The even run's four stores are `blockOut`.
-/

@[expose] public section

set_option maxRecDepth 16384

noncomputable section

namespace Cert.KernelIdeal.Diff

open Idealize.ShloMosaic Idealize.ShloMosaic.TcCoe
open Cert.KernelIdeal Cert.KernelIdeal.Gen Cert.Proof.Diff

variable (c : Dev nD) (i : grid0.Coords)
  (arg3 : Memref sig .tc .vmem S2x64 .f32) (harg3 : arg3.IsWhole) (arg4 : Memref sig .tc .vmem S2x64 .f32) (harg4 : arg4.IsWhole)
  (arg5 : Memref sig .tc .vmem S1x512x512 .bf16) (harg5 : arg5.IsWhole) (arg6 : Memref sig .tc .vmem S1x4096x512 .bf16) (harg6 : arg6.IsWhole)
  (arg7 : Memref sig .tc .vmem S1x512x4096 .bf16) (harg7 : arg7.IsWhole) (arg8 : Memref sig .tc .vmem S1x512x512 .bf16) (harg8 : arg8.IsWhole)
  (arg9 : Memref sig .tc .vmem S1x128 .f32) (harg9 : arg9.IsWhole) (arg10 : Memref sig .tc .vmem S1x512x512 .bf16) (harg10 : arg10.IsWhole)
  (x0 x1 : S2x64.Idx → EReal) (x2 : S1x512x512.Idx → EReal) (x3 : S1x4096x512.Idx → EReal) (x4 : S1x512x4096.Idx → EReal)
  (x5 : S1x512x512.Idx → EReal) (x6 : S1x128.Idx → EReal)

/-- The state after the loops of the even run. -/
theorem even_loops (hc : ¬ k0_cond1 i = 1#1) (ht : Tame x2 x3 x4 (i 2).val) :
    AllSeen x2 x3 x4 (i 2).val (1024 * ((i 2).val / 2)) (evenRun.sl.r_6 (F := Ideal) c i arg3 harg3 arg4 harg4 arg5 harg5 arg6 harg6 arg7 harg7 arg8 harg8 arg9 harg9 arg10 harg10 x2 x3 x4, evenRun.sl.r_7 (F := Ideal) c i arg3 harg3 arg4 harg4 arg5 harg5 arg6 harg6 arg7 harg7 arg8 harg8 arg9 harg9 arg10 harg10 x2 x3 x4, evenRun.sl.r_8 (F := Ideal) c i arg3 harg3 arg4 harg4 arg5 harg5 arg6 harg6 arg7 harg7 arg8 harg8 arg9 harg9 arg10 harg10 x2 x3 x4, evenRun.sl.r_9 (F := Ideal) c i arg3 harg3 arg4 harg4 arg5 harg5 arg6 harg6 arg7 harg7 arg8 harg8 arg9 harg9 arg10 harg10 x2 x3 x4, evenRun.sl.r_10 (F := Ideal) c i arg3 harg3 arg4 harg4 arg5 harg5 arg6 harg6 arg7 harg7 arg8 harg8 arg9 harg9 arg10 harg10 x2 x3 x4, evenRun.sl.r_11 (F := Ideal) c i arg3 harg3 arg4 harg4 arg5 harg5 arg6 harg6 arg7 harg7 arg8 harg8 arg9 harg9 arg10 harg10 x2 x3 x4, evenRun.sl.r_12 (F := Ideal) c i arg3 harg3 arg4 harg4 arg5 harg5 arg6 harg6 arg7 harg7 arg8 harg8 arg9 harg9 arg10 harg10 x2 x3 x4, evenRun.sl.r_13 (F := Ideal) c i arg3 harg3 arg4 harg4 arg5 harg5 arg6 harg6 arg7 harg7 arg8 harg8 arg9 harg9 arg10 harg10 x2 x3 x4) :=
  by
  have q0 : Queries x2 0 (evenRun.sl.r_1 (F := Ideal) c arg5 harg5 x2) := query0 harg5 x2 _
  have q1 : Queries x2 1 (evenRun.sl.r_2 (F := Ideal) c arg5 harg5 x2) := query1 harg5 x2 _
  have q2 : Queries x2 2 (evenRun.sl.r_4 (F := Ideal) c arg5 harg5 x2) := query2 harg5 x2 _
  have q3 : Queries x2 3 (evenRun.sl.r_5 (F := Ideal) c arg5 harg5 x2) := query3 harg5 x2 _
  have e2 : Scf.trips (k0_t2_loop i).lb (k0_t2_loop i).ub (k0_t2_loop i).st = 0 := t2_trips i
  have e1 : Scf.trips (k0_t1_loop i).lb (k0_t1_loop i).ub (k0_t1_loop i).st = (i 2).val / 2 := t1_trips i
  have h := loop_seen x2 x3 x4 c i arg3 harg3 arg4 harg4 arg5 harg5 arg6 harg6 arg7 harg7 arg8 harg8 arg9 harg9 arg10 harg10 (BitVec.ofNat 32 (i 2).val) (evenRun.sl.r_1 (F := Ideal) c arg5 harg5 x2) (evenRun.sl.r_2 (F := Ideal) c arg5 harg5 x2) (evenRun.sl.r_4 (F := Ideal) c arg5 harg5 x2) (evenRun.sl.r_5 (F := Ideal) c arg5 harg5 x2)
    k0_pay53 k0_pay54 0#32 (evenRun.sl.v75 i) q0 q1 q2 q3 ht _ (init_seen x2 x3 x4 (i 2).val) ((i 2).val / 2) (t1_trips i).ge
  unfold evenRun.sl.r_6 evenRun.sl.r_7 evenRun.sl.r_8 evenRun.sl.r_9 evenRun.sl.r_10 evenRun.sl.r_11 evenRun.sl.r_12 evenRun.sl.r_13
  rw [e2, st_k0_t2_zero, e1]
  exact h

set_option maxHeartbeats 1000000 in
theorem evenOut_eq (hc : ¬ k0_cond1 i = 1#1) (ht : Tame x2 x3 x4 (i 2).val) :
    evenOut (F := Ideal) c i hc arg3 harg3 arg4 harg4 arg5 harg5 arg6 harg6 arg7 harg7 arg8 harg8 arg9 harg9 arg10 harg10 x0 x1 x2 x3 x4 x5 x6 = blockOut x0 x1 x2 x3 x4 x5 x6 (i 2).val := by
  have hp := i2_lt i
  have hl := even_loops c i arg3 harg3 arg4 harg4 arg5 harg5 arg6 harg6 arg7 harg7 arg8 harg8 arg9 harg9 arg10 harg10 x2 x3 x4 hc ht
  have e : 1024 * ((i 2).val / 2) = 512 * (i 2).val := by
    have := mt (cond_iff i).2 hc
    omega
  rw [e] at hl
  funext y
  unfold evenOut evenRun
  dsimp only
  rw [View.read_writes_junk_apply_eq_canon]
  refine View.canon_eq_of_allAt _ _ _ (View.cover_of_tiled_head _ _ _ (by rfl) _) ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  · intro x hx
    rw [blockOut_at _ _ _ _ _ _ _ _ y 3 (x 1) (x 2) (hx 1) (hx 2), ix3_all x]
    exact head_out3 x2 x3 x4 x0 x1 x5 x6 (i 2).val _ _ _ _
      ((lam_apply _ _).trans (congrArg₂ lam (funext fun a => funext fun b => load2 harg3 x0 _ a b) (funext fun a => funext fun b => load2 harg4 x1 _ a b)))
      (diag_seen3 x2 x3 x4 (i 2).val hp ht _ (query3 harg5 x2 _) _ _ hl.2.2.2 _ _
        (fun x l hx hl => load3 harg6 x3 _ _ 0 (512 * (i 2).val) (128 * ((3 : Fin 4)).val) (off29 i) 0 x l (by decide) hx hl)
        (fun e x hx hl => load3 harg7 x4 _ _ 0 (128 * ((3 : Fin 4)).val) (512 * (i 2).val) (off32 i) 0 e x (by decide) hl hx))
      (fun l => load2 harg9 x6 _ 0 l)
      (fun r l hl => load3z harg8 x5 384 _ r l r.isLt hl) (x 1) (x 2)
  · intro x hx
    rw [blockOut_at _ _ _ _ _ _ _ _ y 2 (x 1) (x 2) (hx 1) (hx 2), ix3_all x]
    exact head_out2 x2 x3 x4 x0 x1 x5 x6 (i 2).val _ _ _ _
      ((lam_apply _ _).trans (congrArg₂ lam (funext fun a => funext fun b => load2 harg3 x0 _ a b) (funext fun a => funext fun b => load2 harg4 x1 _ a b)))
      (diag_seen2 x2 x3 x4 (i 2).val hp ht _ (query2 harg5 x2 _) _ _ hl.2.2.1 _ _
        (fun x l hx hl => load3 harg6 x3 _ _ 0 (512 * (i 2).val) (128 * ((2 : Fin 4)).val) (off27 i) 0 x l (by decide) hx hl)
        (fun e x hx hl => load3 harg7 x4 _ _ 0 (128 * ((2 : Fin 4)).val) (512 * (i 2).val) (off31 i) 0 e x (by decide) hl hx))
      (fun l => load2 harg9 x6 _ 0 l)
      (fun r l hl => load3z harg8 x5 256 _ r l r.isLt hl) (x 1) (x 2)
  · intro x hx
    rw [blockOut_at _ _ _ _ _ _ _ _ y 1 (x 1) (x 2) (hx 1) (hx 2), ix3_all x]
    exact head_out1 x2 x3 x4 x0 x1 x5 x6 (i 2).val _ _ _ _
      ((lam_apply _ _).trans (congrArg₂ lam (funext fun a => funext fun b => load2 harg3 x0 _ a b) (funext fun a => funext fun b => load2 harg4 x1 _ a b)))
      (diag_seen1 x2 x3 x4 (i 2).val hp ht _ (query1 harg5 x2 _) _ _ hl.2.1 _ _
        (fun x l hx hl => load3 harg6 x3 _ _ 0 (512 * (i 2).val) (128 * ((1 : Fin 4)).val) (off26 i) 0 x l (by decide) hx hl)
        (fun e x hx hl => load3 harg7 x4 _ _ 0 (128 * ((1 : Fin 4)).val) (512 * (i 2).val) (off30 i) 0 e x (by decide) hl hx))
      (fun l => load2 harg9 x6 _ 0 l)
      (fun r l hl => load3z harg8 x5 128 _ r l r.isLt hl) (x 1) (x 2)
  · intro x hx
    rw [blockOut_at _ _ _ _ _ _ _ _ y 0 (x 1) (x 2) (hx 1) (hx 2), ix3_all x]
    exact head_out0 x2 x3 x4 x0 x1 x5 x6 (i 2).val _ _ _ _
      ((lam_apply _ _).trans (congrArg₂ lam (funext fun a => funext fun b => load2 harg3 x0 _ a b) (funext fun a => funext fun b => load2 harg4 x1 _ a b)))
      (diag_seen0 x2 x3 x4 (i 2).val hp ht _ (query0 harg5 x2 _) _ _ hl.1 _ _
        (fun x l hx hl => load3 harg6 x3 _ _ 0 (512 * (i 2).val) (128 * ((0 : Fin 4)).val) (off25 i) 0 x l (by decide) hx hl)
        (fun e x hx hl => load3 harg7 x4 _ _ 0 (128 * ((0 : Fin 4)).val) (512 * (i 2).val) (off28 i) 0 e x (by decide) hl hx))
      (fun l => load2 harg9 x6 _ 0 l)
      (fun r l hl => load3z harg8 x5 0 _ r l r.isLt hl) (x 1) (x 2)

end Cert.KernelIdeal.Diff

end
-- ==== Proof.Diff.OddOut.lean ====
module

public import proofs.«01_k».proof.Proof.Diff.Written

/-!
# The block an odd query block writes

The odd run steps over one more block of 512 keys before the diagonal one; its four stores are `blockOut`.
-/

@[expose] public section

set_option maxRecDepth 16384

noncomputable section

namespace Cert.KernelIdeal.Diff

open Idealize.ShloMosaic Idealize.ShloMosaic.TcCoe
open Cert.KernelIdeal Cert.KernelIdeal.Gen Cert.Proof.Diff

variable (c : Dev nD) (i : grid0.Coords)
  (arg3 : Memref sig .tc .vmem S2x64 .f32) (harg3 : arg3.IsWhole) (arg4 : Memref sig .tc .vmem S2x64 .f32) (harg4 : arg4.IsWhole)
  (arg5 : Memref sig .tc .vmem S1x512x512 .bf16) (harg5 : arg5.IsWhole) (arg6 : Memref sig .tc .vmem S1x4096x512 .bf16) (harg6 : arg6.IsWhole)
  (arg7 : Memref sig .tc .vmem S1x512x4096 .bf16) (harg7 : arg7.IsWhole) (arg8 : Memref sig .tc .vmem S1x512x512 .bf16) (harg8 : arg8.IsWhole)
  (arg9 : Memref sig .tc .vmem S1x128 .f32) (harg9 : arg9.IsWhole) (arg10 : Memref sig .tc .vmem S1x512x512 .bf16) (harg10 : arg10.IsWhole)
  (x0 x1 : S2x64.Idx → EReal) (x2 : S1x512x512.Idx → EReal) (x3 : S1x4096x512.Idx → EReal) (x4 : S1x512x4096.Idx → EReal)
  (x5 : S1x512x512.Idx → EReal) (x6 : S1x128.Idx → EReal)

set_option maxHeartbeats 1000000 in
/-- The state before the diagonal block of the odd run. -/
theorem odd_loops (hc : k0_cond1 i = 1#1) (ht : Tame x2 x3 x4 (i 2).val) :
    AllSeen x2 x3 x4 (i 2).val (512 * (i 2).val) (oddRun.sl.r_8 (F := Ideal) c i hc arg3 harg3 arg4 harg4 arg5 harg5 arg6 harg6 arg7 harg7 arg8 harg8 arg9 harg9 arg10 harg10 x2 x3 x4, oddRun.sl.r_9 (F := Ideal) c i hc arg3 harg3 arg4 harg4 arg5 harg5 arg6 harg6 arg7 harg7 arg8 harg8 arg9 harg9 arg10 harg10 x2 x3 x4, oddRun.sl.r_12 (F := Ideal) c i hc arg3 harg3 arg4 harg4 arg5 harg5 arg6 harg6 arg7 harg7 arg8 harg8 arg9 harg9 arg10 harg10 x2 x3 x4, oddRun.sl.r_13 (F := Ideal) c i hc arg3 harg3 arg4 harg4 arg5 harg5 arg6 harg6 arg7 harg7 arg8 harg8 arg9 harg9 arg10 harg10 x2 x3 x4, oddRun.sl.r_14 (F := Ideal) c i hc arg3 harg3 arg4 harg4 arg5 harg5 arg6 harg6 arg7 harg7 arg8 harg8 arg9 harg9 arg10 harg10 x2 x3 x4, oddRun.sl.r_15 (F := Ideal) c i hc arg3 harg3 arg4 harg4 arg5 harg5 arg6 harg6 arg7 harg7 arg8 harg8 arg9 harg9 arg10 harg10 x2 x3 x4, oddRun.sl.r_17 (F := Ideal) c i hc arg3 harg3 arg4 harg4 arg5 harg5 arg6 harg6 arg7 harg7 arg8 harg8 arg9 harg9 arg10 harg10 x2 x3 x4, oddRun.sl.r_20 (F := Ideal) c i hc arg3 harg3 arg4 harg4 arg5 harg5 arg6 harg6 arg7 harg7 arg8 harg8 arg9 harg9 arg10 harg10 x2 x3 x4) := by
  have q0 : Queries x2 0 (oddRun.sl.r_1 (F := Ideal) c arg5 harg5 x2) := query0 harg5 x2 _
  have q1 : Queries x2 1 (oddRun.sl.r_2 (F := Ideal) c arg5 harg5 x2) := query1 harg5 x2 _
  have q2 : Queries x2 2 (oddRun.sl.r_4 (F := Ideal) c arg5 harg5 x2) := query2 harg5 x2 _
  have q3 : Queries x2 3 (oddRun.sl.r_5 (F := Ideal) c arg5 harg5 x2) := query3 harg5 x2 _
  have hp := i2_lt i
  have ho := (cond_iff i).1 hc
  have e2 : Scf.trips (k0_t2_loop i).lb (k0_t2_loop i).ub (k0_t2_loop i).st = 0 := t2_trips i
  have e1 : Scf.trips (k0_t1_loop i).lb (k0_t1_loop i).ub (k0_t1_loop i).st = (i 2).val / 2 := t1_trips i
  have h := loop_seen x2 x3 x4 c i arg3 harg3 arg4 harg4 arg5 harg5 arg6 harg6 arg7 harg7 arg8 harg8 arg9 harg9 arg10 harg10 (BitVec.ofNat 32 (i 2).val) (oddRun.sl.r_1 (F := Ideal) c arg5 harg5 x2) (oddRun.sl.r_2 (F := Ideal) c arg5 harg5 x2) (oddRun.sl.r_4 (F := Ideal) c arg5 harg5 x2) (oddRun.sl.r_5 (F := Ideal) c arg5 harg5 x2)
    k0_pay53 k0_pay54 0#32 (oddRun.sl.v75 i) q0 q1 q2 q3 ht _ (init_seen x2 x3 x4 (i 2).val) ((i 2).val / 2) (t1_trips i).ge
  rw [show 1024 * ((i 2).val / 2) = 512 * ((i 2).val - 1) by omega] at h
  have hn : 512 * ((i 2).val - 1) + 512 ≤ 512 * (i 2).val := by omega
  rw [show 512 * (i 2).val = 512 * ((i 2).val - 1) + 512 by omega]
  unfold oddRun.sl.r_8 oddRun.sl.r_9 oddRun.sl.r_12 oddRun.sl.r_13 oddRun.sl.r_14 oddRun.sl.r_15 oddRun.sl.r_20 oddRun.sl.r_17 oddRun.sl.r_18 oddRun.sl.r_19
  rw [e2, st_k0_t2_zero, e1]
  dsimp only [AllSeen]
  refine ⟨?_, ?_, ?_, ?_⟩
  · exact odd_seen0 x2 x3 x4 (i 2).val (512 * ((i 2).val - 1)) hn hp ht _ q0 _ _ h.1 _ _
      (fun x l hx hl => load3 harg6 x3 _ _ 0 (512 * ((i 2).val - 1)) (128 * ((0 : Fin 4)).val) (off17 i ho) 0 x l (by decide) hx hl)
      (fun e x hx hl => load3 harg7 x4 _ _ 0 (128 * ((0 : Fin 4)).val) (512 * ((i 2).val - 1)) (off20 i ho) 0 e x (by decide) hl hx)
  · exact odd_seen1 x2 x3 x4 (i 2).val (512 * ((i 2).val - 1)) hn hp ht _ q1 _ _ h.2.1 _ _
      (fun x l hx hl => load3 harg6 x3 _ _ 0 (512 * ((i 2).val - 1)) (128 * ((1 : Fin 4)).val) (off18 i ho) 0 x l (by decide) hx hl)
      (fun e x hx hl => load3 harg7 x4 _ _ 0 (128 * ((1 : Fin 4)).val) (512 * ((i 2).val - 1)) (off22 i ho) 0 e x (by decide) hl hx)
  · exact odd_seen2 x2 x3 x4 (i 2).val (512 * ((i 2).val - 1)) hn hp ht _ q2 _ _ h.2.2.1 _ _
      (fun x l hx hl => load3 harg6 x3 _ _ 0 (512 * ((i 2).val - 1)) (128 * ((2 : Fin 4)).val) (off19 i ho) 0 x l (by decide) hx hl)
      (fun e x hx hl => load3 harg7 x4 _ _ 0 (128 * ((2 : Fin 4)).val) (512 * ((i 2).val - 1)) (off23 i ho) 0 e x (by decide) hl hx)
  · exact odd_seen3 x2 x3 x4 (i 2).val (512 * ((i 2).val - 1)) hn hp ht _ q3 _ _ h.2.2.2 _ _
      (fun x l hx hl => load3 harg6 x3 _ _ 0 (512 * ((i 2).val - 1)) (128 * ((3 : Fin 4)).val) (off21 i ho) 0 x l (by decide) hx hl)
      (fun e x hx hl => load3 harg7 x4 _ _ 0 (128 * ((3 : Fin 4)).val) (512 * ((i 2).val - 1)) (off24 i ho) 0 e x (by decide) hl hx)

set_option maxHeartbeats 1000000 in
theorem oddOut_eq (hc : k0_cond1 i = 1#1) (ht : Tame x2 x3 x4 (i 2).val) :
    oddOut (F := Ideal) c i hc arg3 harg3 arg4 harg4 arg5 harg5 arg6 harg6 arg7 harg7 arg8 harg8 arg9 harg9 arg10 harg10 x0 x1 x2 x3 x4 x5 x6 = blockOut x0 x1 x2 x3 x4 x5 x6 (i 2).val := by
  have hp := i2_lt i
  have hl := odd_loops c i arg3 harg3 arg4 harg4 arg5 harg5 arg6 harg6 arg7 harg7 arg8 harg8 arg9 harg9 arg10 harg10 x2 x3 x4 hc ht
  funext y
  unfold oddOut oddRun
  dsimp only
  rw [View.read_writes_junk_apply_eq_canon]
  refine View.canon_eq_of_allAt _ _ _ (View.cover_of_tiled_head _ _ _ (by rfl) _) ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  · intro x hx
    rw [blockOut_at _ _ _ _ _ _ _ _ y 3 (x 1) (x 2) (hx 1) (hx 2), ix3_all x]
    exact head_out3 x2 x3 x4 x0 x1 x5 x6 (i 2).val _ _ _ _
      ((lam_apply _ _).trans (congrArg₂ lam (funext fun a => funext fun b => load2 harg3 x0 _ a b) (funext fun a => funext fun b => load2 harg4 x1 _ a b)))
      (diag_seen3 x2 x3 x4 (i 2).val hp ht _ (query3 harg5 x2 _) _ _ hl.2.2.2 _ _
        (fun x l hx hl => load3 harg6 x3 _ _ 0 (512 * (i 2).val) (128 * ((3 : Fin 4)).val) (off29 i) 0 x l (by decide) hx hl)
        (fun e x hx hl => load3 harg7 x4 _ _ 0 (128 * ((3 : Fin 4)).val) (512 * (i 2).val) (off32 i) 0 e x (by decide) hl hx))
      (fun l => load2 harg9 x6 _ 0 l)
      (fun r l hl => load3z harg8 x5 384 _ r l r.isLt hl) (x 1) (x 2)
  · intro x hx
    rw [blockOut_at _ _ _ _ _ _ _ _ y 2 (x 1) (x 2) (hx 1) (hx 2), ix3_all x]
    exact head_out2 x2 x3 x4 x0 x1 x5 x6 (i 2).val _ _ _ _
      ((lam_apply _ _).trans (congrArg₂ lam (funext fun a => funext fun b => load2 harg3 x0 _ a b) (funext fun a => funext fun b => load2 harg4 x1 _ a b)))
      (diag_seen2 x2 x3 x4 (i 2).val hp ht _ (query2 harg5 x2 _) _ _ hl.2.2.1 _ _
        (fun x l hx hl => load3 harg6 x3 _ _ 0 (512 * (i 2).val) (128 * ((2 : Fin 4)).val) (off27 i) 0 x l (by decide) hx hl)
        (fun e x hx hl => load3 harg7 x4 _ _ 0 (128 * ((2 : Fin 4)).val) (512 * (i 2).val) (off31 i) 0 e x (by decide) hl hx))
      (fun l => load2 harg9 x6 _ 0 l)
      (fun r l hl => load3z harg8 x5 256 _ r l r.isLt hl) (x 1) (x 2)
  · intro x hx
    rw [blockOut_at _ _ _ _ _ _ _ _ y 1 (x 1) (x 2) (hx 1) (hx 2), ix3_all x]
    exact head_out1 x2 x3 x4 x0 x1 x5 x6 (i 2).val _ _ _ _
      ((lam_apply _ _).trans (congrArg₂ lam (funext fun a => funext fun b => load2 harg3 x0 _ a b) (funext fun a => funext fun b => load2 harg4 x1 _ a b)))
      (diag_seen1 x2 x3 x4 (i 2).val hp ht _ (query1 harg5 x2 _) _ _ hl.2.1 _ _
        (fun x l hx hl => load3 harg6 x3 _ _ 0 (512 * (i 2).val) (128 * ((1 : Fin 4)).val) (off26 i) 0 x l (by decide) hx hl)
        (fun e x hx hl => load3 harg7 x4 _ _ 0 (128 * ((1 : Fin 4)).val) (512 * (i 2).val) (off30 i) 0 e x (by decide) hl hx))
      (fun l => load2 harg9 x6 _ 0 l)
      (fun r l hl => load3z harg8 x5 128 _ r l r.isLt hl) (x 1) (x 2)
  · intro x hx
    rw [blockOut_at _ _ _ _ _ _ _ _ y 0 (x 1) (x 2) (hx 1) (hx 2), ix3_all x]
    exact head_out0 x2 x3 x4 x0 x1 x5 x6 (i 2).val _ _ _ _
      ((lam_apply _ _).trans (congrArg₂ lam (funext fun a => funext fun b => load2 harg3 x0 _ a b) (funext fun a => funext fun b => load2 harg4 x1 _ a b)))
      (diag_seen0 x2 x3 x4 (i 2).val hp ht _ (query0 harg5 x2 _) _ _ hl.1 _ _
        (fun x l hx hl => load3 harg6 x3 _ _ 0 (512 * (i 2).val) (128 * ((0 : Fin 4)).val) (off25 i) 0 x l (by decide) hx hl)
        (fun e x hx hl => load3 harg7 x4 _ _ 0 (128 * ((0 : Fin 4)).val) (512 * (i 2).val) (off28 i) 0 e x (by decide) hl hx))
      (fun l => load2 harg9 x6 _ 0 l)
      (fun r l hl => load3z harg8 x5 0 _ r l r.isLt hl) (x 1) (x 2)

end Cert.KernelIdeal.Diff

end
-- ==== Proof.Diff.Array.lean ====
module

public import proofs.«01_k».proof.Proof.Diff.EvenOut
public import proofs.«01_k».proof.Proof.Diff.OddOut
public import Idealize.ShloMosaic.Lib.Pipeline.Value

/-!
# The differential attention's output array

Grid point `8 b + p` holds query block `p` of batch `b`, with all keys and values of the batch; it writes the same rows
of the output. So the array after the run is one formula of the arguments at every index.
-/

@[expose] public section

set_option maxRecDepth 16384

noncomputable section

namespace Cert.KernelIdeal.Diff

open Idealize.ShloMosaic Idealize.ShloMosaic.TcCoe
open Cert.KernelIdeal Cert.KernelIdeal.Gen Cert.Proof.Diff Idealize.SL.Sem
open Idealize.ShloMosaic.Pipeline (Dat)

/-- Query block `p` of batch `b`. -/
def rows (X : S8x4096x512.Idx → EReal) (b p : Fin 8) : S1x512x512.Idx → EReal := fun z =>
  X (ix3 b ⟨512 * p.val + (z 1).val, by have : (z 1).val < 512 := (z 1).isLt; omega⟩ (z 2))

/-- Batch `b`. -/
def batch (X : S8x4096x512.Idx → EReal) (b : Fin 8) : S1x4096x512.Idx → EReal := fun z => X (ix3 b (z 1) (z 2))

/-- Batch `b` of the transposed values. -/
def batchT (X : S8x512x4096.Idx → EReal) (b : Fin 8) : S1x512x4096.Idx → EReal := fun z => X (ix3 b (z 1) (z 2))

/-- The call's result at batch `b`, query `512 p + r`, column `j`. -/
def result (L0 L1 : S2x64.Idx → EReal) (Q K : S8x4096x512.Idx → EReal) (Vt : S8x512x4096.Idx → EReal) (W : S8x4096x512.Idx → EReal) (G : S1x128.Idx → EReal)
    (b p : Fin 8) (r j : Fin 512) : EReal :=
  blockOut L0 L1 (rows Q b p) (batch K b) (batchT Vt b) (rows W b p) G p.val (ix3 0 r j)

/-- Where the windows sit at a point. -/
theorem idx_facts : ∀ t : Fin cfg0.N,
    (win0_2.index t (0 : Fin 3) = t.val / 8 ∧ win0_2.index t (1 : Fin 3) = t.val % 8 ∧ win0_2.index t (2 : Fin 3) = 0)
    ∧ (win0_3.index t (0 : Fin 3) = t.val / 8 ∧ win0_3.index t (1 : Fin 3) = 0 ∧ win0_3.index t (2 : Fin 3) = 0)
    ∧ (win0_4.index t (0 : Fin 3) = t.val / 8 ∧ win0_4.index t (1 : Fin 3) = 0 ∧ win0_4.index t (2 : Fin 3) = 0)
    ∧ (win0_5.index t (0 : Fin 3) = t.val / 8 ∧ win0_5.index t (1 : Fin 3) = t.val % 8 ∧ win0_5.index t (2 : Fin 3) = 0)
    ∧ (win0_7.index t (0 : Fin 3) = t.val / 8 ∧ win0_7.index t (1 : Fin 3) = t.val % 8 ∧ win0_7.index t (2 : Fin 3) = 0)
    ∧ (win0_0.index t (0 : Fin 2) = 0 ∧ win0_0.index t (1 : Fin 2) = 0)
    ∧ (win0_1.index t (0 : Fin 2) = 0 ∧ win0_1.index t (1 : Fin 2) = 0)
    ∧ (win0_6.index t (0 : Fin 2) = 0 ∧ win0_6.index t (1 : Fin 2) = 0)
    ∧ (grid0.coords t 2).val = t.val % 8 :=
  (by decide +kernel : ∀ t : Fin grid0.N, _)

theorem lt64 (t : Fin cfg0.N) : t.val < 64 := t.isLt

/-- The batch and the query block of a point. -/
def bOf (t : Fin cfg0.N) : Fin 8 := ⟨t.val / 8, by have := lt64 t; omega⟩
def pOf (t : Fin cfg0.N) : Fin 8 := ⟨t.val % 8, by omega⟩

variable (m : (ℓ : Loc nD τ sig) → Buf (Elt Ideal) ℓ) (ρ : Dev nD → PrngReg)

theorem blk0_eq (c : Dev nD) (t : Fin cfg0.N) :
    (show S2x64.Idx → EReal from iblk m c 0 t) = (show S2x64.Idx → EReal from m ((c : Thread nD τ).loc main_arg0)) := by
  obtain ⟨⟨a20, a21, a22⟩, ⟨a30, a31, a32⟩, ⟨a40, a41, a42⟩, ⟨a50, a51, a52⟩, ⟨a70, a71, a72⟩, ⟨a00, a01⟩, ⟨a10, a11⟩, ⟨a60, a61⟩, hc⟩ := idx_facts t
  funext z
  show V m c main_arg0 (((cfg0.win 0).blk t).view.emb z) = V m c main_arg0 z
  refine congrArg _ (funext fun a => Fin.ext ?_)
  match a with
  | ⟨0, _⟩ => show win0_0.index t (0 : Fin 2) * 2 + 1 * (z 0).val = (z 0).val; omega
  | ⟨1, _⟩ => show win0_0.index t (1 : Fin 2) * 64 + 1 * (z 1).val = (z 1).val; omega

theorem blk1_eq (c : Dev nD) (t : Fin cfg0.N) :
    (show S2x64.Idx → EReal from iblk m c 1 t) = (show S2x64.Idx → EReal from m ((c : Thread nD τ).loc main_arg1)) := by
  obtain ⟨⟨a20, a21, a22⟩, ⟨a30, a31, a32⟩, ⟨a40, a41, a42⟩, ⟨a50, a51, a52⟩, ⟨a70, a71, a72⟩, ⟨a00, a01⟩, ⟨a10, a11⟩, ⟨a60, a61⟩, hc⟩ := idx_facts t
  funext z
  show V m c main_arg1 (((cfg0.win 1).blk t).view.emb z) = V m c main_arg1 z
  refine congrArg _ (funext fun a => Fin.ext ?_)
  match a with
  | ⟨0, _⟩ => show win0_1.index t (0 : Fin 2) * 2 + 1 * (z 0).val = (z 0).val; omega
  | ⟨1, _⟩ => show win0_1.index t (1 : Fin 2) * 64 + 1 * (z 1).val = (z 1).val; omega

theorem blk6_eq (c : Dev nD) (t : Fin cfg0.N) :
    (show S1x128.Idx → EReal from iblk m c 6 t) = (show S1x128.Idx → EReal from m ((c : Thread nD τ).loc main_arg6)) := by
  obtain ⟨⟨a20, a21, a22⟩, ⟨a30, a31, a32⟩, ⟨a40, a41, a42⟩, ⟨a50, a51, a52⟩, ⟨a70, a71, a72⟩, ⟨a00, a01⟩, ⟨a10, a11⟩, ⟨a60, a61⟩, hc⟩ := idx_facts t
  funext z
  show V m c main_arg6 (((cfg0.win 6).blk t).view.emb z) = V m c main_arg6 z
  refine congrArg _ (funext fun a => Fin.ext ?_)
  match a with
  | ⟨0, _⟩ => show win0_6.index t (0 : Fin 2) * 1 + 1 * (z 0).val = (z 0).val; omega
  | ⟨1, _⟩ => show win0_6.index t (1 : Fin 2) * 128 + 1 * (z 1).val = (z 1).val; omega

theorem blk2_eq (c : Dev nD) (t : Fin cfg0.N) :
    (show S1x512x512.Idx → EReal from iblk m c 2 t) = rows (show S8x4096x512.Idx → EReal from m ((c : Thread nD τ).loc main_arg2)) (bOf t) (pOf t) := by
  obtain ⟨⟨a20, a21, a22⟩, ⟨a30, a31, a32⟩, ⟨a40, a41, a42⟩, ⟨a50, a51, a52⟩, ⟨a70, a71, a72⟩, ⟨a00, a01⟩, ⟨a10, a11⟩, ⟨a60, a61⟩, hc⟩ := idx_facts t
  funext z
  show V m c main_arg2 (((cfg0.win 2).blk t).view.emb z) = V m c main_arg2 (ix3 (bOf t) ⟨512 * (pOf t).val + (z 1).val, _⟩ (z 2))
  refine congrArg _ (funext fun a => Fin.ext ?_)
  match a with
  | ⟨0, _⟩ => show win0_2.index t (0 : Fin 3) * 1 + 1 * (z 0).val = t.val / 8; have : (z 0).val < 1 := (z 0).isLt; omega
  | ⟨1, _⟩ => show win0_2.index t (1 : Fin 3) * 512 + 1 * (z 1).val = 512 * (t.val % 8) + (z 1).val; omega
  | ⟨2, _⟩ => show win0_2.index t (2 : Fin 3) * 512 + 1 * (z 2).val = (z 2).val; omega

theorem blk5_eq (c : Dev nD) (t : Fin cfg0.N) :
    (show S1x512x512.Idx → EReal from iblk m c 5 t) = rows (show S8x4096x512.Idx → EReal from m ((c : Thread nD τ).loc main_arg5)) (bOf t) (pOf t) := by
  obtain ⟨⟨a20, a21, a22⟩, ⟨a30, a31, a32⟩, ⟨a40, a41, a42⟩, ⟨a50, a51, a52⟩, ⟨a70, a71, a72⟩, ⟨a00, a01⟩, ⟨a10, a11⟩, ⟨a60, a61⟩, hc⟩ := idx_facts t
  funext z
  show V m c main_arg5 (((cfg0.win 5).blk t).view.emb z) = V m c main_arg5 (ix3 (bOf t) ⟨512 * (pOf t).val + (z 1).val, _⟩ (z 2))
  refine congrArg _ (funext fun a => Fin.ext ?_)
  match a with
  | ⟨0, _⟩ => show win0_5.index t (0 : Fin 3) * 1 + 1 * (z 0).val = t.val / 8; have : (z 0).val < 1 := (z 0).isLt; omega
  | ⟨1, _⟩ => show win0_5.index t (1 : Fin 3) * 512 + 1 * (z 1).val = 512 * (t.val % 8) + (z 1).val; omega
  | ⟨2, _⟩ => show win0_5.index t (2 : Fin 3) * 512 + 1 * (z 2).val = (z 2).val; omega

theorem blk3_eq (c : Dev nD) (t : Fin cfg0.N) :
    (show S1x4096x512.Idx → EReal from iblk m c 3 t) = batch (show S8x4096x512.Idx → EReal from m ((c : Thread nD τ).loc main_arg3)) (bOf t) := by
  obtain ⟨⟨a20, a21, a22⟩, ⟨a30, a31, a32⟩, ⟨a40, a41, a42⟩, ⟨a50, a51, a52⟩, ⟨a70, a71, a72⟩, ⟨a00, a01⟩, ⟨a10, a11⟩, ⟨a60, a61⟩, hc⟩ := idx_facts t
  funext z
  show V m c main_arg3 (((cfg0.win 3).blk t).view.emb z) = V m c main_arg3 (ix3 (bOf t) (z 1) (z 2))
  refine congrArg _ (funext fun a => Fin.ext ?_)
  match a with
  | ⟨0, _⟩ => show win0_3.index t (0 : Fin 3) * 1 + 1 * (z 0).val = t.val / 8; have : (z 0).val < 1 := (z 0).isLt; omega
  | ⟨1, _⟩ => show win0_3.index t (1 : Fin 3) * 4096 + 1 * (z 1).val = (z 1).val; omega
  | ⟨2, _⟩ => show win0_3.index t (2 : Fin 3) * 512 + 1 * (z 2).val = (z 2).val; omega

theorem blk4_eq (c : Dev nD) (t : Fin cfg0.N) :
    (show S1x512x4096.Idx → EReal from iblk m c 4 t) = batchT (show S8x512x4096.Idx → EReal from m ((c : Thread nD τ).loc main_arg4)) (bOf t) := by
  obtain ⟨⟨a20, a21, a22⟩, ⟨a30, a31, a32⟩, ⟨a40, a41, a42⟩, ⟨a50, a51, a52⟩, ⟨a70, a71, a72⟩, ⟨a00, a01⟩, ⟨a10, a11⟩, ⟨a60, a61⟩, hc⟩ := idx_facts t
  funext z
  show V m c main_arg4 (((cfg0.win 4).blk t).view.emb z) = V m c main_arg4 (ix3 (bOf t) (z 1) (z 2))
  refine congrArg _ (funext fun a => Fin.ext ?_)
  match a with
  | ⟨0, _⟩ => show win0_4.index t (0 : Fin 3) * 1 + 1 * (z 0).val = t.val / 8; have : (z 0).val < 1 := (z 0).isLt; omega
  | ⟨1, _⟩ => show win0_4.index t (1 : Fin 3) * 512 + 1 * (z 1).val = (z 1).val; omega
  | ⟨2, _⟩ => show win0_4.index t (2 : Fin 3) * 4096 + 1 * (z 2).val = (z 2).val; omega

/-- No score of any query block is infinite upwards, and every value is real. -/
def AllTame (Q K : S8x4096x512.Idx → EReal) (Vt : S8x512x4096.Idx → EReal) : Prop :=
  ∀ b p : Fin 8, Tame (rows Q b p) (batch K b) (batchT Vt b) p.val

/-- What the body leaves in the output's buffer at a point. -/
theorem outAt_eq (c : Dev nD) (ht : AllTame (show S8x4096x512.Idx → EReal from m ((c : Thread nD τ).loc main_arg2)) (show S8x4096x512.Idx → EReal from m ((c : Thread nD τ).loc main_arg3)) (show S8x512x4096.Idx → EReal from m ((c : Thread nD τ).loc main_arg4))) (t : Fin cfg0.N) (r j : Fin 512) :
    outAt m c t (ix3 0 r j) = result (show S2x64.Idx → EReal from m ((c : Thread nD τ).loc main_arg0)) (show S2x64.Idx → EReal from m ((c : Thread nD τ).loc main_arg1)) (show S8x4096x512.Idx → EReal from m ((c : Thread nD τ).loc main_arg2)) (show S8x4096x512.Idx → EReal from m ((c : Thread nD τ).loc main_arg3)) (show S8x512x4096.Idx → EReal from m ((c : Thread nD τ).loc main_arg4)) (show S8x4096x512.Idx → EReal from m ((c : Thread nD τ).loc main_arg5)) (show S1x128.Idx → EReal from m ((c : Thread nD τ).loc main_arg6)) (bOf t) (pOf t) r j := by
  have hc : (grid0.coords t 2).val = (pOf t).val := (idx_facts t).2.2.2.2.2.2.2.2
  have e0 := blk0_eq m c t
  have e1 := blk1_eq m c t
  have e2 := blk2_eq m c t
  have e3 := blk3_eq m c t
  have e4 := blk4_eq m c t
  have e5 := blk5_eq m c t
  have e6 := blk6_eq m c t
  dsimp only at e0 e1 e2 e3 e4 e5 e6
  have h : Tame (show S1x512x512.Idx → EReal from iblk m c 2 t) (show S1x4096x512.Idx → EReal from iblk m c 3 t) (show S1x512x4096.Idx → EReal from iblk m c 4 t) (grid0.coords t 2).val := by
    dsimp only
    rw [e2, e3, e4, hc]
    exact ht (bOf t) (pOf t)
  have hb : outAt m c t = blockOut (show S2x64.Idx → EReal from iblk m c 0 t) (show S2x64.Idx → EReal from iblk m c 1 t) (show S1x512x512.Idx → EReal from iblk m c 2 t) (show S1x4096x512.Idx → EReal from iblk m c 3 t) (show S1x512x4096.Idx → EReal from iblk m c 4 t) (show S1x512x512.Idx → EReal from iblk m c 5 t) (show S1x128.Idx → EReal from iblk m c 6 t) (grid0.coords t 2).val := by
    by_cases hk : k0_cond1 (grid0.coords t) = 1#1
    · refine Eq.trans (dif_pos hk) ?_
      exact oddOut_eq c (grid0.coords t) (stg0 t) (whole0 t) (stg1 t) (whole1 t) (stg2 t) (whole2 t) (stg3 t) (whole3 t) (stg4 t) (whole4 t) (stg5 t) (whole5 t) (stg6 t) (whole6 t) (stg7 t) (whole7 t) _ _ _ _ _ _ _ hk h
    · refine Eq.trans (dif_neg hk) ?_
      exact evenOut_eq c (grid0.coords t) (stg0 t) (whole0 t) (stg1 t) (whole1 t) (stg2 t) (whole2 t) (stg3 t) (whole3 t) (stg4 t) (whole4 t) (stg5 t) (whole5 t) (stg6 t) (whole6 t) (stg7 t) (whole7 t) _ _ _ _ _ _ _ hk h
  rw [hb]
  dsimp only
  rw [e0, e1, e2, e3, e4, e5, e6, hc]
  rfl

/-- Distinct points write distinct blocks. -/
theorem idx_inj7 : ∀ t t' : Fin cfg0.N, win0_7.index t = win0_7.index t' → t = t' := fun t t' h => by
  obtain ⟨h0, h1, _⟩ := (idx_facts t).2.2.2.2.1
  obtain ⟨h0', h1', _⟩ := (idx_facts t').2.2.2.2.1
  have e0 := congrFun h (0 : Fin 3)
  have e1 := congrFun h (1 : Fin 3)
  rw [h0, h0'] at e0
  rw [h1, h1'] at e1
  exact Fin.ext (by omega)

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- The grid point of query block `p` of batch `b`. -/
def ptOf (b p : Fin 8) : Fin cfg0.N := ⟨8 * b.val + p.val, by show _ < 64; omega⟩

theorem bOf_pt (b p : Fin 8) : bOf (ptOf b p) = b := Fin.ext (by show (8 * b.val + p.val) / 8 = b.val; omega)
theorem pOf_pt (b p : Fin 8) : pOf (ptOf b p) = p := Fin.ext (by show (8 * b.val + p.val) % 8 = p.val; omega)

/-- The output array after the run, at every index. -/
theorem final_apply (c : Dev nD) (ht : AllTame (show S8x4096x512.Idx → EReal from m ((c : Thread nD τ).loc main_arg2)) (show S8x4096x512.Idx → EReal from m ((c : Thread nD τ).loc main_arg3)) (show S8x512x4096.Idx → EReal from m ((c : Thread nD τ).loc main_arg4)))
    (b p : Fin 8) (r j : Fin 512) :
    (data m 0 c).arrAt 7 cfg0.N (ix3 b ⟨512 * p.val + r.val, by omega⟩ j) = result (show S2x64.Idx → EReal from m ((c : Thread nD τ).loc main_arg0)) (show S2x64.Idx → EReal from m ((c : Thread nD τ).loc main_arg1)) (show S8x4096x512.Idx → EReal from m ((c : Thread nD τ).loc main_arg2)) (show S8x4096x512.Idx → EReal from m ((c : Thread nD τ).loc main_arg3)) (show S8x512x4096.Idx → EReal from m ((c : Thread nD τ).loc main_arg4)) (show S8x4096x512.Idx → EReal from m ((c : Thread nD τ).loc main_arg5)) (show S1x128.Idx → EReal from m ((c : Thread nD τ).loc main_arg6)) b p r j := by
  have f : (data m 0 c).flushed 7 (ptOf b p) = (cfg0.win 7).cut (grid0.coords (ptOf b p)) (outAt m c (ptOf b p)) := by
    show (cfg0.win 7).cut (grid0.coords (ptOf b p)) ((data m 0 c).after 7 (ptOf b p)) = _
    rw [after_7]
  have h := congrFun ((data m 0 c).read_blk_arrAt_eq_flushed 7 disjoint7 cfg0.N (ptOf b p) (ptOf b p).isLt (flush0_7 (ptOf b p))) (ix3 0 r j)
  rw [f] at h
  obtain ⟨h0, h1, h2⟩ := (idx_facts (ptOf b p)).2.2.2.2.1
  have v : (ptOf b p).val = 8 * b.val + p.val := rfl
  have he : ((cfg0.win 7).blk (ptOf b p)).view.emb (ix3 0 r j) = ix3 b ⟨512 * p.val + r.val, by omega⟩ j := by
    funext a; apply Fin.ext
    match a with
    | ⟨0, _⟩ => show win0_7.index (ptOf b p) (0 : Fin 3) * 1 + 1 * 0 = b.val; omega
    | ⟨1, _⟩ => show win0_7.index (ptOf b p) (1 : Fin 3) * 512 + 1 * r.val = 512 * p.val + r.val; omega
    | ⟨2, _⟩ => show win0_7.index (ptOf b p) (2 : Fin 3) * 512 + 1 * j.val = j.val; omega
  have h' : (data m 0 c).arrAt 7 cfg0.N (((cfg0.win 7).blk (ptOf b p)).view.emb (ix3 0 r j)) = outAt m c (ptOf b p) (ix3 0 r j) := h
  rw [he] at h'
  refine h'.trans ((outAt_eq m c ht (ptOf b p) r j).trans ?_)
  rw [bOf_pt, pOf_pt]

/-- The run, with the output array named. -/
theorem run_named : θ_run defs (onTc (τ := τ) (main (F := Ideal))) ⟨m, fun _ => 0, ρ⟩ (fun r => ∀ c : Dev nD,
      r.2.mem ((c.tc : Thread nD τ).loc main_v0) = (data m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.2 c).1 7, h.1 c⟩)
    (θ_run_and (frame_of m ρ (data m) (data_A m) (launch m ρ)) (launch m ρ))

end Cert.KernelIdeal.Diff

end
-- ==== Proof.Diff.Reference.lean ====
module

public import proofs.«01_k».proof.Proof.Gen.ReferenceIdeal.Read
public import proofs.«01_k».proof.Proof.Diff.Softmax
public import Idealize.ShloMosaic.Lib.IdealHost
public import Idealize.ShloMosaic.Lib.Affine
public import Idealize.ShloMosaic.Lib.Pointwise

/-!
# The differential attention's reference, read at an index

The reference's operations are read one after the other at an index: the masked scores, the two softmaxes, their
difference, the weighted values, the normalisation, the gate.
-/

@[expose] public section

set_option maxRecDepth 16384

noncomputable section

namespace Cert.ReferenceIdeal.Diff

open Cert.ReferenceIdeal Cert.ReferenceIdeal.Gen Cert.ReferenceIdeal.Read Idealize.ShloMosaic Idealize.ShloMosaic.TcCoe
open Cert.Proof.Diff

/-- Lane `x` of component `i` of head `h`. -/
def half (h : Fin 4) (i : Fin 2) (x : Fin 64) : Fin 512 := ⟨128 * h.val + 64 * i.val + x.val, by omega⟩

/-- Lane `l` of head `h`. -/
def wide (h : Fin 4) (l : Fin 128) : Fin 512 := ⟨128 * h.val + l.val, by omega⟩

/-- The masked score of query `q` and key `j` in base two, minus infinity where the key is hidden. -/
def masked (Q K : S8x4096x512.Idx → EReal) (b : Fin 8) (h : Fin 4) (i : Fin 2) (q : Fin 4096) (j : ℕ) : EReal :=
  if hj : j < 4096 then
    (if j ≤ q.val then ∑ x : Fin 64, Q (ix3 b q (half h i x)) * K (ix3 b ⟨j, hj⟩ (half h i x)) else ⊥)
  else ⊥

/-- The natural scores. -/
def natural (Q K : S8x4096x512.Idx → EReal) (b : Fin 8) (h : Fin 4) (i : Fin 2) (q : Fin 4096) : ℕ → EReal :=
  fun j => masked Q K b h i q j * (ln2 : EReal)

/-- A softmax weight. -/
def weight (Q K : S8x4096x512.Idx → EReal) (b : Fin 8) (h : Fin 4) (i : Fin 2) (q j : Fin 4096) : EReal :=
  Ideal.div (wexp (natural Q K b h i q) 4096 j) (∑ k : Fin 4096, wexp (natural Q K b h i q) 4096 k)

/-- The factor of the second softmax. -/
def factor (L0 L1 : S2x64.Idx → EReal) : EReal :=
  Ideal.exp (∑ x : Fin 64, L0 (ix2 0 x) * L1 (ix2 0 x)) - Ideal.exp (∑ x : Fin 64, L0 (ix2 1 x) * L1 (ix2 1 x))
    + Ideal.ofBits .f32 0x3E4CCCCD#32

/-- The head's output before the normalisation. -/
def attended (L0 L1 : S2x64.Idx → EReal) (Q K : S8x4096x512.Idx → EReal) (Vt : S8x512x4096.Idx → EReal)
    (b : Fin 8) (h : Fin 4) (q : Fin 4096) (l : Fin 128) : EReal :=
  ∑ j : Fin 4096, Vt (ix3 b (wide h l) j) * (weight Q K b h 0 q j - factor L0 L1 * weight Q K b h 1 q j)

variable (x0 x1 : (⟨S2x64, .f32⟩ : BufTy).Contents (Elt Ideal)) (x2 x3 : (⟨S8x4096x512, .bf16⟩ : BufTy).Contents (Elt Ideal))
  (x4 : (⟨S8x512x4096, .bf16⟩ : BufTy).Contents (Elt Ideal)) (x5 : (⟨S8x4096x512, .bf16⟩ : BufTy).Contents (Elt Ideal))
  (x6 : (⟨S1x128, .f32⟩ : BufTy).Contents (Elt Ideal))

/-- The logarithm the reference turns base two into natural scores with. -/
theorem log_two : Ideal.log (Ideal.ofBits .f32 0x40000000#32) = (ln2 : EReal) := by
  have e : Ideal.ofBits .f32 0x40000000#32 = ((2 : ℝ) : EReal) := by
    simp [Ideal.ofBits, Ideal.ieee]
    rw [← EReal.coe_mul]
    norm_num
  rw [e, Ideal.log_coe, if_neg (by norm_num)]
  rfl

/-- The raw score. -/
theorem score_apply (b : Fin 8) (h : Fin 4) (i : Fin 2) (q j : Fin 4096) :
    val_main_v15 (F := Ideal) x2 x3 (ix5 b h i q j) = ∑ x : Fin 64, x2 (ix3 b q (half h i x)) * x3 (ix3 b j (half h i x)) := by
  rw [val_main_v15_apply]
  refine Finset.sum_congr rfl fun x _ => ?_
  have eq : ∀ r : Fin 4096, ∀ z : S8x4096x4x2x64.Idx, z = ix5 b r h i x → idx_main_v1 z = ix3 b r (half h i x) := by
    rintro r z rfl
    funext a; apply Fin.ext
    match a with
    | ⟨0, _⟩ => show ((((b.val * 4096 + r.val) * 4 + h.val) * 2 + i.val) * 64 + x.val) / 2097152 = b.val; omega
    | ⟨1, _⟩ => show ((((b.val * 4096 + r.val) * 4 + h.val) * 2 + i.val) * 64 + x.val) / 512 % 4096 = r.val; omega
    | ⟨2, _⟩ => show ((((b.val * 4096 + r.val) * 4 + h.val) * 2 + i.val) * 64 + x.val) % 512 = 128 * h.val + 64 * i.val + x.val; omega
  rw [val_main_v1_apply, val_main_v3_apply, val_main_v0_apply, val_main_v2_apply, Ideal.extf_def, Ideal.extf_def]
  refine congrArg₂ (· * ·) (congrArg x2 (eq q _ ?_)) (congrArg x3 (eq j _ ?_)) <;>
  · funext a
    match a with | ⟨0, _⟩ => rfl | ⟨1, _⟩ => rfl | ⟨2, _⟩ => rfl | ⟨3, _⟩ => rfl | ⟨4, _⟩ => rfl

/-- The comparison of two positions as words. -/
theorem select_le (j q : Fin 4096) (x y : EReal) :
    Scalar.select (IntOp.cmpi .sle (BitVec.ofNat 32 j.val) (BitVec.ofNat 32 q.val)) x y = if j.val ≤ q.val then x else y := by
  have tj : (BitVec.ofNat 32 j.val).toInt = j.val := by
    have e : (BitVec.ofNat 32 j.val).toNat = j.val := by rw [BitVec.toNat_ofNat]; omega
    rw [BitVec.toInt_eq_toNat_of_lt (by omega), e]
  have tq : (BitVec.ofNat 32 q.val).toInt = q.val := by
    have e : (BitVec.ofNat 32 q.val).toNat = q.val := by rw [BitVec.toNat_ofNat]; omega
    rw [BitVec.toInt_eq_toNat_of_lt (by omega), e]
  have key : IntOp.cmpi .sle (BitVec.ofNat 32 j.val) (BitVec.ofNat 32 q.val) = 1#1 ↔ j.val ≤ q.val := by
    rw [IntOp.cmpi_sle, tj, tq]; omega
  unfold Scalar.select
  by_cases hq : j.val ≤ q.val
  · exact (if_pos (key.mpr hq)).trans (if_pos hq).symm
  · exact (if_neg (fun e => hq (key.mp e))).trans (if_neg hq).symm

/-- The masked score, natural. -/
theorem natural_apply (b : Fin 8) (h : Fin 4) (i : Fin 2) (q j : Fin 4096) :
    val_main_v25 (F := Ideal) x2 x3 (ix5 b h i q j) = natural x2 x3 b h i q j.val := by
  simp only [val_main_v25_apply, val_main_call0_v1_apply, val_main_v24_apply, val_main_v22_apply, val_main_v23_apply,
    val_main_v20_apply, val_main_v21_apply, val_main_v19_apply, val_main_v18_apply, val_main_v17_apply, val_main_v16_apply,
    val_main_cst_1_apply, val_main_call0_v2_apply, val_main_call0_v0_apply, val_main_cst_2_apply]
  simp only [Ideal.mulf_def, Ideal.hostUnary_log_def, Ideal.ofBits_def, log_two, score_apply]
  have hpos : (0 : ℝ) < ln2 := Real.log_pos one_lt_two
  have nb : Ideal.ofBits .f32 0xFF800000#32 = ⊥ := by simp [Ideal.ofBits, Ideal.ieee]
  refine (select_le j q _ _).trans ?_
  unfold natural masked
  rw [dif_pos j.isLt, nb]
  by_cases hq : j.val ≤ q.val
  · rw [if_pos hq, if_pos hq]
  · rw [if_neg hq, if_neg hq, EReal.bot_mul_coe_of_pos hpos]

/-- The largest score of a row. -/
theorem max_apply (b : Fin 8) (h : Fin 4) (i : Fin 2) (q : Fin 4096) :
    val_main_v26 (F := Ideal) x2 x3 (ix4 b h i q) = top (natural x2 x3 b h i q) 4096 := by
  have nb : Ideal.ofBits .f32 0xFF800000#32 = ⊥ := by simp [Ideal.ofBits, Ideal.ieee]
  unfold val_main_v26
  have hn : ∀ j : Fin 4096, val_main_v25 (F := Ideal) x2 x3 (ix5 b h i q j) = natural x2 x3 b h i q j.val := fun j => natural_apply x2 x3 b h i q j
  generalize val_main_v25 (F := Ideal) x2 x3 = y at hn ⊢
  refine (Host.reduce_eq_fold_single (FloatOps.maximumf (F := Ideal) (φ := .f32)) y (val_main_cst_3 (F := Ideal))
    reducesTo_S8x4x2x4096x4096_S8x4x2x4096_d4 (by decide) h_S_ (ix4 b h i q)).trans ?_
  rw [val_main_cst_3_apply, Ideal.ofBits_def, nb, ← top_fin]
  refine congrArg (fun f => Finset.fold max ⊥ f (Finset.univ : Finset (Fin 4096))) (funext fun j => ?_)
  refine (congrArg y ?_).trans (hn j)
  funext a
  apply Fin.ext
  match a with | ⟨0, _⟩ => rfl | ⟨1, _⟩ => rfl | ⟨2, _⟩ => rfl | ⟨3, _⟩ => rfl | ⟨4, _⟩ => rfl

/-- An unnormalised weight. -/
theorem exp_apply (b : Fin 8) (h : Fin 4) (i : Fin 2) (q j : Fin 4096) :
    val_main_v30 (F := Ideal) x2 x3 (ix5 b h i q j) = wexp (natural x2 x3 b h i q) 4096 j.val := by
  have e : idx_main_v27 (idx_main_v28 (ix5 b h i q j)) = ix4 b h i q := by
    funext a; match a with | ⟨0, _⟩ => rfl | ⟨1, _⟩ => rfl | ⟨2, _⟩ => rfl | ⟨3, _⟩ => rfl
  rw [val_main_v30_apply, val_main_v29_apply, val_main_v28_apply, val_main_v27_apply, e, max_apply, natural_apply]
  rfl

/-- A weight. -/
theorem weight_apply (b : Fin 8) (h : Fin 4) (i : Fin 2) (q j : Fin 4096) :
    val_main_v34 (F := Ideal) x2 x3 (ix5 b h i q j) = weight x2 x3 b h i q j := by
  have e : ∀ k, idx_main_v31 (idx_main_v32 (idx_main_v33 (ix5 b h i q j))) k = ix5 b h i q k := fun k => by
    funext a; match a with | ⟨0, _⟩ => rfl | ⟨1, _⟩ => rfl | ⟨2, _⟩ => rfl | ⟨3, _⟩ => rfl | ⟨4, _⟩ => rfl
  rw [val_main_v34_apply, val_main_v33_apply, val_main_v32_apply, val_main_v31_apply, exp_apply, val_main_cst_4_apply,
    Ideal.hostDivf_def, Ideal.ofBits_def, Ideal.ofBits_zero_f32, zero_add]
  simp only [e, exp_apply]
  rfl

/-- A reshape between a shape of one axis of one element and the shape of no axis. -/
theorem scalar_cast (x : S1.Idx → EReal) (i : S_.Idx) : shapeCast S_ x shapeCasts_S1_S_ i = x (ix1 0) := by
  refine congrArg x (funext fun a => ?_)
  match a with | ⟨0, _⟩ => exact Subsingleton.elim (α := Fin 1) _ _

/-- The factor. -/
theorem factor_apply (i : S_.Idx) : val_main_v14 (F := Ideal) x0 x1 i = factor x0 x1 := by
  have e0 : ∀ k, idx_main_v7 (idx_main_v9 (ix1 0)) k = ix2 0 k := fun k => by
    funext a; match a with | ⟨0, _⟩ => rfl | ⟨1, _⟩ => rfl
  have e1 : ∀ k, idx_main_v7 (idx_main_v11 (ix1 0)) k = ix2 1 k := fun k => by
    funext a; match a with | ⟨0, _⟩ => rfl | ⟨1, _⟩ => rfl
  rw [val_main_v14_apply, val_main_v13_apply]
  unfold val_main_v10 val_main_v12
  rw [scalar_cast, scalar_cast, val_main_v9_apply, val_main_v11_apply, val_main_v8_apply, val_main_v8_apply,
    val_main_v7_apply, val_main_v7_apply, val_main_cst_0_apply, val_main_cst_apply]
  simp only [e0, e1, val_main_v6_apply, Ideal.addf_def, Ideal.subf_def, Ideal.mulf_def, Ideal.hostUnary_exp_def, Ideal.ofBits_def,
    Ideal.ofBits_zero_f32, zero_add]
  rfl

/-- The weighted values. -/
theorem attended_apply (b : Fin 8) (q : Fin 4096) (h : Fin 4) (l : Fin 128) :
    val_main_v43 (F := Ideal) x0 x1 x2 x3 x4 (ix4 b q h l) = attended x0 x1 x2 x3 x4 b h q l := by
  rw [val_main_v43_apply, val_main_v42_apply]
  unfold attended
  refine Finset.sum_congr rfl fun j _ => congrArg₂ (· * ·) ?_ ?_
  · rw [val_main_v5_apply, val_main_v4_apply, Ideal.extf_def]
    refine congrArg x4 (funext fun a => Fin.ext ?_)
    match a with
    | ⟨0, _⟩ => show (((b.val * 4 + h.val) * 128 + l.val) * 4096 + j.val) / 2097152 = b.val; omega
    | ⟨1, _⟩ => show (((b.val * 4 + h.val) * 128 + l.val) * 4096 + j.val) / 4096 % 512 = 128 * h.val + l.val; omega
    | ⟨2, _⟩ => show (((b.val * 4 + h.val) * 128 + l.val) * 4096 + j.val) % 4096 = j.val; omega
  · rw [val_main_v41_apply, val_main_v40_apply, val_main_v39_apply, factor_apply, val_main_v36_apply, val_main_v38_apply,
      val_main_v35_apply, val_main_v37_apply]
    have e0 : idx_main_v35 (idx_main_v36 (ridx_main_v42 (idx_main_v43 (ix4 b q h l)) j)) = ix5 b h 0 q j := by
      funext a; apply Fin.ext
      match a with
      | ⟨0, _⟩ => show (((b.val * 4 + h.val) * 4096 + q.val) * 4096 + j.val) / 67108864 = b.val; omega
      | ⟨1, _⟩ => show (((b.val * 4 + h.val) * 4096 + q.val) * 4096 + j.val) / 16777216 % 4 = h.val; omega
      | ⟨2, _⟩ => rfl
      | ⟨3, _⟩ => show (((b.val * 4 + h.val) * 4096 + q.val) * 4096 + j.val) / 4096 % 4096 = q.val; omega
      | ⟨4, _⟩ => show (((b.val * 4 + h.val) * 4096 + q.val) * 4096 + j.val) % 4096 = j.val; omega
    have e1 : idx_main_v37 (idx_main_v38 (ridx_main_v42 (idx_main_v43 (ix4 b q h l)) j)) = ix5 b h 1 q j := by
      funext a; apply Fin.ext
      match a with
      | ⟨0, _⟩ => show (((b.val * 4 + h.val) * 4096 + q.val) * 4096 + j.val) / 67108864 = b.val; omega
      | ⟨1, _⟩ => show (((b.val * 4 + h.val) * 4096 + q.val) * 4096 + j.val) / 16777216 % 4 = h.val; omega
      | ⟨2, _⟩ => rfl
      | ⟨3, _⟩ => show (((b.val * 4 + h.val) * 4096 + q.val) * 4096 + j.val) / 4096 % 4096 = q.val; omega
      | ⟨4, _⟩ => show (((b.val * 4 + h.val) * 4096 + q.val) * 4096 + j.val) % 4096 = j.val; omega
    rw [e0, e1, weight_apply, weight_apply]
    rfl

/-- The result at batch `b`, query `q`, lane `l` of head `h`. -/
theorem result_apply (b : Fin 8) (q : Fin 4096) (h : Fin 4) (l : Fin 128) :
    val_main_v63 (F := Ideal) x0 x1 x2 x3 x4 x5 x6 (ix3 b q (wide h l))
      = attended x0 x1 x2 x3 x4 b h q l
          * Ideal.rsqrt (Ideal.div (∑ x : Fin 128, attended x0 x1 x2 x3 x4 b h q x * attended x0 x1 x2 x3 x4 b h q x)
              (Ideal.ofBits .f32 0x43000000#32) + Ideal.ofBits .f32 0x358637BD#32)
          * x6 (ix2 0 l) * Ideal.ofBits .f32 0x3F4CCCCD#32 * x5 (ix3 b q (wide h l)) := by
  have e : idx_main_v60 (ix3 b q (wide h l)) = ix4 b q h l := by
    funext a; apply Fin.ext
    match a with
    | ⟨0, _⟩ => show ((b.val * 4096 + q.val) * 512 + (128 * h.val + l.val)) / 2097152 = b.val; omega
    | ⟨1, _⟩ => show ((b.val * 4096 + q.val) * 512 + (128 * h.val + l.val)) / 512 % 4096 = q.val; omega
    | ⟨2, _⟩ => show ((b.val * 4096 + q.val) * 512 + (128 * h.val + l.val)) / 128 % 4 = h.val; omega
    | ⟨3, _⟩ => show ((b.val * 4096 + q.val) * 512 + (128 * h.val + l.val)) % 128 = l.val; omega
  have es : ∀ k, idx_main_v46 (idx_main_v47 (idx_main_v53 (ix4 b q h l))) k = ix4 b q h k := fun k => by
    funext a; match a with | ⟨0, _⟩ => rfl | ⟨1, _⟩ => rfl | ⟨2, _⟩ => rfl | ⟨3, _⟩ => rfl
  have eg : idx_main_v44 (idx_main_v55 (idx_main_v56 (ix4 b q h l))) = ix2 0 l := by
    funext a; apply Fin.ext
    match a with
    | ⟨0, _⟩ => rfl
    | ⟨1, _⟩ => show l.val % 128 = l.val; omega
  rw [val_main_v63_apply, val_main_v62_apply, val_main_v61_apply, val_main_v60_apply, e, val_main_v59_apply, val_main_v58_apply,
    val_main_cst_8_apply, val_main_v57_apply, val_main_v56_apply, val_main_v55_apply, val_main_v44_apply, eg, val_main_v54_apply,
    val_main_v53_apply, val_main_v52_apply, val_main_v51_apply, val_main_v50_apply, val_main_cst_7_apply, val_main_v49_apply,
    val_main_v48_apply, val_main_cst_6_apply, val_main_v47_apply, val_main_v46_apply, val_main_cst_5_apply, attended_apply]
  simp only [es, val_main_v45_apply, attended_apply, Ideal.addf_def, Ideal.mulf_def, Ideal.hostDivf_def, Ideal.hostUnary_rsqrt_def,
    Ideal.extf_def, Ideal.truncf_def, Ideal.ofBits_def, Ideal.ofBits_zero_f32, zero_add]

end Cert.ReferenceIdeal.Diff
end
-- ==== Proof.Diff.Agree.lean ====
module

public import proofs.«01_k».proof.Proof.Diff.Array
public import proofs.«01_k».proof.Proof.Diff.Reference

/-!
# The two formulas of the differential attention agree

Row `r` of the kernel's masked queries holds the first component's query and zeros; row `512 + r` the second's. So the
kernel's scores are the reference's in base two, and the two ways of writing the normalised sums (`lane_eq`) agree where
the queries, the keys, the values and the factor are real.
-/

@[expose] public section

set_option maxRecDepth 16384

noncomputable section

namespace Cert.Proof.Diff

open Idealize.ShloMosaic Idealize.ShloMosaic.TcCoe
open Cert.KernelIdeal (S8x4096x512 S8x512x4096 S2x64 S1x128)
open Cert.KernelIdeal.Diff (rows batch batchT shown score value qhead lanes lam lane normed headOut blockOut_at AllTame)
open Cert.ReferenceIdeal.Diff (half wide masked natural weight factor attended)

variable (L0 L1 : S2x64.Idx → EReal) (Q K : S8x4096x512.Idx → EReal) (Vt : S8x512x4096.Idx → EReal)
  (W : S8x4096x512.Idx → EReal) (G : S1x128.Idx → EReal)

/-- Query `r` of block `p`. -/
def query (p : Fin 8) (r : Fin 512) : Fin 4096 := ⟨512 * p.val + r.val, by omega⟩

/-- The row of component `i` of query `r` in the masked queries. -/
def row (i : Fin 2) (r : Fin 512) : Fin 1024 := ⟨512 * i.val + r.val, by omega⟩

theorem sum_halves (f : Fin 128 → EReal) :
    ∑ l, f l = (∑ x : Fin 64, f ⟨x.val, by omega⟩) + ∑ x : Fin 64, f ⟨64 + x.val, by omega⟩ :=
  Fin.sum_univ_add (a := 64) (b := 64) f

/-- The sum over all lanes is the sum over the component's. -/
theorem lanes_sum (k : Fin 128 → EReal) (q : Fin 512 → Fin 128 → EReal) (i : Fin 2) (r : Fin 512) :
    ∑ l, k l * lanes q (row i r) l = ∑ x : Fin 64, q r ⟨64 * i.val + x.val, by omega⟩ * k ⟨64 * i.val + x.val, by omega⟩ := by
  rw [sum_halves]
  match i with
  | ⟨0, _⟩ =>
    have hc : (row ⟨0, by decide⟩ r).val < 512 := by show 512 * 0 + r.val < 512; omega
    have hr : (⟨(row ⟨0, by decide⟩ r).val, hc⟩ : Fin 512) = r := Fin.ext (by show 512 * 0 + r.val = r.val; omega)
    have z : ∀ x : Fin 64, k ⟨64 + x.val, by omega⟩ * lanes q (row ⟨0, by decide⟩ r) ⟨64 + x.val, by omega⟩ = 0 := fun x => by
      unfold lanes
      rw [dif_pos hc, if_neg (by show ¬ 64 + x.val < 64; omega), mul_zero]
    rw [Finset.sum_congr rfl (fun x _ => z x), Finset.sum_const_zero, add_zero]
    refine Finset.sum_congr rfl fun x _ => ?_
    have ex : (⟨64 * 0 + x.val, by omega⟩ : Fin 128) = ⟨x.val, by omega⟩ := Fin.ext (by show 64 * 0 + x.val = x.val; omega)
    unfold lanes
    rw [dif_pos hc, if_pos (by show x.val < 64; omega), hr, mul_comm]
    show _ = q r ⟨64 * 0 + x.val, by omega⟩ * k ⟨64 * 0 + x.val, by omega⟩
    rw [ex]
  | ⟨1, _⟩ =>
    have hc : ¬ (row ⟨1, by decide⟩ r).val < 512 := by show ¬ 512 * 1 + r.val < 512; omega
    have hr : (⟨(row ⟨1, by decide⟩ r).val - 512, by have := (row ⟨1, by decide⟩ r).isLt; omega⟩ : Fin 512) = r :=
      Fin.ext (by show 512 * 1 + r.val - 512 = r.val; omega)
    have z : ∀ x : Fin 64, k ⟨x.val, by omega⟩ * lanes q (row ⟨1, by decide⟩ r) ⟨x.val, by omega⟩ = 0 := fun x => by
      unfold lanes
      rw [dif_neg hc, if_pos (by show x.val < 64; omega), mul_zero]
    rw [Finset.sum_congr rfl (fun x _ => z x), Finset.sum_const_zero, zero_add]
    refine Finset.sum_congr rfl fun x _ => ?_
    unfold lanes
    rw [dif_neg hc, if_neg (by show ¬ 64 + x.val < 64; omega), hr, mul_comm]
    rfl

/-- The kernel's scores are the reference's. -/
theorem shown_eq (b p : Fin 8) (h : Fin 4) (i : Fin 2) (r : Fin 512) :
    shown (rows Q b p) (batch K b) p.val h (row i r) = masked Q K b h i (query p r) := by
  funext j
  have hm : (row i r).val % 512 = r.val := by show (512 * i.val + r.val) % 512 = r.val; omega
  unfold shown score masked
  rw [hm]
  by_cases hj : j < 4096
  · rw [dif_pos hj, dif_pos hj]
    refine if_congr Iff.rfl ?_ rfl
    refine (lanes_sum (fun l => batch K b (ix3 0 ⟨j, hj⟩ ⟨128 * h.val + l.val, by omega⟩)) (qhead (rows Q b p) h) i r).trans ?_
    refine Finset.sum_congr rfl fun x _ => ?_
    have e : (⟨128 * h.val + (64 * i.val + x.val), by omega⟩ : Fin 512) = half h i x := Fin.ext (by
      show 128 * h.val + (64 * i.val + x.val) = 128 * h.val + 64 * i.val + x.val; omega)
    show Q (ix3 b (query p r) ⟨128 * h.val + (64 * i.val + x.val), by omega⟩) * K (ix3 b ⟨j, hj⟩ ⟨128 * h.val + (64 * i.val + x.val), by omega⟩) = _
    rw [e]
  · rw [dif_neg hj, dif_neg hj, ite_self]

/-- A masked score is not plus infinity. -/
theorem masked_ne_top (hQ : ∀ i, IsReal (Q i)) (hK : ∀ i, IsReal (K i)) (b : Fin 8) (h : Fin 4) (i : Fin 2) (q : Fin 4096) (j : ℕ) :
    masked Q K b h i q j ≠ ⊤ := by
  unfold masked
  split
  · split
    · exact (isReal_sum _ _ fun x _ => (hQ _).mul (hK _)).ne_top
    · exact bot_ne_top
  · exact bot_ne_top

/-- The first key is never hidden. -/
theorem masked_zero (hQ : ∀ i, IsReal (Q i)) (hK : ∀ i, IsReal (K i)) (b : Fin 8) (h : Fin 4) (i : Fin 2) (q : Fin 4096) :
    IsReal (masked Q K b h i q 0) := by
  unfold masked
  rw [dif_pos (by decide), if_pos (Nat.zero_le _)]
  exact isReal_sum _ _ fun x _ => (hQ _).mul (hK _)

theorem value_real (hV : ∀ i, IsReal (Vt i)) (b : Fin 8) (h : Fin 4) (e : Fin 144) (j : ℕ) : IsReal (value (batchT Vt b) h e j) := by
  unfold value
  split
  · split
    · exact hV _
    · exact isReal_zero
  · exact isReal_one

/-- What the running softmax asks of the arguments. -/
theorem tame (hQ : ∀ i, IsReal (Q i)) (hK : ∀ i, IsReal (K i)) (hV : ∀ i, IsReal (Vt i)) : AllTame Q K Vt := by
  intro b p
  refine ⟨fun h c j => ?_, fun h e j => value_real Vt hV b h e j⟩
  have ec : c = row ⟨c.val / 512, by omega⟩ ⟨c.val % 512, Nat.mod_lt _ (by decide)⟩ := Fin.ext (by
    show c.val = 512 * (c.val / 512) + c.val % 512; omega)
  rw [ec, shown_eq]
  exact masked_ne_top Q K hQ hK _ _ _ _ _

/-- The factor is real. -/
theorem factor_real (h0 : ∀ i, IsReal (L0 i)) (h1 : ∀ i, IsReal (L1 i)) : IsReal (factor L0 L1) := by
  have hc : IsReal (Ideal.ofBits .f32 0x3E4CCCCD#32) := by
    refine isReal_of_ne ?_ ?_ <;> simp [Ideal.ofBits, Ideal.ieee, ← EReal.coe_mul]
  exact ((isReal_sum _ _ fun x _ => (h0 _).mul (h1 _)).exp.sub (isReal_sum _ _ fun x _ => (h0 _).mul (h1 _)).exp).add hc

/-- A lane of the head's output before the normalisation. -/
theorem lane_agree (h0 : ∀ i, IsReal (L0 i)) (h1 : ∀ i, IsReal (L1 i)) (hQ : ∀ i, IsReal (Q i)) (hK : ∀ i, IsReal (K i)) (hV : ∀ i, IsReal (Vt i))
    (b p : Fin 8) (h : Fin 4) (r : Fin 512) (l : Fin 128) :
    lane (fun e c => tot (shown (rows Q b p) (batch K b) p.val h c) (value (batchT Vt b) h e) 4096)
        (lam (fun i x => L0 (ix2 i x)) (fun i x => L1 (ix2 i x))) r l
      = attended L0 L1 Q K Vt b h (query p r) l := by
  have r0 : (⟨r.val, by omega⟩ : Fin 1024) = row 0 r := Fin.ext (by show r.val = 512 * 0 + r.val; omega)
  have r1 : (⟨512 + r.val, by omega⟩ : Fin 1024) = row 1 r := Fin.ext (by show 512 + r.val = 512 * 1 + r.val; omega)
  have one : value (batchT Vt b) h 128 = fun _ => 1 := funext fun j => dif_neg (by decide)
  have hf : lam (fun i x => L0 (ix2 i x)) (fun i x => L1 (ix2 i x)) = factor L0 L1 := rfl
  unfold lane
  dsimp only
  rw [r0, r1, shown_eq, shown_eq, one, hf]
  refine (lane_eq (masked Q K b h 0 (query p r)) (masked Q K b h 1 (query p r)) (value (batchT Vt b) h ⟨l.val, by omega⟩) (factor L0 L1) 4096 (by decide)
    (masked_ne_top Q K hQ hK b h 0 _) (masked_ne_top Q K hQ hK b h 1 _) (masked_zero Q K hQ hK b h 0 _).ne_bot (masked_zero Q K hQ hK b h 1 _).ne_bot
    (value_real Vt hV b h _) (factor_real L0 L1 h0 h1)).trans ?_
  unfold attended
  refine Finset.sum_congr rfl fun j _ => congrArg₂ (· * ·) ?_ rfl
  unfold value
  rw [dif_pos (show l.val < 128 from l.isLt), dif_pos j.isLt]
  rfl

/-- The kernel's formula is the reference's. -/
theorem agree (h0 : ∀ i, IsReal (L0 i)) (h1 : ∀ i, IsReal (L1 i)) (hQ : ∀ i, IsReal (Q i)) (hK : ∀ i, IsReal (K i)) (hV : ∀ i, IsReal (Vt i))
    (b p : Fin 8) (r : Fin 512) (h : Fin 4) (l : Fin 128) :
    Cert.KernelIdeal.Diff.result L0 L1 Q K Vt W G b p r (wide h l)
      = attended L0 L1 Q K Vt b h (query p r) l
          * Ideal.rsqrt (Ideal.div (∑ x : Fin 128, attended L0 L1 Q K Vt b h (query p r) x * attended L0 L1 Q K Vt b h (query p r) x)
              (Ideal.ofBits .f32 0x43000000#32) + Ideal.ofBits .f32 0x358637BD#32)
          * G (ix2 0 l) * Ideal.ofBits .f32 0x3F4CCCCD#32 * W (ix3 b (query p r) (wide h l)) := by
  unfold Cert.KernelIdeal.Diff.result
  rw [blockOut_at _ _ _ _ _ _ _ _ _ h r l (by show r.val = 0 + r.val; omega) rfl]
  unfold headOut normed
  simp only [lane_agree L0 L1 Q K Vt h0 h1 hQ hK hV]
  rw [← mul_assoc (_ * _) (G _) _]
  rfl

end Cert.Proof.Diff
end
-- ==== Proof.Diff.Equation.lean ====
module

public import proofs.«01_k».proof.Defs
public import proofs.«01_k».proof.Proof.Diff.Finite
public import proofs.«01_k».proof.Proof.Diff.Agree

/-!
# The differential attention's equation

Both runs end with formulas of the arguments, and these agree on real arguments.
-/

@[expose] public section

set_option maxRecDepth 16384

noncomputable section

namespace Cert.Proof.Diff

open Idealize.ShloMosaic Idealize.ShloMosaic.TcCoe Idealize.SL.Sem
open Cert.ReferenceIdeal.Diff (wide)

/-- An index, taken apart into batch, query block, query, head and lane. -/
theorem index_split (y : Cert.KernelIdeal.S8x4096x512.Idx) :
    ∃ (b p : Fin 8) (r : Fin 512) (h : Fin 4) (l : Fin 128), y = ix3 b (query p r) (wide h l) := by
  have h0 : (y 0).val < 8 := (y 0).isLt
  have h1 : (y 1).val < 4096 := (y 1).isLt
  have h2 : (y 2).val < 512 := (y 2).isLt
  refine ⟨y 0, ⟨(y 1).val / 512, by omega⟩, ⟨(y 1).val % 512, by omega⟩, ⟨(y 2).val / 128, by omega⟩, ⟨(y 2).val % 128, by omega⟩, ?_⟩
  funext a; apply Fin.ext
  match a with
  | ⟨0, _⟩ => rfl
  | ⟨1, _⟩ => show (y 1).val = 512 * ((y 1).val / 512) + (y 1).val % 512; omega
  | ⟨2, _⟩ => show (y 2).val = 128 * ((y 2).val / 128) + (y 2).val % 128; omega

/-- Over the reals the attention kernel and its reference end with equal results and unchanged arguments. -/
theorem equation : Cert.algebraic_KernelIdeal_ReferenceIdeal_pre_finite := by
  intro m g m' g' hpre hagree
  refine ⟨fun c => (Cert.KernelIdeal.Diff.data m 0 c).arrAt 7 Cert.KernelIdeal.cfg0.N, Cert.KernelIdeal.Diff.run_named m g, ?_⟩
  refine (θ_run Cert.ReferenceIdeal.defs _ _).mono (fun r h c => ⟨(h c).1.trans ?_, (h c).2⟩) (Cert.ReferenceIdeal.Value.run (F := Ideal) m' g')
  obtain ⟨e0, e1, e2, e3, e4, e5, e6⟩ := hagree c
  obtain ⟨r0, r1, r2, r3, r4⟩ := reals _ _ _ _ _ _ _ (hpre c)
  rw [Cert.ReferenceIdeal.Read.val_main_v63_eq]
  funext y
  rw [e0, e1, e2, e3, e4, e5, e6]
  obtain ⟨b, p, s, h, l, rfl⟩ := index_split y
  exact (Cert.ReferenceIdeal.Diff.result_apply _ _ _ _ _ _ _ b (query p s) h l).trans
    ((agree _ _ _ _ _ _ _ r0 r1 r2 r3 r4 b p s h l).symm.trans
      (Cert.KernelIdeal.Diff.final_apply m c (tame _ _ _ r2 r3 r4) b p s (wide h l)).symm)

end Cert.Proof.Diff
end
-- ==== Proof.Diff4.KernelIdealBody.lean ====
/-
The run of the differential attention kernel's body on whole staging buffers. The body goes through its two counted
loops by their invariants; the conditional step over the odd 512-key block is taken on odd query blocks and skipped on
even ones, so there is one run for each. Each run finds the pieces the four heads' stores leave in the output block.
-/
module

public import proofs.«01_k».proof.Proof.Gen.Kernel4Ideal.Frame
public import proofs.«01_k».proof.Proof.Gen.Kernel4Ideal.Loops
public import Idealize.ShloMosaic.Lib.Ring
public import Idealize.ShloMosaic.Lib.Claim

@[expose] public section

set_option maxRecDepth 16384

noncomputable section

namespace Cert.Kernel4Ideal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Gen

variable {F : FTy → Type} [FloatOps F]

local notation "𝕄" => MT nD τ sig Unit (Elt F) ℕ (UR sig nD τ) ℕ

set_option maxHeartbeats 4000000 in
/-- The body on a query block with an odd number of 512-key blocks before it. -/
noncomputable def oddRun (c : Dev nD) (i : grid0.Coords) (hc : k0_cond1 i = 1#1)
    (arg3 : Memref sig .tc .vmem S2x64 .f32) (harg3 : arg3.IsWhole)
    (arg4 : Memref sig .tc .vmem S2x64 .f32) (harg4 : arg4.IsWhole)
    (arg5 : Memref sig .tc .vmem S1x512x512 .bf16) (harg5 : arg5.IsWhole)
    (arg6 : Memref sig .tc .vmem S1x4096x512 .bf16) (harg6 : arg6.IsWhole)
    (arg7 : Memref sig .tc .vmem S1x512x4096 .bf16) (harg7 : arg7.IsWhole)
    (arg8 : Memref sig .tc .vmem S1x512x512 .bf16) (harg8 : arg8.IsWhole)
    (arg9 : Memref sig .tc .vmem S1x128 .f32) (harg9 : arg9.IsWhole)
    (arg10 : Memref sig .tc .vmem S1x512x512 .bf16) (harg10 : arg10.IsWhole)
    (x0 : Vec F S2x64 .f32) (x1 : Vec F S2x64 .f32) (x2 : Vec F S1x512x512 .bf16) (x3 : Vec F S1x4096x512 .bf16) (x4 : Vec F S1x512x4096 .bf16) (x5 : Vec F S1x512x512 .bf16) (x6 : Vec F S1x128 .f32) :
    { L : List (View.Piece (Elt F) S1x512x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L)) -∗ K ⟨⟩))
          ⊢ wp frame (wpE (defs₀ (F := F)) Variants.none c none) E (cc0_diff i arg3 harg3 arg4 harg4 arg5 harg5 arg6 harg6 arg7 harg7 arg8 harg8 arg9 harg9 arg10 harg10) K } := by
  refine ⟨?_, fun E K => ?run⟩
  case run =>
    simp only [cc0_diff_eq_skeleton]; unfold cc0_diff_skel
    simp only [k0_part7_eq_skeleton, k0_part8_eq_skeleton, k0_part9_eq_skeleton, k0_part10_eq_skeleton, k0_part11_eq_skeleton,
      k0_part12_eq_skeleton, k0_part13_eq_skeleton, k0_part14_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d, %f, -, H7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact H7

set_option maxHeartbeats 4000000 in
/-- The body on a query block with an even number of 512-key blocks before it. -/
noncomputable def evenRun (c : Dev nD) (i : grid0.Coords) (hc : ¬ k0_cond1 i = 1#1)
    (arg3 : Memref sig .tc .vmem S2x64 .f32) (harg3 : arg3.IsWhole)
    (arg4 : Memref sig .tc .vmem S2x64 .f32) (harg4 : arg4.IsWhole)
    (arg5 : Memref sig .tc .vmem S1x512x512 .bf16) (harg5 : arg5.IsWhole)
    (arg6 : Memref sig .tc .vmem S1x4096x512 .bf16) (harg6 : arg6.IsWhole)
    (arg7 : Memref sig .tc .vmem S1x512x4096 .bf16) (harg7 : arg7.IsWhole)
    (arg8 : Memref sig .tc .vmem S1x512x512 .bf16) (harg8 : arg8.IsWhole)
    (arg9 : Memref sig .tc .vmem S1x128 .f32) (harg9 : arg9.IsWhole)
    (arg10 : Memref sig .tc .vmem S1x512x512 .bf16) (harg10 : arg10.IsWhole)
    (x0 : Vec F S2x64 .f32) (x1 : Vec F S2x64 .f32) (x2 : Vec F S1x512x512 .bf16) (x3 : Vec F S1x4096x512 .bf16) (x4 : Vec F S1x512x4096 .bf16) (x5 : Vec F S1x512x512 .bf16) (x6 : Vec F S1x128 .f32) :
    { L : List (View.Piece (Elt F) S1x512x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L)) -∗ K ⟨⟩))
          ⊢ wp frame (wpE (defs₀ (F := F)) Variants.none c none) E (cc0_diff i arg3 harg3 arg4 harg4 arg5 harg5 arg6 harg6 arg7 harg7 arg8 harg8 arg9 harg9 arg10 harg10) K } := by
  refine ⟨?_, fun E K => ?run⟩
  case run =>
    simp only [cc0_diff_eq_skeleton]; unfold cc0_diff_skel
    simp only [k0_part7_eq_skeleton, k0_part8_eq_skeleton, k0_part9_eq_skeleton, k0_part10_eq_skeleton, k0_part11_eq_skeleton,
      k0_part12_eq_skeleton, k0_part13_eq_skeleton, k0_part14_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d, %f, -, H7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact H7

end Cert.Kernel4Ideal.Diff

end
-- ==== Proof.Diff4.KernelIdealFrame.lean ====
/-
The frame of the differential attention kernel: the proof data of its one pipeline, the body's triple at every grid
point, the launch, and what the launch says of the argument arrays and the counters.
-/
module

public import proofs.«01_k».proof.Proof.Diff4.KernelIdealBody
public import Idealize.ShloMosaic.Lib.Pipeline.FrameBody

@[expose] public section

set_option maxRecDepth 16384

noncomputable section

namespace Cert.Kernel4Ideal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A staging buffer of the output, to read written pieces through. -/
abbrev outView : View sig .tc .vmem S1x512x512 .bf16 := (Memref.whole cc0_stg7_0 : Memref sig .tc .vmem S1x512x512 .bf16).view

/-! The staging buffers at a point, as the body is handed them. -/

abbrev stg0 (t : Fin cfg0.N) : Memref sig .tc .vmem S2x64 .f32 := win0_0.stage (cfg0.slots t 0)
abbrev whole0 (t : Fin cfg0.N) : (stg0 t).IsWhole := hstage0_0 ((cfg0.slots t 0).cast nbuf0_0)
abbrev stg1 (t : Fin cfg0.N) : Memref sig .tc .vmem S2x64 .f32 := win0_1.stage (cfg0.slots t 1)
abbrev whole1 (t : Fin cfg0.N) : (stg1 t).IsWhole := hstage0_1 ((cfg0.slots t 1).cast nbuf0_1)
abbrev stg2 (t : Fin cfg0.N) : Memref sig .tc .vmem S1x512x512 .bf16 := win0_2.stage (cfg0.slots t 2)
abbrev whole2 (t : Fin cfg0.N) : (stg2 t).IsWhole := hstage0_2 ((cfg0.slots t 2).cast nbuf0_2)
abbrev stg3 (t : Fin cfg0.N) : Memref sig .tc .vmem S1x4096x512 .bf16 := win0_3.stage (cfg0.slots t 3)
abbrev whole3 (t : Fin cfg0.N) : (stg3 t).IsWhole := hstage0_3 ((cfg0.slots t 3).cast nbuf0_3)
abbrev stg4 (t : Fin cfg0.N) : Memref sig .tc .vmem S1x512x4096 .bf16 := win0_4.stage (cfg0.slots t 4)
abbrev whole4 (t : Fin cfg0.N) : (stg4 t).IsWhole := hstage0_4 ((cfg0.slots t 4).cast nbuf0_4)
abbrev stg5 (t : Fin cfg0.N) : Memref sig .tc .vmem S1x512x512 .bf16 := win0_5.stage (cfg0.slots t 5)
abbrev whole5 (t : Fin cfg0.N) : (stg5 t).IsWhole := hstage0_5 ((cfg0.slots t 5).cast nbuf0_5)
abbrev stg6 (t : Fin cfg0.N) : Memref sig .tc .vmem S1x128 .f32 := win0_6.stage (cfg0.slots t 6)
abbrev whole6 (t : Fin cfg0.N) : (stg6 t).IsWhole := hstage0_6 ((cfg0.slots t 6).cast nbuf0_6)
abbrev stg7 (t : Fin cfg0.N) : Memref sig .tc .vmem S1x512x512 .bf16 := win0_7.stage (cfg0.slots t 7)
abbrev whole7 (t : Fin cfg0.N) : (stg7 t).IsWhole := hstage0_7 ((cfg0.slots t 7).cast nbuf0_7)

/-- The four heads' stores of the odd run tile the output block. -/
theorem odd_cover (c : Dev nD) (i : grid0.Coords) (hc : k0_cond1 i = 1#1)
    (arg3 : Memref sig .tc .vmem S2x64 .f32) (harg3 : arg3.IsWhole)
    (arg4 : Memref sig .tc .vmem S2x64 .f32) (harg4 : arg4.IsWhole)
    (arg5 : Memref sig .tc .vmem S1x512x512 .bf16) (harg5 : arg5.IsWhole)
    (arg6 : Memref sig .tc .vmem S1x4096x512 .bf16) (harg6 : arg6.IsWhole)
    (arg7 : Memref sig .tc .vmem S1x512x4096 .bf16) (harg7 : arg7.IsWhole)
    (arg8 : Memref sig .tc .vmem S1x512x512 .bf16) (harg8 : arg8.IsWhole)
    (arg9 : Memref sig .tc .vmem S1x128 .f32) (harg9 : arg9.IsWhole)
    (arg10 : Memref sig .tc .vmem S1x512x512 .bf16) (harg10 : arg10.IsWhole)
    (x0 : Vec F S2x64 .f32) (x1 : Vec F S2x64 .f32) (x2 : Vec F S1x512x512 .bf16) (x3 : Vec F S1x4096x512 .bf16) (x4 : Vec F S1x512x4096 .bf16) (x5 : Vec F S1x512x512 .bf16) (x6 : Vec F S1x128 .f32) (y : S1x512x512.Idx) :
    ∃ pc ∈ (oddRun c i hc arg3 harg3 arg4 harg4 arg5 harg5 arg6 harg6 arg7 harg7 arg8 harg8 arg9 harg9 arg10 harg10 x0 x1 x2 x3 x4 x5 x6).1, y ∈ pc.1.set :=
  View.cover_of_tiledL (oddRun c i hc arg3 harg3 arg4 harg4 arg5 harg5 arg6 harg6 arg7 harg7 arg8 harg8 arg9 harg9 arg10 harg10 x0 x1 x2 x3 x4 x5 x6).1 S1x512x128.size (by sl_kernel_rfl) y

/-- The output block after the odd run. -/
def oddOut (c : Dev nD) (i : grid0.Coords) (hc : k0_cond1 i = 1#1)
    (arg3 : Memref sig .tc .vmem S2x64 .f32) (harg3 : arg3.IsWhole)
    (arg4 : Memref sig .tc .vmem S2x64 .f32) (harg4 : arg4.IsWhole)
    (arg5 : Memref sig .tc .vmem S1x512x512 .bf16) (harg5 : arg5.IsWhole)
    (arg6 : Memref sig .tc .vmem S1x4096x512 .bf16) (harg6 : arg6.IsWhole)
    (arg7 : Memref sig .tc .vmem S1x512x4096 .bf16) (harg7 : arg7.IsWhole)
    (arg8 : Memref sig .tc .vmem S1x512x512 .bf16) (harg8 : arg8.IsWhole)
    (arg9 : Memref sig .tc .vmem S1x128 .f32) (harg9 : arg9.IsWhole)
    (arg10 : Memref sig .tc .vmem S1x512x512 .bf16) (harg10 : arg10.IsWhole)
    (x0 : Vec F S2x64 .f32) (x1 : Vec F S2x64 .f32) (x2 : Vec F S1x512x512 .bf16) (x3 : Vec F S1x4096x512 .bf16) (x4 : Vec F S1x512x4096 .bf16) (x5 : Vec F S1x512x512 .bf16) (x6 : Vec F S1x128 .f32) : Vec F S1x512x512 .bf16 :=
  outView.read (Elt F) (outView.writes (Elt F) outView.junk (oddRun c i hc arg3 harg3 arg4 harg4 arg5 harg5 arg6 harg6 arg7 harg7 arg8 harg8 arg9 harg9 arg10 harg10 x0 x1 x2 x3 x4 x5 x6).1)

/-- The four heads' stores of the even run tile the output block. -/
theorem even_cover (c : Dev nD) (i : grid0.Coords) (hc : ¬ k0_cond1 i = 1#1)
    (arg3 : Memref sig .tc .vmem S2x64 .f32) (harg3 : arg3.IsWhole)
    (arg4 : Memref sig .tc .vmem S2x64 .f32) (harg4 : arg4.IsWhole)
    (arg5 : Memref sig .tc .vmem S1x512x512 .bf16) (harg5 : arg5.IsWhole)
    (arg6 : Memref sig .tc .vmem S1x4096x512 .bf16) (harg6 : arg6.IsWhole)
    (arg7 : Memref sig .tc .vmem S1x512x4096 .bf16) (harg7 : arg7.IsWhole)
    (arg8 : Memref sig .tc .vmem S1x512x512 .bf16) (harg8 : arg8.IsWhole)
    (arg9 : Memref sig .tc .vmem S1x128 .f32) (harg9 : arg9.IsWhole)
    (arg10 : Memref sig .tc .vmem S1x512x512 .bf16) (harg10 : arg10.IsWhole)
    (x0 : Vec F S2x64 .f32) (x1 : Vec F S2x64 .f32) (x2 : Vec F S1x512x512 .bf16) (x3 : Vec F S1x4096x512 .bf16) (x4 : Vec F S1x512x4096 .bf16) (x5 : Vec F S1x512x512 .bf16) (x6 : Vec F S1x128 .f32) (y : S1x512x512.Idx) :
    ∃ pc ∈ (evenRun c i hc arg3 harg3 arg4 harg4 arg5 harg5 arg6 harg6 arg7 harg7 arg8 harg8 arg9 harg9 arg10 harg10 x0 x1 x2 x3 x4 x5 x6).1, y ∈ pc.1.set :=
  View.cover_of_tiledL (evenRun c i hc arg3 harg3 arg4 harg4 arg5 harg5 arg6 harg6 arg7 harg7 arg8 harg8 arg9 harg9 arg10 harg10 x0 x1 x2 x3 x4 x5 x6).1 S1x512x128.size (by sl_kernel_rfl) y

/-- The output block after the even run. -/
def evenOut (c : Dev nD) (i : grid0.Coords) (hc : ¬ k0_cond1 i = 1#1)
    (arg3 : Memref sig .tc .vmem S2x64 .f32) (harg3 : arg3.IsWhole)
    (arg4 : Memref sig .tc .vmem S2x64 .f32) (harg4 : arg4.IsWhole)
    (arg5 : Memref sig .tc .vmem S1x512x512 .bf16) (harg5 : arg5.IsWhole)
    (arg6 : Memref sig .tc .vmem S1x4096x512 .bf16) (harg6 : arg6.IsWhole)
    (arg7 : Memref sig .tc .vmem S1x512x4096 .bf16) (harg7 : arg7.IsWhole)
    (arg8 : Memref sig .tc .vmem S1x512x512 .bf16) (harg8 : arg8.IsWhole)
    (arg9 : Memref sig .tc .vmem S1x128 .f32) (harg9 : arg9.IsWhole)
    (arg10 : Memref sig .tc .vmem S1x512x512 .bf16) (harg10 : arg10.IsWhole)
    (x0 : Vec F S2x64 .f32) (x1 : Vec F S2x64 .f32) (x2 : Vec F S1x512x512 .bf16) (x3 : Vec F S1x4096x512 .bf16) (x4 : Vec F S1x512x4096 .bf16) (x5 : Vec F S1x512x512 .bf16) (x6 : Vec F S1x128 .f32) : Vec F S1x512x512 .bf16 :=
  outView.read (Elt F) (outView.writes (Elt F) outView.junk (evenRun c i hc arg3 harg3 arg4 harg4 arg5 harg5 arg6 harg6 arg7 harg7 arg8 harg8 arg9 harg9 arg10 harg10 x0 x1 x2 x3 x4 x5 x6).1)

open Classical in
/-- The output block after the body at point `t`. -/
def outAt (c : Dev nD) (t : Fin cfg0.N) : Vec F S1x512x512 .bf16 :=
  if hc : k0_cond1 (grid0.coords t) = 1#1 then
    oddOut c (grid0.coords t) hc (stg0 t) (whole0 t) (stg1 t) (whole1 t) (stg2 t) (whole2 t) (stg3 t) (whole3 t) (stg4 t) (whole4 t) (stg5 t) (whole5 t) (stg6 t) (whole6 t) (stg7 t) (whole7 t) (iblk m c 0 t) (iblk m c 1 t) (iblk m c 2 t) (iblk m c 3 t) (iblk m c 4 t) (iblk m c 5 t) (iblk m c 6 t)
  else
    evenOut c (grid0.coords t) hc (stg0 t) (whole0 t) (stg1 t) (whole1 t) (stg2 t) (whole2 t) (stg3 t) (whole3 t) (stg4 t) (whole4 t) (stg5 t) (whole5 t) (stg6 t) (whole6 t) (stg7 t) (whole7 t) (iblk m c 0 t) (iblk m c 1 t) (iblk m c 2 t) (iblk m c 3 t) (iblk m c 4 t) (iblk m c 5 t) (iblk m c 6 t)

/-- The pipeline's proof data: every input's buffer keeps its block, the output's buffer ends at `outAt`. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q _ := fullShare
  owed _ := 0

theorem data_A (c : Dev nD) (w : Fin cfg0.W) : (data m 0 c).A w = V m c (Pipeline.arrRef spec0 w) := by
  dsimp only [data]

theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = iblk m c 3 t := by dsimp only [data]
theorem after_4 (c : Dev nD) (t : Fin cfg0.N) : (data m 0 c).after 4 t = iblk m c 4 t := by dsimp only [data]
theorem after_5 (c : Dev nD) (t : Fin cfg0.N) : (data m 0 c).after 5 t = iblk m c 5 t := by dsimp only [data]
theorem after_6 (c : Dev nD) (t : Fin cfg0.N) : (data m 0 c).after 6 t = iblk m c 6 t := by dsimp only [data]
theorem after_7 (c : Dev nD) (t : Fin cfg0.N) : (data m 0 c).after 7 t = outAt m c t := by dsimp only [data]

theorem before_0 (c : Dev nD) (t : Fin cfg0.N) (d) : (data m 0 c).before 0 t d = iblk m c 0 t :=
  before0_0_of m (data m 0 c) (data_A m c 0) (after_0 m c) t d
theorem before_1 (c : Dev nD) (t : Fin cfg0.N) (d) : (data m 0 c).before 1 t d = iblk m c 1 t :=
  before0_1_of m (data m 0 c) (data_A m c 1) (after_1 m c) t d
theorem before_2 (c : Dev nD) (t : Fin cfg0.N) (d) : (data m 0 c).before 2 t d = iblk m c 2 t :=
  before0_2_of m (data m 0 c) (data_A m c 2) (after_2 m c) t d
theorem before_3 (c : Dev nD) (t : Fin cfg0.N) (d) : (data m 0 c).before 3 t d = iblk m c 3 t :=
  before0_3_of m (data m 0 c) (data_A m c 3) (after_3 m c) t d
theorem before_4 (c : Dev nD) (t : Fin cfg0.N) (d) : (data m 0 c).before 4 t d = iblk m c 4 t :=
  before0_4_of m (data m 0 c) (data_A m c 4) (after_4 m c) t d
theorem before_5 (c : Dev nD) (t : Fin cfg0.N) (d) : (data m 0 c).before 5 t d = iblk m c 5 t :=
  before0_5_of m (data m 0 c) (data_A m c 5) (after_5 m c) t d
theorem before_6 (c : Dev nD) (t : Fin cfg0.N) (d) : (data m 0 c).before 6 t d = iblk m c 6 t :=
  before0_6_of m (data m 0 c) (data_A m c 6) (after_6 m c) t d

/-- What the body finds at point `t`. -/
def bodyFinds (c : Dev nD) (t : Fin cfg0.N) : sProp 𝕄 :=
  iprop((data m 0 c).Φ t.castSucc ∗ (data m 0 c).owesAt () t.castSucc
    ∗ (∃ d, owns (c : Thread nD τ) (stg0 t) fullShare ((data m 0 c).before 0 t d))
    ∗ (∃ d, owns (c : Thread nD τ) (stg1 t) fullShare ((data m 0 c).before 1 t d))
    ∗ (∃ d, owns (c : Thread nD τ) (stg2 t) fullShare ((data m 0 c).before 2 t d))
    ∗ (∃ d, owns (c : Thread nD τ) (stg3 t) fullShare ((data m 0 c).before 3 t d))
    ∗ (∃ d, owns (c : Thread nD τ) (stg4 t) fullShare ((data m 0 c).before 4 t d))
    ∗ (∃ d, owns (c : Thread nD τ) (stg5 t) fullShare ((data m 0 c).before 5 t d))
    ∗ (∃ d, owns (c : Thread nD τ) (stg6 t) fullShare ((data m 0 c).before 6 t d))
    ∗ (∃ d, owns (c : Thread nD τ) (stg7 t) fullShare ((data m 0 c).before 7 t d)))

/-- What the body leaves at point `t`. -/
def bodyLeaves (c : Dev nD) (t : Fin cfg0.N) : sProp 𝕄 :=
  iprop((data m 0 c).Φ t.succ ∗ (data m 0 c).owesAt () t.succ
    ∗ owns (c : Thread nD τ) (stg0 t) fullShare ((data m 0 c).after 0 t)
    ∗ owns (c : Thread nD τ) (stg1 t) fullShare ((data m 0 c).after 1 t)
    ∗ owns (c : Thread nD τ) (stg2 t) fullShare ((data m 0 c).after 2 t)
    ∗ owns (c : Thread nD τ) (stg3 t) fullShare ((data m 0 c).after 3 t)
    ∗ owns (c : Thread nD τ) (stg4 t) fullShare ((data m 0 c).after 4 t)
    ∗ owns (c : Thread nD τ) (stg5 t) fullShare ((data m 0 c).after 5 t)
    ∗ owns (c : Thread nD τ) (stg6 t) fullShare ((data m 0 c).after 6 t)
    ∗ owns (c : Thread nD τ) (stg7 t) fullShare ((data m 0 c).after 7 t))

set_option maxHeartbeats 2000000 in
/-- The body's triple at every point, on the run of the point's parity. -/
theorem body_triple (c : Dev nD) (t : Fin cfg0.N) :
    bodyFinds m c t ⊢ wp frame (wpE (defs₀ (F := F)) Variants.none c none) Set.univ (bodyAt0 t) (fun _ => bodyLeaves m c t) := by
  unfold bodyFinds bodyLeaves bodyAt0
  simp only [before_0, before_1, before_2, before_3, before_4, before_5, before_6]
  rw [show (data m 0 c).Φ t.succ = (data m 0 c).Φ t.castSucc from rfl,
    show (data m 0 c).owesAt () t.succ = (data m 0 c).owesAt () t.castSucc from rfl,
    after_0, after_1, after_2, after_3, after_4, after_5, after_6, after_7]
  iintro ⟨Hinv, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases hc : k0_cond1 (grid0.coords t) = 1#1
  · skip
    rw [show outAt m c t = (oddOut c (grid0.coords t) hc (stg0 t) (whole0 t) (stg1 t) (whole1 t) (stg2 t) (whole2 t) (stg3 t) (whole3 t) (stg4 t) (whole4 t) (stg5 t) (whole5 t) (stg6 t) (whole6 t) (stg7 t) (whole7 t) (iblk m c 0 t) (iblk m c 1 t) (iblk m c 2 t) (iblk m c 3 t) (iblk m c 4 t) (iblk m c 5 t) (iblk m c 6 t)) from dif_pos hc]
    unfold oddOut
    iapply ((oddRun c (grid0.coords t) hc _ _ _ _ _ _ _ _ _ _ _ _ _ _ _ _ (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [Hinv]; · iexact Hinv
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (odd_cover c _ hc _ _ _ _ _ _ _ _ _ _ _ _ _ _ _ _ _ _ _ _ _ _ _)
  · skip
    rw [show outAt m c t = (evenOut c (grid0.coords t) hc (stg0 t) (whole0 t) (stg1 t) (whole1 t) (stg2 t) (whole2 t) (stg3 t) (whole3 t) (stg4 t) (whole4 t) (stg5 t) (whole5 t) (stg6 t) (whole6 t) (stg7 t) (whole7 t) (iblk m c 0 t) (iblk m c 1 t) (iblk m c 2 t) (iblk m c 3 t) (iblk m c 4 t) (iblk m c 5 t) (iblk m c 6 t)) from dif_neg hc]
    unfold evenOut
    iapply ((evenRun c (grid0.coords t) hc _ _ _ _ _ _ _ _ _ _ _ _ _ _ _ _ (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [Hinv]; · iexact Hinv
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (even_cover c _ hc _ _ _ _ _ _ _ _ _ _ _ _ _ _ _ _ _ _ _ _ _ _ _)

/-- The body row of the definitions, at a point's slots. -/
theorem defs₀_at (t : Fin cfg0.N) :
    defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, defs₀_at]
  exact triple_restated (body_triple m c t) rfl .rfl fun _ => .rfl

set_option backward.isDefEq.respectTransparency.types false in
/-- The launch: the arrays end at what the proof data compute, and every counter ends at zero. -/
theorem launch_quiescent : θ_run defs (onTc (τ := τ) (main (F := F))) (s₀ m ρ)
    (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hΦ := fun _ _ => rfl)

theorem launch : θ_run defs (onTc (τ := τ) (main (F := F))) (s₀ m ρ) (Pipeline.FramePost cfgs (data m) 0 (V m)) :=
  (θ_run defs _ _).mono (fun _ h => h.1) (launch_quiescent m ρ)

/-- The frame: the arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
       ∧ r.2.mem ((c.tc : Thread nD τ).loc main_arg1) = m ((c.tc : Thread nD τ).loc main_arg1)
       ∧ r.2.mem ((c.tc : Thread nD τ).loc main_arg2) = m ((c.tc : Thread nD τ).loc main_arg2)
       ∧ r.2.mem ((c.tc : Thread nD τ).loc main_arg3) = m ((c.tc : Thread nD τ).loc main_arg3)
       ∧ r.2.mem ((c.tc : Thread nD τ).loc main_arg4) = m ((c.tc : Thread nD τ).loc main_arg4)
       ∧ r.2.mem ((c.tc : Thread nD τ).loc main_arg5) = m ((c.tc : Thread nD τ).loc main_arg5)
       ∧ r.2.mem ((c.tc : Thread nD τ).loc main_arg6) = m ((c.tc : Thread nD τ).loc main_arg6))
      ∧ r.2.sem = fun _ => 0) :=
  θ_run_and (frame_of m ρ (data m) (data_A m) (launch m ρ))
    ((θ_run defs _ _).mono (fun _ h => h.2) (launch_quiescent m ρ))

end Cert.Kernel4Ideal.Diff

end
-- ==== Proof.Diff4.Lanes.lean ====
module

public import proofs.«01_k».proof.Proof.Diff.Softmax
public import proofs.«01_k».proof.Proof.Gen.Kernel4Ideal.Skeleton
public import Idealize.ShloMosaic.Lib.Pointwise
public import Idealize.ShloMosaic.Lib.WordCmp

/-!
# Words the head steps share

The largest-score fold starts at minus infinity; the mask's comparison of positions and the comparison that picks
a query component's lanes, as conditions on numbers; and the shapes of a head step: scores of a block of keys, its values
with the rows of ones below, and the four payload forms a step is printed in.
-/

@[expose] public section

set_option maxRecDepth 16384

noncomputable section

namespace Cert.Kernel4Ideal.Diff

open Idealize.ShloMosaic Idealize.ShloMosaic.TcCoe
open Cert.Kernel4Ideal Cert.Kernel4Ideal.Gen Cert.Proof.Diff

/-- The word minus infinity is written with. -/
theorem ofBits_ninf : Ideal.ofBits .f32 0xFF800000#32 = ⊥ := by simp [Ideal.ofBits, Ideal.ieee]

/-- A lane is in the first component. -/
theorem select_first {α : Type} (l : Fin 128) (x y : α) :
    Scalar.select (IntOp.cmpi CmpIPredicate.slt (BitVec.ofNat 32 l) 64#32) x y = if l.val < 64 then x else y := by
  have h : ∀ l : Fin 128, IntOp.cmpi CmpIPredicate.slt (BitVec.ofNat 32 l) 64#32 = if l.val < 64 then 1#1 else 0#1 := by decide
  rw [h l]
  split <;> rfl

/-- A lane is in the second component. -/
theorem select_second {α : Type} (l : Fin 128) (x y : α) :
    Scalar.select (IntOp.cmpi CmpIPredicate.sge (BitVec.ofNat 32 l) 64#32) x y = if l.val < 64 then y else x := by
  have h : ∀ l : Fin 128, IntOp.cmpi CmpIPredicate.sge (BitVec.ofNat 32 l) 64#32 = if l.val < 64 then 0#1 else 1#1 := by decide
  rw [h l]
  split <;> rfl

/-- The diagonal block's mask: the key is not after the query. -/
theorem select_causal {α : Type} (j : Fin 512) (c : Fin 1024) (x y : α) :
    Scalar.select (IntOp.cmpi CmpIPredicate.sle (BitVec.ofNat 32 j) (IntOp.andi (BitVec.ofNat 32 c) 511#32)) x y
      = if j.val ≤ c.val % 512 then x else y := by
  have hc : ∀ c : Fin 1024, IntOp.andi (BitVec.ofNat 32 c) 511#32 = BitVec.ofNat 32 (c.val % 512) := by decide +kernel
  rw [hc c, WordCmp.cmpi_sle_of_lt (by simp; omega) (by simp; omega)]
  have e1 : (BitVec.ofNat 32 j.val).toNat = j.val := by simp; omega
  have e2 : (BitVec.ofNat 32 (c.val % 512)).toNat = c.val % 512 := by simp; omega
  rw [e1, e2]
  by_cases h : j.val ≤ c.val % 512
  · rw [if_pos h, decide_eq_true h]; rfl
  · rw [if_neg h, decide_eq_false h]; rfl

/-- A block's values with the rows of ones below them. -/
def withOnes {b : ℕ} (v : Fin 128 → Fin b → EReal) (e : Fin 144) (x : Fin b) : EReal :=
  if h : e.val < 128 then v ⟨e.val, h⟩ x else 1

end Cert.Kernel4Ideal.Diff

end
-- ==== Proof.Diff4.Outputs.lean ====
module

public import proofs.«01_k».proof.Proof.Diff4.Lanes

/-!
# A head's queries and a head's output

A head's queries are laid out as 1024 rows: 512 with only the first component's lanes kept, 512 with only the second's. The
output of a head is, per query, the difference of the two normalised sums, rms-normalised over the 128 lanes, times
the gain and the gate.
-/

@[expose] public section

set_option maxRecDepth 16384

noncomputable section

namespace Cert.Kernel4Ideal.Diff

open Idealize.ShloMosaic Idealize.ShloMosaic.TcCoe
open Cert.Kernel4Ideal Cert.Kernel4Ideal.Gen Cert.Proof.Diff

/-- Row `c` of a head's masked queries, from the 128 lanes of its 512 queries. -/
def lanes (q : Fin 512 → Fin 128 → EReal) (c : Fin 1024) (l : Fin 128) : EReal :=
  if h : c.val < 512 then (if l.val < 64 then q ⟨c.val, h⟩ l else 0)
  else (if l.val < 64 then 0 else q ⟨c.val - 512, by omega⟩ l)

/-- The queries of head 0. -/
theorem lanes0 (q : Vec Ideal S1x512x128 .bf16) (c : Fin 1024) (l : Fin 128) :
    k0_pay47 q (ix2 c l)
      = lanes (fun r l => q (ix3 0 r l)) c l := by
  pointwise [k0_pay47]
  simp only [select_first, select_second]
  rfl

/-- The queries of head 1. -/
theorem lanes1 (q : Vec Ideal S1x512x128 .bf16) (c : Fin 1024) (l : Fin 128) :
    k0_pay48 q (ix2 c l)
      = lanes (fun r l => q (ix3 0 r l)) c l := by
  pointwise [k0_pay48]
  simp only [select_first, select_second]
  rfl

/-- The queries of head 2. -/
theorem lanes2 (q : Vec Ideal S1x512x128 .bf16) (c : Fin 1024) (l : Fin 128) :
    k0_pay51 (iota .tc S512x128 32 [1] iota_S512x128_d1_w32) (k0_pay49 q) k0_pay50 (ix2 c l)
      = lanes (fun r l => q (ix3 0 r l)) c l := by
  pointwise [k0_pay51, k0_pay49, k0_pay50]
  simp only [select_first, select_second]
  rfl

/-- The queries of head 3. -/
theorem lanes3 (q : Vec Ideal S1x512x128 .bf16) (c : Fin 1024) (l : Fin 128) :
    k0_pay52 (iota .tc S512x128 32 [1] iota_S512x128_d1_w32) q (ix2 c l)
      = lanes (fun r l => q (ix3 0 r l)) c l := by
  pointwise [k0_pay52]
  simp only [select_first, select_second]
  rfl

/-- The scalar the second component's attention is scaled with. -/
def lam (a b : Fin 2 → Fin 64 → EReal) : EReal :=
  Ideal.exp (∑ x, a 0 x * b 0 x) - Ideal.exp (∑ x, a 1 x * b 1 x) + Ideal.ofBits .f32 0x3EB60549#32

theorem lam_apply (a b : Vec Ideal S2x64 .f32) :
    k0_pay46 a b (ix2 0 0) = lam (fun i x => a (ix2 i x)) (fun i x => b (ix2 i x)) := by
  pointwise [k0_pay46]
  rfl

/-- Lane `l` of query `r`: the first component's normalised sum less `z` times the second's. -/
def lane (a : Fin 144 → Fin 1024 → EReal) (z : EReal) (r : Fin 512) (l : Fin 128) : EReal :=
  a ⟨l.val, by omega⟩ ⟨r.val, by omega⟩ * Ideal.div 1 (a 128 ⟨r.val, by omega⟩)
    - z * (a ⟨l.val, by omega⟩ ⟨512 + r.val, by omega⟩ * Ideal.div 1 (a 128 ⟨512 + r.val, by omega⟩))

/-- Lane `l` of a row normalised by its root mean square, times the gain `g` and the gate `w`. -/
def normed (o : Fin 128 → EReal) (g w : EReal) (l : Fin 128) : EReal :=
  o l * Ideal.rsqrt (Ideal.div (∑ x, o x * o x) (Ideal.ofBits .f32 0x43000000#32) + Ideal.ofBits .f32 0x358637BD#32)
    * (g * Ideal.ofBits .f32 0x3F24FD5C#32) * w

/-- The output of head 0. -/
theorem out0 (z : FVec Ideal S1x1 .f32) (a : FVec Ideal S144x1024 .f32) (g : Vec Ideal S1x128 .f32) (w : Vec Ideal S1x512x128 .bf16) (r : Fin 512) (l : Fin 128) :
    k0_pay76 z a g w (ix3 0 r l)
      = normed (lane (fun e c => a (ix2 e c)) (z (ix2 0 0)) r) (g (ix2 0 l)) (w (ix3 0 r l)) l := by
  pointwise [k0_pay76]
  rfl

/-- The output of head 1. -/
theorem out1 (z : FVec Ideal S1x1 .f32) (a : FVec Ideal S144x1024 .f32) (g : Vec Ideal S1x128 .f32) (w : Vec Ideal S1x512x128 .bf16) (r : Fin 512) (l : Fin 128) :
    k0_pay79 z (k0_pay77 a) (k0_pay78 a) g w (ix3 0 r l)
      = normed (lane (fun e c => a (ix2 e c)) (z (ix2 0 0)) r) (g (ix2 0 l)) (w (ix3 0 r l)) l := by
  pointwise [k0_pay79, k0_pay77, k0_pay78]
  rfl

/-- The output of head 2. -/
theorem out2 (z : FVec Ideal S1x1 .f32) (a : FVec Ideal S144x1024 .f32) (g : Vec Ideal S1x128 .f32) (w : Vec Ideal S1x512x128 .bf16) (r : Fin 512) (l : Fin 128) :
    k0_pay82 (k0_pay80 z a) (k0_pay81 z a) (FloatOps.ofBits .f32 0x43000000#32) g w (ix3 0 r l)
      = normed (lane (fun e c => a (ix2 e c)) (z (ix2 0 0)) r) (g (ix2 0 l)) (w (ix3 0 r l)) l := by
  pointwise [k0_pay82, k0_pay80, k0_pay81]
  rfl

/-- The output of head 3. -/
theorem out3 (z : FVec Ideal S1x1 .f32) (a : FVec Ideal S144x1024 .f32) (g : Vec Ideal S1x128 .f32) (w : Vec Ideal S1x512x128 .bf16) (r : Fin 512) (l : Fin 128) :
    k0_pay1 (k0_pay83 z a) g w (ix3 0 r l)
      = normed (lane (fun e c => a (ix2 e c)) (z (ix2 0 0)) r) (g (ix2 0 l)) (w (ix3 0 r l)) l := by
  pointwise [k0_pay1, k0_pay83]
  rfl

end Cert.Kernel4Ideal.Diff

end
-- ==== Proof.Diff4.Seen.lean ====
module

public import proofs.«01_k».proof.Proof.Gen.Kernel4Ideal.Loops
public import proofs.«01_k».proof.Proof.Diff4.Outputs
public import Idealize.ShloMosaic.Lib.Pipeline.ValueKit.Tiles
public import Idealize.ShloMosaic.Lib.WholeRead
public import Idealize.ShloMosaic.Lib.Pipeline.ValueKit.Basic

/-!
# Where the kernel reads, and what the heads have seen

The counted loop of a query block `i` makes `i / 2` trips, the loop after it none; the offsets of every load, as
numbers; a load read at an index; and the statement `Seen` that a head's pair of vectors holds the running softmax of
its first `n` keys, with the step over a further block.
-/

@[expose] public section

set_option maxRecDepth 16384

noncomputable section

namespace Cert.Kernel4Ideal.Diff

open Idealize.ShloMosaic Idealize.ShloMosaic.TcCoe
open Cert.Kernel4Ideal Cert.Kernel4Ideal.Gen Cert.Proof.Diff

/-- A load through a unit-stride rectangle of a buffer that holds `X` reads `X` at the offset plus the index. -/
theorem load_at {S : Shape} {e : EltTy} {sp : Space} {μ : Memref sig .tc sp S e} (hμ : μ.IsWhole)
    (X : S.Idx → Elt Ideal e) (off size : Fin S.rank → Nat) (inb : ∀ a, off a + size a ≤ S.size a)
    (x : (Rect.unit off size inb).shape.Idx) (i : S.Idx) (hi : ∀ a, (i a : Nat) = off a + x a) :
    View.readAt (Elt Ideal) μ.view (Rect.unit off size inb).toLoadRect (hμ.unread X) x = X i :=
  (hμ.readAt_unread X _ x).trans (View.ld_unit_apply_of X off size inb x i hi)

/-- The same at rank three, with the offset named. -/
theorem load3 {A B C a b c : ℕ} {e : EltTy} {sp : Space} {μ : Memref sig .tc sp ⟨3, ![A, B, C]⟩ e} (hμ : μ.IsWhole)
    (X : Shape.Idx ⟨3, ![A, B, C]⟩ → Elt Ideal e) (off : Fin 3 → Nat)
    (inb : ∀ t, off t + (![a, b, c] : Fin 3 → Nat) t ≤ (![A, B, C] : Fin 3 → Nat) t) (p q r : ℕ) (hoff : off = ![p, q, r])
    (x : Fin a) (y : Fin b) (z : Fin c) (hp : p + x < A) (hq : q + y < B) (hr : r + z < C) :
    View.readAt (Elt Ideal) μ.view (Rect.unit (s := ⟨3, ![A, B, C]⟩) off ![a, b, c] inb).toLoadRect (hμ.unread X) (ix3 x y z)
      = X (ix3 ⟨p + x, hp⟩ ⟨q + y, hq⟩ ⟨r + z, hr⟩) := by
  subst hoff
  refine load_at hμ X _ _ inb _ _ fun t => ?_
  match t with | ⟨0, _⟩ => rfl | ⟨1, _⟩ => rfl | ⟨2, _⟩ => rfl

/-- The same at rank two. -/
theorem load2 {A B : ℕ} {e : EltTy} {sp : Space} {μ : Memref sig .tc sp ⟨2, ![A, B]⟩ e} (hμ : μ.IsWhole)
    (X : Shape.Idx ⟨2, ![A, B]⟩ → Elt Ideal e)
    (inb : ∀ t, (![0, 0] : Fin 2 → Nat) t + (![A, B] : Fin 2 → Nat) t ≤ (![A, B] : Fin 2 → Nat) t) (x : Fin A) (y : Fin B) :
    View.readAt (Elt Ideal) μ.view (Rect.unit (s := ⟨2, ![A, B]⟩) ![0, 0] ![A, B] inb).toLoadRect (hμ.unread X) (ix2 x y)
      = X (ix2 x y) := by
  refine load_at hμ X _ _ inb _ _ fun t => ?_
  match t with | ⟨0, _⟩ => exact (Nat.zero_add _).symm | ⟨1, _⟩ => exact (Nat.zero_add _).symm

/-- The grid point of query block `n` in batch zero. -/
def at3 (n : Fin 8) : grid0.Coords
  | ⟨0, _⟩ => (0 : Fin 8)
  | ⟨1, _⟩ => (0 : Fin 1)
  | ⟨2, _⟩ => n

theorem t1_trips (i : grid0.Coords) : (k0_t1_loop i).trips = (i 2).val / 2 := by
  have h : ∀ n : Fin 8, (k0_t1_loop (at3 n)).trips = n.val / 2 := by decide +kernel
  exact h (i 2)

theorem t2_trips (i : grid0.Coords) : (k0_t2_loop i).trips = 0 := by
  have h : ∀ n : Fin 8, (k0_t2_loop (at3 n)).trips = 0 := by decide +kernel
  exact h (i 2)

theorem cond_iff (i : grid0.Coords) : k0_cond1 i = 1#1 ↔ (i 2).val % 2 = 1 := by
  have h : ∀ n : Fin 8, k0_cond1 (at3 n) = 1#1 ↔ n.val % 2 = 1 := by decide +kernel
  exact h (i 2)

theorem i2_lt (i : grid0.Coords) : (i 2).val < 8 := (i 2).isLt

/-- The first key of trip `k`. -/
theorem trip_key (k : ℕ) (hk : k < 4) :
    (Scalar.indexCast (Scalar.muli (Scf.iv 0#32 1#32 k) 1024#32) : BitVec 32).toNat = 1024 * k := by
  have h : ∀ n : Fin 4, (Scalar.indexCast (Scalar.muli (Scf.iv 0#32 1#32 n.val) 1024#32) : BitVec 32).toNat = 1024 * n.val := by
    decide +kernel
  exact h ⟨k, hk⟩

theorem trip_lt (i : grid0.Coords) (k : Fin (k0_t1_loop i).trips) : k.val < 4 := by
  have h := k.isLt
  have := t1_trips i
  have := i2_lt i
  omega

/-- The first key of the odd block. -/
theorem odd_key (i : grid0.Coords) (h : (i 2).val % 2 = 1) :
    (Scalar.indexCast (Scalar.muli (Scalar.subi (BitVec.ofNat 32 (i 2).val) 1#32) 512#32) : BitVec 32).toNat = 512 * ((i 2).val - 1) := by
  have e : ∀ n : Fin 8, n.val % 2 = 1 → (Scalar.indexCast (Scalar.muli (Scalar.subi (BitVec.ofNat 32 n.val) 1#32) 512#32) : BitVec 32).toNat = 512 * (n.val - 1) := by
    decide +kernel
  exact e (i 2) h

/-- The first key of the diagonal block. -/
theorem diag_key (i : grid0.Coords) :
    (Scalar.indexCast (Scalar.muli (BitVec.ofNat 32 (i 2).val) 512#32) : BitVec 32).toNat = 512 * (i 2).val := by
  have e : ∀ n : Fin 8, (Scalar.indexCast (Scalar.muli (BitVec.ofNat 32 n.val) 512#32) : BitVec 32).toNat = 512 * n.val := by
    decide +kernel
  exact e (i 2)

/-! The loads' offsets. -/

theorem off1 (i : grid0.Coords) (k : Fin (k0_t1_loop i).trips) : k0_off1 i k = ![0, 1024 * k.val, 0] :=
  congrArg (fun x : ℕ => (![0, x, 0] : Fin 3 → ℕ)) (trip_key k.val (trip_lt i k))
theorem off4 (i : grid0.Coords) (k : Fin (k0_t1_loop i).trips) : k0_off4 i k = ![0, 0, 1024 * k.val] :=
  congrArg (fun x : ℕ => (![0, 0, x] : Fin 3 → ℕ)) (trip_key k.val (trip_lt i k))
theorem off17 (i : grid0.Coords) (h : (i 2).val % 2 = 1) : k0_off17 i = ![0, 512 * ((i 2).val - 1), 0] :=
  congrArg (fun x : ℕ => (![0, x, 0] : Fin 3 → ℕ)) (odd_key i h)
theorem off20 (i : grid0.Coords) (h : (i 2).val % 2 = 1) : k0_off20 i = ![0, 0, 512 * ((i 2).val - 1)] :=
  congrArg (fun x : ℕ => (![0, 0, x] : Fin 3 → ℕ)) (odd_key i h)
theorem off25 (i : grid0.Coords) : k0_off25 i = ![0, 512 * (i 2).val, 0] :=
  congrArg (fun x : ℕ => (![0, x, 0] : Fin 3 → ℕ)) (diag_key i)
theorem off28 (i : grid0.Coords) : k0_off28 i = ![0, 0, 512 * (i 2).val] :=
  congrArg (fun x : ℕ => (![0, 0, x] : Fin 3 → ℕ)) (diag_key i)
theorem off2 (i : grid0.Coords) (k : Fin (k0_t1_loop i).trips) : k0_off2 i k = ![0, 1024 * k.val, 128] :=
  congrArg (fun x : ℕ => (![0, x, 128] : Fin 3 → ℕ)) (trip_key k.val (trip_lt i k))
theorem off6 (i : grid0.Coords) (k : Fin (k0_t1_loop i).trips) : k0_off6 i k = ![0, 128, 1024 * k.val] :=
  congrArg (fun x : ℕ => (![0, 128, x] : Fin 3 → ℕ)) (trip_key k.val (trip_lt i k))
theorem off18 (i : grid0.Coords) (h : (i 2).val % 2 = 1) : k0_off18 i = ![0, 512 * ((i 2).val - 1), 128] :=
  congrArg (fun x : ℕ => (![0, x, 128] : Fin 3 → ℕ)) (odd_key i h)
theorem off22 (i : grid0.Coords) (h : (i 2).val % 2 = 1) : k0_off22 i = ![0, 128, 512 * ((i 2).val - 1)] :=
  congrArg (fun x : ℕ => (![0, 128, x] : Fin 3 → ℕ)) (odd_key i h)
theorem off26 (i : grid0.Coords) : k0_off26 i = ![0, 512 * (i 2).val, 128] :=
  congrArg (fun x : ℕ => (![0, x, 128] : Fin 3 → ℕ)) (diag_key i)
theorem off30 (i : grid0.Coords) : k0_off30 i = ![0, 128, 512 * (i 2).val] :=
  congrArg (fun x : ℕ => (![0, 128, x] : Fin 3 → ℕ)) (diag_key i)
theorem off3 (i : grid0.Coords) (k : Fin (k0_t1_loop i).trips) : k0_off3 i k = ![0, 1024 * k.val, 256] :=
  congrArg (fun x : ℕ => (![0, x, 256] : Fin 3 → ℕ)) (trip_key k.val (trip_lt i k))
theorem off7 (i : grid0.Coords) (k : Fin (k0_t1_loop i).trips) : k0_off7 i k = ![0, 256, 1024 * k.val] :=
  congrArg (fun x : ℕ => (![0, 256, x] : Fin 3 → ℕ)) (trip_key k.val (trip_lt i k))
theorem off19 (i : grid0.Coords) (h : (i 2).val % 2 = 1) : k0_off19 i = ![0, 512 * ((i 2).val - 1), 256] :=
  congrArg (fun x : ℕ => (![0, x, 256] : Fin 3 → ℕ)) (odd_key i h)
theorem off23 (i : grid0.Coords) (h : (i 2).val % 2 = 1) : k0_off23 i = ![0, 256, 512 * ((i 2).val - 1)] :=
  congrArg (fun x : ℕ => (![0, 256, x] : Fin 3 → ℕ)) (odd_key i h)
theorem off27 (i : grid0.Coords) : k0_off27 i = ![0, 512 * (i 2).val, 256] :=
  congrArg (fun x : ℕ => (![0, x, 256] : Fin 3 → ℕ)) (diag_key i)
theorem off31 (i : grid0.Coords) : k0_off31 i = ![0, 256, 512 * (i 2).val] :=
  congrArg (fun x : ℕ => (![0, 256, x] : Fin 3 → ℕ)) (diag_key i)
theorem off5 (i : grid0.Coords) (k : Fin (k0_t1_loop i).trips) : k0_off5 i k = ![0, 1024 * k.val, 384] :=
  congrArg (fun x : ℕ => (![0, x, 384] : Fin 3 → ℕ)) (trip_key k.val (trip_lt i k))
theorem off8 (i : grid0.Coords) (k : Fin (k0_t1_loop i).trips) : k0_off8 i k = ![0, 384, 1024 * k.val] :=
  congrArg (fun x : ℕ => (![0, 384, x] : Fin 3 → ℕ)) (trip_key k.val (trip_lt i k))
theorem off21 (i : grid0.Coords) (h : (i 2).val % 2 = 1) : k0_off21 i = ![0, 512 * ((i 2).val - 1), 384] :=
  congrArg (fun x : ℕ => (![0, x, 384] : Fin 3 → ℕ)) (odd_key i h)
theorem off24 (i : grid0.Coords) (h : (i 2).val % 2 = 1) : k0_off24 i = ![0, 384, 512 * ((i 2).val - 1)] :=
  congrArg (fun x : ℕ => (![0, 384, x] : Fin 3 → ℕ)) (odd_key i h)
theorem off29 (i : grid0.Coords) : k0_off29 i = ![0, 512 * (i 2).val, 384] :=
  congrArg (fun x : ℕ => (![0, x, 384] : Fin 3 → ℕ)) (diag_key i)
theorem off32 (i : grid0.Coords) : k0_off32 i = ![0, 384, 512 * (i 2).val] :=
  congrArg (fun x : ℕ => (![0, 384, x] : Fin 3 → ℕ)) (diag_key i)

/-! ## Scores and values of a block of queries -/

/-- The 128 lanes of head `h` of query `r`. -/
def qhead (Q : S1x512x512.Idx → EReal) (h : Fin 4) (r : Fin 512) (l : Fin 128) : EReal :=
  Q (ix3 0 r ⟨128 * h.val + l.val, by omega⟩)

/-- The score of key `j` with row `c` of head `h`'s masked queries. -/
def score (Q : S1x512x512.Idx → EReal) (K : S1x4096x512.Idx → EReal) (h : Fin 4) (c : Fin 1024) (j : ℕ) : EReal :=
  if hj : j < 4096 then ∑ l : Fin 128, K (ix3 0 ⟨j, hj⟩ ⟨128 * h.val + l.val, by omega⟩) * lanes (qhead Q h) c l else ⊥

/-- The score with the keys after the query hidden; the query block is the `p`-th. -/
def shown (Q : S1x512x512.Idx → EReal) (K : S1x4096x512.Idx → EReal) (p : ℕ) (h : Fin 4) (c : Fin 1024) (j : ℕ) : EReal :=
  if j ≤ 512 * p + c.val % 512 then score Q K h c j else ⊥

/-- Value lane `e` of key `j` of head `h`, with the lanes from 128 on being ones. -/
def value (Vt : S1x512x4096.Idx → EReal) (h : Fin 4) (e : Fin 144) (j : ℕ) : EReal :=
  if he : e.val < 128 then (if hj : j < 4096 then Vt (ix3 0 ⟨128 * h.val + e.val, by omega⟩ ⟨j, hj⟩) else 0) else 1

/-- A head's two vectors hold the running softmax of the first `n` keys. -/
def Seen (s : Fin 1024 → ℕ → EReal) (v : Fin 144 → ℕ → EReal) (n : ℕ) (m : FVec Ideal S1x1024 .f32) (a : FVec Ideal S144x1024 .f32) : Prop :=
  ∀ c, m (ix2 0 c) = top (s c) n ∧ ∀ e, a (ix2 e c) = tot (s c) (v e) n

variable {s : Fin 1024 → ℕ → EReal} {v : Fin 144 → ℕ → EReal}

/-- The weighted sums after a block. -/
theorem Seen.acc {b n : ℕ} (hs : ∀ c j, s c j ≠ ⊤) (hv : ∀ e j, IsReal (v e j)) {m : FVec Ideal S1x1024 .f32} {a a' : FVec Ideal S144x1024 .f32}
    (h : Seen s v n m a) (sb : Fin 1024 → Fin b → EReal) (vb : Fin 144 → Fin b → EReal)
    (es : ∀ c x, sb c x = s c (n + x)) (ev : ∀ e x, vb e x = v e (n + x))
    (ha : ∀ e c, a' (ix2 e c) = newAcc (m (ix2 0 c)) (a (ix2 e c)) (sb c) (vb e)) (e : Fin 144) (c : Fin 1024) :
    a' (ix2 e c) = tot (s c) (v e) (n + b) := by
  rw [ha e c, (h c).1, (h c).2 e, show sb c = fun x : Fin b => s c (n + x) from funext (es c),
    show vb e = fun x : Fin b => v e (n + x) from funext (ev e)]
  exact tot_add (s c) (v e) (hs c) (hv e) n b

/-- The step over a block. -/
theorem Seen.step {b n : ℕ} (hs : ∀ c j, s c j ≠ ⊤) (hv : ∀ e j, IsReal (v e j)) {m m' : FVec Ideal S1x1024 .f32} {a a' : FVec Ideal S144x1024 .f32}
    (h : Seen s v n m a) (sb : Fin 1024 → Fin b → EReal) (vb : Fin 144 → Fin b → EReal)
    (es : ∀ c x, sb c x = s c (n + x)) (ev : ∀ e x, vb e x = v e (n + x))
    (hm : ∀ c, m' (ix2 0 c) = newMax (m (ix2 0 c)) (sb c))
    (ha : ∀ e c, a' (ix2 e c) = newAcc (m (ix2 0 c)) (a (ix2 e c)) (sb c) (vb e)) : Seen s v (n + b) m' a' := by
  refine fun c => ⟨?_, fun e => Seen.acc hs hv h sb vb es ev ha e c⟩
  rw [hm c, (h c).1, show sb c = fun x : Fin b => s c (n + x) from funext (es c)]
  exact top_add (s c) n b

variable (Q : S1x512x512.Idx → EReal) (K : S1x4096x512.Idx → EReal) (Vt : S1x512x4096.Idx → EReal)

/-- The scores of a block of keys none of which is after any query of the block. -/
theorem shown_block {b : ℕ} (p n : ℕ) (h : Fin 4) (hn : n + b ≤ 512 * p) (hp : p < 8) (kb : Fin b → Fin 128 → EReal) (qs : Fin 1024 → Fin 128 → EReal)
    (hq : ∀ c l, qs c l = lanes (qhead Q h) c l)
    (hk : ∀ (x : Fin b) (l : Fin 128) (hx : n + x.val < 4096) (hl : 128 * h.val + l.val < 512), kb x l = K (ix3 0 ⟨n + x.val, hx⟩ ⟨128 * h.val + l.val, hl⟩))
    (c : Fin 1024) (x : Fin b) : ∑ l, kb x l * qs c l = shown Q K p h c (n + x) := by
  have hx : n + x.val < 4096 := by omega
  unfold shown score
  rw [if_pos (by omega), dif_pos hx]
  exact Finset.sum_congr rfl fun l _ => congrArg₂ (· * ·) (hk x l hx (by omega)) (hq c l)

/-- The scores of the diagonal block. -/
theorem shown_diag (p : ℕ) (h : Fin 4) (hp : p < 8) (kb : Fin 512 → Fin 128 → EReal) (qs : Fin 1024 → Fin 128 → EReal)
    (hq : ∀ c l, qs c l = lanes (qhead Q h) c l)
    (hk : ∀ (x : Fin 512) (l : Fin 128) (hx : 512 * p + x.val < 4096) (hl : 128 * h.val + l.val < 512), kb x l = K (ix3 0 ⟨512 * p + x.val, hx⟩ ⟨128 * h.val + l.val, hl⟩))
    (c : Fin 1024) (x : Fin 512) :
    (if x.val ≤ c.val % 512 then ∑ l, kb x l * qs c l else ⊥) = shown Q K p h c (512 * p + x) := by
  have hx : 512 * p + x.val < 4096 := by omega
  unfold shown score
  by_cases hc : x.val ≤ c.val % 512
  · rw [if_pos hc, if_pos (by omega), dif_pos hx]
    exact Finset.sum_congr rfl fun l _ => congrArg₂ (· * ·) (hk x l hx (by omega)) (hq c l)
  · rw [if_neg hc, if_neg (by omega)]

/-- The values of a block. -/
theorem value_block {b : ℕ} (n : ℕ) (h : Fin 4) (hn : n + b ≤ 4096) (vb : Fin 128 → Fin b → EReal)
    (hk : ∀ (e : Fin 128) (x : Fin b) (hx : n + x.val < 4096) (hl : 128 * h.val + e.val < 512), vb e x = Vt (ix3 0 ⟨128 * h.val + e.val, hl⟩ ⟨n + x.val, hx⟩))
    (e : Fin 144) (x : Fin b) : withOnes vb e x = value Vt h e (n + x) := by
  have hx : n + x.val < 4096 := by omega
  unfold withOnes value
  by_cases he : e.val < 128
  · rw [dif_pos he, dif_pos he, dif_pos hx]
    exact hk ⟨e.val, he⟩ x hx (by have := h.isLt; show 128 * h.val + e.val < 512; omega)
  · rw [dif_neg he, dif_neg he]

end Cert.Kernel4Ideal.Diff

end
-- ==== Proof.Diff4.StepsLoop.lean ====
module

public import proofs.«01_k».proof.Proof.Diff4.Lanes

/-!
# The step over a 1024-key block

Each head's step in the counted loop: its maximum and its weighted sums after the block.
-/

@[expose] public section

set_option maxRecDepth 16384

noncomputable section

namespace Cert.Kernel4Ideal.Diff

open Idealize.ShloMosaic Idealize.ShloMosaic.TcCoe
open Cert.Kernel4Ideal Cert.Kernel4Ideal.Gen Cert.Proof.Diff

/-- Head 0: the maximum after the block. -/
theorem trip_max0 (q : FVec Ideal S1024x128 .bf16) (m : FVec Ideal S1x1024 .f32) (k : Vec Ideal S1x1024x128 .bf16) (c : Fin 1024) :
    k0_pay5 q m k (ix2 0 c)
      = newMax (m (ix2 0 c)) (fun x => ∑ l, k (ix3 0 x l) * q (ix2 c l)) := by
  pointwise [k0_pay5, k0_pay6, k0_pay2]
  rw [newMax, ← ofBits_ninf]

/-- Head 0: the weighted sums after the block. -/
theorem trip_acc0 (q : FVec Ideal S1024x128 .bf16) (m : FVec Ideal S1x1024 .f32) (a : FVec Ideal S144x1024 .f32) (k : Vec Ideal S1x1024x128 .bf16) (v : Vec Ideal S1x128x1024 .bf16) (e : Fin 144) (c : Fin 1024) :
    k0_pay6 q m a k v (ix2 e c)
      = newAcc (m (ix2 0 c)) (a (ix2 e c)) (fun x => ∑ l, k (ix3 0 x l) * q (ix2 c l)) (withOnes (fun e x => v (ix3 0 e x)) e) := by
  pointwise [k0_pay5, k0_pay6, k0_pay2]
  rw [newAcc, newMax, ← ofBits_ninf]
  rfl

/-- Head 1: the maximum after the block. -/
theorem trip_max1 (q : FVec Ideal S1024x128 .bf16) (m : FVec Ideal S1x1024 .f32) (k : Vec Ideal S1x1024x128 .bf16) (c : Fin 1024) :
    k0_pay9 m (k0_pay3 q k) (ix2 0 c)
      = newMax (m (ix2 0 c)) (fun x => ∑ l, k (ix3 0 x l) * q (ix2 c l)) := by
  pointwise [k0_pay9, k0_pay10, k0_pay3, k0_pay8]
  rw [newMax, ← ofBits_ninf]

/-- Head 1: the weighted sums after the block. -/
theorem trip_acc1 (q : FVec Ideal S1024x128 .bf16) (m : FVec Ideal S1x1024 .f32) (a : FVec Ideal S144x1024 .f32) (k : Vec Ideal S1x1024x128 .bf16) (v : Vec Ideal S1x128x1024 .bf16) (e : Fin 144) (c : Fin 1024) :
    k0_pay10 m a (k0_pay3 q k) (k0_pay8 v) (ix2 e c)
      = newAcc (m (ix2 0 c)) (a (ix2 e c)) (fun x => ∑ l, k (ix3 0 x l) * q (ix2 c l)) (withOnes (fun e x => v (ix3 0 e x)) e) := by
  pointwise [k0_pay9, k0_pay10, k0_pay3, k0_pay8]
  rw [newAcc, newMax, ← ofBits_ninf]
  rfl

/-- Head 2: the maximum after the block. -/
theorem trip_max2 (q : FVec Ideal S1024x128 .bf16) (m : FVec Ideal S1x1024 .f32) (k : Vec Ideal S1x1024x128 .bf16) (c : Fin 1024) :
    k0_pay11 m (k0_pay4 q k) (ix2 0 c)
      = newMax (m (ix2 0 c)) (fun x => ∑ l, k (ix3 0 x l) * q (ix2 c l)) := by
  pointwise [k0_pay11, k0_pay12, k0_pay4]
  rw [newMax, ← ofBits_ninf]

/-- Head 2: the weighted sums after the block. -/
theorem trip_acc2 (q : FVec Ideal S1024x128 .bf16) (m : FVec Ideal S1x1024 .f32) (a : FVec Ideal S144x1024 .f32) (k : Vec Ideal S1x1024x128 .bf16) (v : Vec Ideal S1x128x1024 .bf16) (e : Fin 144) (c : Fin 1024) :
    k0_pay12 m a (k0_pay4 q k) v (ix2 e c)
      = newAcc (m (ix2 0 c)) (a (ix2 e c)) (fun x => ∑ l, k (ix3 0 x l) * q (ix2 c l)) (withOnes (fun e x => v (ix3 0 e x)) e) := by
  pointwise [k0_pay11, k0_pay12, k0_pay4]
  rw [newAcc, newMax, ← ofBits_ninf]
  rfl

/-- Head 3: the maximum after the block. -/
theorem trip_max3 (q : FVec Ideal S1024x128 .bf16) (m : FVec Ideal S1x1024 .f32) (k : Vec Ideal S1x1024x128 .bf16) (c : Fin 1024) :
    k0_pay14 m (k0_pay7 q k) (ix2 0 c)
      = newMax (m (ix2 0 c)) (fun x => ∑ l, k (ix3 0 x l) * q (ix2 c l)) := by
  pointwise [k0_pay14, k0_pay55, k0_pay13, k0_pay15, k0_pay16, k0_pay7]
  rw [newMax, ← ofBits_ninf]

/-- Head 3: the weighted sums after the block. -/
theorem trip_acc3 (q : FVec Ideal S1024x128 .bf16) (m : FVec Ideal S1x1024 .f32) (a : FVec Ideal S144x1024 .f32) (k : Vec Ideal S1x1024x128 .bf16) (v : Vec Ideal S1x128x1024 .bf16) (e : Fin 144) (c : Fin 1024) :
    k0_pay55 a (k0_pay13 v) (k0_pay15 m (k0_pay7 q k)) (k0_pay16 m (k0_pay7 q k)) (ix2 e c)
      = newAcc (m (ix2 0 c)) (a (ix2 e c)) (fun x => ∑ l, k (ix3 0 x l) * q (ix2 c l)) (withOnes (fun e x => v (ix3 0 e x)) e) := by
  pointwise [k0_pay14, k0_pay55, k0_pay13, k0_pay15, k0_pay16, k0_pay7]
  rw [newAcc, newMax, ← ofBits_ninf]
  rfl

end Cert.Kernel4Ideal.Diff

end
-- ==== Proof.Diff4.Trip.lean ====
module

public import proofs.«01_k».proof.Proof.Diff4.Seen
public import proofs.«01_k».proof.Proof.Diff4.StepsLoop

/-!
# The counted loop

A trip of the loop over the blocks of 1024 keys takes all four heads from having seen `1024 k` keys to having seen
`1024 (k + 1)`; the loop makes `i / 2` trips, so after it the heads have seen `1024 (i / 2)` keys.
-/

@[expose] public section

set_option maxRecDepth 16384

noncomputable section

namespace Cert.Kernel4Ideal.Diff

open Idealize.ShloMosaic Idealize.ShloMosaic.TcCoe
open Cert.Kernel4Ideal Cert.Kernel4Ideal.Gen Cert.Proof.Diff

/-- What the loop carries: for each head the running maxima and the weighted sums. -/
abbrev Carry : Type := FVec Ideal S1x1024 .f32 × FVec Ideal S144x1024 .f32 × FVec Ideal S1x1024 .f32 × FVec Ideal S144x1024 .f32 × FVec Ideal S1x1024 .f32 × FVec Ideal S144x1024 .f32 × FVec Ideal S1x1024 .f32 × FVec Ideal S144x1024 .f32

/-- All four heads have seen the first `n` keys. -/
def AllSeen (Q : S1x512x512.Idx → EReal) (K : S1x4096x512.Idx → EReal) (Vt : S1x512x4096.Idx → EReal) (p n : ℕ) (S : Carry) : Prop :=
  Seen (shown Q K p 0) (value Vt 0) n S.1 S.2.1 ∧ Seen (shown Q K p 1) (value Vt 1) n S.2.2.1 S.2.2.2.1
    ∧ Seen (shown Q K p 2) (value Vt 2) n S.2.2.2.2.1 S.2.2.2.2.2.1 ∧ Seen (shown Q K p 3) (value Vt 3) n S.2.2.2.2.2.2.1 S.2.2.2.2.2.2.2

/-- The four heads' masked queries. -/
def Queries (Q : S1x512x512.Idx → EReal) (h : Fin 4) (q : FVec Ideal S1024x128 .bf16) : Prop :=
  ∀ c l, q (ix2 c l) = lanes (qhead Q h) c l

variable (Q : S1x512x512.Idx → EReal) (K : S1x4096x512.Idx → EReal) (Vt : S1x512x4096.Idx → EReal)

/-- No score is infinite upwards and every value is real. -/
def Tame (p : ℕ) : Prop := (∀ h c j, shown Q K p h c j ≠ ⊤) ∧ ∀ h e j, IsReal (value Vt h e j)

/-- Before the first trip no key has been seen. -/
theorem init_seen (p : ℕ) : AllSeen Q K Vt p 0 (k0_pay53 (F := Ideal), k0_pay54 (F := Ideal), k0_pay53 (F := Ideal), k0_pay54 (F := Ideal), k0_pay53 (F := Ideal), k0_pay54 (F := Ideal), k0_pay53 (F := Ideal), k0_pay54 (F := Ideal)) := by
  have h : ∀ (s : Fin 1024 → ℕ → EReal) (v : Fin 144 → ℕ → EReal), Seen s v 0 (k0_pay53 (F := Ideal)) (k0_pay54 (F := Ideal)) := fun s v c =>
    ⟨ofBits_ninf.trans (top_zero (s c)).symm, fun e => Ideal.ofBits_zero_f32.trans (tot_zero (s c) (v e)).symm⟩
  exact ⟨h _ _, h _ _, h _ _, h _ _⟩

/-! The step of each head over a block of 1024 keys. -/

theorem block_seen0 (p n : ℕ) (hn : n + 1024 ≤ 512 * p) (hp : p < 8) (ht : Tame Q K Vt p) (q : FVec Ideal S1024x128 .bf16) (hq : Queries Q 0 q)
    (m : FVec Ideal S1x1024 .f32) (a : FVec Ideal S144x1024 .f32) (h : Seen (shown Q K p 0) (value Vt 0) n m a)
    (k : FVec Ideal S1x1024x128 .bf16) (v : FVec Ideal S1x128x1024 .bf16)
    (hk : ∀ (x : Fin 1024) (l : Fin 128) (hx : n + x.val < 4096) (hl : 128 * ((0 : Fin 4)).val + l.val < 512), k (ix3 0 x l) = K (ix3 0 ⟨n + x.val, hx⟩ ⟨128 * ((0 : Fin 4)).val + l.val, hl⟩))
    (hv : ∀ (e : Fin 128) (x : Fin 1024) (hx : n + x.val < 4096) (hl : 128 * ((0 : Fin 4)).val + e.val < 512), v (ix3 0 e x) = Vt (ix3 0 ⟨128 * ((0 : Fin 4)).val + e.val, hl⟩ ⟨n + x.val, hx⟩)) :
    Seen (shown Q K p 0) (value Vt 0) (n + 1024) (k0_pay5 q m k) (k0_pay6 q m a k v) :=
  Seen.step (ht.1 0) (ht.2 0) h (fun c x => ∑ l, k (ix3 0 x l) * q (ix2 c l)) (withOnes fun e x => v (ix3 0 e x))
    (shown_block Q K p n 0 hn hp (fun x l => k (ix3 0 x l)) (fun c l => q (ix2 c l)) hq hk)
    (value_block Vt n 0 (by omega) (fun e x => v (ix3 0 e x)) hv)
    (fun c => trip_max0 q m k c) (fun e c => trip_acc0 q m a k v e c)

theorem block_seen1 (p n : ℕ) (hn : n + 1024 ≤ 512 * p) (hp : p < 8) (ht : Tame Q K Vt p) (q : FVec Ideal S1024x128 .bf16) (hq : Queries Q 1 q)
    (m : FVec Ideal S1x1024 .f32) (a : FVec Ideal S144x1024 .f32) (h : Seen (shown Q K p 1) (value Vt 1) n m a)
    (k : FVec Ideal S1x1024x128 .bf16) (v : FVec Ideal S1x128x1024 .bf16)
    (hk : ∀ (x : Fin 1024) (l : Fin 128) (hx : n + x.val < 4096) (hl : 128 * ((1 : Fin 4)).val + l.val < 512), k (ix3 0 x l) = K (ix3 0 ⟨n + x.val, hx⟩ ⟨128 * ((1 : Fin 4)).val + l.val, hl⟩))
    (hv : ∀ (e : Fin 128) (x : Fin 1024) (hx : n + x.val < 4096) (hl : 128 * ((1 : Fin 4)).val + e.val < 512), v (ix3 0 e x) = Vt (ix3 0 ⟨128 * ((1 : Fin 4)).val + e.val, hl⟩ ⟨n + x.val, hx⟩)) :
    Seen (shown Q K p 1) (value Vt 1) (n + 1024) (k0_pay9 m (k0_pay3 q k)) (k0_pay10 m a (k0_pay3 q k) (k0_pay8 v)) :=
  Seen.step (ht.1 1) (ht.2 1) h (fun c x => ∑ l, k (ix3 0 x l) * q (ix2 c l)) (withOnes fun e x => v (ix3 0 e x))
    (shown_block Q K p n 1 hn hp (fun x l => k (ix3 0 x l)) (fun c l => q (ix2 c l)) hq hk)
    (value_block Vt n 1 (by omega) (fun e x => v (ix3 0 e x)) hv)
    (fun c => trip_max1 q m k c) (fun e c => trip_acc1 q m a k v e c)

theorem block_seen2 (p n : ℕ) (hn : n + 1024 ≤ 512 * p) (hp : p < 8) (ht : Tame Q K Vt p) (q : FVec Ideal S1024x128 .bf16) (hq : Queries Q 2 q)
    (m : FVec Ideal S1x1024 .f32) (a : FVec Ideal S144x1024 .f32) (h : Seen (shown Q K p 2) (value Vt 2) n m a)
    (k : FVec Ideal S1x1024x128 .bf16) (v : FVec Ideal S1x128x1024 .bf16)
    (hk : ∀ (x : Fin 1024) (l : Fin 128) (hx : n + x.val < 4096) (hl : 128 * ((2 : Fin 4)).val + l.val < 512), k (ix3 0 x l) = K (ix3 0 ⟨n + x.val, hx⟩ ⟨128 * ((2 : Fin 4)).val + l.val, hl⟩))
    (hv : ∀ (e : Fin 128) (x : Fin 1024) (hx : n + x.val < 4096) (hl : 128 * ((2 : Fin 4)).val + e.val < 512), v (ix3 0 e x) = Vt (ix3 0 ⟨128 * ((2 : Fin 4)).val + e.val, hl⟩ ⟨n + x.val, hx⟩)) :
    Seen (shown Q K p 2) (value Vt 2) (n + 1024) (k0_pay11 m (k0_pay4 q k)) (k0_pay12 m a (k0_pay4 q k) v) :=
  Seen.step (ht.1 2) (ht.2 2) h (fun c x => ∑ l, k (ix3 0 x l) * q (ix2 c l)) (withOnes fun e x => v (ix3 0 e x))
    (shown_block Q K p n 2 hn hp (fun x l => k (ix3 0 x l)) (fun c l => q (ix2 c l)) hq hk)
    (value_block Vt n 2 (by omega) (fun e x => v (ix3 0 e x)) hv)
    (fun c => trip_max2 q m k c) (fun e c => trip_acc2 q m a k v e c)

theorem block_seen3 (p n : ℕ) (hn : n + 1024 ≤ 512 * p) (hp : p < 8) (ht : Tame Q K Vt p) (q : FVec Ideal S1024x128 .bf16) (hq : Queries Q 3 q)
    (m : FVec Ideal S1x1024 .f32) (a : FVec Ideal S144x1024 .f32) (h : Seen (shown Q K p 3) (value Vt 3) n m a)
    (k : FVec Ideal S1x1024x128 .bf16) (v : FVec Ideal S1x128x1024 .bf16)
    (hk : ∀ (x : Fin 1024) (l : Fin 128) (hx : n + x.val < 4096) (hl : 128 * ((3 : Fin 4)).val + l.val < 512), k (ix3 0 x l) = K (ix3 0 ⟨n + x.val, hx⟩ ⟨128 * ((3 : Fin 4)).val + l.val, hl⟩))
    (hv : ∀ (e : Fin 128) (x : Fin 1024) (hx : n + x.val < 4096) (hl : 128 * ((3 : Fin 4)).val + e.val < 512), v (ix3 0 e x) = Vt (ix3 0 ⟨128 * ((3 : Fin 4)).val + e.val, hl⟩ ⟨n + x.val, hx⟩)) :
    Seen (shown Q K p 3) (value Vt 3) (n + 1024) (k0_pay14 m (k0_pay7 q k)) (k0_pay55 a (k0_pay13 v) (k0_pay15 m (k0_pay7 q k)) (k0_pay16 m (k0_pay7 q k))) :=
  Seen.step (ht.1 3) (ht.2 3) h (fun c x => ∑ l, k (ix3 0 x l) * q (ix2 c l)) (withOnes fun e x => v (ix3 0 e x))
    (shown_block Q K p n 3 hn hp (fun x l => k (ix3 0 x l)) (fun c l => q (ix2 c l)) hq hk)
    (value_block Vt n 3 (by omega) (fun e x => v (ix3 0 e x)) hv)
    (fun c => trip_max3 q m k c) (fun e c => trip_acc3 q m a k v e c)

variable (c : Dev nD) (i : grid0.Coords)
    (arg3 : Memref sig .tc .vmem S2x64 .f32) (harg3 : arg3.IsWhole) (arg4 : Memref sig .tc .vmem S2x64 .f32) (harg4 : arg4.IsWhole)
    (arg5 : Memref sig .tc .vmem S1x512x512 .bf16) (harg5 : arg5.IsWhole) (arg6 : Memref sig .tc .vmem S1x4096x512 .bf16) (harg6 : arg6.IsWhole)
    (arg7 : Memref sig .tc .vmem S1x512x4096 .bf16) (harg7 : arg7.IsWhole) (arg8 : Memref sig .tc .vmem S1x512x512 .bf16) (harg8 : arg8.IsWhole)
    (arg9 : Memref sig .tc .vmem S1x128 .f32) (harg9 : arg9.IsWhole) (arg10 : Memref sig .tc .vmem S1x512x512 .bf16) (harg10 : arg10.IsWhole)
  (arg2 : BitVec 32) (v21 v31 v41 v51 : FVec Ideal S1024x128 .bf16) (v52 : FVec Ideal S1x1024 .f32) (v53 : FVec Ideal S144x1024 .f32)
  (z w : BitVec 32) (hq0 : Queries Q 0 v21) (hq1 : Queries Q 1 v31) (hq2 : Queries Q 2 v41) (hq3 : Queries Q 3 v51)

include hq0 hq1 hq2 hq3 in
/-- One trip. -/
theorem trip_seen (ht : Tame Q K Vt (i 2).val) (k : Fin (k0_t1_loop i).trips) (S : Carry) (h : AllSeen Q K Vt (i 2).val (1024 * k.val) S) :
    AllSeen Q K Vt (i 2).val (1024 * k.val + 1024) (tripR_k0_t1 (F := Ideal) Variants.none c none i arg3 harg3 arg4 harg4 arg5 harg5 arg6 harg6 arg7 harg7 arg8 harg8 arg9 harg9 arg10 harg10 arg2 v21 v31 v41 v51 v52 v53 z w (harg6.unread K) (harg7.unread Vt) k S) := by
  have hp := i2_lt i
  have hk : 1024 * k.val + 1024 ≤ 512 * (i 2).val := by
    have := k.isLt
    have := t1_trips i
    omega
  unfold tripR_k0_t1 trip_k0_t1
  dsimp only [AllSeen]
  dsimp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13]
  refine ⟨?_, ?_, ?_, ?_⟩
  · exact block_seen0 Q K Vt (i 2).val (1024 * k.val) hk hp ht _ hq0 _ _ h.1 _ _
      (fun x l hx hl => load3 harg6 K _ _ 0 (1024 * k.val) (128 * ((0 : Fin 4)).val) (off1 i k) 0 x l (by decide) hx hl)
      (fun e x hx hl => load3 harg7 Vt _ _ 0 (128 * ((0 : Fin 4)).val) (1024 * k.val) (off4 i k) 0 e x (by decide) hl hx)
  · exact block_seen1 Q K Vt (i 2).val (1024 * k.val) hk hp ht _ hq1 _ _ h.2.1 _ _
      (fun x l hx hl => load3 harg6 K _ _ 0 (1024 * k.val) (128 * ((1 : Fin 4)).val) (off2 i k) 0 x l (by decide) hx hl)
      (fun e x hx hl => load3 harg7 Vt _ _ 0 (128 * ((1 : Fin 4)).val) (1024 * k.val) (off6 i k) 0 e x (by decide) hl hx)
  · exact block_seen2 Q K Vt (i 2).val (1024 * k.val) hk hp ht _ hq2 _ _ h.2.2.1 _ _
      (fun x l hx hl => load3 harg6 K _ _ 0 (1024 * k.val) (128 * ((2 : Fin 4)).val) (off3 i k) 0 x l (by decide) hx hl)
      (fun e x hx hl => load3 harg7 Vt _ _ 0 (128 * ((2 : Fin 4)).val) (1024 * k.val) (off7 i k) 0 e x (by decide) hl hx)
  · exact block_seen3 Q K Vt (i 2).val (1024 * k.val) hk hp ht _ hq3 _ _ h.2.2.2 _ _
      (fun x l hx hl => load3 harg6 K _ _ 0 (1024 * k.val) (128 * ((3 : Fin 4)).val) (off5 i k) 0 x l (by decide) hx hl)
      (fun e x hx hl => load3 harg7 Vt _ _ 0 (128 * ((3 : Fin 4)).val) (1024 * k.val) (off8 i k) 0 e x (by decide) hl hx)

include hq0 hq1 hq2 hq3 in
/-- Before trip `k`. -/
theorem loop_seen (ht : Tame Q K Vt (i 2).val) (S : Carry) (h : AllSeen Q K Vt (i 2).val 0 S) (k : ℕ) (hk : k ≤ (k0_t1_loop i).trips) :
    AllSeen Q K Vt (i 2).val (1024 * k) (st_k0_t1 (F := Ideal) Variants.none c none i arg3 harg3 arg4 harg4 arg5 harg5 arg6 harg6 arg7 harg7 arg8 harg8 arg9 harg9 arg10 harg10 arg2 v21 v31 v41 v51 v52 v53 z w (harg6.unread K) (harg7.unread Vt) S k) := by
  induction k with
  | zero => exact h
  | succ k ih =>
    refine (congrArg (AllSeen Q K Vt (i 2).val (1024 * k + 1024)) (st_k0_t1_succ (F := Ideal) Variants.none c none i arg3 harg3 arg4 harg4 arg5 harg5 arg6 harg6 arg7 harg7 arg8 harg8 arg9 harg9 arg10 harg10 arg2 v21 v31 v41 v51 v52 v53 z w (harg6.unread K) (harg7.unread Vt) S ⟨k, hk⟩)).mpr ?_
    exact trip_seen Q K Vt c i arg3 harg3 arg4 harg4 arg5 harg5 arg6 harg6 arg7 harg7 arg8 harg8 arg9 harg9 arg10 harg10 arg2 v21 v31 v41 v51 v52 v53 z w hq0 hq1 hq2 hq3 ht ⟨k, hk⟩ _ (ih (Nat.le_of_succ_le hk))

end Cert.Kernel4Ideal.Diff

end
-- ==== Proof.Diff4.StepsOdd.lean ====
module

public import proofs.«01_k».proof.Proof.Diff4.Lanes

/-!
# The step over the odd 512-key block

Each head's step when the number of 512-key blocks before the query block is odd.
-/

@[expose] public section

set_option maxRecDepth 16384

noncomputable section

namespace Cert.Kernel4Ideal.Diff

open Idealize.ShloMosaic Idealize.ShloMosaic.TcCoe
open Cert.Kernel4Ideal Cert.Kernel4Ideal.Gen Cert.Proof.Diff

/-- Head 0: the maximum after the block. -/
theorem odd_max0 (q : FVec Ideal S1024x128 .bf16) (m : FVec Ideal S1x1024 .f32) (k : Vec Ideal S1x512x128 .bf16) (c : Fin 1024) :
    k0_pay35 q m k (ix2 0 c)
      = newMax (m (ix2 0 c)) (fun x => ∑ l, k (ix3 0 x l) * q (ix2 c l)) := by
  pointwise [k0_pay35, k0_pay36, k0_pay32]
  rw [newMax, ← ofBits_ninf]

/-- Head 0: the weighted sums after the block. -/
theorem odd_acc0 (q : FVec Ideal S1024x128 .bf16) (m : FVec Ideal S1x1024 .f32) (a : FVec Ideal S144x1024 .f32) (k : Vec Ideal S1x512x128 .bf16) (v : Vec Ideal S1x128x512 .bf16) (e : Fin 144) (c : Fin 1024) :
    k0_pay36 q m a k v (ix2 e c)
      = newAcc (m (ix2 0 c)) (a (ix2 e c)) (fun x => ∑ l, k (ix3 0 x l) * q (ix2 c l)) (withOnes (fun e x => v (ix3 0 e x)) e) := by
  pointwise [k0_pay35, k0_pay36, k0_pay32]
  rw [newAcc, newMax, ← ofBits_ninf]
  rfl

/-- Head 1: the maximum after the block. -/
theorem odd_max1 (q : FVec Ideal S1024x128 .bf16) (m : FVec Ideal S1x1024 .f32) (k : Vec Ideal S1x512x128 .bf16) (c : Fin 1024) :
    k0_pay38 m (k0_pay33 q k) (ix2 0 c)
      = newMax (m (ix2 0 c)) (fun x => ∑ l, k (ix3 0 x l) * q (ix2 c l)) := by
  pointwise [k0_pay38, k0_pay39, k0_pay33]
  rw [newMax, ← ofBits_ninf]

/-- Head 1: the weighted sums after the block. -/
theorem odd_acc1 (q : FVec Ideal S1024x128 .bf16) (m : FVec Ideal S1x1024 .f32) (a : FVec Ideal S144x1024 .f32) (k : Vec Ideal S1x512x128 .bf16) (v : Vec Ideal S1x128x512 .bf16) (e : Fin 144) (c : Fin 1024) :
    k0_pay39 m a (k0_pay33 q k) v (ix2 e c)
      = newAcc (m (ix2 0 c)) (a (ix2 e c)) (fun x => ∑ l, k (ix3 0 x l) * q (ix2 c l)) (withOnes (fun e x => v (ix3 0 e x)) e) := by
  pointwise [k0_pay38, k0_pay39, k0_pay33]
  rw [newAcc, newMax, ← ofBits_ninf]
  rfl

/-- Head 2: the maximum after the block. -/
theorem odd_max2 (q : FVec Ideal S1024x128 .bf16) (m : FVec Ideal S1x1024 .f32) (k : Vec Ideal S1x512x128 .bf16) (c : Fin 1024) :
    k0_pay40 m (k0_pay34 q k) (ix2 0 c)
      = newMax (m (ix2 0 c)) (fun x => ∑ l, k (ix3 0 x l) * q (ix2 c l)) := by
  pointwise [k0_pay40, k0_pay41, k0_pay34]
  rw [newMax, ← ofBits_ninf]

/-- Head 2: the weighted sums after the block. -/
theorem odd_acc2 (q : FVec Ideal S1024x128 .bf16) (m : FVec Ideal S1x1024 .f32) (a : FVec Ideal S144x1024 .f32) (k : Vec Ideal S1x512x128 .bf16) (v : Vec Ideal S1x128x512 .bf16) (e : Fin 144) (c : Fin 1024) :
    k0_pay41 m a (k0_pay34 q k) v (ix2 e c)
      = newAcc (m (ix2 0 c)) (a (ix2 e c)) (fun x => ∑ l, k (ix3 0 x l) * q (ix2 c l)) (withOnes (fun e x => v (ix3 0 e x)) e) := by
  pointwise [k0_pay40, k0_pay41, k0_pay34]
  rw [newAcc, newMax, ← ofBits_ninf]
  rfl

/-- Head 3: the maximum after the block. -/
theorem odd_max3 (q : FVec Ideal S1024x128 .bf16) (m : FVec Ideal S1x1024 .f32) (k : Vec Ideal S1x512x128 .bf16) (c : Fin 1024) :
    k0_pay43 m (k0_pay37 q k) (ix2 0 c)
      = newMax (m (ix2 0 c)) (fun x => ∑ l, k (ix3 0 x l) * q (ix2 c l)) := by
  pointwise [k0_pay43, k0_pay57, k0_pay42, k0_pay44, k0_pay45, k0_pay37]
  rw [newMax, ← ofBits_ninf]

/-- Head 3: the weighted sums after the block. -/
theorem odd_acc3 (q : FVec Ideal S1024x128 .bf16) (m : FVec Ideal S1x1024 .f32) (a : FVec Ideal S144x1024 .f32) (k : Vec Ideal S1x512x128 .bf16) (v : Vec Ideal S1x128x512 .bf16) (e : Fin 144) (c : Fin 1024) :
    k0_pay57 a (k0_pay42 v) (k0_pay44 m (k0_pay37 q k)) (k0_pay45 m (k0_pay37 q k)) (ix2 e c)
      = newAcc (m (ix2 0 c)) (a (ix2 e c)) (fun x => ∑ l, k (ix3 0 x l) * q (ix2 c l)) (withOnes (fun e x => v (ix3 0 e x)) e) := by
  pointwise [k0_pay43, k0_pay57, k0_pay42, k0_pay44, k0_pay45, k0_pay37]
  rw [newAcc, newMax, ← ofBits_ninf]
  rfl

end Cert.Kernel4Ideal.Diff

end
-- ==== Proof.Diff4.StepsDiag.lean ====
module

public import proofs.«01_k».proof.Proof.Diff4.Lanes

/-!
# The step over the diagonal block

Each head's last step, with the keys after the query hidden.
-/

@[expose] public section

set_option maxRecDepth 16384

noncomputable section

namespace Cert.Kernel4Ideal.Diff

open Idealize.ShloMosaic Idealize.ShloMosaic.TcCoe
open Cert.Kernel4Ideal Cert.Kernel4Ideal.Gen Cert.Proof.Diff

/-- Head 0: the weighted sums after the diagonal block. -/
theorem diag_acc0 (q : FVec Ideal S1024x128 .bf16) (m : FVec Ideal S1x1024 .f32) (a : FVec Ideal S144x1024 .f32) (k : Vec Ideal S1x512x128 .bf16) (v : Vec Ideal S1x128x512 .bf16) (e : Fin 144) (c : Fin 1024) :
    k0_pay62 m a (k0_pay58 q k) (k0_pay61 v) (iota .tc S512x1024 32 [0] iota_S512x1024_d0_w32) (iota .tc S512x1024 32 [1] iota_S512x1024_d1_w32) (ix2 e c)
      = newAcc (m (ix2 0 c)) (a (ix2 e c)) (fun x => if x.val ≤ c.val % 512 then ∑ l, k (ix3 0 x l) * q (ix2 c l) else ⊥) (withOnes (fun e x => v (ix3 0 e x)) e) := by
  pointwise [k0_pay62, k0_pay58, k0_pay61]
  simp only [select_causal, ofBits_ninf]
  rw [newAcc, newMax]
  rfl

/-- Head 1: the weighted sums after the diagonal block. -/
theorem diag_acc1 (q : FVec Ideal S1024x128 .bf16) (m : FVec Ideal S1x1024 .f32) (a : FVec Ideal S144x1024 .f32) (k : Vec Ideal S1x512x128 .bf16) (v : Vec Ideal S1x128x512 .bf16) (e : Fin 144) (c : Fin 1024) :
    k0_pay68 (k0_pay66 m a (k0_pay59 q k)) (k0_pay67 m (k0_pay59 q k) v) (ix2 e c)
      = newAcc (m (ix2 0 c)) (a (ix2 e c)) (fun x => if x.val ≤ c.val % 512 then ∑ l, k (ix3 0 x l) * q (ix2 c l) else ⊥) (withOnes (fun e x => v (ix3 0 e x)) e) := by
  pointwise [k0_pay68, k0_pay66, k0_pay67, k0_pay65, k0_pay64, k0_pay59]
  simp only [select_causal, ofBits_ninf]
  rw [newAcc, newMax]
  rfl

/-- Head 2: the weighted sums after the diagonal block. -/
theorem diag_acc2 (q : FVec Ideal S1024x128 .bf16) (m : FVec Ideal S1x1024 .f32) (a : FVec Ideal S144x1024 .f32) (k : Vec Ideal S1x512x128 .bf16) (v : Vec Ideal S1x128x512 .bf16) (e : Fin 144) (c : Fin 1024) :
    k0_pay69 m a (k0_pay60 q k) v (ix2 e c)
      = newAcc (m (ix2 0 c)) (a (ix2 e c)) (fun x => if x.val ≤ c.val % 512 then ∑ l, k (ix3 0 x l) * q (ix2 c l) else ⊥) (withOnes (fun e x => v (ix3 0 e x)) e) := by
  pointwise [k0_pay69, k0_pay60]
  simp only [select_causal, ofBits_ninf]
  rw [newAcc, newMax]
  rfl

/-- Head 3: the weighted sums after the diagonal block. -/
theorem diag_acc3 (q : FVec Ideal S1024x128 .bf16) (m : FVec Ideal S1x1024 .f32) (a : FVec Ideal S144x1024 .f32) (k : Vec Ideal S1x512x128 .bf16) (v : Vec Ideal S1x128x512 .bf16) (e : Fin 144) (c : Fin 1024) :
    k0_pay75 a (k0_pay70 v) (k0_pay73 m (k0_pay63 q k)) (k0_pay74 m (k0_pay63 q k)) (ix2 e c)
      = newAcc (m (ix2 0 c)) (a (ix2 e c)) (fun x => if x.val ≤ c.val % 512 then ∑ l, k (ix3 0 x l) * q (ix2 c l) else ⊥) (withOnes (fun e x => v (ix3 0 e x)) e) := by
  pointwise [k0_pay75, k0_pay70, k0_pay73, k0_pay74, k0_pay72, k0_pay71, k0_pay63]
  simp only [select_causal, ofBits_ninf]
  rw [newAcc, newMax]
  rfl

end Cert.Kernel4Ideal.Diff

end
-- ==== Proof.Diff4.Ends.lean ====
module

public import proofs.«01_k».proof.Proof.Diff4.Trip
public import proofs.«01_k».proof.Proof.Diff4.StepsOdd
public import proofs.«01_k».proof.Proof.Diff4.StepsDiag

/-!
# The last two blocks of keys and the head's output

The step over the odd block of 512 keys, the step over the diagonal block, and what a head writes out of the weighted
sums these leave.
-/

@[expose] public section

set_option maxRecDepth 16384

noncomputable section

namespace Cert.Kernel4Ideal.Diff

open Idealize.ShloMosaic Idealize.ShloMosaic.TcCoe
open Cert.Kernel4Ideal Cert.Kernel4Ideal.Gen Cert.Proof.Diff

variable (Q : S1x512x512.Idx → EReal) (K : S1x4096x512.Idx → EReal) (Vt : S1x512x4096.Idx → EReal)

/-- What head `h` writes at row `r`, lane `l`, of the `p`-th query block. -/
def headOut (L0 L1 : S2x64.Idx → EReal) (W : S1x512x512.Idx → EReal) (G : S1x128.Idx → EReal) (p : ℕ) (h : Fin 4) (r : Fin 512) (l : Fin 128) : EReal :=
  normed (lane (fun e c => tot (shown Q K p h c) (value Vt h e) 4096) (lam (fun i x => L0 (ix2 i x)) (fun i x => L1 (ix2 i x))) r)
    (G (ix2 0 l)) (W (ix3 0 r ⟨128 * h.val + l.val, by omega⟩)) l

/-- The weighted sums of the first `512 (p + 1)` keys are those of all keys. -/
theorem tot_all (p : ℕ) (hp : p < 8) (h : Fin 4) (e : Fin 144) (c : Fin 1024) :
    tot (shown Q K p h c) (value Vt h e) (512 * p + 512) = tot (shown Q K p h c) (value Vt h e) 4096 := by
  obtain ⟨k, hk⟩ := Nat.exists_eq_add_of_le (show 512 * p + 512 ≤ 4096 by omega)
  rw [hk]
  refine (tot_hidden _ _ _ k fun j hj => ?_).symm
  unfold shown
  exact if_neg (by omega)

/-! ## Head 0 -/

theorem odd_seen0 (p n : ℕ) (hn : n + 512 ≤ 512 * p) (hp : p < 8) (ht : Tame Q K Vt p) (q : FVec Ideal S1024x128 .bf16) (hq : Queries Q 0 q)
    (m : FVec Ideal S1x1024 .f32) (a : FVec Ideal S144x1024 .f32) (h : Seen (shown Q K p 0) (value Vt 0) n m a)
    (k : FVec Ideal S1x512x128 .bf16) (v : FVec Ideal S1x128x512 .bf16)
    (hk : ∀ (x : Fin 512) (l : Fin 128) (hx : n + x.val < 4096) (hl : 128 * ((0 : Fin 4)).val + l.val < 512), k (ix3 0 x l) = K (ix3 0 ⟨n + x.val, hx⟩ ⟨128 * ((0 : Fin 4)).val + l.val, hl⟩))
    (hv : ∀ (e : Fin 128) (x : Fin 512) (hx : n + x.val < 4096) (hl : 128 * ((0 : Fin 4)).val + e.val < 512), v (ix3 0 e x) = Vt (ix3 0 ⟨128 * ((0 : Fin 4)).val + e.val, hl⟩ ⟨n + x.val, hx⟩)) :
    Seen (shown Q K p 0) (value Vt 0) (n + 512) (k0_pay35 q m k) (k0_pay36 q m a k v) :=
  Seen.step (ht.1 0) (ht.2 0) h (fun c x => ∑ l, k (ix3 0 x l) * q (ix2 c l)) (withOnes fun e x => v (ix3 0 e x))
    (shown_block Q K p n 0 hn hp (fun x l => k (ix3 0 x l)) (fun c l => q (ix2 c l)) hq hk)
    (value_block Vt n 0 (by omega) (fun e x => v (ix3 0 e x)) hv)
    (fun c => odd_max0 q m k c) (fun e c => odd_acc0 q m a k v e c)

theorem diag_seen0 (p : ℕ) (hp : p < 8) (ht : Tame Q K Vt p) (q : FVec Ideal S1024x128 .bf16) (hq : Queries Q 0 q)
    (m : FVec Ideal S1x1024 .f32) (a : FVec Ideal S144x1024 .f32) (h : Seen (shown Q K p 0) (value Vt 0) (512 * p) m a)
    (k : FVec Ideal S1x512x128 .bf16) (v : FVec Ideal S1x128x512 .bf16)
    (hk : ∀ (x : Fin 512) (l : Fin 128) (hx : 512 * p + x.val < 4096) (hl : 128 * ((0 : Fin 4)).val + l.val < 512), k (ix3 0 x l) = K (ix3 0 ⟨512 * p + x.val, hx⟩ ⟨128 * ((0 : Fin 4)).val + l.val, hl⟩))
    (hv : ∀ (e : Fin 128) (x : Fin 512) (hx : 512 * p + x.val < 4096) (hl : 128 * ((0 : Fin 4)).val + e.val < 512), v (ix3 0 e x) = Vt (ix3 0 ⟨128 * ((0 : Fin 4)).val + e.val, hl⟩ ⟨512 * p + x.val, hx⟩)) :
    ∀ (e : Fin 144) (c : Fin 1024), (k0_pay62 m a (k0_pay58 q k) (k0_pay61 v) (iota .tc S512x1024 32 [0] iota_S512x1024_d0_w32) (iota .tc S512x1024 32 [1] iota_S512x1024_d1_w32)) (ix2 e c) = tot (shown Q K p 0 c) (value Vt 0 e) 4096 := fun e c =>
  (Seen.acc (ht.1 0) (ht.2 0) h (fun c x => if x.val ≤ c.val % 512 then ∑ l, k (ix3 0 x l) * q (ix2 c l) else ⊥) (withOnes fun e x => v (ix3 0 e x))
    (shown_diag Q K p 0 hp (fun x l => k (ix3 0 x l)) (fun c l => q (ix2 c l)) hq hk)
    (value_block Vt (512 * p) 0 (by omega) (fun e x => v (ix3 0 e x)) hv)
    (fun e c => diag_acc0 q m a k v e c) e c).trans (tot_all Q K Vt p hp 0 e c)

theorem head_out0 (L0 L1 : S2x64.Idx → EReal) (W : S1x512x512.Idx → EReal) (G : S1x128.Idx → EReal) (p : ℕ)
    (z : FVec Ideal S1x1 .f32) (a : FVec Ideal S144x1024 .f32) (g : FVec Ideal S1x128 .f32) (w : FVec Ideal S1x512x128 .bf16)
    (hz : z (ix2 0 0) = lam (fun i x => L0 (ix2 i x)) (fun i x => L1 (ix2 i x)))
    (ha : ∀ e c, a (ix2 e c) = tot (shown Q K p 0 c) (value Vt 0 e) 4096)
    (hg : ∀ l, g (ix2 0 l) = G (ix2 0 l))
    (hw : ∀ (r : Fin 512) (l : Fin 128) (hl : 128 * ((0 : Fin 4)).val + l.val < 512), w (ix3 0 r l) = W (ix3 0 r ⟨128 * ((0 : Fin 4)).val + l.val, hl⟩)) (r : Fin 512) (l : Fin 128) :
    (k0_pay76 z a g w) (ix3 0 r l) = headOut Q K Vt L0 L1 W G p 0 r l := by
  refine (out0 z a g w r l).trans ?_
  unfold headOut
  rw [hz, hg l, hw r l (by have := l.isLt; show 128 * 0 + l.val < 512; omega), show (fun e c => a (ix2 e c)) = fun e c => tot (shown Q K p 0 c) (value Vt 0 e) 4096 from funext fun e => funext fun c => ha e c]

/-! ## Head 1 -/

theorem odd_seen1 (p n : ℕ) (hn : n + 512 ≤ 512 * p) (hp : p < 8) (ht : Tame Q K Vt p) (q : FVec Ideal S1024x128 .bf16) (hq : Queries Q 1 q)
    (m : FVec Ideal S1x1024 .f32) (a : FVec Ideal S144x1024 .f32) (h : Seen (shown Q K p 1) (value Vt 1) n m a)
    (k : FVec Ideal S1x512x128 .bf16) (v : FVec Ideal S1x128x512 .bf16)
    (hk : ∀ (x : Fin 512) (l : Fin 128) (hx : n + x.val < 4096) (hl : 128 * ((1 : Fin 4)).val + l.val < 512), k (ix3 0 x l) = K (ix3 0 ⟨n + x.val, hx⟩ ⟨128 * ((1 : Fin 4)).val + l.val, hl⟩))
    (hv : ∀ (e : Fin 128) (x : Fin 512) (hx : n + x.val < 4096) (hl : 128 * ((1 : Fin 4)).val + e.val < 512), v (ix3 0 e x) = Vt (ix3 0 ⟨128 * ((1 : Fin 4)).val + e.val, hl⟩ ⟨n + x.val, hx⟩)) :
    Seen (shown Q K p 1) (value Vt 1) (n + 512) (k0_pay38 m (k0_pay33 q k)) (k0_pay39 m a (k0_pay33 q k) v) :=
  Seen.step (ht.1 1) (ht.2 1) h (fun c x => ∑ l, k (ix3 0 x l) * q (ix2 c l)) (withOnes fun e x => v (ix3 0 e x))
    (shown_block Q K p n 1 hn hp (fun x l => k (ix3 0 x l)) (fun c l => q (ix2 c l)) hq hk)
    (value_block Vt n 1 (by omega) (fun e x => v (ix3 0 e x)) hv)
    (fun c => odd_max1 q m k c) (fun e c => odd_acc1 q m a k v e c)

theorem diag_seen1 (p : ℕ) (hp : p < 8) (ht : Tame Q K Vt p) (q : FVec Ideal S1024x128 .bf16) (hq : Queries Q 1 q)
    (m : FVec Ideal S1x1024 .f32) (a : FVec Ideal S144x1024 .f32) (h : Seen (shown Q K p 1) (value Vt 1) (512 * p) m a)
    (k : FVec Ideal S1x512x128 .bf16) (v : FVec Ideal S1x128x512 .bf16)
    (hk : ∀ (x : Fin 512) (l : Fin 128) (hx : 512 * p + x.val < 4096) (hl : 128 * ((1 : Fin 4)).val + l.val < 512), k (ix3 0 x l) = K (ix3 0 ⟨512 * p + x.val, hx⟩ ⟨128 * ((1 : Fin 4)).val + l.val, hl⟩))
    (hv : ∀ (e : Fin 128) (x : Fin 512) (hx : 512 * p + x.val < 4096) (hl : 128 * ((1 : Fin 4)).val + e.val < 512), v (ix3 0 e x) = Vt (ix3 0 ⟨128 * ((1 : Fin 4)).val + e.val, hl⟩ ⟨512 * p + x.val, hx⟩)) :
    ∀ (e : Fin 144) (c : Fin 1024), (k0_pay68 (k0_pay66 m a (k0_pay59 q k)) (k0_pay67 m (k0_pay59 q k) v)) (ix2 e c) = tot (shown Q K p 1 c) (value Vt 1 e) 4096 := fun e c =>
  (Seen.acc (ht.1 1) (ht.2 1) h (fun c x => if x.val ≤ c.val % 512 then ∑ l, k (ix3 0 x l) * q (ix2 c l) else ⊥) (withOnes fun e x => v (ix3 0 e x))
    (shown_diag Q K p 1 hp (fun x l => k (ix3 0 x l)) (fun c l => q (ix2 c l)) hq hk)
    (value_block Vt (512 * p) 1 (by omega) (fun e x => v (ix3 0 e x)) hv)
    (fun e c => diag_acc1 q m a k v e c) e c).trans (tot_all Q K Vt p hp 1 e c)

theorem head_out1 (L0 L1 : S2x64.Idx → EReal) (W : S1x512x512.Idx → EReal) (G : S1x128.Idx → EReal) (p : ℕ)
    (z : FVec Ideal S1x1 .f32) (a : FVec Ideal S144x1024 .f32) (g : FVec Ideal S1x128 .f32) (w : FVec Ideal S1x512x128 .bf16)
    (hz : z (ix2 0 0) = lam (fun i x => L0 (ix2 i x)) (fun i x => L1 (ix2 i x)))
    (ha : ∀ e c, a (ix2 e c) = tot (shown Q K p 1 c) (value Vt 1 e) 4096)
    (hg : ∀ l, g (ix2 0 l) = G (ix2 0 l))
    (hw : ∀ (r : Fin 512) (l : Fin 128) (hl : 128 * ((1 : Fin 4)).val + l.val < 512), w (ix3 0 r l) = W (ix3 0 r ⟨128 * ((1 : Fin 4)).val + l.val, hl⟩)) (r : Fin 512) (l : Fin 128) :
    (k0_pay79 z (k0_pay77 a) (k0_pay78 a) g w) (ix3 0 r l) = headOut Q K Vt L0 L1 W G p 1 r l := by
  refine (out1 z a g w r l).trans ?_
  unfold headOut
  rw [hz, hg l, hw r l (by have := l.isLt; show 128 * 1 + l.val < 512; omega), show (fun e c => a (ix2 e c)) = fun e c => tot (shown Q K p 1 c) (value Vt 1 e) 4096 from funext fun e => funext fun c => ha e c]

/-! ## Head 2 -/

theorem odd_seen2 (p n : ℕ) (hn : n + 512 ≤ 512 * p) (hp : p < 8) (ht : Tame Q K Vt p) (q : FVec Ideal S1024x128 .bf16) (hq : Queries Q 2 q)
    (m : FVec Ideal S1x1024 .f32) (a : FVec Ideal S144x1024 .f32) (h : Seen (shown Q K p 2) (value Vt 2) n m a)
    (k : FVec Ideal S1x512x128 .bf16) (v : FVec Ideal S1x128x512 .bf16)
    (hk : ∀ (x : Fin 512) (l : Fin 128) (hx : n + x.val < 4096) (hl : 128 * ((2 : Fin 4)).val + l.val < 512), k (ix3 0 x l) = K (ix3 0 ⟨n + x.val, hx⟩ ⟨128 * ((2 : Fin 4)).val + l.val, hl⟩))
    (hv : ∀ (e : Fin 128) (x : Fin 512) (hx : n + x.val < 4096) (hl : 128 * ((2 : Fin 4)).val + e.val < 512), v (ix3 0 e x) = Vt (ix3 0 ⟨128 * ((2 : Fin 4)).val + e.val, hl⟩ ⟨n + x.val, hx⟩)) :
    Seen (shown Q K p 2) (value Vt 2) (n + 512) (k0_pay40 m (k0_pay34 q k)) (k0_pay41 m a (k0_pay34 q k) v) :=
  Seen.step (ht.1 2) (ht.2 2) h (fun c x => ∑ l, k (ix3 0 x l) * q (ix2 c l)) (withOnes fun e x => v (ix3 0 e x))
    (shown_block Q K p n 2 hn hp (fun x l => k (ix3 0 x l)) (fun c l => q (ix2 c l)) hq hk)
    (value_block Vt n 2 (by omega) (fun e x => v (ix3 0 e x)) hv)
    (fun c => odd_max2 q m k c) (fun e c => odd_acc2 q m a k v e c)

theorem diag_seen2 (p : ℕ) (hp : p < 8) (ht : Tame Q K Vt p) (q : FVec Ideal S1024x128 .bf16) (hq : Queries Q 2 q)
    (m : FVec Ideal S1x1024 .f32) (a : FVec Ideal S144x1024 .f32) (h : Seen (shown Q K p 2) (value Vt 2) (512 * p) m a)
    (k : FVec Ideal S1x512x128 .bf16) (v : FVec Ideal S1x128x512 .bf16)
    (hk : ∀ (x : Fin 512) (l : Fin 128) (hx : 512 * p + x.val < 4096) (hl : 128 * ((2 : Fin 4)).val + l.val < 512), k (ix3 0 x l) = K (ix3 0 ⟨512 * p + x.val, hx⟩ ⟨128 * ((2 : Fin 4)).val + l.val, hl⟩))
    (hv : ∀ (e : Fin 128) (x : Fin 512) (hx : 512 * p + x.val < 4096) (hl : 128 * ((2 : Fin 4)).val + e.val < 512), v (ix3 0 e x) = Vt (ix3 0 ⟨128 * ((2 : Fin 4)).val + e.val, hl⟩ ⟨512 * p + x.val, hx⟩)) :
    ∀ (e : Fin 144) (c : Fin 1024), (k0_pay69 m a (k0_pay60 q k) v) (ix2 e c) = tot (shown Q K p 2 c) (value Vt 2 e) 4096 := fun e c =>
  (Seen.acc (ht.1 2) (ht.2 2) h (fun c x => if x.val ≤ c.val % 512 then ∑ l, k (ix3 0 x l) * q (ix2 c l) else ⊥) (withOnes fun e x => v (ix3 0 e x))
    (shown_diag Q K p 2 hp (fun x l => k (ix3 0 x l)) (fun c l => q (ix2 c l)) hq hk)
    (value_block Vt (512 * p) 2 (by omega) (fun e x => v (ix3 0 e x)) hv)
    (fun e c => diag_acc2 q m a k v e c) e c).trans (tot_all Q K Vt p hp 2 e c)

theorem head_out2 (L0 L1 : S2x64.Idx → EReal) (W : S1x512x512.Idx → EReal) (G : S1x128.Idx → EReal) (p : ℕ)
    (z : FVec Ideal S1x1 .f32) (a : FVec Ideal S144x1024 .f32) (g : FVec Ideal S1x128 .f32) (w : FVec Ideal S1x512x128 .bf16)
    (hz : z (ix2 0 0) = lam (fun i x => L0 (ix2 i x)) (fun i x => L1 (ix2 i x)))
    (ha : ∀ e c, a (ix2 e c) = tot (shown Q K p 2 c) (value Vt 2 e) 4096)
    (hg : ∀ l, g (ix2 0 l) = G (ix2 0 l))
    (hw : ∀ (r : Fin 512) (l : Fin 128) (hl : 128 * ((2 : Fin 4)).val + l.val < 512), w (ix3 0 r l) = W (ix3 0 r ⟨128 * ((2 : Fin 4)).val + l.val, hl⟩)) (r : Fin 512) (l : Fin 128) :
    (k0_pay82 (k0_pay80 z a) (k0_pay81 z a) (FloatOps.ofBits .f32 0x43000000#32) g w) (ix3 0 r l) = headOut Q K Vt L0 L1 W G p 2 r l := by
  refine (out2 z a g w r l).trans ?_
  unfold headOut
  rw [hz, hg l, hw r l (by have := l.isLt; show 128 * 2 + l.val < 512; omega), show (fun e c => a (ix2 e c)) = fun e c => tot (shown Q K p 2 c) (value Vt 2 e) 4096 from funext fun e => funext fun c => ha e c]

/-! ## Head 3 -/

theorem odd_seen3 (p n : ℕ) (hn : n + 512 ≤ 512 * p) (hp : p < 8) (ht : Tame Q K Vt p) (q : FVec Ideal S1024x128 .bf16) (hq : Queries Q 3 q)
    (m : FVec Ideal S1x1024 .f32) (a : FVec Ideal S144x1024 .f32) (h : Seen (shown Q K p 3) (value Vt 3) n m a)
    (k : FVec Ideal S1x512x128 .bf16) (v : FVec Ideal S1x128x512 .bf16)
    (hk : ∀ (x : Fin 512) (l : Fin 128) (hx : n + x.val < 4096) (hl : 128 * ((3 : Fin 4)).val + l.val < 512), k (ix3 0 x l) = K (ix3 0 ⟨n + x.val, hx⟩ ⟨128 * ((3 : Fin 4)).val + l.val, hl⟩))
    (hv : ∀ (e : Fin 128) (x : Fin 512) (hx : n + x.val < 4096) (hl : 128 * ((3 : Fin 4)).val + e.val < 512), v (ix3 0 e x) = Vt (ix3 0 ⟨128 * ((3 : Fin 4)).val + e.val, hl⟩ ⟨n + x.val, hx⟩)) :
    Seen (shown Q K p 3) (value Vt 3) (n + 512) (k0_pay43 m (k0_pay37 q k)) (k0_pay57 a (k0_pay42 v) (k0_pay44 m (k0_pay37 q k)) (k0_pay45 m (k0_pay37 q k))) :=
  Seen.step (ht.1 3) (ht.2 3) h (fun c x => ∑ l, k (ix3 0 x l) * q (ix2 c l)) (withOnes fun e x => v (ix3 0 e x))
    (shown_block Q K p n 3 hn hp (fun x l => k (ix3 0 x l)) (fun c l => q (ix2 c l)) hq hk)
    (value_block Vt n 3 (by omega) (fun e x => v (ix3 0 e x)) hv)
    (fun c => odd_max3 q m k c) (fun e c => odd_acc3 q m a k v e c)

theorem diag_seen3 (p : ℕ) (hp : p < 8) (ht : Tame Q K Vt p) (q : FVec Ideal S1024x128 .bf16) (hq : Queries Q 3 q)
    (m : FVec Ideal S1x1024 .f32) (a : FVec Ideal S144x1024 .f32) (h : Seen (shown Q K p 3) (value Vt 3) (512 * p) m a)
    (k : FVec Ideal S1x512x128 .bf16) (v : FVec Ideal S1x128x512 .bf16)
    (hk : ∀ (x : Fin 512) (l : Fin 128) (hx : 512 * p + x.val < 4096) (hl : 128 * ((3 : Fin 4)).val + l.val < 512), k (ix3 0 x l) = K (ix3 0 ⟨512 * p + x.val, hx⟩ ⟨128 * ((3 : Fin 4)).val + l.val, hl⟩))
    (hv : ∀ (e : Fin 128) (x : Fin 512) (hx : 512 * p + x.val < 4096) (hl : 128 * ((3 : Fin 4)).val + e.val < 512), v (ix3 0 e x) = Vt (ix3 0 ⟨128 * ((3 : Fin 4)).val + e.val, hl⟩ ⟨512 * p + x.val, hx⟩)) :
    ∀ (e : Fin 144) (c : Fin 1024), (k0_pay75 a (k0_pay70 v) (k0_pay73 m (k0_pay63 q k)) (k0_pay74 m (k0_pay63 q k))) (ix2 e c) = tot (shown Q K p 3 c) (value Vt 3 e) 4096 := fun e c =>
  (Seen.acc (ht.1 3) (ht.2 3) h (fun c x => if x.val ≤ c.val % 512 then ∑ l, k (ix3 0 x l) * q (ix2 c l) else ⊥) (withOnes fun e x => v (ix3 0 e x))
    (shown_diag Q K p 3 hp (fun x l => k (ix3 0 x l)) (fun c l => q (ix2 c l)) hq hk)
    (value_block Vt (512 * p) 3 (by omega) (fun e x => v (ix3 0 e x)) hv)
    (fun e c => diag_acc3 q m a k v e c) e c).trans (tot_all Q K Vt p hp 3 e c)

theorem head_out3 (L0 L1 : S2x64.Idx → EReal) (W : S1x512x512.Idx → EReal) (G : S1x128.Idx → EReal) (p : ℕ)
    (z : FVec Ideal S1x1 .f32) (a : FVec Ideal S144x1024 .f32) (g : FVec Ideal S1x128 .f32) (w : FVec Ideal S1x512x128 .bf16)
    (hz : z (ix2 0 0) = lam (fun i x => L0 (ix2 i x)) (fun i x => L1 (ix2 i x)))
    (ha : ∀ e c, a (ix2 e c) = tot (shown Q K p 3 c) (value Vt 3 e) 4096)
    (hg : ∀ l, g (ix2 0 l) = G (ix2 0 l))
    (hw : ∀ (r : Fin 512) (l : Fin 128) (hl : 128 * ((3 : Fin 4)).val + l.val < 512), w (ix3 0 r l) = W (ix3 0 r ⟨128 * ((3 : Fin 4)).val + l.val, hl⟩)) (r : Fin 512) (l : Fin 128) :
    (k0_pay1 (k0_pay83 z a) g w) (ix3 0 r l) = headOut Q K Vt L0 L1 W G p 3 r l := by
  refine (out3 z a g w r l).trans ?_
  unfold headOut
  rw [hz, hg l, hw r l (by have := l.isLt; show 128 * 3 + l.val < 512; omega), show (fun e c => a (ix2 e c)) = fun e c => tot (shown Q K p 3 c) (value Vt 3 e) 4096 from funext fun e => funext fun c => ha e c]

end Cert.Kernel4Ideal.Diff

end
-- ==== Proof.Diff4.Written.lean ====
module

public import proofs.«01_k».proof.Proof.Diff4.Ends
public import proofs.«01_k».proof.Proof.Diff4.KernelIdealFrame

/-!
# The written block, and the loads that start at row zero

The block a query block writes as one array, and the loads of the queries, the gate and the gain.
-/

@[expose] public section

set_option maxRecDepth 16384

noncomputable section

namespace Cert.Kernel4Ideal.Diff

open Idealize.ShloMosaic Idealize.ShloMosaic.TcCoe
open Cert.Kernel4Ideal Cert.Kernel4Ideal.Gen Cert.Proof.Diff

/-- The whole block: head `y 2 / 128`, lane `y 2 % 128`. -/
def blockOut (L0 L1 : S2x64.Idx → EReal) (Q : S1x512x512.Idx → EReal) (K : S1x4096x512.Idx → EReal) (Vt : S1x512x4096.Idx → EReal)
    (W : S1x512x512.Idx → EReal) (G : S1x128.Idx → EReal) (p : ℕ) (y : S1x512x512.Idx) : EReal :=
  headOut Q K Vt L0 L1 W G p ⟨(y 2).val / 128, by have : (y 2).val < 512 := (y 2).isLt; omega⟩ (y 1) ⟨(y 2).val % 128, Nat.mod_lt _ (by decide)⟩

/-- The block at an index of head `h`. -/
theorem blockOut_at (L0 L1 : S2x64.Idx → EReal) (Q : S1x512x512.Idx → EReal) (K : S1x4096x512.Idx → EReal) (Vt : S1x512x4096.Idx → EReal)
    (W : S1x512x512.Idx → EReal) (G : S1x128.Idx → EReal) (p : ℕ) (y : S1x512x512.Idx) (h : Fin 4) (r : Fin 512) (l : Fin 128)
    (h1 : (y 1).val = 0 + r.val) (h2 : (y 2).val = 128 * h.val + l.val) : blockOut L0 L1 Q K Vt W G p y = headOut Q K Vt L0 L1 W G p h r l := by
  unfold blockOut
  have e1 : (⟨(y 2).val / 128, by have : (y 2).val < 512 := (y 2).isLt; omega⟩ : Fin 4) = h := Fin.ext (by show (y 2).val / 128 = h.val; omega)
  have e2 : (y 1 : Fin 512) = r := Fin.ext (by show (y 1).val = r.val; omega)
  have e3 : (⟨(y 2).val % 128, Nat.mod_lt _ (by decide)⟩ : Fin 128) = l := Fin.ext (by show (y 2).val % 128 = l.val; omega)
  rw [e1, e2, e3]

/-- A load of all rows of a block from lane `r` on. -/
theorem load3z {B C b c : ℕ} {e : EltTy} {sp : Space} {μ : Memref sig .tc sp ⟨3, ![1, B, C]⟩ e} (hμ : μ.IsWhole)
    (X : Shape.Idx ⟨3, ![1, B, C]⟩ → Elt Ideal e) (r : ℕ)
    (inb : ∀ t, (![0, 0, r] : Fin 3 → Nat) t + (![1, b, c] : Fin 3 → Nat) t ≤ (![1, B, C] : Fin 3 → Nat) t)
    (y : Fin b) (z : Fin c) (hy : y.val < B) (hr : r + z < C) :
    View.readAt (Elt Ideal) μ.view (Rect.unit (s := ⟨3, ![1, B, C]⟩) ![0, 0, r] ![1, b, c] inb).toLoadRect (hμ.unread X) (ix3 0 y z)
      = X (ix3 0 ⟨y, hy⟩ ⟨r + z, hr⟩) := by
  refine load_at hμ X _ _ inb _ _ fun t => ?_
  match t with | ⟨0, _⟩ => rfl | ⟨1, _⟩ => exact (Nat.zero_add _).symm | ⟨2, _⟩ => rfl

theorem ix3_all {B C : ℕ} (x : Shape.Idx ⟨3, ![1, B, C]⟩) : x = ix3 0 (x 1) (x 2) := by
  funext t
  match t with
  | ⟨0, _⟩ => exact Fin.ext (by have : (x 0).val < 1 := (x 0).isLt; show (x 0).val = 0; omega)
  | ⟨1, _⟩ => rfl
  | ⟨2, _⟩ => rfl

/-! The four heads' queries. -/

variable {arg5 : Memref sig .tc .vmem S1x512x512 .bf16} (harg5 : arg5.IsWhole) (Q : S1x512x512.Idx → EReal)

theorem query0 (inb : ∀ t, (![0, 0, 0] : Fin 3 → Nat) t + (![1, 512, 128] : Fin 3 → Nat) t ≤ S1x512x512.size t) :
    Queries Q 0 (k0_pay47 (View.readAt (Elt Ideal) arg5.view (Rect.unit (s := S1x512x512) ![0, 0, 0] ![1, 512, 128] inb).toLoadRect (harg5.unread Q))) := fun c l =>
  (lanes0 _ c l).trans (congrArg (fun q => lanes q c l) (funext fun r => funext fun l => load3z harg5 Q 0 inb r l r.isLt (by omega)))

theorem query1 (inb : ∀ t, (![0, 0, 128] : Fin 3 → Nat) t + (![1, 512, 128] : Fin 3 → Nat) t ≤ S1x512x512.size t) :
    Queries Q 1 (k0_pay48 (View.readAt (Elt Ideal) arg5.view (Rect.unit (s := S1x512x512) ![0, 0, 128] ![1, 512, 128] inb).toLoadRect (harg5.unread Q))) := fun c l =>
  (lanes1 _ c l).trans (congrArg (fun q => lanes q c l) (funext fun r => funext fun l => load3z harg5 Q 128 inb r l r.isLt (by omega)))

theorem query2 (inb : ∀ t, (![0, 0, 256] : Fin 3 → Nat) t + (![1, 512, 128] : Fin 3 → Nat) t ≤ S1x512x512.size t) :
    Queries Q 2 (k0_pay51 (iota .tc S512x128 32 [1] iota_S512x128_d1_w32) (k0_pay49 (View.readAt (Elt Ideal) arg5.view (Rect.unit (s := S1x512x512) ![0, 0, 256] ![1, 512, 128] inb).toLoadRect (harg5.unread Q))) k0_pay50) := fun c l =>
  (lanes2 _ c l).trans (congrArg (fun q => lanes q c l) (funext fun r => funext fun l => load3z harg5 Q 256 inb r l r.isLt (by omega)))

theorem query3 (inb : ∀ t, (![0, 0, 384] : Fin 3 → Nat) t + (![1, 512, 128] : Fin 3 → Nat) t ≤ S1x512x512.size t) :
    Queries Q 3 (k0_pay52 (iota .tc S512x128 32 [1] iota_S512x128_d1_w32) (View.readAt (Elt Ideal) arg5.view (Rect.unit (s := S1x512x512) ![0, 0, 384] ![1, 512, 128] inb).toLoadRect (harg5.unread Q))) := fun c l =>
  (lanes3 _ c l).trans (congrArg (fun q => lanes q c l) (funext fun r => funext fun l => load3z harg5 Q 384 inb r l r.isLt (by omega)))

end Cert.Kernel4Ideal.Diff

end
-- ==== Proof.Diff4.EvenOut.lean ====
module

public import proofs.«01_k».proof.Proof.Diff4.Written

/-!
# The block an even query block writes

The even run's four stores are `blockOut`.
-/

@[expose] public section

set_option maxRecDepth 16384

noncomputable section

namespace Cert.Kernel4Ideal.Diff

open Idealize.ShloMosaic Idealize.ShloMosaic.TcCoe
open Cert.Kernel4Ideal Cert.Kernel4Ideal.Gen Cert.Proof.Diff

variable (c : Dev nD) (i : grid0.Coords)
  (arg3 : Memref sig .tc .vmem S2x64 .f32) (harg3 : arg3.IsWhole) (arg4 : Memref sig .tc .vmem S2x64 .f32) (harg4 : arg4.IsWhole)
  (arg5 : Memref sig .tc .vmem S1x512x512 .bf16) (harg5 : arg5.IsWhole) (arg6 : Memref sig .tc .vmem S1x4096x512 .bf16) (harg6 : arg6.IsWhole)
  (arg7 : Memref sig .tc .vmem S1x512x4096 .bf16) (harg7 : arg7.IsWhole) (arg8 : Memref sig .tc .vmem S1x512x512 .bf16) (harg8 : arg8.IsWhole)
  (arg9 : Memref sig .tc .vmem S1x128 .f32) (harg9 : arg9.IsWhole) (arg10 : Memref sig .tc .vmem S1x512x512 .bf16) (harg10 : arg10.IsWhole)
  (x0 x1 : S2x64.Idx → EReal) (x2 : S1x512x512.Idx → EReal) (x3 : S1x4096x512.Idx → EReal) (x4 : S1x512x4096.Idx → EReal)
  (x5 : S1x512x512.Idx → EReal) (x6 : S1x128.Idx → EReal)

/-- The state after the loops of the even run. -/
theorem even_loops (hc : ¬ k0_cond1 i = 1#1) (ht : Tame x2 x3 x4 (i 2).val) :
    AllSeen x2 x3 x4 (i 2).val (1024 * ((i 2).val / 2)) (evenRun.sl.r_6 (F := Ideal) c i arg3 harg3 arg4 harg4 arg5 harg5 arg6 harg6 arg7 harg7 arg8 harg8 arg9 harg9 arg10 harg10 x2 x3 x4, evenRun.sl.r_7 (F := Ideal) c i arg3 harg3 arg4 harg4 arg5 harg5 arg6 harg6 arg7 harg7 arg8 harg8 arg9 harg9 arg10 harg10 x2 x3 x4, evenRun.sl.r_8 (F := Ideal) c i arg3 harg3 arg4 harg4 arg5 harg5 arg6 harg6 arg7 harg7 arg8 harg8 arg9 harg9 arg10 harg10 x2 x3 x4, evenRun.sl.r_9 (F := Ideal) c i arg3 harg3 arg4 harg4 arg5 harg5 arg6 harg6 arg7 harg7 arg8 harg8 arg9 harg9 arg10 harg10 x2 x3 x4, evenRun.sl.r_10 (F := Ideal) c i arg3 harg3 arg4 harg4 arg5 harg5 arg6 harg6 arg7 harg7 arg8 harg8 arg9 harg9 arg10 harg10 x2 x3 x4, evenRun.sl.r_11 (F := Ideal) c i arg3 harg3 arg4 harg4 arg5 harg5 arg6 harg6 arg7 harg7 arg8 harg8 arg9 harg9 arg10 harg10 x2 x3 x4, evenRun.sl.r_12 (F := Ideal) c i arg3 harg3 arg4 harg4 arg5 harg5 arg6 harg6 arg7 harg7 arg8 harg8 arg9 harg9 arg10 harg10 x2 x3 x4, evenRun.sl.r_13 (F := Ideal) c i arg3 harg3 arg4 harg4 arg5 harg5 arg6 harg6 arg7 harg7 arg8 harg8 arg9 harg9 arg10 harg10 x2 x3 x4) :=
  by
  have q0 : Queries x2 0 (evenRun.sl.r_1 (F := Ideal) c arg5 harg5 x2) := query0 harg5 x2 _
  have q1 : Queries x2 1 (evenRun.sl.r_2 (F := Ideal) c arg5 harg5 x2) := query1 harg5 x2 _
  have q2 : Queries x2 2 (evenRun.sl.r_4 (F := Ideal) c arg5 harg5 x2) := query2 harg5 x2 _
  have q3 : Queries x2 3 (evenRun.sl.r_5 (F := Ideal) c arg5 harg5 x2) := query3 harg5 x2 _
  have e2 : Scf.trips (k0_t2_loop i).lb (k0_t2_loop i).ub (k0_t2_loop i).st = 0 := t2_trips i
  have e1 : Scf.trips (k0_t1_loop i).lb (k0_t1_loop i).ub (k0_t1_loop i).st = (i 2).val / 2 := t1_trips i
  have h := loop_seen x2 x3 x4 c i arg3 harg3 arg4 harg4 arg5 harg5 arg6 harg6 arg7 harg7 arg8 harg8 arg9 harg9 arg10 harg10 (BitVec.ofNat 32 (i 2).val) (evenRun.sl.r_1 (F := Ideal) c arg5 harg5 x2) (evenRun.sl.r_2 (F := Ideal) c arg5 harg5 x2) (evenRun.sl.r_4 (F := Ideal) c arg5 harg5 x2) (evenRun.sl.r_5 (F := Ideal) c arg5 harg5 x2)
    k0_pay53 k0_pay54 0#32 (evenRun.sl.v75 i) q0 q1 q2 q3 ht _ (init_seen x2 x3 x4 (i 2).val) ((i 2).val / 2) (t1_trips i).ge
  unfold evenRun.sl.r_6 evenRun.sl.r_7 evenRun.sl.r_8 evenRun.sl.r_9 evenRun.sl.r_10 evenRun.sl.r_11 evenRun.sl.r_12 evenRun.sl.r_13
  rw [e2, st_k0_t2_zero, e1]
  exact h

set_option maxHeartbeats 1000000 in
theorem evenOut_eq (hc : ¬ k0_cond1 i = 1#1) (ht : Tame x2 x3 x4 (i 2).val) :
    evenOut (F := Ideal) c i hc arg3 harg3 arg4 harg4 arg5 harg5 arg6 harg6 arg7 harg7 arg8 harg8 arg9 harg9 arg10 harg10 x0 x1 x2 x3 x4 x5 x6 = blockOut x0 x1 x2 x3 x4 x5 x6 (i 2).val := by
  have hp := i2_lt i
  have hl := even_loops c i arg3 harg3 arg4 harg4 arg5 harg5 arg6 harg6 arg7 harg7 arg8 harg8 arg9 harg9 arg10 harg10 x2 x3 x4 hc ht
  have e : 1024 * ((i 2).val / 2) = 512 * (i 2).val := by
    have := mt (cond_iff i).2 hc
    omega
  rw [e] at hl
  funext y
  unfold evenOut evenRun
  dsimp only
  rw [View.read_writes_junk_apply_eq_canon]
  refine View.canon_eq_of_allAt _ _ _ (View.cover_of_tiled_head _ _ _ (by rfl) _) ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  · intro x hx
    rw [blockOut_at _ _ _ _ _ _ _ _ y 3 (x 1) (x 2) (hx 1) (hx 2), ix3_all x]
    exact head_out3 x2 x3 x4 x0 x1 x5 x6 (i 2).val _ _ _ _
      ((lam_apply _ _).trans (congrArg₂ lam (funext fun a => funext fun b => load2 harg3 x0 _ a b) (funext fun a => funext fun b => load2 harg4 x1 _ a b)))
      (diag_seen3 x2 x3 x4 (i 2).val hp ht _ (query3 harg5 x2 _) _ _ hl.2.2.2 _ _
        (fun x l hx hl => load3 harg6 x3 _ _ 0 (512 * (i 2).val) (128 * ((3 : Fin 4)).val) (off29 i) 0 x l (by decide) hx hl)
        (fun e x hx hl => load3 harg7 x4 _ _ 0 (128 * ((3 : Fin 4)).val) (512 * (i 2).val) (off32 i) 0 e x (by decide) hl hx))
      (fun l => load2 harg9 x6 _ 0 l)
      (fun r l hl => load3z harg8 x5 384 _ r l r.isLt hl) (x 1) (x 2)
  · intro x hx
    rw [blockOut_at _ _ _ _ _ _ _ _ y 2 (x 1) (x 2) (hx 1) (hx 2), ix3_all x]
    exact head_out2 x2 x3 x4 x0 x1 x5 x6 (i 2).val _ _ _ _
      ((lam_apply _ _).trans (congrArg₂ lam (funext fun a => funext fun b => load2 harg3 x0 _ a b) (funext fun a => funext fun b => load2 harg4 x1 _ a b)))
      (diag_seen2 x2 x3 x4 (i 2).val hp ht _ (query2 harg5 x2 _) _ _ hl.2.2.1 _ _
        (fun x l hx hl => load3 harg6 x3 _ _ 0 (512 * (i 2).val) (128 * ((2 : Fin 4)).val) (off27 i) 0 x l (by decide) hx hl)
        (fun e x hx hl => load3 harg7 x4 _ _ 0 (128 * ((2 : Fin 4)).val) (512 * (i 2).val) (off31 i) 0 e x (by decide) hl hx))
      (fun l => load2 harg9 x6 _ 0 l)
      (fun r l hl => load3z harg8 x5 256 _ r l r.isLt hl) (x 1) (x 2)
  · intro x hx
    rw [blockOut_at _ _ _ _ _ _ _ _ y 1 (x 1) (x 2) (hx 1) (hx 2), ix3_all x]
    exact head_out1 x2 x3 x4 x0 x1 x5 x6 (i 2).val _ _ _ _
      ((lam_apply _ _).trans (congrArg₂ lam (funext fun a => funext fun b => load2 harg3 x0 _ a b) (funext fun a => funext fun b => load2 harg4 x1 _ a b)))
      (diag_seen1 x2 x3 x4 (i 2).val hp ht _ (query1 harg5 x2 _) _ _ hl.2.1 _ _
        (fun x l hx hl => load3 harg6 x3 _ _ 0 (512 * (i 2).val) (128 * ((1 : Fin 4)).val) (off26 i) 0 x l (by decide) hx hl)
        (fun e x hx hl => load3 harg7 x4 _ _ 0 (128 * ((1 : Fin 4)).val) (512 * (i 2).val) (off30 i) 0 e x (by decide) hl hx))
      (fun l => load2 harg9 x6 _ 0 l)
      (fun r l hl => load3z harg8 x5 128 _ r l r.isLt hl) (x 1) (x 2)
  · intro x hx
    rw [blockOut_at _ _ _ _ _ _ _ _ y 0 (x 1) (x 2) (hx 1) (hx 2), ix3_all x]
    exact head_out0 x2 x3 x4 x0 x1 x5 x6 (i 2).val _ _ _ _
      ((lam_apply _ _).trans (congrArg₂ lam (funext fun a => funext fun b => load2 harg3 x0 _ a b) (funext fun a => funext fun b => load2 harg4 x1 _ a b)))
      (diag_seen0 x2 x3 x4 (i 2).val hp ht _ (query0 harg5 x2 _) _ _ hl.1 _ _
        (fun x l hx hl => load3 harg6 x3 _ _ 0 (512 * (i 2).val) (128 * ((0 : Fin 4)).val) (off25 i) 0 x l (by decide) hx hl)
        (fun e x hx hl => load3 harg7 x4 _ _ 0 (128 * ((0 : Fin 4)).val) (512 * (i 2).val) (off28 i) 0 e x (by decide) hl hx))
      (fun l => load2 harg9 x6 _ 0 l)
      (fun r l hl => load3z harg8 x5 0 _ r l r.isLt hl) (x 1) (x 2)

end Cert.Kernel4Ideal.Diff

end
-- ==== Proof.Diff4.OddOut.lean ====
module

public import proofs.«01_k».proof.Proof.Diff4.Written

/-!
# The block an odd query block writes

The odd run steps over one more block of 512 keys before the diagonal one; its four stores are `blockOut`.
-/

@[expose] public section

set_option maxRecDepth 16384

noncomputable section

namespace Cert.Kernel4Ideal.Diff

open Idealize.ShloMosaic Idealize.ShloMosaic.TcCoe
open Cert.Kernel4Ideal Cert.Kernel4Ideal.Gen Cert.Proof.Diff

variable (c : Dev nD) (i : grid0.Coords)
  (arg3 : Memref sig .tc .vmem S2x64 .f32) (harg3 : arg3.IsWhole) (arg4 : Memref sig .tc .vmem S2x64 .f32) (harg4 : arg4.IsWhole)
  (arg5 : Memref sig .tc .vmem S1x512x512 .bf16) (harg5 : arg5.IsWhole) (arg6 : Memref sig .tc .vmem S1x4096x512 .bf16) (harg6 : arg6.IsWhole)
  (arg7 : Memref sig .tc .vmem S1x512x4096 .bf16) (harg7 : arg7.IsWhole) (arg8 : Memref sig .tc .vmem S1x512x512 .bf16) (harg8 : arg8.IsWhole)
  (arg9 : Memref sig .tc .vmem S1x128 .f32) (harg9 : arg9.IsWhole) (arg10 : Memref sig .tc .vmem S1x512x512 .bf16) (harg10 : arg10.IsWhole)
  (x0 x1 : S2x64.Idx → EReal) (x2 : S1x512x512.Idx → EReal) (x3 : S1x4096x512.Idx → EReal) (x4 : S1x512x4096.Idx → EReal)
  (x5 : S1x512x512.Idx → EReal) (x6 : S1x128.Idx → EReal)

set_option maxHeartbeats 1000000 in
/-- The state before the diagonal block of the odd run. -/
theorem odd_loops (hc : k0_cond1 i = 1#1) (ht : Tame x2 x3 x4 (i 2).val) :
    AllSeen x2 x3 x4 (i 2).val (512 * (i 2).val) (oddRun.sl.r_8 (F := Ideal) c i hc arg3 harg3 arg4 harg4 arg5 harg5 arg6 harg6 arg7 harg7 arg8 harg8 arg9 harg9 arg10 harg10 x2 x3 x4, oddRun.sl.r_9 (F := Ideal) c i hc arg3 harg3 arg4 harg4 arg5 harg5 arg6 harg6 arg7 harg7 arg8 harg8 arg9 harg9 arg10 harg10 x2 x3 x4, oddRun.sl.r_12 (F := Ideal) c i hc arg3 harg3 arg4 harg4 arg5 harg5 arg6 harg6 arg7 harg7 arg8 harg8 arg9 harg9 arg10 harg10 x2 x3 x4, oddRun.sl.r_13 (F := Ideal) c i hc arg3 harg3 arg4 harg4 arg5 harg5 arg6 harg6 arg7 harg7 arg8 harg8 arg9 harg9 arg10 harg10 x2 x3 x4, oddRun.sl.r_14 (F := Ideal) c i hc arg3 harg3 arg4 harg4 arg5 harg5 arg6 harg6 arg7 harg7 arg8 harg8 arg9 harg9 arg10 harg10 x2 x3 x4, oddRun.sl.r_15 (F := Ideal) c i hc arg3 harg3 arg4 harg4 arg5 harg5 arg6 harg6 arg7 harg7 arg8 harg8 arg9 harg9 arg10 harg10 x2 x3 x4, oddRun.sl.r_17 (F := Ideal) c i hc arg3 harg3 arg4 harg4 arg5 harg5 arg6 harg6 arg7 harg7 arg8 harg8 arg9 harg9 arg10 harg10 x2 x3 x4, oddRun.sl.r_20 (F := Ideal) c i hc arg3 harg3 arg4 harg4 arg5 harg5 arg6 harg6 arg7 harg7 arg8 harg8 arg9 harg9 arg10 harg10 x2 x3 x4) := by
  have q0 : Queries x2 0 (oddRun.sl.r_1 (F := Ideal) c arg5 harg5 x2) := query0 harg5 x2 _
  have q1 : Queries x2 1 (oddRun.sl.r_2 (F := Ideal) c arg5 harg5 x2) := query1 harg5 x2 _
  have q2 : Queries x2 2 (oddRun.sl.r_4 (F := Ideal) c arg5 harg5 x2) := query2 harg5 x2 _
  have q3 : Queries x2 3 (oddRun.sl.r_5 (F := Ideal) c arg5 harg5 x2) := query3 harg5 x2 _
  have hp := i2_lt i
  have ho := (cond_iff i).1 hc
  have e2 : Scf.trips (k0_t2_loop i).lb (k0_t2_loop i).ub (k0_t2_loop i).st = 0 := t2_trips i
  have e1 : Scf.trips (k0_t1_loop i).lb (k0_t1_loop i).ub (k0_t1_loop i).st = (i 2).val / 2 := t1_trips i
  have h := loop_seen x2 x3 x4 c i arg3 harg3 arg4 harg4 arg5 harg5 arg6 harg6 arg7 harg7 arg8 harg8 arg9 harg9 arg10 harg10 (BitVec.ofNat 32 (i 2).val) (oddRun.sl.r_1 (F := Ideal) c arg5 harg5 x2) (oddRun.sl.r_2 (F := Ideal) c arg5 harg5 x2) (oddRun.sl.r_4 (F := Ideal) c arg5 harg5 x2) (oddRun.sl.r_5 (F := Ideal) c arg5 harg5 x2)
    k0_pay53 k0_pay54 0#32 (oddRun.sl.v75 i) q0 q1 q2 q3 ht _ (init_seen x2 x3 x4 (i 2).val) ((i 2).val / 2) (t1_trips i).ge
  rw [show 1024 * ((i 2).val / 2) = 512 * ((i 2).val - 1) by omega] at h
  have hn : 512 * ((i 2).val - 1) + 512 ≤ 512 * (i 2).val := by omega
  rw [show 512 * (i 2).val = 512 * ((i 2).val - 1) + 512 by omega]
  unfold oddRun.sl.r_8 oddRun.sl.r_9 oddRun.sl.r_12 oddRun.sl.r_13 oddRun.sl.r_14 oddRun.sl.r_15 oddRun.sl.r_20 oddRun.sl.r_17 oddRun.sl.r_18 oddRun.sl.r_19
  rw [e2, st_k0_t2_zero, e1]
  dsimp only [AllSeen]
  refine ⟨?_, ?_, ?_, ?_⟩
  · exact odd_seen0 x2 x3 x4 (i 2).val (512 * ((i 2).val - 1)) hn hp ht _ q0 _ _ h.1 _ _
      (fun x l hx hl => load3 harg6 x3 _ _ 0 (512 * ((i 2).val - 1)) (128 * ((0 : Fin 4)).val) (off17 i ho) 0 x l (by decide) hx hl)
      (fun e x hx hl => load3 harg7 x4 _ _ 0 (128 * ((0 : Fin 4)).val) (512 * ((i 2).val - 1)) (off20 i ho) 0 e x (by decide) hl hx)
  · exact odd_seen1 x2 x3 x4 (i 2).val (512 * ((i 2).val - 1)) hn hp ht _ q1 _ _ h.2.1 _ _
      (fun x l hx hl => load3 harg6 x3 _ _ 0 (512 * ((i 2).val - 1)) (128 * ((1 : Fin 4)).val) (off18 i ho) 0 x l (by decide) hx hl)
      (fun e x hx hl => load3 harg7 x4 _ _ 0 (128 * ((1 : Fin 4)).val) (512 * ((i 2).val - 1)) (off22 i ho) 0 e x (by decide) hl hx)
  · exact odd_seen2 x2 x3 x4 (i 2).val (512 * ((i 2).val - 1)) hn hp ht _ q2 _ _ h.2.2.1 _ _
      (fun x l hx hl => load3 harg6 x3 _ _ 0 (512 * ((i 2).val - 1)) (128 * ((2 : Fin 4)).val) (off19 i ho) 0 x l (by decide) hx hl)
      (fun e x hx hl => load3 harg7 x4 _ _ 0 (128 * ((2 : Fin 4)).val) (512 * ((i 2).val - 1)) (off23 i ho) 0 e x (by decide) hl hx)
  · exact odd_seen3 x2 x3 x4 (i 2).val (512 * ((i 2).val - 1)) hn hp ht _ q3 _ _ h.2.2.2 _ _
      (fun x l hx hl => load3 harg6 x3 _ _ 0 (512 * ((i 2).val - 1)) (128 * ((3 : Fin 4)).val) (off21 i ho) 0 x l (by decide) hx hl)
      (fun e x hx hl => load3 harg7 x4 _ _ 0 (128 * ((3 : Fin 4)).val) (512 * ((i 2).val - 1)) (off24 i ho) 0 e x (by decide) hl hx)

set_option maxHeartbeats 1000000 in
theorem oddOut_eq (hc : k0_cond1 i = 1#1) (ht : Tame x2 x3 x4 (i 2).val) :
    oddOut (F := Ideal) c i hc arg3 harg3 arg4 harg4 arg5 harg5 arg6 harg6 arg7 harg7 arg8 harg8 arg9 harg9 arg10 harg10 x0 x1 x2 x3 x4 x5 x6 = blockOut x0 x1 x2 x3 x4 x5 x6 (i 2).val := by
  have hp := i2_lt i
  have hl := odd_loops c i arg3 harg3 arg4 harg4 arg5 harg5 arg6 harg6 arg7 harg7 arg8 harg8 arg9 harg9 arg10 harg10 x2 x3 x4 hc ht
  funext y
  unfold oddOut oddRun
  dsimp only
  rw [View.read_writes_junk_apply_eq_canon]
  refine View.canon_eq_of_allAt _ _ _ (View.cover_of_tiled_head _ _ _ (by rfl) _) ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  · intro x hx
    rw [blockOut_at _ _ _ _ _ _ _ _ y 3 (x 1) (x 2) (hx 1) (hx 2), ix3_all x]
    exact head_out3 x2 x3 x4 x0 x1 x5 x6 (i 2).val _ _ _ _
      ((lam_apply _ _).trans (congrArg₂ lam (funext fun a => funext fun b => load2 harg3 x0 _ a b) (funext fun a => funext fun b => load2 harg4 x1 _ a b)))
      (diag_seen3 x2 x3 x4 (i 2).val hp ht _ (query3 harg5 x2 _) _ _ hl.2.2.2 _ _
        (fun x l hx hl => load3 harg6 x3 _ _ 0 (512 * (i 2).val) (128 * ((3 : Fin 4)).val) (off29 i) 0 x l (by decide) hx hl)
        (fun e x hx hl => load3 harg7 x4 _ _ 0 (128 * ((3 : Fin 4)).val) (512 * (i 2).val) (off32 i) 0 e x (by decide) hl hx))
      (fun l => load2 harg9 x6 _ 0 l)
      (fun r l hl => load3z harg8 x5 384 _ r l r.isLt hl) (x 1) (x 2)
  · intro x hx
    rw [blockOut_at _ _ _ _ _ _ _ _ y 2 (x 1) (x 2) (hx 1) (hx 2), ix3_all x]
    exact head_out2 x2 x3 x4 x0 x1 x5 x6 (i 2).val _ _ _ _
      ((lam_apply _ _).trans (congrArg₂ lam (funext fun a => funext fun b => load2 harg3 x0 _ a b) (funext fun a => funext fun b => load2 harg4 x1 _ a b)))
      (diag_seen2 x2 x3 x4 (i 2).val hp ht _ (query2 harg5 x2 _) _ _ hl.2.2.1 _ _
        (fun x l hx hl => load3 harg6 x3 _ _ 0 (512 * (i 2).val) (128 * ((2 : Fin 4)).val) (off27 i) 0 x l (by decide) hx hl)
        (fun e x hx hl => load3 harg7 x4 _ _ 0 (128 * ((2 : Fin 4)).val) (512 * (i 2).val) (off31 i) 0 e x (by decide) hl hx))
      (fun l => load2 harg9 x6 _ 0 l)
      (fun r l hl => load3z harg8 x5 256 _ r l r.isLt hl) (x 1) (x 2)
  · intro x hx
    rw [blockOut_at _ _ _ _ _ _ _ _ y 1 (x 1) (x 2) (hx 1) (hx 2), ix3_all x]
    exact head_out1 x2 x3 x4 x0 x1 x5 x6 (i 2).val _ _ _ _
      ((lam_apply _ _).trans (congrArg₂ lam (funext fun a => funext fun b => load2 harg3 x0 _ a b) (funext fun a => funext fun b => load2 harg4 x1 _ a b)))
      (diag_seen1 x2 x3 x4 (i 2).val hp ht _ (query1 harg5 x2 _) _ _ hl.2.1 _ _
        (fun x l hx hl => load3 harg6 x3 _ _ 0 (512 * (i 2).val) (128 * ((1 : Fin 4)).val) (off26 i) 0 x l (by decide) hx hl)
        (fun e x hx hl => load3 harg7 x4 _ _ 0 (128 * ((1 : Fin 4)).val) (512 * (i 2).val) (off30 i) 0 e x (by decide) hl hx))
      (fun l => load2 harg9 x6 _ 0 l)
      (fun r l hl => load3z harg8 x5 128 _ r l r.isLt hl) (x 1) (x 2)
  · intro x hx
    rw [blockOut_at _ _ _ _ _ _ _ _ y 0 (x 1) (x 2) (hx 1) (hx 2), ix3_all x]
    exact head_out0 x2 x3 x4 x0 x1 x5 x6 (i 2).val _ _ _ _
      ((lam_apply _ _).trans (congrArg₂ lam (funext fun a => funext fun b => load2 harg3 x0 _ a b) (funext fun a => funext fun b => load2 harg4 x1 _ a b)))
      (diag_seen0 x2 x3 x4 (i 2).val hp ht _ (query0 harg5 x2 _) _ _ hl.1 _ _
        (fun x l hx hl => load3 harg6 x3 _ _ 0 (512 * (i 2).val) (128 * ((0 : Fin 4)).val) (off25 i) 0 x l (by decide) hx hl)
        (fun e x hx hl => load3 harg7 x4 _ _ 0 (128 * ((0 : Fin 4)).val) (512 * (i 2).val) (off28 i) 0 e x (by decide) hl hx))
      (fun l => load2 harg9 x6 _ 0 l)
      (fun r l hl => load3z harg8 x5 0 _ r l r.isLt hl) (x 1) (x 2)

end Cert.Kernel4Ideal.Diff

end
-- ==== Proof.Diff4.Array.lean ====
module

public import proofs.«01_k».proof.Proof.Diff4.EvenOut
public import proofs.«01_k».proof.Proof.Diff4.OddOut
public import Idealize.ShloMosaic.Lib.Pipeline.Value

/-!
# The differential attention's output array

Grid point `8 b + p` holds query block `p` of batch `b`, with all keys and values of the batch; it writes the same rows
of the output. So the array after the run is one formula of the arguments at every index.
-/

@[expose] public section

set_option maxRecDepth 16384

noncomputable section

namespace Cert.Kernel4Ideal.Diff

open Idealize.ShloMosaic Idealize.ShloMosaic.TcCoe
open Cert.Kernel4Ideal Cert.Kernel4Ideal.Gen Cert.Proof.Diff Idealize.SL.Sem
open Idealize.ShloMosaic.Pipeline (Dat)

/-- Query block `p` of batch `b`. -/
def rows (X : S8x4096x512.Idx → EReal) (b p : Fin 8) : S1x512x512.Idx → EReal := fun z =>
  X (ix3 b ⟨512 * p.val + (z 1).val, by have : (z 1).val < 512 := (z 1).isLt; omega⟩ (z 2))

/-- Batch `b`. -/
def batch (X : S8x4096x512.Idx → EReal) (b : Fin 8) : S1x4096x512.Idx → EReal := fun z => X (ix3 b (z 1) (z 2))

/-- Batch `b` of the transposed values. -/
def batchT (X : S8x512x4096.Idx → EReal) (b : Fin 8) : S1x512x4096.Idx → EReal := fun z => X (ix3 b (z 1) (z 2))

/-- The call's result at batch `b`, query `512 p + r`, column `j`. -/
def result (L0 L1 : S2x64.Idx → EReal) (Q K : S8x4096x512.Idx → EReal) (Vt : S8x512x4096.Idx → EReal) (W : S8x4096x512.Idx → EReal) (G : S1x128.Idx → EReal)
    (b p : Fin 8) (r j : Fin 512) : EReal :=
  blockOut L0 L1 (rows Q b p) (batch K b) (batchT Vt b) (rows W b p) G p.val (ix3 0 r j)

/-- Where the windows sit at a point. -/
theorem idx_facts : ∀ t : Fin cfg0.N,
    (win0_2.index t (0 : Fin 3) = t.val / 8 ∧ win0_2.index t (1 : Fin 3) = t.val % 8 ∧ win0_2.index t (2 : Fin 3) = 0)
    ∧ (win0_3.index t (0 : Fin 3) = t.val / 8 ∧ win0_3.index t (1 : Fin 3) = 0 ∧ win0_3.index t (2 : Fin 3) = 0)
    ∧ (win0_4.index t (0 : Fin 3) = t.val / 8 ∧ win0_4.index t (1 : Fin 3) = 0 ∧ win0_4.index t (2 : Fin 3) = 0)
    ∧ (win0_5.index t (0 : Fin 3) = t.val / 8 ∧ win0_5.index t (1 : Fin 3) = t.val % 8 ∧ win0_5.index t (2 : Fin 3) = 0)
    ∧ (win0_7.index t (0 : Fin 3) = t.val / 8 ∧ win0_7.index t (1 : Fin 3) = t.val % 8 ∧ win0_7.index t (2 : Fin 3) = 0)
    ∧ (win0_0.index t (0 : Fin 2) = 0 ∧ win0_0.index t (1 : Fin 2) = 0)
    ∧ (win0_1.index t (0 : Fin 2) = 0 ∧ win0_1.index t (1 : Fin 2) = 0)
    ∧ (win0_6.index t (0 : Fin 2) = 0 ∧ win0_6.index t (1 : Fin 2) = 0)
    ∧ (grid0.coords t 2).val = t.val % 8 :=
  (by decide +kernel : ∀ t : Fin grid0.N, _)

theorem lt64 (t : Fin cfg0.N) : t.val < 64 := t.isLt

/-- The batch and the query block of a point. -/
def bOf (t : Fin cfg0.N) : Fin 8 := ⟨t.val / 8, by have := lt64 t; omega⟩
def pOf (t : Fin cfg0.N) : Fin 8 := ⟨t.val % 8, by omega⟩

variable (m : (ℓ : Loc nD τ sig) → Buf (Elt Ideal) ℓ) (ρ : Dev nD → PrngReg)

theorem blk0_eq (c : Dev nD) (t : Fin cfg0.N) :
    (show S2x64.Idx → EReal from iblk m c 0 t) = (show S2x64.Idx → EReal from m ((c : Thread nD τ).loc main_arg0)) := by
  obtain ⟨⟨a20, a21, a22⟩, ⟨a30, a31, a32⟩, ⟨a40, a41, a42⟩, ⟨a50, a51, a52⟩, ⟨a70, a71, a72⟩, ⟨a00, a01⟩, ⟨a10, a11⟩, ⟨a60, a61⟩, hc⟩ := idx_facts t
  funext z
  show V m c main_arg0 (((cfg0.win 0).blk t).view.emb z) = V m c main_arg0 z
  refine congrArg _ (funext fun a => Fin.ext ?_)
  match a with
  | ⟨0, _⟩ => show win0_0.index t (0 : Fin 2) * 2 + 1 * (z 0).val = (z 0).val; omega
  | ⟨1, _⟩ => show win0_0.index t (1 : Fin 2) * 64 + 1 * (z 1).val = (z 1).val; omega

theorem blk1_eq (c : Dev nD) (t : Fin cfg0.N) :
    (show S2x64.Idx → EReal from iblk m c 1 t) = (show S2x64.Idx → EReal from m ((c : Thread nD τ).loc main_arg1)) := by
  obtain ⟨⟨a20, a21, a22⟩, ⟨a30, a31, a32⟩, ⟨a40, a41, a42⟩, ⟨a50, a51, a52⟩, ⟨a70, a71, a72⟩, ⟨a00, a01⟩, ⟨a10, a11⟩, ⟨a60, a61⟩, hc⟩ := idx_facts t
  funext z
  show V m c main_arg1 (((cfg0.win 1).blk t).view.emb z) = V m c main_arg1 z
  refine congrArg _ (funext fun a => Fin.ext ?_)
  match a with
  | ⟨0, _⟩ => show win0_1.index t (0 : Fin 2) * 2 + 1 * (z 0).val = (z 0).val; omega
  | ⟨1, _⟩ => show win0_1.index t (1 : Fin 2) * 64 + 1 * (z 1).val = (z 1).val; omega

theorem blk6_eq (c : Dev nD) (t : Fin cfg0.N) :
    (show S1x128.Idx → EReal from iblk m c 6 t) = (show S1x128.Idx → EReal from m ((c : Thread nD τ).loc main_arg6)) := by
  obtain ⟨⟨a20, a21, a22⟩, ⟨a30, a31, a32⟩, ⟨a40, a41, a42⟩, ⟨a50, a51, a52⟩, ⟨a70, a71, a72⟩, ⟨a00, a01⟩, ⟨a10, a11⟩, ⟨a60, a61⟩, hc⟩ := idx_facts t
  funext z
  show V m c main_arg6 (((cfg0.win 6).blk t).view.emb z) = V m c main_arg6 z
  refine congrArg _ (funext fun a => Fin.ext ?_)
  match a with
  | ⟨0, _⟩ => show win0_6.index t (0 : Fin 2) * 1 + 1 * (z 0).val = (z 0).val; omega
  | ⟨1, _⟩ => show win0_6.index t (1 : Fin 2) * 128 + 1 * (z 1).val = (z 1).val; omega

theorem blk2_eq (c : Dev nD) (t : Fin cfg0.N) :
    (show S1x512x512.Idx → EReal from iblk m c 2 t) = rows (show S8x4096x512.Idx → EReal from m ((c : Thread nD τ).loc main_arg2)) (bOf t) (pOf t) := by
  obtain ⟨⟨a20, a21, a22⟩, ⟨a30, a31, a32⟩, ⟨a40, a41, a42⟩, ⟨a50, a51, a52⟩, ⟨a70, a71, a72⟩, ⟨a00, a01⟩, ⟨a10, a11⟩, ⟨a60, a61⟩, hc⟩ := idx_facts t
  funext z
  show V m c main_arg2 (((cfg0.win 2).blk t).view.emb z) = V m c main_arg2 (ix3 (bOf t) ⟨512 * (pOf t).val + (z 1).val, _⟩ (z 2))
  refine congrArg _ (funext fun a => Fin.ext ?_)
  match a with
  | ⟨0, _⟩ => show win0_2.index t (0 : Fin 3) * 1 + 1 * (z 0).val = t.val / 8; have : (z 0).val < 1 := (z 0).isLt; omega
  | ⟨1, _⟩ => show win0_2.index t (1 : Fin 3) * 512 + 1 * (z 1).val = 512 * (t.val % 8) + (z 1).val; omega
  | ⟨2, _⟩ => show win0_2.index t (2 : Fin 3) * 512 + 1 * (z 2).val = (z 2).val; omega

theorem blk5_eq (c : Dev nD) (t : Fin cfg0.N) :
    (show S1x512x512.Idx → EReal from iblk m c 5 t) = rows (show S8x4096x512.Idx → EReal from m ((c : Thread nD τ).loc main_arg5)) (bOf t) (pOf t) := by
  obtain ⟨⟨a20, a21, a22⟩, ⟨a30, a31, a32⟩, ⟨a40, a41, a42⟩, ⟨a50, a51, a52⟩, ⟨a70, a71, a72⟩, ⟨a00, a01⟩, ⟨a10, a11⟩, ⟨a60, a61⟩, hc⟩ := idx_facts t
  funext z
  show V m c main_arg5 (((cfg0.win 5).blk t).view.emb z) = V m c main_arg5 (ix3 (bOf t) ⟨512 * (pOf t).val + (z 1).val, _⟩ (z 2))
  refine congrArg _ (funext fun a => Fin.ext ?_)
  match a with
  | ⟨0, _⟩ => show win0_5.index t (0 : Fin 3) * 1 + 1 * (z 0).val = t.val / 8; have : (z 0).val < 1 := (z 0).isLt; omega
  | ⟨1, _⟩ => show win0_5.index t (1 : Fin 3) * 512 + 1 * (z 1).val = 512 * (t.val % 8) + (z 1).val; omega
  | ⟨2, _⟩ => show win0_5.index t (2 : Fin 3) * 512 + 1 * (z 2).val = (z 2).val; omega

theorem blk3_eq (c : Dev nD) (t : Fin cfg0.N) :
    (show S1x4096x512.Idx → EReal from iblk m c 3 t) = batch (show S8x4096x512.Idx → EReal from m ((c : Thread nD τ).loc main_arg3)) (bOf t) := by
  obtain ⟨⟨a20, a21, a22⟩, ⟨a30, a31, a32⟩, ⟨a40, a41, a42⟩, ⟨a50, a51, a52⟩, ⟨a70, a71, a72⟩, ⟨a00, a01⟩, ⟨a10, a11⟩, ⟨a60, a61⟩, hc⟩ := idx_facts t
  funext z
  show V m c main_arg3 (((cfg0.win 3).blk t).view.emb z) = V m c main_arg3 (ix3 (bOf t) (z 1) (z 2))
  refine congrArg _ (funext fun a => Fin.ext ?_)
  match a with
  | ⟨0, _⟩ => show win0_3.index t (0 : Fin 3) * 1 + 1 * (z 0).val = t.val / 8; have : (z 0).val < 1 := (z 0).isLt; omega
  | ⟨1, _⟩ => show win0_3.index t (1 : Fin 3) * 4096 + 1 * (z 1).val = (z 1).val; omega
  | ⟨2, _⟩ => show win0_3.index t (2 : Fin 3) * 512 + 1 * (z 2).val = (z 2).val; omega

theorem blk4_eq (c : Dev nD) (t : Fin cfg0.N) :
    (show S1x512x4096.Idx → EReal from iblk m c 4 t) = batchT (show S8x512x4096.Idx → EReal from m ((c : Thread nD τ).loc main_arg4)) (bOf t) := by
  obtain ⟨⟨a20, a21, a22⟩, ⟨a30, a31, a32⟩, ⟨a40, a41, a42⟩, ⟨a50, a51, a52⟩, ⟨a70, a71, a72⟩, ⟨a00, a01⟩, ⟨a10, a11⟩, ⟨a60, a61⟩, hc⟩ := idx_facts t
  funext z
  show V m c main_arg4 (((cfg0.win 4).blk t).view.emb z) = V m c main_arg4 (ix3 (bOf t) (z 1) (z 2))
  refine congrArg _ (funext fun a => Fin.ext ?_)
  match a with
  | ⟨0, _⟩ => show win0_4.index t (0 : Fin 3) * 1 + 1 * (z 0).val = t.val / 8; have : (z 0).val < 1 := (z 0).isLt; omega
  | ⟨1, _⟩ => show win0_4.index t (1 : Fin 3) * 512 + 1 * (z 1).val = (z 1).val; omega
  | ⟨2, _⟩ => show win0_4.index t (2 : Fin 3) * 4096 + 1 * (z 2).val = (z 2).val; omega

/-- No score of any query block is infinite upwards, and every value is real. -/
def AllTame (Q K : S8x4096x512.Idx → EReal) (Vt : S8x512x4096.Idx → EReal) : Prop :=
  ∀ b p : Fin 8, Tame (rows Q b p) (batch K b) (batchT Vt b) p.val

/-- What the body leaves in the output's buffer at a point. -/
theorem outAt_eq (c : Dev nD) (ht : AllTame (show S8x4096x512.Idx → EReal from m ((c : Thread nD τ).loc main_arg2)) (show S8x4096x512.Idx → EReal from m ((c : Thread nD τ).loc main_arg3)) (show S8x512x4096.Idx → EReal from m ((c : Thread nD τ).loc main_arg4))) (t : Fin cfg0.N) (r j : Fin 512) :
    outAt m c t (ix3 0 r j) = result (show S2x64.Idx → EReal from m ((c : Thread nD τ).loc main_arg0)) (show S2x64.Idx → EReal from m ((c : Thread nD τ).loc main_arg1)) (show S8x4096x512.Idx → EReal from m ((c : Thread nD τ).loc main_arg2)) (show S8x4096x512.Idx → EReal from m ((c : Thread nD τ).loc main_arg3)) (show S8x512x4096.Idx → EReal from m ((c : Thread nD τ).loc main_arg4)) (show S8x4096x512.Idx → EReal from m ((c : Thread nD τ).loc main_arg5)) (show S1x128.Idx → EReal from m ((c : Thread nD τ).loc main_arg6)) (bOf t) (pOf t) r j := by
  have hc : (grid0.coords t 2).val = (pOf t).val := (idx_facts t).2.2.2.2.2.2.2.2
  have e0 := blk0_eq m c t
  have e1 := blk1_eq m c t
  have e2 := blk2_eq m c t
  have e3 := blk3_eq m c t
  have e4 := blk4_eq m c t
  have e5 := blk5_eq m c t
  have e6 := blk6_eq m c t
  dsimp only at e0 e1 e2 e3 e4 e5 e6
  have h : Tame (show S1x512x512.Idx → EReal from iblk m c 2 t) (show S1x4096x512.Idx → EReal from iblk m c 3 t) (show S1x512x4096.Idx → EReal from iblk m c 4 t) (grid0.coords t 2).val := by
    dsimp only
    rw [e2, e3, e4, hc]
    exact ht (bOf t) (pOf t)
  have hb : outAt m c t = blockOut (show S2x64.Idx → EReal from iblk m c 0 t) (show S2x64.Idx → EReal from iblk m c 1 t) (show S1x512x512.Idx → EReal from iblk m c 2 t) (show S1x4096x512.Idx → EReal from iblk m c 3 t) (show S1x512x4096.Idx → EReal from iblk m c 4 t) (show S1x512x512.Idx → EReal from iblk m c 5 t) (show S1x128.Idx → EReal from iblk m c 6 t) (grid0.coords t 2).val := by
    by_cases hk : k0_cond1 (grid0.coords t) = 1#1
    · refine Eq.trans (dif_pos hk) ?_
      exact oddOut_eq c (grid0.coords t) (stg0 t) (whole0 t) (stg1 t) (whole1 t) (stg2 t) (whole2 t) (stg3 t) (whole3 t) (stg4 t) (whole4 t) (stg5 t) (whole5 t) (stg6 t) (whole6 t) (stg7 t) (whole7 t) _ _ _ _ _ _ _ hk h
    · refine Eq.trans (dif_neg hk) ?_
      exact evenOut_eq c (grid0.coords t) (stg0 t) (whole0 t) (stg1 t) (whole1 t) (stg2 t) (whole2 t) (stg3 t) (whole3 t) (stg4 t) (whole4 t) (stg5 t) (whole5 t) (stg6 t) (whole6 t) (stg7 t) (whole7 t) _ _ _ _ _ _ _ hk h
  rw [hb]
  dsimp only
  rw [e0, e1, e2, e3, e4, e5, e6, hc]
  rfl

/-- Distinct points write distinct blocks. -/
theorem idx_inj7 : ∀ t t' : Fin cfg0.N, win0_7.index t = win0_7.index t' → t = t' := fun t t' h => by
  obtain ⟨h0, h1, _⟩ := (idx_facts t).2.2.2.2.1
  obtain ⟨h0', h1', _⟩ := (idx_facts t').2.2.2.2.1
  have e0 := congrFun h (0 : Fin 3)
  have e1 := congrFun h (1 : Fin 3)
  rw [h0, h0'] at e0
  rw [h1, h1'] at e1
  exact Fin.ext (by omega)

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- The grid point of query block `p` of batch `b`. -/
def ptOf (b p : Fin 8) : Fin cfg0.N := ⟨8 * b.val + p.val, by show _ < 64; omega⟩

theorem bOf_pt (b p : Fin 8) : bOf (ptOf b p) = b := Fin.ext (by show (8 * b.val + p.val) / 8 = b.val; omega)
theorem pOf_pt (b p : Fin 8) : pOf (ptOf b p) = p := Fin.ext (by show (8 * b.val + p.val) % 8 = p.val; omega)

/-- The output array after the run, at every index. -/
theorem final_apply (c : Dev nD) (ht : AllTame (show S8x4096x512.Idx → EReal from m ((c : Thread nD τ).loc main_arg2)) (show S8x4096x512.Idx → EReal from m ((c : Thread nD τ).loc main_arg3)) (show S8x512x4096.Idx → EReal from m ((c : Thread nD τ).loc main_arg4)))
    (b p : Fin 8) (r j : Fin 512) :
    (data m 0 c).arrAt 7 cfg0.N (ix3 b ⟨512 * p.val + r.val, by omega⟩ j) = result (show S2x64.Idx → EReal from m ((c : Thread nD τ).loc main_arg0)) (show S2x64.Idx → EReal from m ((c : Thread nD τ).loc main_arg1)) (show S8x4096x512.Idx → EReal from m ((c : Thread nD τ).loc main_arg2)) (show S8x4096x512.Idx → EReal from m ((c : Thread nD τ).loc main_arg3)) (show S8x512x4096.Idx → EReal from m ((c : Thread nD τ).loc main_arg4)) (show S8x4096x512.Idx → EReal from m ((c : Thread nD τ).loc main_arg5)) (show S1x128.Idx → EReal from m ((c : Thread nD τ).loc main_arg6)) b p r j := by
  have f : (data m 0 c).flushed 7 (ptOf b p) = (cfg0.win 7).cut (grid0.coords (ptOf b p)) (outAt m c (ptOf b p)) := by
    show (cfg0.win 7).cut (grid0.coords (ptOf b p)) ((data m 0 c).after 7 (ptOf b p)) = _
    rw [after_7]
  have h := congrFun ((data m 0 c).read_blk_arrAt_eq_flushed 7 disjoint7 cfg0.N (ptOf b p) (ptOf b p).isLt (flush0_7 (ptOf b p))) (ix3 0 r j)
  rw [f] at h
  obtain ⟨h0, h1, h2⟩ := (idx_facts (ptOf b p)).2.2.2.2.1
  have v : (ptOf b p).val = 8 * b.val + p.val := rfl
  have he : ((cfg0.win 7).blk (ptOf b p)).view.emb (ix3 0 r j) = ix3 b ⟨512 * p.val + r.val, by omega⟩ j := by
    funext a; apply Fin.ext
    match a with
    | ⟨0, _⟩ => show win0_7.index (ptOf b p) (0 : Fin 3) * 1 + 1 * 0 = b.val; omega
    | ⟨1, _⟩ => show win0_7.index (ptOf b p) (1 : Fin 3) * 512 + 1 * r.val = 512 * p.val + r.val; omega
    | ⟨2, _⟩ => show win0_7.index (ptOf b p) (2 : Fin 3) * 512 + 1 * j.val = j.val; omega
  have h' : (data m 0 c).arrAt 7 cfg0.N (((cfg0.win 7).blk (ptOf b p)).view.emb (ix3 0 r j)) = outAt m c (ptOf b p) (ix3 0 r j) := h
  rw [he] at h'
  refine h'.trans ((outAt_eq m c ht (ptOf b p) r j).trans ?_)
  rw [bOf_pt, pOf_pt]

/-- The run, with the output array named. -/
theorem run_named : θ_run defs (onTc (τ := τ) (main (F := Ideal))) ⟨m, fun _ => 0, ρ⟩ (fun r => ∀ c : Dev nD,
      r.2.mem ((c.tc : Thread nD τ).loc main_v0) = (data m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.2 c).1 7, h.1 c⟩)
    (θ_run_and (frame_of m ρ (data m) (data_A m) (launch m ρ)) (launch m ρ))

end Cert.Kernel4Ideal.Diff

end
-- ==== Proof.Diff4.Reference.lean ====
module

public import proofs.«01_k».proof.Proof.Gen.Reference4Ideal.Read
public import proofs.«01_k».proof.Proof.Diff.Softmax
public import Idealize.ShloMosaic.Lib.IdealHost
public import Idealize.ShloMosaic.Lib.Affine
public import Idealize.ShloMosaic.Lib.Pointwise

/-!
# The differential attention's reference, read at an index

The reference's operations are read one after the other at an index: the masked scores, the two softmaxes, their
difference, the weighted values, the normalisation, the gate.
-/

@[expose] public section

set_option maxRecDepth 16384

noncomputable section

namespace Cert.Reference4Ideal.Diff

open Cert.Reference4Ideal Cert.Reference4Ideal.Gen Cert.Reference4Ideal.Read Idealize.ShloMosaic Idealize.ShloMosaic.TcCoe
open Cert.Proof.Diff

/-- Lane `x` of component `i` of head `h`. -/
def half (h : Fin 4) (i : Fin 2) (x : Fin 64) : Fin 512 := ⟨128 * h.val + 64 * i.val + x.val, by omega⟩

/-- Lane `l` of head `h`. -/
def wide (h : Fin 4) (l : Fin 128) : Fin 512 := ⟨128 * h.val + l.val, by omega⟩

/-- The masked score of query `q` and key `j` in base two, minus infinity where the key is hidden. -/
def masked (Q K : S8x4096x512.Idx → EReal) (b : Fin 8) (h : Fin 4) (i : Fin 2) (q : Fin 4096) (j : ℕ) : EReal :=
  if hj : j < 4096 then
    (if j ≤ q.val then ∑ x : Fin 64, Q (ix3 b q (half h i x)) * K (ix3 b ⟨j, hj⟩ (half h i x)) else ⊥)
  else ⊥

/-- The natural scores. -/
def natural (Q K : S8x4096x512.Idx → EReal) (b : Fin 8) (h : Fin 4) (i : Fin 2) (q : Fin 4096) : ℕ → EReal :=
  fun j => masked Q K b h i q j * (ln2 : EReal)

/-- A softmax weight. -/
def weight (Q K : S8x4096x512.Idx → EReal) (b : Fin 8) (h : Fin 4) (i : Fin 2) (q j : Fin 4096) : EReal :=
  Ideal.div (wexp (natural Q K b h i q) 4096 j) (∑ k : Fin 4096, wexp (natural Q K b h i q) 4096 k)

/-- The factor of the second softmax. -/
def factor (L0 L1 : S2x64.Idx → EReal) : EReal :=
  Ideal.exp (∑ x : Fin 64, L0 (ix2 0 x) * L1 (ix2 0 x)) - Ideal.exp (∑ x : Fin 64, L0 (ix2 1 x) * L1 (ix2 1 x))
    + Ideal.ofBits .f32 0x3EB60549#32

/-- The head's output before the normalisation. -/
def attended (L0 L1 : S2x64.Idx → EReal) (Q K : S8x4096x512.Idx → EReal) (Vt : S8x512x4096.Idx → EReal)
    (b : Fin 8) (h : Fin 4) (q : Fin 4096) (l : Fin 128) : EReal :=
  ∑ j : Fin 4096, Vt (ix3 b (wide h l) j) * (weight Q K b h 0 q j - factor L0 L1 * weight Q K b h 1 q j)

variable (x0 x1 : (⟨S2x64, .f32⟩ : BufTy).Contents (Elt Ideal)) (x2 x3 : (⟨S8x4096x512, .bf16⟩ : BufTy).Contents (Elt Ideal))
  (x4 : (⟨S8x512x4096, .bf16⟩ : BufTy).Contents (Elt Ideal)) (x5 : (⟨S8x4096x512, .bf16⟩ : BufTy).Contents (Elt Ideal))
  (x6 : (⟨S1x128, .f32⟩ : BufTy).Contents (Elt Ideal))

/-- The logarithm the reference turns base two into natural scores with. -/
theorem log_two : Ideal.log (Ideal.ofBits .f32 0x40000000#32) = (ln2 : EReal) := by
  have e : Ideal.ofBits .f32 0x40000000#32 = ((2 : ℝ) : EReal) := by
    simp [Ideal.ofBits, Ideal.ieee]
    rw [← EReal.coe_mul]
    norm_num
  rw [e, Ideal.log_coe, if_neg (by norm_num)]
  rfl

/-- The raw score. -/
theorem score_apply (b : Fin 8) (h : Fin 4) (i : Fin 2) (q j : Fin 4096) :
    val_main_v15 (F := Ideal) x2 x3 (ix5 b h i q j) = ∑ x : Fin 64, x2 (ix3 b q (half h i x)) * x3 (ix3 b j (half h i x)) := by
  rw [val_main_v15_apply]
  refine Finset.sum_congr rfl fun x _ => ?_
  have eq : ∀ r : Fin 4096, ∀ z : S8x4096x4x2x64.Idx, z = ix5 b r h i x → idx_main_v1 z = ix3 b r (half h i x) := by
    rintro r z rfl
    funext a; apply Fin.ext
    match a with
    | ⟨0, _⟩ => show ((((b.val * 4096 + r.val) * 4 + h.val) * 2 + i.val) * 64 + x.val) / 2097152 = b.val; omega
    | ⟨1, _⟩ => show ((((b.val * 4096 + r.val) * 4 + h.val) * 2 + i.val) * 64 + x.val) / 512 % 4096 = r.val; omega
    | ⟨2, _⟩ => show ((((b.val * 4096 + r.val) * 4 + h.val) * 2 + i.val) * 64 + x.val) % 512 = 128 * h.val + 64 * i.val + x.val; omega
  rw [val_main_v1_apply, val_main_v3_apply, val_main_v0_apply, val_main_v2_apply, Ideal.extf_def, Ideal.extf_def]
  refine congrArg₂ (· * ·) (congrArg x2 (eq q _ ?_)) (congrArg x3 (eq j _ ?_)) <;>
  · funext a
    match a with | ⟨0, _⟩ => rfl | ⟨1, _⟩ => rfl | ⟨2, _⟩ => rfl | ⟨3, _⟩ => rfl | ⟨4, _⟩ => rfl

/-- The comparison of two positions as words. -/
theorem select_le (j q : Fin 4096) (x y : EReal) :
    Scalar.select (IntOp.cmpi .sle (BitVec.ofNat 32 j.val) (BitVec.ofNat 32 q.val)) x y = if j.val ≤ q.val then x else y := by
  have tj : (BitVec.ofNat 32 j.val).toInt = j.val := by
    have e : (BitVec.ofNat 32 j.val).toNat = j.val := by rw [BitVec.toNat_ofNat]; omega
    rw [BitVec.toInt_eq_toNat_of_lt (by omega), e]
  have tq : (BitVec.ofNat 32 q.val).toInt = q.val := by
    have e : (BitVec.ofNat 32 q.val).toNat = q.val := by rw [BitVec.toNat_ofNat]; omega
    rw [BitVec.toInt_eq_toNat_of_lt (by omega), e]
  have key : IntOp.cmpi .sle (BitVec.ofNat 32 j.val) (BitVec.ofNat 32 q.val) = 1#1 ↔ j.val ≤ q.val := by
    rw [IntOp.cmpi_sle, tj, tq]; omega
  unfold Scalar.select
  by_cases hq : j.val ≤ q.val
  · exact (if_pos (key.mpr hq)).trans (if_pos hq).symm
  · exact (if_neg (fun e => hq (key.mp e))).trans (if_neg hq).symm

/-- The masked score, natural. -/
theorem natural_apply (b : Fin 8) (h : Fin 4) (i : Fin 2) (q j : Fin 4096) :
    val_main_v25 (F := Ideal) x2 x3 (ix5 b h i q j) = natural x2 x3 b h i q j.val := by
  simp only [val_main_v25_apply, val_main_call0_v1_apply, val_main_v24_apply, val_main_v22_apply, val_main_v23_apply,
    val_main_v20_apply, val_main_v21_apply, val_main_v19_apply, val_main_v18_apply, val_main_v17_apply, val_main_v16_apply,
    val_main_cst_1_apply, val_main_call0_v2_apply, val_main_call0_v0_apply, val_main_cst_2_apply]
  simp only [Ideal.mulf_def, Ideal.hostUnary_log_def, Ideal.ofBits_def, log_two, score_apply]
  have hpos : (0 : ℝ) < ln2 := Real.log_pos one_lt_two
  have nb : Ideal.ofBits .f32 0xFF800000#32 = ⊥ := by simp [Ideal.ofBits, Ideal.ieee]
  refine (select_le j q _ _).trans ?_
  unfold natural masked
  rw [dif_pos j.isLt, nb]
  by_cases hq : j.val ≤ q.val
  · rw [if_pos hq, if_pos hq]
  · rw [if_neg hq, if_neg hq, EReal.bot_mul_coe_of_pos hpos]

/-- The largest score of a row. -/
theorem max_apply (b : Fin 8) (h : Fin 4) (i : Fin 2) (q : Fin 4096) :
    val_main_v26 (F := Ideal) x2 x3 (ix4 b h i q) = top (natural x2 x3 b h i q) 4096 := by
  have nb : Ideal.ofBits .f32 0xFF800000#32 = ⊥ := by simp [Ideal.ofBits, Ideal.ieee]
  unfold val_main_v26
  have hn : ∀ j : Fin 4096, val_main_v25 (F := Ideal) x2 x3 (ix5 b h i q j) = natural x2 x3 b h i q j.val := fun j => natural_apply x2 x3 b h i q j
  generalize val_main_v25 (F := Ideal) x2 x3 = y at hn ⊢
  refine (Host.reduce_eq_fold_single (FloatOps.maximumf (F := Ideal) (φ := .f32)) y (val_main_cst_3 (F := Ideal))
    reducesTo_S8x4x2x4096x4096_S8x4x2x4096_d4 (by decide) h_S_ (ix4 b h i q)).trans ?_
  rw [val_main_cst_3_apply, Ideal.ofBits_def, nb, ← top_fin]
  refine congrArg (fun f => Finset.fold max ⊥ f (Finset.univ : Finset (Fin 4096))) (funext fun j => ?_)
  refine (congrArg y ?_).trans (hn j)
  funext a
  apply Fin.ext
  match a with | ⟨0, _⟩ => rfl | ⟨1, _⟩ => rfl | ⟨2, _⟩ => rfl | ⟨3, _⟩ => rfl | ⟨4, _⟩ => rfl

/-- An unnormalised weight. -/
theorem exp_apply (b : Fin 8) (h : Fin 4) (i : Fin 2) (q j : Fin 4096) :
    val_main_v30 (F := Ideal) x2 x3 (ix5 b h i q j) = wexp (natural x2 x3 b h i q) 4096 j.val := by
  have e : idx_main_v27 (idx_main_v28 (ix5 b h i q j)) = ix4 b h i q := by
    funext a; match a with | ⟨0, _⟩ => rfl | ⟨1, _⟩ => rfl | ⟨2, _⟩ => rfl | ⟨3, _⟩ => rfl
  rw [val_main_v30_apply, val_main_v29_apply, val_main_v28_apply, val_main_v27_apply, e, max_apply, natural_apply]
  rfl

/-- A weight. -/
theorem weight_apply (b : Fin 8) (h : Fin 4) (i : Fin 2) (q j : Fin 4096) :
    val_main_v34 (F := Ideal) x2 x3 (ix5 b h i q j) = weight x2 x3 b h i q j := by
  have e : ∀ k, idx_main_v31 (idx_main_v32 (idx_main_v33 (ix5 b h i q j))) k = ix5 b h i q k := fun k => by
    funext a; match a with | ⟨0, _⟩ => rfl | ⟨1, _⟩ => rfl | ⟨2, _⟩ => rfl | ⟨3, _⟩ => rfl | ⟨4, _⟩ => rfl
  rw [val_main_v34_apply, val_main_v33_apply, val_main_v32_apply, val_main_v31_apply, exp_apply, val_main_cst_4_apply,
    Ideal.hostDivf_def, Ideal.ofBits_def, Ideal.ofBits_zero_f32, zero_add]
  simp only [e, exp_apply]
  rfl

/-- A reshape between a shape of one axis of one element and the shape of no axis. -/
theorem scalar_cast (x : S1.Idx → EReal) (i : S_.Idx) : shapeCast S_ x shapeCasts_S1_S_ i = x (ix1 0) := by
  refine congrArg x (funext fun a => ?_)
  match a with | ⟨0, _⟩ => exact Subsingleton.elim (α := Fin 1) _ _

/-- The factor. -/
theorem factor_apply (i : S_.Idx) : val_main_v14 (F := Ideal) x0 x1 i = factor x0 x1 := by
  have e0 : ∀ k, idx_main_v7 (idx_main_v9 (ix1 0)) k = ix2 0 k := fun k => by
    funext a; match a with | ⟨0, _⟩ => rfl | ⟨1, _⟩ => rfl
  have e1 : ∀ k, idx_main_v7 (idx_main_v11 (ix1 0)) k = ix2 1 k := fun k => by
    funext a; match a with | ⟨0, _⟩ => rfl | ⟨1, _⟩ => rfl
  rw [val_main_v14_apply, val_main_v13_apply]
  unfold val_main_v10 val_main_v12
  rw [scalar_cast, scalar_cast, val_main_v9_apply, val_main_v11_apply, val_main_v8_apply, val_main_v8_apply,
    val_main_v7_apply, val_main_v7_apply, val_main_cst_0_apply, val_main_cst_apply]
  simp only [e0, e1, val_main_v6_apply, Ideal.addf_def, Ideal.subf_def, Ideal.mulf_def, Ideal.hostUnary_exp_def, Ideal.ofBits_def,
    Ideal.ofBits_zero_f32, zero_add]
  rfl

/-- The weighted values. -/
theorem attended_apply (b : Fin 8) (q : Fin 4096) (h : Fin 4) (l : Fin 128) :
    val_main_v43 (F := Ideal) x0 x1 x2 x3 x4 (ix4 b q h l) = attended x0 x1 x2 x3 x4 b h q l := by
  rw [val_main_v43_apply, val_main_v42_apply]
  unfold attended
  refine Finset.sum_congr rfl fun j _ => congrArg₂ (· * ·) ?_ ?_
  · rw [val_main_v5_apply, val_main_v4_apply, Ideal.extf_def]
    refine congrArg x4 (funext fun a => Fin.ext ?_)
    match a with
    | ⟨0, _⟩ => show (((b.val * 4 + h.val) * 128 + l.val) * 4096 + j.val) / 2097152 = b.val; omega
    | ⟨1, _⟩ => show (((b.val * 4 + h.val) * 128 + l.val) * 4096 + j.val) / 4096 % 512 = 128 * h.val + l.val; omega
    | ⟨2, _⟩ => show (((b.val * 4 + h.val) * 128 + l.val) * 4096 + j.val) % 4096 = j.val; omega
  · rw [val_main_v41_apply, val_main_v40_apply, val_main_v39_apply, factor_apply, val_main_v36_apply, val_main_v38_apply,
      val_main_v35_apply, val_main_v37_apply]
    have e0 : idx_main_v35 (idx_main_v36 (ridx_main_v42 (idx_main_v43 (ix4 b q h l)) j)) = ix5 b h 0 q j := by
      funext a; apply Fin.ext
      match a with
      | ⟨0, _⟩ => show (((b.val * 4 + h.val) * 4096 + q.val) * 4096 + j.val) / 67108864 = b.val; omega
      | ⟨1, _⟩ => show (((b.val * 4 + h.val) * 4096 + q.val) * 4096 + j.val) / 16777216 % 4 = h.val; omega
      | ⟨2, _⟩ => rfl
      | ⟨3, _⟩ => show (((b.val * 4 + h.val) * 4096 + q.val) * 4096 + j.val) / 4096 % 4096 = q.val; omega
      | ⟨4, _⟩ => show (((b.val * 4 + h.val) * 4096 + q.val) * 4096 + j.val) % 4096 = j.val; omega
    have e1 : idx_main_v37 (idx_main_v38 (ridx_main_v42 (idx_main_v43 (ix4 b q h l)) j)) = ix5 b h 1 q j := by
      funext a; apply Fin.ext
      match a with
      | ⟨0, _⟩ => show (((b.val * 4 + h.val) * 4096 + q.val) * 4096 + j.val) / 67108864 = b.val; omega
      | ⟨1, _⟩ => show (((b.val * 4 + h.val) * 4096 + q.val) * 4096 + j.val) / 16777216 % 4 = h.val; omega
      | ⟨2, _⟩ => rfl
      | ⟨3, _⟩ => show (((b.val * 4 + h.val) * 4096 + q.val) * 4096 + j.val) / 4096 % 4096 = q.val; omega
      | ⟨4, _⟩ => show (((b.val * 4 + h.val) * 4096 + q.val) * 4096 + j.val) % 4096 = j.val; omega
    rw [e0, e1, weight_apply, weight_apply]
    rfl

/-- The result at batch `b`, query `q`, lane `l` of head `h`. -/
theorem result_apply (b : Fin 8) (q : Fin 4096) (h : Fin 4) (l : Fin 128) :
    val_main_v63 (F := Ideal) x0 x1 x2 x3 x4 x5 x6 (ix3 b q (wide h l))
      = attended x0 x1 x2 x3 x4 b h q l
          * Ideal.rsqrt (Ideal.div (∑ x : Fin 128, attended x0 x1 x2 x3 x4 b h q x * attended x0 x1 x2 x3 x4 b h q x)
              (Ideal.ofBits .f32 0x43000000#32) + Ideal.ofBits .f32 0x358637BD#32)
          * x6 (ix2 0 l) * Ideal.ofBits .f32 0x3F24FD5C#32 * x5 (ix3 b q (wide h l)) := by
  have e : idx_main_v60 (ix3 b q (wide h l)) = ix4 b q h l := by
    funext a; apply Fin.ext
    match a with
    | ⟨0, _⟩ => show ((b.val * 4096 + q.val) * 512 + (128 * h.val + l.val)) / 2097152 = b.val; omega
    | ⟨1, _⟩ => show ((b.val * 4096 + q.val) * 512 + (128 * h.val + l.val)) / 512 % 4096 = q.val; omega
    | ⟨2, _⟩ => show ((b.val * 4096 + q.val) * 512 + (128 * h.val + l.val)) / 128 % 4 = h.val; omega
    | ⟨3, _⟩ => show ((b.val * 4096 + q.val) * 512 + (128 * h.val + l.val)) % 128 = l.val; omega
  have es : ∀ k, idx_main_v46 (idx_main_v47 (idx_main_v53 (ix4 b q h l))) k = ix4 b q h k := fun k => by
    funext a; match a with | ⟨0, _⟩ => rfl | ⟨1, _⟩ => rfl | ⟨2, _⟩ => rfl | ⟨3, _⟩ => rfl
  have eg : idx_main_v44 (idx_main_v55 (idx_main_v56 (ix4 b q h l))) = ix2 0 l := by
    funext a; apply Fin.ext
    match a with
    | ⟨0, _⟩ => rfl
    | ⟨1, _⟩ => show l.val % 128 = l.val; omega
  rw [val_main_v63_apply, val_main_v62_apply, val_main_v61_apply, val_main_v60_apply, e, val_main_v59_apply, val_main_v58_apply,
    val_main_cst_8_apply, val_main_v57_apply, val_main_v56_apply, val_main_v55_apply, val_main_v44_apply, eg, val_main_v54_apply,
    val_main_v53_apply, val_main_v52_apply, val_main_v51_apply, val_main_v50_apply, val_main_cst_7_apply, val_main_v49_apply,
    val_main_v48_apply, val_main_cst_6_apply, val_main_v47_apply, val_main_v46_apply, val_main_cst_5_apply, attended_apply]
  simp only [es, val_main_v45_apply, attended_apply, Ideal.addf_def, Ideal.mulf_def, Ideal.hostDivf_def, Ideal.hostUnary_rsqrt_def,
    Ideal.extf_def, Ideal.truncf_def, Ideal.ofBits_def, Ideal.ofBits_zero_f32, zero_add]

end Cert.Reference4Ideal.Diff
end
-- ==== Proof.Diff4.Agree.lean ====
module

public import proofs.«01_k».proof.Proof.Diff4.Array
public import proofs.«01_k».proof.Proof.Diff4.Reference

/-!
# The two formulas of the differential attention agree

Row `r` of the kernel's masked queries holds the first component's query and zeros; row `512 + r` the second's. So the
kernel's scores are the reference's in base two, and the two ways of writing the normalised sums (`lane_eq`) agree where
the queries, the keys, the values and the factor are real.
-/

@[expose] public section

set_option maxRecDepth 16384

noncomputable section

namespace Cert.Proof.Diff4

open Idealize.ShloMosaic Idealize.ShloMosaic.TcCoe Cert.Proof.Diff
open Cert.Kernel4Ideal (S8x4096x512 S8x512x4096 S2x64 S1x128)
open Cert.Kernel4Ideal.Diff (rows batch batchT shown score value qhead lanes lam lane normed headOut blockOut_at AllTame)
open Cert.Reference4Ideal.Diff (half wide masked natural weight factor attended)

variable (L0 L1 : S2x64.Idx → EReal) (Q K : S8x4096x512.Idx → EReal) (Vt : S8x512x4096.Idx → EReal)
  (W : S8x4096x512.Idx → EReal) (G : S1x128.Idx → EReal)

/-- Query `r` of block `p`. -/
def query (p : Fin 8) (r : Fin 512) : Fin 4096 := ⟨512 * p.val + r.val, by omega⟩

/-- The row of component `i` of query `r` in the masked queries. -/
def row (i : Fin 2) (r : Fin 512) : Fin 1024 := ⟨512 * i.val + r.val, by omega⟩

theorem sum_halves (f : Fin 128 → EReal) :
    ∑ l, f l = (∑ x : Fin 64, f ⟨x.val, by omega⟩) + ∑ x : Fin 64, f ⟨64 + x.val, by omega⟩ :=
  Fin.sum_univ_add (a := 64) (b := 64) f

/-- The sum over all lanes is the sum over the component's. -/
theorem lanes_sum (k : Fin 128 → EReal) (q : Fin 512 → Fin 128 → EReal) (i : Fin 2) (r : Fin 512) :
    ∑ l, k l * lanes q (row i r) l = ∑ x : Fin 64, q r ⟨64 * i.val + x.val, by omega⟩ * k ⟨64 * i.val + x.val, by omega⟩ := by
  rw [sum_halves]
  match i with
  | ⟨0, _⟩ =>
    have hc : (row ⟨0, by decide⟩ r).val < 512 := by show 512 * 0 + r.val < 512; omega
    have hr : (⟨(row ⟨0, by decide⟩ r).val, hc⟩ : Fin 512) = r := Fin.ext (by show 512 * 0 + r.val = r.val; omega)
    have z : ∀ x : Fin 64, k ⟨64 + x.val, by omega⟩ * lanes q (row ⟨0, by decide⟩ r) ⟨64 + x.val, by omega⟩ = 0 := fun x => by
      unfold lanes
      rw [dif_pos hc, if_neg (by show ¬ 64 + x.val < 64; omega), mul_zero]
    rw [Finset.sum_congr rfl (fun x _ => z x), Finset.sum_const_zero, add_zero]
    refine Finset.sum_congr rfl fun x _ => ?_
    have ex : (⟨64 * 0 + x.val, by omega⟩ : Fin 128) = ⟨x.val, by omega⟩ := Fin.ext (by show 64 * 0 + x.val = x.val; omega)
    unfold lanes
    rw [dif_pos hc, if_pos (by show x.val < 64; omega), hr, mul_comm]
    show _ = q r ⟨64 * 0 + x.val, by omega⟩ * k ⟨64 * 0 + x.val, by omega⟩
    rw [ex]
  | ⟨1, _⟩ =>
    have hc : ¬ (row ⟨1, by decide⟩ r).val < 512 := by show ¬ 512 * 1 + r.val < 512; omega
    have hr : (⟨(row ⟨1, by decide⟩ r).val - 512, by have := (row ⟨1, by decide⟩ r).isLt; omega⟩ : Fin 512) = r :=
      Fin.ext (by show 512 * 1 + r.val - 512 = r.val; omega)
    have z : ∀ x : Fin 64, k ⟨x.val, by omega⟩ * lanes q (row ⟨1, by decide⟩ r) ⟨x.val, by omega⟩ = 0 := fun x => by
      unfold lanes
      rw [dif_neg hc, if_pos (by show x.val < 64; omega), mul_zero]
    rw [Finset.sum_congr rfl (fun x _ => z x), Finset.sum_const_zero, zero_add]
    refine Finset.sum_congr rfl fun x _ => ?_
    unfold lanes
    rw [dif_neg hc, if_neg (by show ¬ 64 + x.val < 64; omega), hr, mul_comm]
    rfl

/-- The kernel's scores are the reference's. -/
theorem shown_eq (b p : Fin 8) (h : Fin 4) (i : Fin 2) (r : Fin 512) :
    shown (rows Q b p) (batch K b) p.val h (row i r) = masked Q K b h i (query p r) := by
  funext j
  have hm : (row i r).val % 512 = r.val := by show (512 * i.val + r.val) % 512 = r.val; omega
  unfold shown score masked
  rw [hm]
  by_cases hj : j < 4096
  · rw [dif_pos hj, dif_pos hj]
    refine if_congr Iff.rfl ?_ rfl
    refine (lanes_sum (fun l => batch K b (ix3 0 ⟨j, hj⟩ ⟨128 * h.val + l.val, by omega⟩)) (qhead (rows Q b p) h) i r).trans ?_
    refine Finset.sum_congr rfl fun x _ => ?_
    have e : (⟨128 * h.val + (64 * i.val + x.val), by omega⟩ : Fin 512) = half h i x := Fin.ext (by
      show 128 * h.val + (64 * i.val + x.val) = 128 * h.val + 64 * i.val + x.val; omega)
    show Q (ix3 b (query p r) ⟨128 * h.val + (64 * i.val + x.val), by omega⟩) * K (ix3 b ⟨j, hj⟩ ⟨128 * h.val + (64 * i.val + x.val), by omega⟩) = _
    rw [e]
  · rw [dif_neg hj, dif_neg hj, ite_self]

/-- A masked score is not plus infinity. -/
theorem masked_ne_top (hQ : ∀ i, IsReal (Q i)) (hK : ∀ i, IsReal (K i)) (b : Fin 8) (h : Fin 4) (i : Fin 2) (q : Fin 4096) (j : ℕ) :
    masked Q K b h i q j ≠ ⊤ := by
  unfold masked
  split
  · split
    · exact (isReal_sum _ _ fun x _ => (hQ _).mul (hK _)).ne_top
    · exact bot_ne_top
  · exact bot_ne_top

/-- The first key is never hidden. -/
theorem masked_zero (hQ : ∀ i, IsReal (Q i)) (hK : ∀ i, IsReal (K i)) (b : Fin 8) (h : Fin 4) (i : Fin 2) (q : Fin 4096) :
    IsReal (masked Q K b h i q 0) := by
  unfold masked
  rw [dif_pos (by decide), if_pos (Nat.zero_le _)]
  exact isReal_sum _ _ fun x _ => (hQ _).mul (hK _)

theorem value_real (hV : ∀ i, IsReal (Vt i)) (b : Fin 8) (h : Fin 4) (e : Fin 144) (j : ℕ) : IsReal (value (batchT Vt b) h e j) := by
  unfold value
  split
  · split
    · exact hV _
    · exact isReal_zero
  · exact isReal_one

/-- What the running softmax asks of the arguments. -/
theorem tame (hQ : ∀ i, IsReal (Q i)) (hK : ∀ i, IsReal (K i)) (hV : ∀ i, IsReal (Vt i)) : AllTame Q K Vt := by
  intro b p
  refine ⟨fun h c j => ?_, fun h e j => value_real Vt hV b h e j⟩
  have ec : c = row ⟨c.val / 512, by omega⟩ ⟨c.val % 512, Nat.mod_lt _ (by decide)⟩ := Fin.ext (by
    show c.val = 512 * (c.val / 512) + c.val % 512; omega)
  rw [ec, shown_eq]
  exact masked_ne_top Q K hQ hK _ _ _ _ _

/-- The factor is real. -/
theorem factor_real (h0 : ∀ i, IsReal (L0 i)) (h1 : ∀ i, IsReal (L1 i)) : IsReal (factor L0 L1) := by
  have hc : IsReal (Ideal.ofBits .f32 0x3EB60549#32) := by
    refine isReal_of_ne ?_ ?_ <;> simp [Ideal.ofBits, Ideal.ieee, ← EReal.coe_mul]
  exact ((isReal_sum _ _ fun x _ => (h0 _).mul (h1 _)).exp.sub (isReal_sum _ _ fun x _ => (h0 _).mul (h1 _)).exp).add hc

/-- A lane of the head's output before the normalisation. -/
theorem lane_agree (h0 : ∀ i, IsReal (L0 i)) (h1 : ∀ i, IsReal (L1 i)) (hQ : ∀ i, IsReal (Q i)) (hK : ∀ i, IsReal (K i)) (hV : ∀ i, IsReal (Vt i))
    (b p : Fin 8) (h : Fin 4) (r : Fin 512) (l : Fin 128) :
    lane (fun e c => tot (shown (rows Q b p) (batch K b) p.val h c) (value (batchT Vt b) h e) 4096)
        (lam (fun i x => L0 (ix2 i x)) (fun i x => L1 (ix2 i x))) r l
      = attended L0 L1 Q K Vt b h (query p r) l := by
  have r0 : (⟨r.val, by omega⟩ : Fin 1024) = row 0 r := Fin.ext (by show r.val = 512 * 0 + r.val; omega)
  have r1 : (⟨512 + r.val, by omega⟩ : Fin 1024) = row 1 r := Fin.ext (by show 512 + r.val = 512 * 1 + r.val; omega)
  have one : value (batchT Vt b) h 128 = fun _ => 1 := funext fun j => dif_neg (by decide)
  have hf : lam (fun i x => L0 (ix2 i x)) (fun i x => L1 (ix2 i x)) = factor L0 L1 := rfl
  unfold lane
  dsimp only
  rw [r0, r1, shown_eq, shown_eq, one, hf]
  refine (lane_eq (masked Q K b h 0 (query p r)) (masked Q K b h 1 (query p r)) (value (batchT Vt b) h ⟨l.val, by omega⟩) (factor L0 L1) 4096 (by decide)
    (masked_ne_top Q K hQ hK b h 0 _) (masked_ne_top Q K hQ hK b h 1 _) (masked_zero Q K hQ hK b h 0 _).ne_bot (masked_zero Q K hQ hK b h 1 _).ne_bot
    (value_real Vt hV b h _) (factor_real L0 L1 h0 h1)).trans ?_
  unfold attended
  refine Finset.sum_congr rfl fun j _ => congrArg₂ (· * ·) ?_ rfl
  unfold value
  rw [dif_pos (show l.val < 128 from l.isLt), dif_pos j.isLt]
  rfl

/-- The kernel's formula is the reference's. -/
theorem agree (h0 : ∀ i, IsReal (L0 i)) (h1 : ∀ i, IsReal (L1 i)) (hQ : ∀ i, IsReal (Q i)) (hK : ∀ i, IsReal (K i)) (hV : ∀ i, IsReal (Vt i))
    (b p : Fin 8) (r : Fin 512) (h : Fin 4) (l : Fin 128) :
    Cert.Kernel4Ideal.Diff.result L0 L1 Q K Vt W G b p r (wide h l)
      = attended L0 L1 Q K Vt b h (query p r) l
          * Ideal.rsqrt (Ideal.div (∑ x : Fin 128, attended L0 L1 Q K Vt b h (query p r) x * attended L0 L1 Q K Vt b h (query p r) x)
              (Ideal.ofBits .f32 0x43000000#32) + Ideal.ofBits .f32 0x358637BD#32)
          * G (ix2 0 l) * Ideal.ofBits .f32 0x3F24FD5C#32 * W (ix3 b (query p r) (wide h l)) := by
  unfold Cert.Kernel4Ideal.Diff.result
  rw [blockOut_at _ _ _ _ _ _ _ _ _ h r l (by show r.val = 0 + r.val; omega) rfl]
  unfold headOut normed
  simp only [lane_agree L0 L1 Q K Vt h0 h1 hQ hK hV]
  rw [← mul_assoc (_ * _) (G _) _]
  rfl

end Cert.Proof.Diff4
end
-- ==== Proof.Diff4.Equation.lean ====
module

public import proofs.«01_k».proof.Defs
public import proofs.«01_k».proof.Proof.Diff.Finite
public import proofs.«01_k».proof.Proof.Diff4.Agree

/-!
# The equation of the differential attention with the other layer's constant

Both runs end with formulas of the arguments, and these agree on real arguments.
-/

@[expose] public section

set_option maxRecDepth 16384

noncomputable section

namespace Cert.Proof.Diff4

open Idealize.ShloMosaic Idealize.ShloMosaic.TcCoe Idealize.SL.Sem Cert.Proof.Diff
open Cert.Reference4Ideal.Diff (wide)

/-- An index, taken apart into batch, query block, query, head and lane. -/
theorem index_split (y : Cert.Kernel4Ideal.S8x4096x512.Idx) :
    ∃ (b p : Fin 8) (r : Fin 512) (h : Fin 4) (l : Fin 128), y = ix3 b (query p r) (wide h l) := by
  have h0 : (y 0).val < 8 := (y 0).isLt
  have h1 : (y 1).val < 4096 := (y 1).isLt
  have h2 : (y 2).val < 512 := (y 2).isLt
  refine ⟨y 0, ⟨(y 1).val / 512, by omega⟩, ⟨(y 1).val % 512, by omega⟩, ⟨(y 2).val / 128, by omega⟩, ⟨(y 2).val % 128, by omega⟩, ?_⟩
  funext a; apply Fin.ext
  match a with
  | ⟨0, _⟩ => rfl
  | ⟨1, _⟩ => show (y 1).val = 512 * ((y 1).val / 512) + (y 1).val % 512; omega
  | ⟨2, _⟩ => show (y 2).val = 128 * ((y 2).val / 128) + (y 2).val % 128; omega

/-- Over the reals the attention kernel and its reference end with equal results and unchanged arguments. -/
theorem equation : Cert.algebraic_Kernel4Ideal_Reference4Ideal_pre_finite := by
  intro m g m' g' hpre hagree
  refine ⟨fun c => (Cert.Kernel4Ideal.Diff.data m 0 c).arrAt 7 Cert.Kernel4Ideal.cfg0.N, Cert.Kernel4Ideal.Diff.run_named m g, ?_⟩
  refine (θ_run Cert.Reference4Ideal.defs _ _).mono (fun r h c => ⟨(h c).1.trans ?_, (h c).2⟩) (Cert.Reference4Ideal.Value.run (F := Ideal) m' g')
  obtain ⟨e0, e1, e2, e3, e4, e5, e6⟩ := hagree c
  obtain ⟨r0, r1, r2, r3, r4⟩ := reals _ _ _ _ _ _ _ (hpre c)
  rw [Cert.Reference4Ideal.Read.val_main_v63_eq]
  funext y
  rw [e0, e1, e2, e3, e4, e5, e6]
  obtain ⟨b, p, s, h, l, rfl⟩ := index_split y
  exact (Cert.Reference4Ideal.Diff.result_apply _ _ _ _ _ _ _ b (query p s) h l).trans
    ((agree _ _ _ _ _ _ _ r0 r1 r2 r3 r4 b p s h l).symm.trans
      (Cert.Kernel4Ideal.Diff.final_apply m c (tame _ _ _ r2 r3 r4) b p s (wide h l)).symm)

end Cert.Proof.Diff4
end
-- ==== Proof.Merge.Block.lean ====
module

public import proofs.«01_k».proof.Proof.Gen.Kernel2Ideal.Value
public import Idealize.ShloMosaic.Lib.Pointwise
public import Idealize.ShloMosaic.Lib.Pipeline.ValueKit.Tiles
public import Idealize.ShloMosaic.Lib.WholeRead
public import Idealize.ShloMosaic.Lib.Pipeline.ValueKit.Basic

/-!
# One block of the merge kernel

What one grid point of the merge call leaves in its output block, read at a row `r` and a column `l` over the reals.
The row of `x` is rms-normalised (`hid`), the normalised row is multiplied with three columns of the gate weights and
squashed (`squash`), each squashed gate scales one branch's projected row (`mix`), and the 1024 merged numbers of the row
are multiplied with the output weights and added to `x`. The kernel makes the merged row in four chunks of 256
columns; each chunk's payload is the same formula at its own columns.
-/

@[expose] public section

set_option maxRecDepth 16384

noncomputable section

namespace Cert.Kernel2Ideal.Merge

open Cert.Kernel2Ideal Cert.Kernel2Ideal.Gen Idealize.ShloMosaic Idealize.ShloMosaic.TcCoe Idealize.SL.Sem

/-- Entry `k` of one row of the rms-normalised input: the row's entry, times the reciprocal root of the row's mean
    square plus the small constant, times the gain. -/
def hid (x g : Fin 1024 → EReal) (k : Fin 1024) : EReal :=
  x k * Ideal.rsqrt (Ideal.div (∑ j, x j * x j) (Ideal.ofBits .f32 0x44800000#32) + Ideal.ofBits .f32 0x358637BD#32) * g k

/-- The squashing function `1 / (1 + exp (-z))`. -/
def squash (z : EReal) : EReal := Ideal.div 1 (1 + Ideal.exp (0 - z))

/-- One merged entry: over the three branches, the squashed gate times the branch's projection. -/
def mix (h : Fin 1024 → EReal) (ga gb gc : Fin 1024 → EReal) (ya yb yc wa wb wc : Fin 512 → EReal) : EReal :=
  squash (∑ k, h k * ga k) * (∑ e, ya e * wa e) + squash (∑ k, h k * gb k) * (∑ e, yb e * wb e)
    + squash (∑ k, h k * gc k) * (∑ e, yc e * wc e)

theorem pay1_apply (v0 : Vec Ideal S1024x1024 .f32) (v11 : Vec Ideal S1x1024 .f32) (r k : Fin 1024) :
    k0_pay1 v0 v11 (ix2 r k) = hid (fun k => v0 (ix2 r k)) (fun k => v11 (ix2 0 k)) k := by
  pointwise [k0_pay1, hid]

section Chunks

variable (h : FVec Ideal S1024x1024 .bf16) (ga gb gc : Vec Ideal S1024x256 .bf16)
  (ya yb yc : Vec Ideal S1024x512 .bf16) (wa wb wc : Vec Ideal S512x256 .bf16) (r : Fin 1024) (l : Fin 256)

/-- The merged entry at row `r`, column `l` of a chunk, from the chunk's loaded columns. -/
def chunk : EReal :=
  mix (fun k => h (ix2 r k)) (fun k => ga (ix2 k l)) (fun k => gb (ix2 k l)) (fun k => gc (ix2 k l))
    (fun e => ya (ix2 r e)) (fun e => yb (ix2 r e)) (fun e => yc (ix2 r e))
    (fun e => wa (ix2 e l)) (fun e => wb (ix2 e l)) (fun e => wc (ix2 e l))

theorem chunk0_apply (v0 : Vec Ideal S1024x1024 .f32) (v11 : Vec Ideal S1x1024 .f32) :
    k0_pay4 (k0_pay1 v0 v11) (k0_pay2 v0 v11 ga ya wa) (k0_pay3 v0 v11 gb) (Scalar.ofBits .f32 0x3F800000#32)
      yb wb gc yc wc (ix2 r l) = chunk (k0_pay1 v0 v11) ga gb gc ya yb yc wa wb wc r l := by
  unfold k0_pay4 k0_pay2 k0_pay3
  generalize k0_pay1 v0 v11 = h
  pointwise [chunk, mix, squash]

theorem chunk1_apply :
    k0_pay7 (k0_pay6 h (k0_pay5 h ga) ya wa gb yb wb gc yc wc) (ix2 r l) = chunk h ga gb gc ya yb yc wa wb wc r l := by
  pointwise [k0_pay7, k0_pay6, k0_pay5, chunk, mix, squash]

theorem chunk2_apply :
    k0_pay10 (k0_pay8 h ga ya wa gb yb wb) (k0_pay9 h gc) (Scalar.ofBits .f32 0x00000000#32) yc wc (ix2 r l)
      = chunk h ga gb gc ya yb yc wa wb wc r l := by
  pointwise [k0_pay10, k0_pay8, k0_pay9, chunk, mix, squash]

theorem chunk3_apply :
    k0_pay13 h (k0_pay11 h ga ya wa) (k0_pay12 h gb) (Scalar.ofBits .f32 0x3F800000#32) yb wb gc yc wc (ix2 r l)
      = chunk h ga gb gc ya yb yc wa wb wc r l := by
  pointwise [k0_pay13, k0_pay11, k0_pay12, chunk, mix, squash]

end Chunks

theorem pay14_apply (v0 : Vec Ideal S1024x1024 .f32) (v195 v196 : Vec Ideal S1024x1024 .bf16) (r l : Fin 1024) :
    k0_pay14 v0 v195 v196 (ix2 r l) = v0 (ix2 r l) + ∑ k, v195 (ix2 r k) * v196 (ix2 k l) := by
  pointwise [k0_pay14]

/-- Column `k` of branch `b` in the gate weights, whose three branches lie side by side. -/
def col (b : Fin 3) (k : Fin 1024) : Fin 3072 := ⟨b.val * 1024 + k.val, by omega⟩

/-- The merged entry at row `r` and column `k`, from `x`, the gain, the three branches, the gate weights and the three
    branch weights. -/
def mrow {n : Nat} (x : (⟨2, ![n, 1024]⟩ : Shape).Idx → EReal) (g : S1x1024.Idx → EReal)
    (ya yb yc : (⟨2, ![n, 512]⟩ : Shape).Idx → EReal) (wg : S1024x3072.Idx → EReal) (wa wb wc : S512x1024.Idx → EReal)
    (r : Fin n) (k : Fin 1024) : EReal :=
  mix (hid (fun j => x (ix2 r j)) (fun j => g (ix2 0 j)))
    (fun j => wg (ix2 j (col 0 k))) (fun j => wg (ix2 j (col 1 k))) (fun j => wg (ix2 j (col 2 k)))
    (fun e => ya (ix2 r e)) (fun e => yb (ix2 r e)) (fun e => yc (ix2 r e))
    (fun e => wa (ix2 e k)) (fun e => wb (ix2 e k)) (fun e => wc (ix2 e k))

/-- A chunk whose loads are the chunk's own rows and columns of the blocks is the merged row there. -/
theorem chunk_eq_mrow {h : FVec Ideal S1024x1024 .bf16} {ga gb gc : Vec Ideal S1024x256 .bf16}
    {ya yb yc : Vec Ideal S1024x512 .bf16} {wa wb wc : Vec Ideal S512x256 .bf16}
    (x : S1024x1024.Idx → EReal) (g : S1x1024.Idx → EReal) (YA YB YC : S1024x512.Idx → EReal)
    (WG : S1024x3072.Idx → EReal) (WA WB WC : S512x1024.Idx → EReal) (r k : Fin 1024) (l : Fin 256)
    (hh : ∀ j, h (ix2 r j) = hid (fun j => x (ix2 r j)) (fun j => g (ix2 0 j)) j)
    (ea : ∀ j, ga (ix2 j l) = WG (ix2 j (col 0 k))) (eb : ∀ j, gb (ix2 j l) = WG (ix2 j (col 1 k)))
    (ec : ∀ j, gc (ix2 j l) = WG (ix2 j (col 2 k)))
    (fa : ∀ e, ya (ix2 r e) = YA (ix2 r e)) (fb : ∀ e, yb (ix2 r e) = YB (ix2 r e)) (fc : ∀ e, yc (ix2 r e) = YC (ix2 r e))
    (da : ∀ e, wa (ix2 e l) = WA (ix2 e k)) (db : ∀ e, wb (ix2 e l) = WB (ix2 e k)) (dc : ∀ e, wc (ix2 e l) = WC (ix2 e k)) :
    chunk h ga gb gc ya yb yc wa wb wc r l = mrow x g YA YB YC WG WA WB WC r k := by
  unfold chunk mrow
  simp only [hh, ea, eb, ec, fa, fb, fc, da, db, dc]

/-- A load through a unit-stride rectangle of a whole buffer holding `X` reads, at `x`, the entry whose coordinates are
    the offset plus `x`. -/
theorem load_apply {S : Shape} {e : EltTy} {sp : Space} {μ : Memref sig .tc sp S e} (hμ : μ.IsWhole)
    (X : S.Idx → Elt Ideal e) (off size : Fin S.rank → Nat) (inb : ∀ a, off a + size a ≤ S.size a)
    (x : (Rect.unit off size inb).shape.Idx) (i : S.Idx) (hi : ∀ a, (i a : Nat) = off a + x a) :
    View.readAt (Elt Ideal) μ.view (Rect.unit off size inb).toLoadRect (hμ.unread X) x = X i :=
  (hμ.readAt_unread X _ x).trans (View.ld_unit_apply_of X off size inb x i hi)

variable (m : (ℓ : Loc nD τ sig) → Buf (Elt Ideal) ℓ)

section Stored

variable (c : Dev nD) (t : Fin cfg0.N)

/-- The merged row of the block the kernel holds at point `t`. -/
def blockRow (r k : Fin 1024) : EReal :=
  mrow (iblk m c 0 t) (iblk m c 1 t) (iblk m c 2 t) (iblk m c 3 t) (iblk m c 4 t) (iblk m c 5 t) (iblk m c 6 t)
    (iblk m c 7 t) (iblk m c 8 t) r k

/-- The four stored chunks, read back as one block, are the merged rows. -/
theorem stored_apply (r k : Fin 1024) :
    View.canon (kernelRun0_A.sl.HS0_4 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) (iblk m c 6 t) (iblk m c 7 t) (iblk m c 8 t)) (ix2 r k) = blockRow m c t r k := by
  have hh : ∀ j, kernelRun0_A.sl.r_1 c (ms0_0 t) (hs0_0 t) (ms0_1 t) (hs0_1 t) (iblk m c 0 t) (iblk m c 1 t) (ix2 r j)
      = hid (fun j => (iblk m c 0 t : S1024x1024.Idx → EReal) (ix2 r j)) (fun j => (iblk m c 1 t : S1x1024.Idx → EReal) (ix2 0 j)) j := by
    intro j
    unfold kernelRun0_A.sl.r_1
    rw [pay1_apply]
    congr 1
    all_goals
      funext j
      exact load_apply _ _ _ _ _ _ _ (by intro a; match a with | ⟨0, _⟩ => exact (Nat.zero_add _).symm | ⟨1, _⟩ => exact (Nat.zero_add _).symm)
  refine View.canon_eq_of_allAt _ _ _ (View.cover_of_tiled_head _ _ _ (by rfl) _) ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  · intro x hx
    obtain ⟨r', l, rfl⟩ : ∃ (r' : Fin 1024) (l : Fin 256), x = ix2 r' l :=
      ⟨x 0, x 1, by ext a; match a with | ⟨0, _⟩ => rfl | ⟨1, _⟩ => rfl⟩
    obtain rfl : r = r' := Fin.ext ((hx 0).trans (Nat.zero_add _))
    have hk : k.val = 768 + l.val := hx 1
    unfold kernelRun0_A.sl.r_8 kernelRun0_A.sl.r_9 kernelRun0_A.sl.cst_20
    refine (chunk3_apply _ _ _ _ _ _ _ _ _ _ _ _).trans (chunk_eq_mrow (iblk m c 0 t) (iblk m c 1 t) (iblk m c 2 t)
      (iblk m c 3 t) (iblk m c 4 t) (iblk m c 5 t) (iblk m c 6 t) (iblk m c 7 t) (iblk m c 8 t) r k l hh ?_ ?_ ?_ ?_ ?_ ?_ ?_ ?_ ?_)
    all_goals
      intro j
      refine load_apply _ _ _ _ _ _ _ ?_
      intro a
      match a with
      | ⟨0, _⟩ => exact (Nat.zero_add _).symm
      | ⟨1, _⟩ =>
        first
          | exact (Nat.zero_add _).symm
          | (show k.val = 768 + l.val; omega)
          | (show 0 * 1024 + k.val = 768 + l.val; omega)
          | (show 1 * 1024 + k.val = 1792 + l.val; omega)
          | (show 2 * 1024 + k.val = 2816 + l.val; omega)
  · intro x hx
    obtain ⟨r', l, rfl⟩ : ∃ (r' : Fin 1024) (l : Fin 256), x = ix2 r' l :=
      ⟨x 0, x 1, by ext a; match a with | ⟨0, _⟩ => rfl | ⟨1, _⟩ => rfl⟩
    obtain rfl : r = r' := Fin.ext ((hx 0).trans (Nat.zero_add _))
    have hk : k.val = 512 + l.val := hx 1
    unfold kernelRun0_A.sl.r_6 kernelRun0_A.sl.r_7
    refine (chunk2_apply _ _ _ _ _ _ _ _ _ _ _ _).trans (chunk_eq_mrow (iblk m c 0 t) (iblk m c 1 t) (iblk m c 2 t)
      (iblk m c 3 t) (iblk m c 4 t) (iblk m c 5 t) (iblk m c 6 t) (iblk m c 7 t) (iblk m c 8 t) r k l hh ?_ ?_ ?_ ?_ ?_ ?_ ?_ ?_ ?_)
    all_goals
      intro j
      refine load_apply _ _ _ _ _ _ _ ?_
      intro a
      match a with
      | ⟨0, _⟩ => exact (Nat.zero_add _).symm
      | ⟨1, _⟩ =>
        first
          | exact (Nat.zero_add _).symm
          | (show k.val = 512 + l.val; omega)
          | (show 0 * 1024 + k.val = 512 + l.val; omega)
          | (show 1 * 1024 + k.val = 1536 + l.val; omega)
          | (show 2 * 1024 + k.val = 2560 + l.val; omega)
  · intro x hx
    obtain ⟨r', l, rfl⟩ : ∃ (r' : Fin 1024) (l : Fin 256), x = ix2 r' l :=
      ⟨x 0, x 1, by ext a; match a with | ⟨0, _⟩ => rfl | ⟨1, _⟩ => rfl⟩
    obtain rfl : r = r' := Fin.ext ((hx 0).trans (Nat.zero_add _))
    have hk : k.val = 256 + l.val := hx 1
    unfold kernelRun0_A.sl.r_5 kernelRun0_A.sl.r_4
    refine (chunk1_apply _ _ _ _ _ _ _ _ _ _ _ _).trans (chunk_eq_mrow (iblk m c 0 t) (iblk m c 1 t) (iblk m c 2 t)
      (iblk m c 3 t) (iblk m c 4 t) (iblk m c 5 t) (iblk m c 6 t) (iblk m c 7 t) (iblk m c 8 t) r k l hh ?_ ?_ ?_ ?_ ?_ ?_ ?_ ?_ ?_)
    all_goals
      intro j
      refine load_apply _ _ _ _ _ _ _ ?_
      intro a
      match a with
      | ⟨0, _⟩ => exact (Nat.zero_add _).symm
      | ⟨1, _⟩ =>
        first
          | exact (Nat.zero_add _).symm
          | (show k.val = 256 + l.val; omega)
          | (show 0 * 1024 + k.val = 256 + l.val; omega)
          | (show 1 * 1024 + k.val = 1280 + l.val; omega)
          | (show 2 * 1024 + k.val = 2304 + l.val; omega)
  · intro x hx
    obtain ⟨r', l, rfl⟩ : ∃ (r' : Fin 1024) (l : Fin 256), x = ix2 r' l :=
      ⟨x 0, x 1, by ext a; match a with | ⟨0, _⟩ => rfl | ⟨1, _⟩ => rfl⟩
    obtain rfl : r = r' := Fin.ext ((hx 0).trans (Nat.zero_add _))
    have hk : k.val = 0 + l.val := hx 1
    unfold kernelRun0_A.sl.r_2 kernelRun0_A.sl.r_3 kernelRun0_A.sl.cst_20 kernelRun0_A.sl.r_1
    refine (chunk0_apply _ _ _ _ _ _ _ _ _ _ _ _ _).trans (chunk_eq_mrow (iblk m c 0 t) (iblk m c 1 t) (iblk m c 2 t)
      (iblk m c 3 t) (iblk m c 4 t) (iblk m c 5 t) (iblk m c 6 t) (iblk m c 7 t) (iblk m c 8 t) r k l hh ?_ ?_ ?_ ?_ ?_ ?_ ?_ ?_ ?_)
    all_goals
      intro j
      refine load_apply _ _ _ _ _ _ _ ?_
      intro a
      match a with
      | ⟨0, _⟩ => exact (Nat.zero_add _).symm
      | ⟨1, _⟩ =>
        first
          | exact (Nat.zero_add _).symm
          | (show k.val = 0 + l.val; omega)
          | (show 0 * 1024 + k.val = 0 + l.val; omega)
          | (show 1 * 1024 + k.val = 1024 + l.val; omega)
          | (show 2 * 1024 + k.val = 2048 + l.val; omega)

/-- What the point leaves in its output block: `x` plus the merged row times the output weights. -/
theorem outsAt_apply (r l : Fin 1024) :
    outsAt0 m c t (ix2 r l) = (show S1024x1024.Idx → EReal from iblk m c 0 t) (ix2 r l)
      + ∑ k : Fin 1024, blockRow m c t r k * (show S1024x1024.Idx → EReal from iblk m c 9 t) (ix2 k l) := by
  unfold outsAt0 out0_A_10 kernelRun0_A
  dsimp only
  rw [View.read_writes_junk_apply_eq_canon, View.canon_cons_unit_lit _ _ _ (by decide), pay14_apply]
  unfold kernelRun0_A.sl.v195 kernelRun0_A.sl.r
  rw [View.readCov_eq_canon']
  refine congrArg₂ (· + ·) ?_ (Finset.sum_congr rfl fun k _ => congrArg₂ (· * ·) ?_ ?_)
  · exact load_apply _ _ _ _ _ _ _ (by intro a; match a with | ⟨0, _⟩ => exact (Nat.zero_add _).symm | ⟨1, _⟩ => exact (Nat.zero_add _).symm)
  · rw [← stored_apply]
    refine congrArg _ (funext fun a => Fin.ext ?_)
    refine (Rect.idx_unit_val _ _ _ _ a).trans ?_
    match a with | ⟨0, _⟩ => exact Nat.zero_add _ | ⟨1, _⟩ => exact Nat.zero_add _
  · exact load_apply _ _ _ _ _ _ _ (by intro a; match a with | ⟨0, _⟩ => exact (Nat.zero_add _).symm | ⟨1, _⟩ => exact (Nat.zero_add _).symm)

end Stored

end Cert.Kernel2Ideal.Merge
end
-- ==== Proof.Merge.Array.lean ====
module

public import proofs.«01_k».proof.Proof.Merge.Block

/-!
# The merge kernel's output array

Grid point `t` holds rows `1024 t … 1024 t + 1023` of `x` and of the three branches, and all of every weight; it writes
the same rows of the output. So the array after the run is one formula of the arguments at every index (`result`).
-/

@[expose] public section

set_option maxRecDepth 16384

noncomputable section

namespace Cert.Kernel2Ideal.Merge

open Cert.Kernel2Ideal Cert.Kernel2Ideal.Gen Idealize.ShloMosaic Idealize.ShloMosaic.TcCoe Idealize.SL.Sem

/-- The merge call's result at an index: `x` plus the merged row times the output weights. -/
def result (x : S32768x1024.Idx → EReal) (g : S1x1024.Idx → EReal) (ya yb yc : S32768x512.Idx → EReal)
    (wg : S1024x3072.Idx → EReal) (wa wb wc : S512x1024.Idx → EReal) (wo : S1024x1024.Idx → EReal)
    (y : S32768x1024.Idx) : EReal :=
  x y + ∑ k : Fin 1024, mrow x g ya yb yc wg wa wb wc (y 0) k * wo (ix2 k (y 1))

variable (m : (ℓ : Loc nD τ sig) → Buf (Elt Ideal) ℓ)

/-- Row windows sit at the grid point's own block, weight windows at the origin. -/
theorem idx_facts : ∀ t : Fin cfg0.N,
    win0_0.index t (0 : Fin 2) = t.val ∧ win0_0.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_10.index t (0 : Fin 2) = t.val ∧ win0_10.index t (1 : Fin 2) = 0
    ∧ win0_1.index t (0 : Fin 2) = 0 ∧ win0_1.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Row `r` of block `t`. -/
def rowOf (t : Fin cfg0.N) (r : Fin 1024) : Fin 32768 := ⟨t.val * 1024 + r.val, by have := (show t.val < 32 from t.isLt); omega⟩

theorem blk0_apply (c : Dev nD) (t : Fin cfg0.N) (r : Fin 1024) (j : Fin 1024) :
    (show S1024x1024.Idx → EReal from iblk m c 0 t) (ix2 r j) = (show S32768x1024.Idx → EReal from m ((c : Thread nD τ).loc main_arg0)) (ix2 (rowOf t r) j) := by
  obtain ⟨a0, b0, a2, b2, a3, b3, a4, b4, a10, b10, a1, b1, a5, b5, a6, b6, a7, b7, a8, b8, a9, b9⟩ := idx_facts t
  show V m c main_arg0 (((cfg0.win 0).blk t).view.emb (ix2 r j)) = V m c main_arg0 (ix2 (rowOf t r) j)
  refine congrArg _ (funext fun a => Fin.ext ?_)
  match a with
  | ⟨0, _⟩ => show win0_0.index t (0 : Fin 2) * 1024 + 1 * r.val = t.val * 1024 + r.val; omega
  | ⟨1, _⟩ => show win0_0.index t (1 : Fin 2) * 1024 + 1 * j.val = j.val; omega

theorem blk2_apply (c : Dev nD) (t : Fin cfg0.N) (r : Fin 1024) (j : Fin 512) :
    (show S1024x512.Idx → EReal from iblk m c 2 t) (ix2 r j) = (show S32768x512.Idx → EReal from m ((c : Thread nD τ).loc main_arg2)) (ix2 (rowOf t r) j) := by
  obtain ⟨a0, b0, a2, b2, a3, b3, a4, b4, a10, b10, a1, b1, a5, b5, a6, b6, a7, b7, a8, b8, a9, b9⟩ := idx_facts t
  show V m c main_arg2 (((cfg0.win 2).blk t).view.emb (ix2 r j)) = V m c main_arg2 (ix2 (rowOf t r) j)
  refine congrArg _ (funext fun a => Fin.ext ?_)
  match a with
  | ⟨0, _⟩ => show win0_2.index t (0 : Fin 2) * 1024 + 1 * r.val = t.val * 1024 + r.val; omega
  | ⟨1, _⟩ => show win0_2.index t (1 : Fin 2) * 512 + 1 * j.val = j.val; omega

theorem blk3_apply (c : Dev nD) (t : Fin cfg0.N) (r : Fin 1024) (j : Fin 512) :
    (show S1024x512.Idx → EReal from iblk m c 3 t) (ix2 r j) = (show S32768x512.Idx → EReal from m ((c : Thread nD τ).loc main_arg3)) (ix2 (rowOf t r) j) := by
  obtain ⟨a0, b0, a2, b2, a3, b3, a4, b4, a10, b10, a1, b1, a5, b5, a6, b6, a7, b7, a8, b8, a9, b9⟩ := idx_facts t
  show V m c main_arg3 (((cfg0.win 3).blk t).view.emb (ix2 r j)) = V m c main_arg3 (ix2 (rowOf t r) j)
  refine congrArg _ (funext fun a => Fin.ext ?_)
  match a with
  | ⟨0, _⟩ => show win0_3.index t (0 : Fin 2) * 1024 + 1 * r.val = t.val * 1024 + r.val; omega
  | ⟨1, _⟩ => show win0_3.index t (1 : Fin 2) * 512 + 1 * j.val = j.val; omega

theorem blk4_apply (c : Dev nD) (t : Fin cfg0.N) (r : Fin 1024) (j : Fin 512) :
    (show S1024x512.Idx → EReal from iblk m c 4 t) (ix2 r j) = (show S32768x512.Idx → EReal from m ((c : Thread nD τ).loc main_arg4)) (ix2 (rowOf t r) j) := by
  obtain ⟨a0, b0, a2, b2, a3, b3, a4, b4, a10, b10, a1, b1, a5, b5, a6, b6, a7, b7, a8, b8, a9, b9⟩ := idx_facts t
  show V m c main_arg4 (((cfg0.win 4).blk t).view.emb (ix2 r j)) = V m c main_arg4 (ix2 (rowOf t r) j)
  refine congrArg _ (funext fun a => Fin.ext ?_)
  match a with
  | ⟨0, _⟩ => show win0_4.index t (0 : Fin 2) * 1024 + 1 * r.val = t.val * 1024 + r.val; omega
  | ⟨1, _⟩ => show win0_4.index t (1 : Fin 2) * 512 + 1 * j.val = j.val; omega

theorem blk1_eq (c : Dev nD) (t : Fin cfg0.N) :
    (show S1x1024.Idx → EReal from iblk m c 1 t) = (show S1x1024.Idx → EReal from m ((c : Thread nD τ).loc main_arg1)) := by
  obtain ⟨a0, b0, a2, b2, a3, b3, a4, b4, a10, b10, a1, b1, a5, b5, a6, b6, a7, b7, a8, b8, a9, b9⟩ := idx_facts t
  funext z
  show V m c main_arg1 (((cfg0.win 1).blk t).view.emb z) = V m c main_arg1 z
  refine congrArg _ (funext fun a => Fin.ext ?_)
  match a with
  | ⟨0, _⟩ => show win0_1.index t (0 : Fin 2) * 1 + 1 * (z 0).val = (z 0).val; omega
  | ⟨1, _⟩ => show win0_1.index t (1 : Fin 2) * 1024 + 1 * (z 1).val = (z 1).val; omega

theorem blk5_eq (c : Dev nD) (t : Fin cfg0.N) :
    (show S1024x3072.Idx → EReal from iblk m c 5 t) = (show S1024x3072.Idx → EReal from m ((c : Thread nD τ).loc main_arg5)) := by
  obtain ⟨a0, b0, a2, b2, a3, b3, a4, b4, a10, b10, a1, b1, a5, b5, a6, b6, a7, b7, a8, b8, a9, b9⟩ := idx_facts t
  funext z
  show V m c main_arg5 (((cfg0.win 5).blk t).view.emb z) = V m c main_arg5 z
  refine congrArg _ (funext fun a => Fin.ext ?_)
  match a with
  | ⟨0, _⟩ => show win0_5.index t (0 : Fin 2) * 1024 + 1 * (z 0).val = (z 0).val; omega
  | ⟨1, _⟩ => show win0_5.index t (1 : Fin 2) * 3072 + 1 * (z 1).val = (z 1).val; omega

theorem blk6_eq (c : Dev nD) (t : Fin cfg0.N) :
    (show S512x1024.Idx → EReal from iblk m c 6 t) = (show S512x1024.Idx → EReal from m ((c : Thread nD τ).loc main_arg6)) := by
  obtain ⟨a0, b0, a2, b2, a3, b3, a4, b4, a10, b10, a1, b1, a5, b5, a6, b6, a7, b7, a8, b8, a9, b9⟩ := idx_facts t
  funext z
  show V m c main_arg6 (((cfg0.win 6).blk t).view.emb z) = V m c main_arg6 z
  refine congrArg _ (funext fun a => Fin.ext ?_)
  match a with
  | ⟨0, _⟩ => show win0_6.index t (0 : Fin 2) * 512 + 1 * (z 0).val = (z 0).val; omega
  | ⟨1, _⟩ => show win0_6.index t (1 : Fin 2) * 1024 + 1 * (z 1).val = (z 1).val; omega

theorem blk7_eq (c : Dev nD) (t : Fin cfg0.N) :
    (show S512x1024.Idx → EReal from iblk m c 7 t) = (show S512x1024.Idx → EReal from m ((c : Thread nD τ).loc main_arg7)) := by
  obtain ⟨a0, b0, a2, b2, a3, b3, a4, b4, a10, b10, a1, b1, a5, b5, a6, b6, a7, b7, a8, b8, a9, b9⟩ := idx_facts t
  funext z
  show V m c main_arg7 (((cfg0.win 7).blk t).view.emb z) = V m c main_arg7 z
  refine congrArg _ (funext fun a => Fin.ext ?_)
  match a with
  | ⟨0, _⟩ => show win0_7.index t (0 : Fin 2) * 512 + 1 * (z 0).val = (z 0).val; omega
  | ⟨1, _⟩ => show win0_7.index t (1 : Fin 2) * 1024 + 1 * (z 1).val = (z 1).val; omega

theorem blk8_eq (c : Dev nD) (t : Fin cfg0.N) :
    (show S512x1024.Idx → EReal from iblk m c 8 t) = (show S512x1024.Idx → EReal from m ((c : Thread nD τ).loc main_arg8)) := by
  obtain ⟨a0, b0, a2, b2, a3, b3, a4, b4, a10, b10, a1, b1, a5, b5, a6, b6, a7, b7, a8, b8, a9, b9⟩ := idx_facts t
  funext z
  show V m c main_arg8 (((cfg0.win 8).blk t).view.emb z) = V m c main_arg8 z
  refine congrArg _ (funext fun a => Fin.ext ?_)
  match a with
  | ⟨0, _⟩ => show win0_8.index t (0 : Fin 2) * 512 + 1 * (z 0).val = (z 0).val; omega
  | ⟨1, _⟩ => show win0_8.index t (1 : Fin 2) * 1024 + 1 * (z 1).val = (z 1).val; omega

theorem blk9_eq (c : Dev nD) (t : Fin cfg0.N) :
    (show S1024x1024.Idx → EReal from iblk m c 9 t) = (show S1024x1024.Idx → EReal from m ((c : Thread nD τ).loc main_arg9)) := by
  obtain ⟨a0, b0, a2, b2, a3, b3, a4, b4, a10, b10, a1, b1, a5, b5, a6, b6, a7, b7, a8, b8, a9, b9⟩ := idx_facts t
  funext z
  show V m c main_arg9 (((cfg0.win 9).blk t).view.emb z) = V m c main_arg9 z
  refine congrArg _ (funext fun a => Fin.ext ?_)
  match a with
  | ⟨0, _⟩ => show win0_9.index t (0 : Fin 2) * 1024 + 1 * (z 0).val = (z 0).val; omega
  | ⟨1, _⟩ => show win0_9.index t (1 : Fin 2) * 1024 + 1 * (z 1).val = (z 1).val; omega

/-- The block's merged row is the whole arguments' merged row. -/
theorem blockRow_eq (c : Dev nD) (t : Fin cfg0.N) (r k : Fin 1024) :
    blockRow m c t r k = mrow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (rowOf t r) k := by
  have e0 := blk0_apply m c t r
  have e2 := blk2_apply m c t r
  have e3 := blk3_apply m c t r
  have e4 := blk4_apply m c t r
  have e1 := blk1_eq m c t
  have e5 := blk5_eq m c t
  have e6 := blk6_eq m c t
  have e7 := blk7_eq m c t
  have e8 := blk8_eq m c t
  dsimp only at e0 e1 e2 e3 e4 e5 e6 e7 e8
  unfold blockRow mrow
  simp only [e0, e1, e2, e3, e4, e5, e6, e7, e8]

/-- The output array after the run, at every index. -/
theorem final_apply (c : Dev nD) (y : S32768x1024.Idx) :
    (dats m 0 c).arrAt 10 cfg0.N y = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) y := by
  have hy0 : (y 0).val < 32768 := (y 0).isLt
  obtain ⟨l, hl⟩ : ∃ l : Fin 1024, y 1 = l := ⟨y 1, rfl⟩
  obtain ⟨t, r, hr⟩ : ∃ (t : Fin cfg0.N) (r : Fin 1024), y 0 = rowOf t r :=
    ⟨⟨(y 0).val / 1024, by show _ < 32; omega⟩, ⟨(y 0).val % 1024, by omega⟩, Fin.ext (by show (y 0).val = (y 0).val / 1024 * 1024 + (y 0).val % 1024; omega)⟩
  obtain ⟨a0, b0, a2, b2, a3, b3, a4, b4, a10, b10, a1, b1, a5, b5, a6, b6, a7, b7, a8, b8, a9, b9⟩ := idx_facts t
  have b := congrFun (Value.blocks10 m c t (flush0_10 t)) (ix2 r l)
  rw [Value.flushed10] at b
  have he : ((cfg0.win 10).blk t).view.emb (ix2 r l) = y := by
    funext a; apply Fin.ext
    match a with
    | ⟨0, _⟩ => show win0_10.index t (0 : Fin 2) * 1024 + 1 * r.val = (y 0).val; rw [hr]; show _ = t.val * 1024 + r.val; omega
    | ⟨1, _⟩ => show win0_10.index t (1 : Fin 2) * 1024 + 1 * l.val = (y 1).val; rw [hl]; omega
  have b' : (dats m 0 c).arrAt 10 cfg0.N (((cfg0.win 10).blk t).view.emb (ix2 r l)) = outsAt0 m c t (ix2 r l) := b
  rw [he] at b'
  refine b'.trans ((outsAt_apply m c t r l).trans ?_)
  unfold result
  refine congrArg₂ (· + ·) ?_ (Finset.sum_congr rfl fun k _ => congrArg₂ (· * ·) ?_ ?_)
  · refine (blk0_apply m c t r l).trans (congrArg _ ?_)
    funext a
    match a with
    | ⟨0, _⟩ => exact hr.symm
    | ⟨1, _⟩ => exact hl.symm
  · rw [blockRow_eq, hr]
  · rw [hl]; exact congrFun (blk9_eq m c t) (ix2 k l)

end Cert.Kernel2Ideal.Merge
end
-- ==== Proof.Merge.Reference.lean ====
module

public import proofs.«01_k».proof.Proof.Gen.Reference2Ideal.Read
public import proofs.«01_k».proof.Proof.Merge.Array
public import Idealize.ShloMosaic.Lib.IdealHost

/-!
# The merge reference, read at an index

The reference's operations are read one after the other at an index. Its normalised row, its gates and its merged row
are the kernel's `hid`, `squash` and `mrow` of the whole arguments, so its result is the same formula `result`.
-/

@[expose] public section

set_option maxRecDepth 16384

noncomputable section

namespace Cert.Reference2Ideal.Merge

open Cert.Reference2Ideal Cert.Reference2Ideal.Gen Cert.Reference2Ideal.Read Idealize.ShloMosaic Idealize.ShloMosaic.TcCoe
open Cert.Kernel2Ideal.Merge (hid squash mix mrow col result)

variable (x0 : (⟨S32768x1024, .f32⟩ : BufTy).Contents (Elt Ideal)) (x1 : (⟨S1x1024, .f32⟩ : BufTy).Contents (Elt Ideal))
  (x2 x3 x4 : (⟨S32768x512, .bf16⟩ : BufTy).Contents (Elt Ideal)) (x5 : (⟨S1024x3072, .bf16⟩ : BufTy).Contents (Elt Ideal))
  (x6 x7 x8 : (⟨S512x1024, .bf16⟩ : BufTy).Contents (Elt Ideal)) (x9 : (⟨S1024x1024, .bf16⟩ : BufTy).Contents (Elt Ideal))

/-- The normalised row. -/
theorem hid_apply (r : Fin 32768) (k : Fin 1024) :
    val_main_v11 (F := Ideal) x0 x1 (ix2 r k) = hid (fun j => x0 (ix2 r j)) (fun j => x1 (ix2 0 j)) k := by
  simp only [val_main_v11_apply, val_main_v9_apply, val_main_v8_apply, val_main_v7_apply, val_main_v6_apply,
    val_main_v5_apply, val_main_v4_apply, val_main_v3_apply, val_main_v2_apply, val_main_v1_apply, val_main_v0_apply,
    val_main_v10_apply, val_main_cst_apply, val_main_cst_0_apply, val_main_cst_1_apply]
  simp only [Ideal.addf_def, Ideal.mulf_def, Ideal.hostDivf_def, Ideal.hostUnary_rsqrt_def, Ideal.ofBits_def, Ideal.ofBits_zero_f32, zero_add]
  have e1 : ∀ j, idx_main_v1 (idx_main_v2 (idx_main_v8 (ix2 r k))) j = ix2 r j := fun j => by
    funext a; match a with | ⟨0, _⟩ => rfl | ⟨1, _⟩ => rfl
  have e2 : idx_main_v10 (ix2 r k) = ix2 0 k := by
    funext a; match a with | ⟨0, _⟩ => rfl | ⟨1, _⟩ => rfl
  simp only [e1, e2, hid]

/-- A gate: the squashed product of the normalised row with one column of the gate weights. -/
theorem gate_apply (r : Fin 32768) (q : Fin 3072) :
    val_main_v19 (F := Ideal) x0 x1 x5 (ix2 r q)
      = squash (∑ k : Fin 1024, hid (fun j => x0 (ix2 r j)) (fun j => x1 (ix2 0 j)) k * x5 (ix2 k q)) := by
  simp only [val_main_v19_apply, val_main_v18_apply, val_main_v17_apply, val_main_v16_apply, val_main_v15_apply,
    val_main_v14_apply, val_main_v13_apply, val_main_v12_apply, val_main_cst_2_apply, val_main_cst_3_apply]
  have e1 : ∀ k, lidx_main_v13 (ix2 r q) k = ix2 r k := fun k => by
    funext a; match a with | ⟨0, _⟩ => rfl | ⟨1, _⟩ => rfl
  have e2 : ∀ k, ridx_main_v13 (ix2 r q) k = ix2 k q := fun k => by
    funext a; match a with | ⟨0, _⟩ => rfl | ⟨1, _⟩ => rfl
  simp only [e1, e2, hid_apply]
  simp only [Ideal.addf_def, Ideal.mulf_def, Ideal.hostDivf_def, Ideal.hostUnary_exp_def, Ideal.hostNegf_def,
    Ideal.negf_def, Ideal.extf_def, Ideal.ofBits_def, Ideal.ofBits_one_f32, squash, zero_sub]

/-- Branch 0's term of the merged row: its gate times its projection. -/
theorem branch0_apply (r : Fin 32768) (k : Fin 1024) :
    val_main_v26 (F := Ideal) x0 x1 x2 x5 x6 (ix2 r k)
      = squash (∑ j : Fin 1024, hid (fun j => x0 (ix2 r j)) (fun j => x1 (ix2 0 j)) j * x5 (ix2 j (col 0 k)))
        * ∑ e : Fin 512, x2 (ix2 r e) * x6 (ix2 e k) := by
  simp only [val_main_v26_apply, val_main_v22_apply, val_main_v21_apply, val_main_v20_apply, val_main_v25_apply,
    val_main_v23_apply, val_main_v24_apply, Ideal.mulf_def, Ideal.extf_def]
  have e0 : idx_main_v20 (idx_main_v21 (idx_main_v22 (ix2 r k))) = ix2 r (col 0 k) := by
    funext a; apply Fin.ext
    match a with
    | ⟨0, _⟩ => show (((r.val * 1024 + k.val) / 1024 * 3 + 0) * 1024 + (r.val * 1024 + k.val) % 1024) / 3072 = r.val; omega
    | ⟨1, _⟩ => show (((r.val * 1024 + k.val) / 1024 * 3 + 0) * 1024 + (r.val * 1024 + k.val) % 1024) % 3072 = 0 * 1024 + k.val; omega
  have e1 : ∀ e, lidx_main_v25 (ix2 r k) e = ix2 r e := fun e => by
    funext a; match a with | ⟨0, _⟩ => rfl | ⟨1, _⟩ => rfl
  have e2 : ∀ e, ridx_main_v25 (ix2 r k) e = ix2 e k := fun e => by
    funext a; match a with | ⟨0, _⟩ => rfl | ⟨1, _⟩ => rfl
  rw [e0, gate_apply]
  simp only [e1, e2]

/-- Branch 1's term of the merged row: its gate times its projection. -/
theorem branch1_apply (r : Fin 32768) (k : Fin 1024) :
    val_main_v32 (F := Ideal) x0 x1 x3 x5 x7 (ix2 r k)
      = squash (∑ j : Fin 1024, hid (fun j => x0 (ix2 r j)) (fun j => x1 (ix2 0 j)) j * x5 (ix2 j (col 1 k)))
        * ∑ e : Fin 512, x3 (ix2 r e) * x7 (ix2 e k) := by
  simp only [val_main_v32_apply, val_main_v28_apply, val_main_v27_apply, val_main_v20_apply, val_main_v31_apply,
    val_main_v29_apply, val_main_v30_apply, Ideal.mulf_def, Ideal.extf_def]
  have e0 : idx_main_v20 (idx_main_v27 (idx_main_v28 (ix2 r k))) = ix2 r (col 1 k) := by
    funext a; apply Fin.ext
    match a with
    | ⟨0, _⟩ => show (((r.val * 1024 + k.val) / 1024 * 3 + 1) * 1024 + (r.val * 1024 + k.val) % 1024) / 3072 = r.val; omega
    | ⟨1, _⟩ => show (((r.val * 1024 + k.val) / 1024 * 3 + 1) * 1024 + (r.val * 1024 + k.val) % 1024) % 3072 = 1 * 1024 + k.val; omega
  have e1 : ∀ e, lidx_main_v31 (ix2 r k) e = ix2 r e := fun e => by
    funext a; match a with | ⟨0, _⟩ => rfl | ⟨1, _⟩ => rfl
  have e2 : ∀ e, ridx_main_v31 (ix2 r k) e = ix2 e k := fun e => by
    funext a; match a with | ⟨0, _⟩ => rfl | ⟨1, _⟩ => rfl
  rw [e0, gate_apply]
  simp only [e1, e2]

/-- Branch 2's term of the merged row: its gate times its projection. -/
theorem branch2_apply (r : Fin 32768) (k : Fin 1024) :
    val_main_v39 (F := Ideal) x0 x1 x4 x5 x8 (ix2 r k)
      = squash (∑ j : Fin 1024, hid (fun j => x0 (ix2 r j)) (fun j => x1 (ix2 0 j)) j * x5 (ix2 j (col 2 k)))
        * ∑ e : Fin 512, x4 (ix2 r e) * x8 (ix2 e k) := by
  simp only [val_main_v39_apply, val_main_v35_apply, val_main_v34_apply, val_main_v20_apply, val_main_v38_apply,
    val_main_v36_apply, val_main_v37_apply, Ideal.mulf_def, Ideal.extf_def]
  have e0 : idx_main_v20 (idx_main_v34 (idx_main_v35 (ix2 r k))) = ix2 r (col 2 k) := by
    funext a; apply Fin.ext
    match a with
    | ⟨0, _⟩ => show (((r.val * 1024 + k.val) / 1024 * 3 + 2) * 1024 + (r.val * 1024 + k.val) % 1024) / 3072 = r.val; omega
    | ⟨1, _⟩ => show (((r.val * 1024 + k.val) / 1024 * 3 + 2) * 1024 + (r.val * 1024 + k.val) % 1024) % 3072 = 2 * 1024 + k.val; omega
  have e1 : ∀ e, lidx_main_v38 (ix2 r k) e = ix2 r e := fun e => by
    funext a; match a with | ⟨0, _⟩ => rfl | ⟨1, _⟩ => rfl
  have e2 : ∀ e, ridx_main_v38 (ix2 r k) e = ix2 e k := fun e => by
    funext a; match a with | ⟨0, _⟩ => rfl | ⟨1, _⟩ => rfl
  rw [e0, gate_apply]
  simp only [e1, e2]

/-- The merged row. -/
theorem mrow_apply (r : Fin 32768) (k : Fin 1024) :
    val_main_v40 (F := Ideal) x0 x1 x2 x3 x4 x5 x6 x7 x8 (ix2 r k) = mrow x0 x1 x2 x3 x4 x5 x6 x7 x8 r k := by
  simp only [val_main_v40_apply, val_main_v33_apply, Ideal.addf_def, branch0_apply, branch1_apply, branch2_apply]
  rfl

/-- The reference's result is the formula the kernel computes. -/
theorem result_apply (y : S32768x1024.Idx) :
    val_main_v43 (F := Ideal) x0 x1 x2 x3 x4 x5 x6 x7 x8 x9 y = result x0 x1 x2 x3 x4 x5 x6 x7 x8 x9 y := by
  simp only [val_main_v43_apply, val_main_v42_apply, val_main_v41_apply, Ideal.addf_def]
  unfold result
  refine congrArg₂ (· + ·) rfl (Finset.sum_congr rfl fun k _ => congrArg₂ (· * ·) ?_ ?_)
  · refine (congrArg _ ?_).trans (mrow_apply x0 x1 x2 x3 x4 x5 x6 x7 x8 (y 0) k)
    funext a; match a with | ⟨0, _⟩ => rfl | ⟨1, _⟩ => rfl
  · refine congrArg x9 ?_
    funext a; match a with | ⟨0, _⟩ => rfl | ⟨1, _⟩ => rfl

end Cert.Reference2Ideal.Merge
end
-- ==== Proof.Merge.Equation.lean ====
module

public import proofs.«01_k».proof.Defs
public import proofs.«01_k».proof.Proof.Merge.Reference

/-!
# The merge equation

Both runs end with the same formula of the arguments (`result`): the kernel's array by `final_apply`, the reference's
by `result_apply`.
-/

@[expose] public section

noncomputable section

namespace Cert.Proof.Merge

open Idealize.ShloMosaic Idealize.ShloMosaic.TcCoe Idealize.SL.Sem

/-- Over the reals the merge kernel and its reference end with equal results and unchanged arguments. -/
theorem equation : Cert.algebraic_Kernel2Ideal_Reference2Ideal := by
  intro m g m' g' _ hagree
  refine ⟨fun c => (Cert.Kernel2Ideal.Gen.dats m 0 c).arrAt 10 Cert.Kernel2Ideal.cfg0.N, Cert.Kernel2Ideal.Value.run_blocks m g, ?_⟩
  refine (θ_run Cert.Reference2Ideal.defs _ _).mono (fun r h c => ⟨(h c).1.trans ?_, (h c).2⟩) (Cert.Reference2Ideal.Value.run (F := Ideal) m' g')
  obtain ⟨e0, e1, e2, e3, e4, e5, e6, e7, e8, e9⟩ := hagree c
  rw [Cert.Reference2Ideal.Read.val_main_v43_eq]
  funext y
  rw [e0, e1, e2, e3, e4, e5, e6, e7, e8, e9]
  exact (Cert.Reference2Ideal.Merge.result_apply _ _ _ _ _ _ _ _ _ _ y).trans (Cert.Kernel2Ideal.Merge.final_apply m c y).symm

/-- The merge reference's frame: its operations write none of its arguments, and it has no semaphore. -/
theorem reference_frame : Cert.quiescent_Reference2Ideal := by
  intro m g _
  exact (θ_run Cert.Reference2Ideal.defs _ _).mono (fun r h => ⟨fun c => (h c).2,
      Idealize.ShloMosaic.sem_eq_zero_of_no_sems (by decide) r.2⟩) (Cert.Reference2Ideal.Value.run (F := Ideal) m g)

end Cert.Proof.Merge
end
-- ==== Proof.Swa.Chain.lean ====
module

public import proofs.«01_k».proof.Proof.Gen.Kernel3Ideal.Skeleton
public import Idealize.ShloMosaic.Lib.Pointwise
public import Idealize.ShloMosaic.Lib.WordCmp

/-!
# One chain of the sliding-window kernel

The kernel treats 128 queries of two heads of one parity and one kv head together: a chain. Its two query blocks, with the
other head's lanes of each 128-lane block zeroed, lie one below the other, so the chain has 256 columns, one per query. Its
256 rows are the keys of the window: the 128 before the query block and the block's own.
-/

@[expose] public section

set_option maxRecDepth 16384

noncomputable section

namespace Cert.Kernel3Ideal.Swa

open Cert.Kernel3Ideal Cert.Kernel3Ideal.Gen Idealize.ShloMosaic Idealize.ShloMosaic.TcCoe

/-- Two query blocks with some lanes zeroed, one below the other. -/
def pairOf (mk : IVec S128x128 1) (a b : FVec Ideal S128x128 .bf16) : FVec Ideal S256x128 .bf16 :=
  concatenate S256x128 0 [⟨S128x128, select mk a (broadcast S128x128 (Scalar.ofBits .bf16 0x0000#16 : Ideal .bf16))⟩,
    ⟨S128x128, select mk b (broadcast S128x128 (Scalar.ofBits .bf16 0x0000#16 : Ideal .bf16))⟩] concatenates_S128x128_S128x128_S256x128_d0

/-- The chain's scores. -/
def dots (k : FVec Ideal S256x128 .bf16) (q : FVec Ideal S256x128 .bf16) : FVec Ideal S256x256 .f32 :=
  matmul dot_S256x128_S256x128_S256x256_1_1_0_0_n_n none k q (constant S256x256 .f32 0x00000000#32)

/-- The lanes of the even heads, and of the odd heads. -/
def even : IVec S128x128 1 := cmpi .slt (iota .tc S128x128 32 [1] iota_S128x128_d1_w32) (broadcast S128x128 64#32)
def odd : IVec S128x128 1 := xori even (constantI S128x128 1 1#1)

/-- The keys a query sees: fewer than 128 back, none ahead. -/
def near : IVec S256x256 1 :=
  andi (cmpi .sgt (iota .tc S256x256 32 [0] iota_S256x256_d0_w32) (andi (iota .tc S256x256 32 [1] iota_S256x256_d1_w32) (broadcast S256x256 127#32)))
    (cmpi .sle (iota .tc S256x256 32 [0] iota_S256x256_d0_w32)
      (addi (andi (iota .tc S256x256 32 [1] iota_S256x256_d1_w32) (broadcast S256x256 127#32)) (broadcast S256x256 128#32)))

/-- The same for the first block of a tile: in the first tile there are no keys before it. -/
def nearFirst (i : BitVec 32) : IVec S256x256 1 :=
  andi near (ori (cmpi .sge (iota .tc S256x256 32 [0] iota_S256x256_d0_w32) (broadcast S256x256 128#32)) (broadcast S256x256 (Scalar.cmpi .sgt i 0#32)))

/-- Scores with the unseen keys at minus infinity. -/
def hide (mk : IVec S256x256 1) (s : FVec Ideal S256x256 .f32) : FVec Ideal S256x256 .f32 :=
  select mk s (broadcast S256x256 (Scalar.ofBits .f32 0xFF800000#32 : Ideal .f32))

/-- The two heads' sinks in base two, each over its queries. -/
def sinkRow (a b : Elt Ideal .f32) : FVec Ideal S1x256 .f32 :=
  select (cmpi .slt (iota .tc S1x256 32 [1] iota_S1x256_d1_w32) (broadcast S1x256 128#32))
    (broadcast S1x256 (Scalar.mulf a (Named.named κ "log2e" 0x3FB8AA3B#32 : Ideal .f32)))
    (broadcast S1x256 (Scalar.mulf b (Named.named κ "log2e" 0x3FB8AA3B#32 : Ideal .f32)))

/-- The largest score of each query, the sink among them. -/
def peak (s : FVec Ideal S256x256 .f32) (z : FVec Ideal S1x256 .f32) : FVec Ideal S1x256 .f32 :=
  maximumf (shapeCast S1x256 (multiReduction .maximumf [0] S256 s 0xFF800000#32 reduces_S256x256_S256 (.inl rfl) rfl) shapeCasts_S256_S1x256) z

/-- The weighted values of each query, and below them the sums of the weights. -/
def weighted (s : FVec Ideal S256x256 .f32) (z : FVec Ideal S1x256 .f32) (v : FVec Ideal S64x256 .bf16) : FVec Ideal S80x256 .f32 :=
  matmul dot_S80x256_S256x256_S80x256_1_0_0_1_n_n none
    (concatenate S80x256 0 [⟨S64x256, v⟩, ⟨S16x256, broadcast S16x256 (Scalar.ofBits .bf16 0x3F80#16 : Ideal .bf16)⟩] concatenates_S64x256_S16x256_S80x256_d0)
    (truncf .bf16 (exp2 (subf s (broadcastTo S256x256 (peak s z) broadcasts_S1x256_S256x256))) bitsLt_bf16_f32)
    (constant S80x256 .f32 0x00000000#32)

/-- What the chain computes: the weighted values over the sum of the weights and the sink's. -/
def chain (s : FVec Ideal S256x256 .f32) (z : FVec Ideal S1x256 .f32) (v : FVec Ideal S64x256 .bf16) : FVec Ideal S64x256 .f32 :=
  mulf (extractStridedSlice S64x256 ![0, 0] (weighted s z v) slices_S80x256_o0_0_S64x256)
    (broadcastTo S64x256 (divf (broadcast S1x256 (Scalar.ofBits .f32 0x3F800000#32 : Ideal .f32))
      (addf (extractStridedSlice S1x256 ![64, 0] (weighted s z v) slices_S80x256_o64_0_S1x256) (exp2 (subf z (peak s z)))))
      broadcasts_S1x256_S64x256)

/-- Two heads' outputs side by side, one row per query. -/
def twoHeads (a b : FVec Ideal S64x128 .f32) : FVec Ideal S128x128 .f32 :=
  transpose S128x128 [1, 0] (concatenate S128x128 0 [⟨S64x128, a⟩, ⟨S64x128, b⟩] concatenates_S64x128_S64x128_S128x128_d0) transposes_S128x128_p1_0_S128x128

/-- The queries of the chain's first and second head. -/
def left (o : FVec Ideal S64x256 .f32) : FVec Ideal S64x128 .f32 := extractStridedSlice S64x128 ![0, 0] o slices_S64x256_o0_0_S64x128
def right (o : FVec Ideal S64x256 .f32) : FVec Ideal S64x128 .f32 := extractStridedSlice S64x128 ![0, 128] o slices_S64x256_o0_128_S64x128

/-- The rows the kernel stores for a query block: the eight heads side by side, gated. -/
def gated (o00 o01 o10 o11 : FVec Ideal S64x256 .f32) (g : Vec Ideal S1x128x512 .bf16) : FVec Ideal S1x128x512 .bf16 :=
  shapeCast S1x128x512 (truncf .bf16 (mulf
    (concatenate S128x512 1 [⟨S128x128, twoHeads (left o00) (left o01)⟩, ⟨S128x128, twoHeads (right o00) (right o01)⟩,
      ⟨S128x128, twoHeads (left o10) (left o11)⟩, ⟨S128x128, twoHeads (right o10) (right o11)⟩] concatenates_S128x128_S128x128_S128x128_S128x128_S128x512_d1)
    (extf .f32 (shapeCast S128x512 g shapeCasts_S1x128x512_S128x512) bitsLt_bf16_f32)) bitsLt_bf16_f32) shapeCasts_S128x512_S1x128x512

/-- The scores of the four chains of a query block, from the window's keys and the block's queries. -/
def dots00 (k : FVec Ideal S256x256 .bf16) (q : Vec Ideal S1x128x512 .bf16) : FVec Ideal S256x256 .f32 :=
  dots (extractStridedSlice S256x128 ![0, 0] k slices_S256x256_o0_0_S256x128)
    (pairOf even (extractStridedSlice S128x128 ![0, 0] (shapeCast S128x512 q shapeCasts_S1x128x512_S128x512) slices_S128x512_o0_0_S128x128)
      (extractStridedSlice S128x128 ![0, 128] (shapeCast S128x512 q shapeCasts_S1x128x512_S128x512) slices_S128x512_o0_128_S128x128))
def dots01 (k : FVec Ideal S256x256 .bf16) (q : Vec Ideal S1x128x512 .bf16) : FVec Ideal S256x256 .f32 :=
  dots (extractStridedSlice S256x128 ![0, 128] k slices_S256x256_o0_128_S256x128)
    (pairOf odd (extractStridedSlice S128x128 ![0, 0] (shapeCast S128x512 q shapeCasts_S1x128x512_S128x512) slices_S128x512_o0_0_S128x128)
      (extractStridedSlice S128x128 ![0, 128] (shapeCast S128x512 q shapeCasts_S1x128x512_S128x512) slices_S128x512_o0_128_S128x128))
def dots10 (k : FVec Ideal S256x256 .bf16) (q : Vec Ideal S1x128x512 .bf16) : FVec Ideal S256x256 .f32 :=
  dots (extractStridedSlice S256x128 ![0, 128] k slices_S256x256_o0_128_S256x128)
    (pairOf even (extractStridedSlice S128x128 ![0, 256] (shapeCast S128x512 q shapeCasts_S1x128x512_S128x512) slices_S128x512_o0_256_S128x128)
      (extractStridedSlice S128x128 ![0, 384] (shapeCast S128x512 q shapeCasts_S1x128x512_S128x512) slices_S128x512_o0_384_S128x128))
def dots11 (k : FVec Ideal S256x256 .bf16) (q : Vec Ideal S1x128x512 .bf16) : FVec Ideal S256x256 .f32 :=
  dots (extractStridedSlice S256x128 ![0, 0] k slices_S256x256_o0_0_S256x128)
    (pairOf odd (extractStridedSlice S128x128 ![0, 256] (shapeCast S128x512 q shapeCasts_S1x128x512_S128x512) slices_S128x512_o0_256_S128x128)
      (extractStridedSlice S128x128 ![0, 384] (shapeCast S128x512 q shapeCasts_S1x128x512_S128x512) slices_S128x512_o0_384_S128x128))

/-- A query block's stored rows: mask, window of keys, queries, the two kv heads' windows of values, sinks, gate. -/
def rows (mk : IVec S256x256 1) (k : FVec Ideal S256x256 .bf16) (q : Vec Ideal S1x128x512 .bf16) (v0 v1 : FVec Ideal S64x256 .bf16)
    (z0 z1 z2 z3 z4 z5 z6 z7 : Elt Ideal .f32) (g : Vec Ideal S1x128x512 .bf16) : FVec Ideal S1x128x512 .bf16 :=
  gated (chain (hide mk (dots00 k q)) (sinkRow z0 z2) v0) (chain (hide mk (dots01 k q)) (sinkRow z1 z3) v0)
    (chain (hide mk (dots10 k q)) (sinkRow z4 z6) v1) (chain (hide mk (dots11 k q)) (sinkRow z5 z7) v1) g

end Cert.Kernel3Ideal.Swa
end
-- ==== Proof.Swa.Stored.lean ====
module

public import proofs.«01_k».proof.Proof.Gen.Kernel3Ideal.Value
public import proofs.«01_k».proof.Proof.Swa.Chain

/-!
# The sixteen stores of one grid point

Each store of the sliding-window kernel holds the rows of one query block.
-/

@[expose] public section

set_option maxRecDepth 16384

noncomputable section

namespace Cert.Kernel3Ideal.Swa

open Cert.Kernel3Ideal Cert.Kernel3Ideal.Gen Idealize.ShloMosaic Idealize.ShloMosaic.TcCoe

/-- The rows of the query block that starts `o` rows into the tile: its window starts at row `o` of the keys and values,
    which hold the 128 before the tile and then the tile's. -/
def rowAt (mk : IVec S256x256 1) (k : FVec Ideal S2176x256 .bf16) (v : FVec Ideal S128x2176 .bf16)
    (z0 z1 z2 z3 z4 z5 z6 z7 : Elt Ideal .f32) (q g : Vec Ideal S1x128x512 .bf16) (o : Nat)
    (hk : S2176x256.Slices ![o, 0] S256x256) (h0 : S128x2176.Slices ![0, o] S64x256) (h1 : S128x2176.Slices ![64, o] S64x256) :
    FVec Ideal S1x128x512 .bf16 :=
  rows mk (extractStridedSlice S256x256 ![o, 0] k hk) q (extractStridedSlice S64x256 ![0, o] v h0)
    (extractStridedSlice S64x256 ![64, o] v h1) z0 z1 z2 z3 z4 z5 z6 z7 g

section

variable (c : Dev nD) (i : grid0.Coords) (arg2 : Memref sig .tc .smem S8 .f32) (harg2 : arg2.IsWhole) (arg3 : Memref sig .tc .vmem S1x2048x512 .bf16) (harg3 : arg3.IsWhole) (arg4 : Memref sig .tc .vmem S1x2048x256 .bf16) (harg4 : arg4.IsWhole) (arg5 : Memref sig .tc .vmem S1x128x256 .bf16) (harg5 : arg5.IsWhole) (arg6 : Memref sig .tc .vmem S1x128x2048 .bf16) (harg6 : arg6.IsWhole) (arg7 : Memref sig .tc .vmem S1x128x128 .bf16) (harg7 : arg7.IsWhole) (arg8 : Memref sig .tc .vmem S1x2048x512 .bf16) (harg8 : arg8.IsWhole) (x0 : Vec Ideal S8 .f32) (x1 : Vec Ideal S1x2048x512 .bf16) (x2 : Vec Ideal S1x2048x256 .bf16) (x3 : Vec Ideal S1x128x256 .bf16) (x4 : Vec Ideal S1x128x2048 .bf16) (x5 : Vec Ideal S1x128x128 .bf16) (x6 : Vec Ideal S1x2048x512 .bf16)

/-- `rowAt` at what the point has loaded. -/
def loadedRow (mk : IVec S256x256 1) (o : Nat) (inb : ∀ a, (![0, o, 0] : Fin 3 → Nat) a + S1x128x512.size a ≤ S1x2048x512.size a)
    (hk : S2176x256.Slices ![o, 0] S256x256) (h0 : S128x2176.Slices ![0, o] S64x256) (h1 : S128x2176.Slices ![64, o] S64x256) :
    FVec Ideal S1x128x512 .bf16 :=
  rowAt mk (kernelRun0_A.sl.v4 c arg4 harg4 arg5 harg5 x2 x3) (kernelRun0_A.sl.v9 c arg6 harg6 arg7 harg7 x4 x5)
    (kernelRun0_A.sl.r c arg2 harg2 x0) (kernelRun0_A.sl.r_7 c arg2 harg2 x0) (kernelRun0_A.sl.r_1 c arg2 harg2 x0)
    (kernelRun0_A.sl.r_8 c arg2 harg2 x0) (kernelRun0_A.sl.r_15 c arg2 harg2 x0) (kernelRun0_A.sl.r_23 c arg2 harg2 x0)
    (kernelRun0_A.sl.r_16 c arg2 harg2 x0) (kernelRun0_A.sl.r_24 c arg2 harg2 x0)
    (View.readAt (Elt Ideal) arg3.view (Rect.unit (s := S1x2048x512) ![0, o, 0] S1x128x512.size inb).toLoadRect (harg3.unread x1))
    (View.readAt (Elt Ideal) arg8.view (Rect.unit (s := S1x2048x512) ![0, o, 0] S1x128x512.size inb).toLoadRect (harg8.unread x6)) o hk h0 h1

theorem store15 : k0_pay2 (kernelRun0_A.sl.r_324 c arg2 harg2 arg3 harg3 arg4 harg4 arg5 harg5 arg6 harg6 arg7 harg7 x0 x1 x2 x3 x4 x5) (kernelRun0_A.sl.r_325 c arg2 harg2 arg3 harg3 arg4 harg4 arg5 harg5 arg6 harg6 arg7 harg7 x0 x1 x2 x3 x4 x5) (kernelRun0_A.sl.r_326 c arg2 harg2 arg3 harg3 arg4 harg4 arg5 harg5 arg6 harg6 arg7 harg7 x0 x1 x2 x3 x4 x5) (kernelRun0_A.sl.r_327 c arg2 harg2 arg3 harg3 arg4 harg4 arg5 harg5 arg6 harg6 arg7 harg7 x0 x1 x2 x3 x4 x5) (kernelRun0_A.sl.r_330 c arg2 harg2 arg3 harg3 arg4 harg4 arg5 harg5 arg6 harg6 arg7 harg7 x0 x1 x2 x3 x4 x5) (kernelRun0_A.sl.r_331 c arg2 harg2 arg3 harg3 arg4 harg4 arg5 harg5 arg6 harg6 arg7 harg7 x0 x1 x2 x3 x4 x5) (kernelRun0_A.sl.r_335 c arg2 harg2 arg3 harg3 arg4 harg4 arg5 harg5 arg6 harg6 arg7 harg7 x0 x1 x2 x3 x4 x5) (kernelRun0_A.sl.r_336 c arg2 harg2 arg3 harg3 arg4 harg4 arg5 harg5 arg6 harg6 arg7 harg7 x0 x1 x2 x3 x4 x5) (View.readAt (Elt Ideal) arg8.view (Rect.unit (s := S1x2048x512) ![0, 1920, 0] ![1, 128, 512] inb_S1x2048x512_S1x128x512_0_1920_0).toLoadRect (harg8.unread x6)) = loadedRow c arg2 harg2 arg3 harg3 arg4 harg4 arg5 harg5 arg6 harg6 arg7 harg7 arg8 harg8 x0 x1 x2 x3 x4 x5 x6 near 1920 inb_S1x2048x512_S1x128x512_0_1920_0 slices_S2176x256_o1920_0_S256x256 slices_S128x2176_o0_1920_S64x256 slices_S128x2176_o64_1920_S64x256 := rfl

theorem store14 : k0_pay1 (kernelRun0_A.sl.r_347 c arg2 harg2 arg3 harg3 arg4 harg4 arg5 harg5 arg6 harg6 arg7 harg7 x0 x1 x2 x3 x4 x5) (kernelRun0_A.sl.r_348 c arg8 harg8 x6) = loadedRow c arg2 harg2 arg3 harg3 arg4 harg4 arg5 harg5 arg6 harg6 arg7 harg7 arg8 harg8 x0 x1 x2 x3 x4 x5 x6 near 1792 inb_S1x2048x512_S1x128x512_0_1792_0 slices_S2176x256_o1792_0_S256x256 slices_S128x2176_o0_1792_S64x256 slices_S128x2176_o64_1792_S64x256 := rfl

theorem store13 : k0_pay490 (kernelRun0_A.sl.r_284 c arg2 harg2 arg3 harg3 arg4 harg4 arg5 harg5 arg6 harg6 arg7 harg7 x0 x1 x2 x3 x4 x5) (kernelRun0_A.sl.r_285 c arg2 harg2 arg3 harg3 arg4 harg4 arg5 harg5 arg6 harg6 arg7 harg7 x0 x1 x2 x3 x4 x5) (kernelRun0_A.sl.r_290 c arg2 harg2 arg3 harg3 arg4 harg4 arg5 harg5 arg6 harg6 arg7 harg7 x0 x1 x2 x3 x4 x5) (kernelRun0_A.sl.r_291 c arg2 harg2 arg3 harg3 arg4 harg4 arg5 harg5 arg6 harg6 arg7 harg7 x0 x1 x2 x3 x4 x5) (kernelRun0_A.sl.r_296 c arg2 harg2 arg3 harg3 arg4 harg4 arg5 harg5 arg6 harg6 arg7 harg7 x0 x1 x2 x3 x4 x5) (kernelRun0_A.sl.r_297 c arg2 harg2 arg3 harg3 arg4 harg4 arg5 harg5 arg6 harg6 arg7 harg7 x0 x1 x2 x3 x4 x5) (kernelRun0_A.sl.r_302 c arg2 harg2 arg3 harg3 arg4 harg4 arg5 harg5 arg6 harg6 arg7 harg7 x0 x1 x2 x3 x4 x5) (kernelRun0_A.sl.r_303 c arg2 harg2 arg3 harg3 arg4 harg4 arg5 harg5 arg6 harg6 arg7 harg7 x0 x1 x2 x3 x4 x5) (View.readAt (Elt Ideal) arg8.view (Rect.unit (s := S1x2048x512) ![0, 1664, 0] S1x128x512.size inb_S1x2048x512_S1x128x512_0_1664_0).toLoadRect (harg8.unread x6)) = loadedRow c arg2 harg2 arg3 harg3 arg4 harg4 arg5 harg5 arg6 harg6 arg7 harg7 arg8 harg8 x0 x1 x2 x3 x4 x5 x6 near 1664 inb_S1x2048x512_S1x128x512_0_1664_0 slices_S2176x256_o1664_0_S256x256 slices_S128x2176_o0_1664_S64x256 slices_S128x2176_o64_1664_S64x256 := rfl

theorem store12 : k0_pay489 (kernelRun0_A.sl.r_272 c arg2 harg2 arg3 harg3 arg4 harg4 arg5 harg5 arg6 harg6 arg7 harg7 x0 x1 x2 x3 x4 x5) (kernelRun0_A.sl.r_273 c arg2 harg2 arg3 harg3 arg4 harg4 arg5 harg5 arg6 harg6 arg7 harg7 x0 x1 x2 x3 x4 x5) (kernelRun0_A.sl.r_278 c arg2 harg2 arg3 harg3 arg4 harg4 arg5 harg5 arg6 harg6 arg7 harg7 x0 x1 x2 x3 x4 x5) (kernelRun0_A.sl.r_279 c arg2 harg2 arg3 harg3 arg4 harg4 arg5 harg5 arg6 harg6 arg7 harg7 x0 x1 x2 x3 x4 x5) (kernelRun0_A.sl.r_345 c arg2 harg2 arg3 harg3 arg4 harg4 arg5 harg5 arg6 harg6 arg7 harg7 x0 x1 x2 x3 x4 x5) (kernelRun0_A.sl.r_346 c arg2 harg2 arg3 harg3 arg4 harg4 arg5 harg5 arg6 harg6 arg7 harg7 x0 x1 x2 x3 x4 x5) (View.readAt (Elt Ideal) arg8.view (Rect.unit (s := S1x2048x512) ![0, 1536, 0] S1x128x512.size inb_S1x2048x512_S1x128x512_0_1536_0).toLoadRect (harg8.unread x6)) = loadedRow c arg2 harg2 arg3 harg3 arg4 harg4 arg5 harg5 arg6 harg6 arg7 harg7 arg8 harg8 x0 x1 x2 x3 x4 x5 x6 near 1536 inb_S1x2048x512_S1x128x512_0_1536_0 slices_S2176x256_o1536_0_S256x256 slices_S128x2176_o0_1536_S64x256 slices_S128x2176_o64_1536_S64x256 := rfl

theorem store11 : k0_pay486 (kernelRun0_A.sl.r_250 c arg2 harg2 arg3 harg3 arg4 harg4 arg5 harg5 arg6 harg6 arg7 harg7 x0 x1 x2 x3 x4 x5) (kernelRun0_A.sl.r_251 c arg2 harg2 arg3 harg3 arg4 harg4 arg5 harg5 arg6 harg6 arg7 harg7 x0 x1 x2 x3 x4 x5) (kernelRun0_A.sl.r_255 c arg2 harg2 arg3 harg3 arg4 harg4 arg5 harg5 arg6 harg6 arg7 harg7 x0 x1 x2 x3 x4 x5) (kernelRun0_A.sl.r_256 c arg2 harg2 arg3 harg3 arg4 harg4 arg5 harg5 arg6 harg6 arg7 harg7 x0 x1 x2 x3 x4 x5) (kernelRun0_A.sl.r_259 c arg2 harg2 arg3 harg3 arg4 harg4 arg5 harg5 arg6 harg6 arg7 harg7 x0 x1 x2 x3 x4 x5) (kernelRun0_A.sl.r_260 c arg2 harg2 arg3 harg3 arg4 harg4 arg5 harg5 arg6 harg6 arg7 harg7 x0 x1 x2 x3 x4 x5) (kernelRun0_A.sl.r_263 c arg2 harg2 arg3 harg3 arg4 harg4 arg5 harg5 arg6 harg6 arg7 harg7 x0 x1 x2 x3 x4 x5) (kernelRun0_A.sl.r_264 c arg2 harg2 arg3 harg3 arg4 harg4 arg5 harg5 arg6 harg6 arg7 harg7 x0 x1 x2 x3 x4 x5) (View.readAt (Elt Ideal) arg8.view (Rect.unit (s := S1x2048x512) ![0, 1408, 0] S1x128x512.size inb_S1x2048x512_S1x128x512_0_1408_0).toLoadRect (harg8.unread x6)) = loadedRow c arg2 harg2 arg3 harg3 arg4 harg4 arg5 harg5 arg6 harg6 arg7 harg7 arg8 harg8 x0 x1 x2 x3 x4 x5 x6 near 1408 inb_S1x2048x512_S1x128x512_0_1408_0 slices_S2176x256_o1408_0_S256x256 slices_S128x2176_o0_1408_S64x256 slices_S128x2176_o64_1408_S64x256 := rfl

theorem store10 : k0_pay485 (kernelRun0_A.sl.r_226 c arg2 harg2 arg3 harg3 arg4 harg4 arg5 harg5 arg6 harg6 arg7 harg7 x0 x1 x2 x3 x4 x5) (kernelRun0_A.sl.r_227 c arg2 harg2 arg3 harg3 arg4 harg4 arg5 harg5 arg6 harg6 arg7 harg7 x0 x1 x2 x3 x4 x5) (kernelRun0_A.sl.r_233 c arg2 harg2 arg3 harg3 arg4 harg4 arg5 harg5 arg6 harg6 arg7 harg7 x0 x1 x2 x3 x4 x5) (kernelRun0_A.sl.r_234 c arg2 harg2 arg3 harg3 arg4 harg4 arg5 harg5 arg6 harg6 arg7 harg7 x0 x1 x2 x3 x4 x5) (kernelRun0_A.sl.r_239 c arg2 harg2 arg3 harg3 arg4 harg4 arg5 harg5 arg6 harg6 arg7 harg7 x0 x1 x2 x3 x4 x5) (kernelRun0_A.sl.r_240 c arg2 harg2 arg3 harg3 arg4 harg4 arg5 harg5 arg6 harg6 arg7 harg7 x0 x1 x2 x3 x4 x5) (kernelRun0_A.sl.r_245 c arg2 harg2 arg3 harg3 arg4 harg4 arg5 harg5 arg6 harg6 arg7 harg7 x0 x1 x2 x3 x4 x5) (kernelRun0_A.sl.r_246 c arg2 harg2 arg3 harg3 arg4 harg4 arg5 harg5 arg6 harg6 arg7 harg7 x0 x1 x2 x3 x4 x5) (View.readAt (Elt Ideal) arg8.view (Rect.unit (s := S1x2048x512) ![0, 1280, 0] S1x128x512.size inb_S1x2048x512_S1x128x512_0_1280_0).toLoadRect (harg8.unread x6)) = loadedRow c arg2 harg2 arg3 harg3 arg4 harg4 arg5 harg5 arg6 harg6 arg7 harg7 arg8 harg8 x0 x1 x2 x3 x4 x5 x6 near 1280 inb_S1x2048x512_S1x128x512_0_1280_0 slices_S2176x256_o1280_0_S256x256 slices_S128x2176_o0_1280_S64x256 slices_S128x2176_o64_1280_S64x256 := rfl

theorem store9 : k0_pay484 (kernelRun0_A.sl.r_343 c arg2 harg2 arg3 harg3 arg4 harg4 arg5 harg5 arg6 harg6 arg7 harg7 x0 x1 x2 x3 x4 x5) (kernelRun0_A.sl.r_344 c arg8 harg8 x6) = loadedRow c arg2 harg2 arg3 harg3 arg4 harg4 arg5 harg5 arg6 harg6 arg7 harg7 arg8 harg8 x0 x1 x2 x3 x4 x5 x6 near 1152 inb_S1x2048x512_S1x128x512_0_1152_0 slices_S2176x256_o1152_0_S256x256 slices_S128x2176_o0_1152_S64x256 slices_S128x2176_o64_1152_S64x256 := rfl

theorem store8 : k0_pay481 (kernelRun0_A.sl.r_178 c arg2 harg2 arg3 harg3 arg4 harg4 arg5 harg5 arg6 harg6 arg7 harg7 x0 x1 x2 x3 x4 x5) (kernelRun0_A.sl.r_179 c arg2 harg2 arg3 harg3 arg4 harg4 arg5 harg5 arg6 harg6 arg7 harg7 x0 x1 x2 x3 x4 x5) (kernelRun0_A.sl.r_183 c arg2 harg2 arg3 harg3 arg4 harg4 arg5 harg5 arg6 harg6 arg7 harg7 x0 x1 x2 x3 x4 x5) (kernelRun0_A.sl.r_184 c arg2 harg2 arg3 harg3 arg4 harg4 arg5 harg5 arg6 harg6 arg7 harg7 x0 x1 x2 x3 x4 x5) (kernelRun0_A.sl.r_189 c arg2 harg2 arg3 harg3 arg4 harg4 arg5 harg5 arg6 harg6 arg7 harg7 x0 x1 x2 x3 x4 x5) (kernelRun0_A.sl.r_190 c arg2 harg2 arg3 harg3 arg4 harg4 arg5 harg5 arg6 harg6 arg7 harg7 x0 x1 x2 x3 x4 x5) (kernelRun0_A.sl.r_195 c arg2 harg2 arg3 harg3 arg4 harg4 arg5 harg5 arg6 harg6 arg7 harg7 x0 x1 x2 x3 x4 x5) (kernelRun0_A.sl.r_196 c arg2 harg2 arg3 harg3 arg4 harg4 arg5 harg5 arg6 harg6 arg7 harg7 x0 x1 x2 x3 x4 x5) (View.readAt (Elt Ideal) arg8.view (Rect.unit (s := S1x2048x512) ![0, 1024, 0] S1x128x512.size inb_S1x2048x512_S1x128x512_0_1024_0).toLoadRect (harg8.unread x6)) = loadedRow c arg2 harg2 arg3 harg3 arg4 harg4 arg5 harg5 arg6 harg6 arg7 harg7 arg8 harg8 x0 x1 x2 x3 x4 x5 x6 near 1024 inb_S1x2048x512_S1x128x512_0_1024_0 slices_S2176x256_o1024_0_S256x256 slices_S128x2176_o0_1024_S64x256 slices_S128x2176_o64_1024_S64x256 := rfl

theorem store7 : k0_pay480 (kernelRun0_A.sl.r_169 c arg2 harg2 arg3 harg3 arg4 harg4 arg5 harg5 arg6 harg6 arg7 harg7 x0 x1 x2 x3 x4 x5) (kernelRun0_A.sl.r_170 c arg2 harg2 arg3 harg3 arg4 harg4 arg5 harg5 arg6 harg6 arg7 harg7 x0 x1 x2 x3 x4 x5) (kernelRun0_A.sl.r_173 c arg2 harg2 arg3 harg3 arg4 harg4 arg5 harg5 arg6 harg6 arg7 harg7 x0 x1 x2 x3 x4 x5) (kernelRun0_A.sl.r_174 c arg2 harg2 arg3 harg3 arg4 harg4 arg5 harg5 arg6 harg6 arg7 harg7 x0 x1 x2 x3 x4 x5) (kernelRun0_A.sl.r_341 c arg2 harg2 arg3 harg3 arg4 harg4 arg5 harg5 arg6 harg6 arg7 harg7 x0 x1 x2 x3 x4 x5) (kernelRun0_A.sl.r_342 c arg2 harg2 arg3 harg3 arg4 harg4 arg5 harg5 arg6 harg6 arg7 harg7 x0 x1 x2 x3 x4 x5) (View.readAt (Elt Ideal) arg8.view (Rect.unit (s := S1x2048x512) ![0, 896, 0] S1x128x512.size inb_S1x2048x512_S1x128x512_0_896_0).toLoadRect (harg8.unread x6)) = loadedRow c arg2 harg2 arg3 harg3 arg4 harg4 arg5 harg5 arg6 harg6 arg7 harg7 arg8 harg8 x0 x1 x2 x3 x4 x5 x6 near 896 inb_S1x2048x512_S1x128x512_0_896_0 slices_S2176x256_o896_0_S256x256 slices_S128x2176_o0_896_S64x256 slices_S128x2176_o64_896_S64x256 := rfl

theorem store6 : k0_pay477 (kernelRun0_A.sl.r_143 c arg2 harg2 arg3 harg3 arg4 harg4 arg5 harg5 arg6 harg6 arg7 harg7 x0 x1 x2 x3 x4 x5) (kernelRun0_A.sl.r_144 c arg2 harg2 arg3 harg3 arg4 harg4 arg5 harg5 arg6 harg6 arg7 harg7 x0 x1 x2 x3 x4 x5) (kernelRun0_A.sl.r_149 c arg2 harg2 arg3 harg3 arg4 harg4 arg5 harg5 arg6 harg6 arg7 harg7 x0 x1 x2 x3 x4 x5) (kernelRun0_A.sl.r_150 c arg2 harg2 arg3 harg3 arg4 harg4 arg5 harg5 arg6 harg6 arg7 harg7 x0 x1 x2 x3 x4 x5) (kernelRun0_A.sl.r_154 c arg2 harg2 arg3 harg3 arg4 harg4 arg5 harg5 arg6 harg6 arg7 harg7 x0 x1 x2 x3 x4 x5) (kernelRun0_A.sl.r_155 c arg2 harg2 arg3 harg3 arg4 harg4 arg5 harg5 arg6 harg6 arg7 harg7 x0 x1 x2 x3 x4 x5) (kernelRun0_A.sl.r_159 c arg2 harg2 arg3 harg3 arg4 harg4 arg5 harg5 arg6 harg6 arg7 harg7 x0 x1 x2 x3 x4 x5) (kernelRun0_A.sl.r_160 c arg2 harg2 arg3 harg3 arg4 harg4 arg5 harg5 arg6 harg6 arg7 harg7 x0 x1 x2 x3 x4 x5) (View.readAt (Elt Ideal) arg8.view (Rect.unit (s := S1x2048x512) ![0, 768, 0] S1x128x512.size inb_S1x2048x512_S1x128x512_0_768_0).toLoadRect (harg8.unread x6)) = loadedRow c arg2 harg2 arg3 harg3 arg4 harg4 arg5 harg5 arg6 harg6 arg7 harg7 arg8 harg8 x0 x1 x2 x3 x4 x5 x6 near 768 inb_S1x2048x512_S1x128x512_0_768_0 slices_S2176x256_o768_0_S256x256 slices_S128x2176_o0_768_S64x256 slices_S128x2176_o64_768_S64x256 := rfl

theorem store5 : k0_pay476 (kernelRun0_A.sl.r_119 c arg2 harg2 arg3 harg3 arg4 harg4 arg5 harg5 arg6 harg6 arg7 harg7 x0 x1 x2 x3 x4 x5) (kernelRun0_A.sl.r_120 c arg2 harg2 arg3 harg3 arg4 harg4 arg5 harg5 arg6 harg6 arg7 harg7 x0 x1 x2 x3 x4 x5) (kernelRun0_A.sl.r_125 c arg2 harg2 arg3 harg3 arg4 harg4 arg5 harg5 arg6 harg6 arg7 harg7 x0 x1 x2 x3 x4 x5) (kernelRun0_A.sl.r_126 c arg2 harg2 arg3 harg3 arg4 harg4 arg5 harg5 arg6 harg6 arg7 harg7 x0 x1 x2 x3 x4 x5) (kernelRun0_A.sl.r_131 c arg2 harg2 arg3 harg3 arg4 harg4 arg5 harg5 arg6 harg6 arg7 harg7 x0 x1 x2 x3 x4 x5) (kernelRun0_A.sl.r_132 c arg2 harg2 arg3 harg3 arg4 harg4 arg5 harg5 arg6 harg6 arg7 harg7 x0 x1 x2 x3 x4 x5) (kernelRun0_A.sl.r_137 c arg2 harg2 arg3 harg3 arg4 harg4 arg5 harg5 arg6 harg6 arg7 harg7 x0 x1 x2 x3 x4 x5) (kernelRun0_A.sl.r_138 c arg2 harg2 arg3 harg3 arg4 harg4 arg5 harg5 arg6 harg6 arg7 harg7 x0 x1 x2 x3 x4 x5) (View.readAt (Elt Ideal) arg8.view (Rect.unit (s := S1x2048x512) ![0, 640, 0] S1x128x512.size inb_S1x2048x512_S1x128x512_0_640_0).toLoadRect (harg8.unread x6)) = loadedRow c arg2 harg2 arg3 harg3 arg4 harg4 arg5 harg5 arg6 harg6 arg7 harg7 arg8 harg8 x0 x1 x2 x3 x4 x5 x6 near 640 inb_S1x2048x512_S1x128x512_0_640_0 slices_S2176x256_o640_0_S256x256 slices_S128x2176_o0_640_S64x256 slices_S128x2176_o64_640_S64x256 := rfl

theorem store4 : k0_pay475 (kernelRun0_A.sl.r_339 c arg2 harg2 arg3 harg3 arg4 harg4 arg5 harg5 arg6 harg6 arg7 harg7 x0 x1 x2 x3 x4 x5) (kernelRun0_A.sl.r_340 c arg8 harg8 x6) = loadedRow c arg2 harg2 arg3 harg3 arg4 harg4 arg5 harg5 arg6 harg6 arg7 harg7 arg8 harg8 x0 x1 x2 x3 x4 x5 x6 near 512 inb_S1x2048x512_S1x128x512_0_512_0 slices_S2176x256_o512_0_S256x256 slices_S128x2176_o0_512_S64x256 slices_S128x2176_o64_512_S64x256 := rfl

theorem store3 : k0_pay472 (kernelRun0_A.sl.r_86 c arg2 harg2 arg3 harg3 arg4 harg4 arg5 harg5 arg6 harg6 arg7 harg7 x0 x1 x2 x3 x4 x5) (kernelRun0_A.sl.r_87 c arg2 harg2 arg3 harg3 arg4 harg4 arg5 harg5 arg6 harg6 arg7 harg7 x0 x1 x2 x3 x4 x5) (kernelRun0_A.sl.r_92 c arg2 harg2 arg3 harg3 arg4 harg4 arg5 harg5 arg6 harg6 arg7 harg7 x0 x1 x2 x3 x4 x5) (kernelRun0_A.sl.r_93 c arg2 harg2 arg3 harg3 arg4 harg4 arg5 harg5 arg6 harg6 arg7 harg7 x0 x1 x2 x3 x4 x5) (kernelRun0_A.sl.r_97 c arg2 harg2 arg3 harg3 arg4 harg4 arg5 harg5 arg6 harg6 arg7 harg7 x0 x1 x2 x3 x4 x5) (kernelRun0_A.sl.r_98 c arg2 harg2 arg3 harg3 arg4 harg4 arg5 harg5 arg6 harg6 arg7 harg7 x0 x1 x2 x3 x4 x5) (kernelRun0_A.sl.r_102 c arg2 harg2 arg3 harg3 arg4 harg4 arg5 harg5 arg6 harg6 arg7 harg7 x0 x1 x2 x3 x4 x5) (kernelRun0_A.sl.r_103 c arg2 harg2 arg3 harg3 arg4 harg4 arg5 harg5 arg6 harg6 arg7 harg7 x0 x1 x2 x3 x4 x5) (View.readAt (Elt Ideal) arg8.view (Rect.unit (s := S1x2048x512) ![0, 384, 0] S1x128x512.size inb_S1x2048x512_S1x128x512_0_384_0).toLoadRect (harg8.unread x6)) = loadedRow c arg2 harg2 arg3 harg3 arg4 harg4 arg5 harg5 arg6 harg6 arg7 harg7 arg8 harg8 x0 x1 x2 x3 x4 x5 x6 near 384 inb_S1x2048x512_S1x128x512_0_384_0 slices_S2176x256_o384_0_S256x256 slices_S128x2176_o0_384_S64x256 slices_S128x2176_o64_384_S64x256 := rfl

theorem store2 : k0_pay471 (kernelRun0_A.sl.r_73 c arg2 harg2 arg3 harg3 arg4 harg4 arg5 harg5 arg6 harg6 arg7 harg7 x0 x1 x2 x3 x4 x5) (kernelRun0_A.sl.r_74 c arg2 harg2 arg3 harg3 arg4 harg4 arg5 harg5 arg6 harg6 arg7 harg7 x0 x1 x2 x3 x4 x5) (kernelRun0_A.sl.r_80 c arg2 harg2 arg3 harg3 arg4 harg4 arg5 harg5 arg6 harg6 arg7 harg7 x0 x1 x2 x3 x4 x5) (kernelRun0_A.sl.r_81 c arg2 harg2 arg3 harg3 arg4 harg4 arg5 harg5 arg6 harg6 arg7 harg7 x0 x1 x2 x3 x4 x5) (kernelRun0_A.sl.r_337 c arg2 harg2 arg3 harg3 arg4 harg4 arg5 harg5 arg6 harg6 arg7 harg7 x0 x1 x2 x3 x4 x5) (kernelRun0_A.sl.r_338 c arg2 harg2 arg3 harg3 arg4 harg4 arg5 harg5 arg6 harg6 arg7 harg7 x0 x1 x2 x3 x4 x5) (View.readAt (Elt Ideal) arg8.view (Rect.unit (s := S1x2048x512) ![0, 256, 0] S1x128x512.size inb_S1x2048x512_S1x128x512_0_256_0).toLoadRect (harg8.unread x6)) = loadedRow c arg2 harg2 arg3 harg3 arg4 harg4 arg5 harg5 arg6 harg6 arg7 harg7 arg8 harg8 x0 x1 x2 x3 x4 x5 x6 near 256 inb_S1x2048x512_S1x128x512_0_256_0 slices_S2176x256_o256_0_S256x256 slices_S128x2176_o0_256_S64x256 slices_S128x2176_o64_256_S64x256 := rfl

theorem store1 : k0_pay468 (kernelRun0_A.sl.r_36 c arg2 harg2 arg3 harg3 arg4 harg4 arg5 harg5 arg6 harg6 arg7 harg7 x0 x1 x2 x3 x4 x5) (kernelRun0_A.sl.r_37 c arg2 harg2 arg3 harg3 arg4 harg4 arg5 harg5 arg6 harg6 arg7 harg7 x0 x1 x2 x3 x4 x5) (kernelRun0_A.sl.r_42 c arg2 harg2 arg3 harg3 arg4 harg4 arg5 harg5 arg6 harg6 arg7 harg7 x0 x1 x2 x3 x4 x5) (kernelRun0_A.sl.r_43 c arg2 harg2 arg3 harg3 arg4 harg4 arg5 harg5 arg6 harg6 arg7 harg7 x0 x1 x2 x3 x4 x5) (kernelRun0_A.sl.r_48 c arg2 harg2 arg3 harg3 arg4 harg4 arg5 harg5 arg6 harg6 arg7 harg7 x0 x1 x2 x3 x4 x5) (kernelRun0_A.sl.r_49 c arg2 harg2 arg3 harg3 arg4 harg4 arg5 harg5 arg6 harg6 arg7 harg7 x0 x1 x2 x3 x4 x5) (kernelRun0_A.sl.r_54 c arg2 harg2 arg3 harg3 arg4 harg4 arg5 harg5 arg6 harg6 arg7 harg7 x0 x1 x2 x3 x4 x5) (kernelRun0_A.sl.r_55 c arg2 harg2 arg3 harg3 arg4 harg4 arg5 harg5 arg6 harg6 arg7 harg7 x0 x1 x2 x3 x4 x5) (View.readAt (Elt Ideal) arg8.view (Rect.unit (s := S1x2048x512) ![0, 128, 0] S1x128x512.size inb_S1x2048x512_S1x128x512_0_128_0).toLoadRect (harg8.unread x6)) = loadedRow c arg2 harg2 arg3 harg3 arg4 harg4 arg5 harg5 arg6 harg6 arg7 harg7 arg8 harg8 x0 x1 x2 x3 x4 x5 x6 near 128 inb_S1x2048x512_S1x128x512_0_128_0 slices_S2176x256_o128_0_S256x256 slices_S128x2176_o0_128_S64x256 slices_S128x2176_o64_128_S64x256 := rfl

theorem store0 : k0_pay467 (kernelRun0_A.sl.r_9 c i arg2 harg2 arg3 harg3 arg4 harg4 arg5 harg5 arg6 harg6 arg7 harg7 x0 x1 x2 x3 x4 x5) (kernelRun0_A.sl.r_10 c i arg2 harg2 arg3 harg3 arg4 harg4 arg5 harg5 arg6 harg6 arg7 harg7 x0 x1 x2 x3 x4 x5) (kernelRun0_A.sl.r_17 c i arg2 harg2 arg3 harg3 arg4 harg4 arg5 harg5 arg6 harg6 arg7 harg7 x0 x1 x2 x3 x4 x5) (kernelRun0_A.sl.r_18 c i arg2 harg2 arg3 harg3 arg4 harg4 arg5 harg5 arg6 harg6 arg7 harg7 x0 x1 x2 x3 x4 x5) (kernelRun0_A.sl.r_25 c i arg2 harg2 arg3 harg3 arg4 harg4 arg5 harg5 arg6 harg6 arg7 harg7 x0 x1 x2 x3 x4 x5) (kernelRun0_A.sl.r_26 c i arg2 harg2 arg3 harg3 arg4 harg4 arg5 harg5 arg6 harg6 arg7 harg7 x0 x1 x2 x3 x4 x5) (kernelRun0_A.sl.r_30 c i arg2 harg2 arg3 harg3 arg4 harg4 arg5 harg5 arg6 harg6 arg7 harg7 x0 x1 x2 x3 x4 x5) (kernelRun0_A.sl.r_31 c i arg2 harg2 arg3 harg3 arg4 harg4 arg5 harg5 arg6 harg6 arg7 harg7 x0 x1 x2 x3 x4 x5) (View.readAt (Elt Ideal) arg8.view (Rect.unit (s := S1x2048x512) ![0, 0, 0] S1x128x512.size inb_S1x2048x512_S1x128x512_0_0_0).toLoadRect (harg8.unread x6)) = loadedRow c arg2 harg2 arg3 harg3 arg4 harg4 arg5 harg5 arg6 harg6 arg7 harg7 arg8 harg8 x0 x1 x2 x3 x4 x5 x6 (nearFirst (BitVec.ofNat 32 (i 1))) 0 inb_S1x2048x512_S1x128x512_0_0_0 slices_S2176x256_o0_0_S256x256 slices_S128x2176_o0_0_S64x256 slices_S128x2176_o64_0_S64x256 := rfl

end

end Cert.Kernel3Ideal.Swa
end
-- ==== Proof.Swa.Weights.lean ====
module

public import proofs.«01_k».proof.Proof.Diff.Softmax

/-!
# One lane of the sliding-window attention

`lane` is what the kernel computes from the 256 keys of a window, in base two. `soft` is what the reference computes from
all 4096 keys, with the natural exponential. The sink is one more score with no value. When the keys outside the window are
hidden, the two agree.
-/

@[expose] public section

noncomputable section

namespace Cert.Proof.Swa

open Idealize.ShloMosaic Cert.Proof.Diff

/-- The largest score, the sink `z` among them. -/
def peak {n : ℕ} (s : Fin n → EReal) (z : EReal) : EReal := max (Finset.fold max ⊥ s Finset.univ) z

/-- The kernel's lane: the weighted values times one over the sum of the weights and the sink's. -/
def lane (w u : Fin 256 → EReal) (z : EReal) : EReal :=
  (∑ c, u c * Ideal.exp2 (w c - peak w z)) * Ideal.div 1 ((∑ c, Ideal.exp2 (w c - peak w z)) + Ideal.exp2 (z - peak w z))

/-- The reference's lane: the values with the normalised weights. -/
def soft (s v : Fin 4096 → EReal) (y : EReal) : EReal :=
  ∑ k, v k * Ideal.div (Ideal.exp (s k - peak s y)) ((∑ j, Ideal.exp (s j - peak s y)) + Ideal.exp (y - peak s y))

/-- A sum over the window is the sum over all keys, when the rest is zero. -/
theorem sum_window (f : Fin 256 → EReal) (g : Fin 4096 → EReal) (B : ℕ) (hB : B ≤ 3968)
    (hf : ∀ c : Fin 256, 128 ≤ B + c.val → f c = g ⟨B + c.val - 128, by omega⟩) (hf0 : ∀ c : Fin 256, B + c.val < 128 → f c = 0)
    (hg : ∀ k : Fin 4096, k.val + 128 < B ∨ B + 128 ≤ k.val → g k = 0) : ∑ c, f c = ∑ k, g k := by
  have hin : ∀ c : Fin 256, f c ≠ 0 → 128 ≤ B + c.val := fun c h => by
    by_contra hc
    exact h (hf0 c (by omega))
  refine Finset.sum_bij_ne_zero (fun c _ _ => (⟨B + c.val - 128, by omega⟩ : Fin 4096)) (fun _ _ _ => Finset.mem_univ _) ?_ ?_ ?_
  · intro a _ ha b _ hb e
    have h1 := hin a ha
    have h2 := hin b hb
    have h3 := congrArg Fin.val e
    dsimp only at h3
    exact Fin.ext (by omega)
  · intro k _ hk
    have hk' : ¬ (k.val + 128 < B ∨ B + 128 ≤ k.val) := fun h => hk (hg k h)
    have e : (⟨B + (k.val + 128 - B) - 128, by omega⟩ : Fin 4096) = k := Fin.ext (by dsimp only; omega)
    refine ⟨⟨k.val + 128 - B, by omega⟩, Finset.mem_univ _, ?_, e⟩
    rw [hf _ (by dsimp only; omega)]
    exact fun h => hk ((congrArg g e).symm.trans h)
  · intro c _ hc
    exact hf c (hin c hc)

/-- The largest score of the window is the largest of all keys, when the rest is hidden. -/
theorem fold_window (w : Fin 256 → EReal) (S : Fin 4096 → EReal) (B : ℕ) (hB : B ≤ 3968)
    (hw : ∀ c : Fin 256, 128 ≤ B + c.val → w c = S ⟨B + c.val - 128, by omega⟩) (hw0 : ∀ c : Fin 256, B + c.val < 128 → w c = ⊥)
    (hS : ∀ k : Fin 4096, k.val + 128 < B ∨ B + 128 ≤ k.val → S k = ⊥) :
    Finset.fold max ⊥ w Finset.univ = Finset.fold max ⊥ S Finset.univ := by
  rw [fold_eq_sup, fold_eq_sup]
  refine le_antisymm (Finset.sup_le fun c _ => ?_) (Finset.sup_le fun k _ => ?_)
  · by_cases h : 128 ≤ B + c.val
    · rw [hw c h]; exact Finset.le_sup (f := S) (Finset.mem_univ _)
    · rw [hw0 c (by omega)]; exact bot_le
  · by_cases h : k.val + 128 < B ∨ B + 128 ≤ k.val
    · rw [hS k h]; exact bot_le
    · have e : (⟨B + (k.val + 128 - B) - 128, by omega⟩ : Fin 4096) = k := Fin.ext (by dsimp only; omega)
      have e' : S k = w ⟨k.val + 128 - B, by omega⟩ := by
        rw [hw _ (by dsimp only; omega)]
        exact (congrArg S e).symm
      rw [e']
      exact Finset.le_sup (f := w) (Finset.mem_univ _)

/-- Natural scores have the natural largest. -/
theorem peak_mul_ln2 (s : Fin 4096 → EReal) (z : EReal) :
    peak (fun k => s k * (ln2 : EReal)) (z * (ln2 : EReal)) = peak s z * (ln2 : EReal) := by
  have hpos : (0 : ℝ) < ln2 := Real.log_pos one_lt_two
  have hmax : ∀ x y : EReal, max x y * (ln2 : EReal) = max (x * (ln2 : EReal)) (y * (ln2 : EReal)) := fun x y =>
    Monotone.map_max (f := fun x : EReal => x * (ln2 : EReal)) (fun a b h => mul_le_mul_of_nonneg_right h (EReal.coe_nonneg.mpr hpos.le))
  unfold peak
  rw [hmax, fold_eq_sup, fold_eq_sup]
  exact congrArg (max · _) (Finset.comp_sup_eq_sup_comp (fun x : EReal => x * (ln2 : EReal)) hmax (EReal.bot_mul_coe_of_pos hpos)).symm

/-- The largest score is a number, because the sink is one. -/
theorem isReal_peak {n : ℕ} (s : Fin n → EReal) (z : EReal) (hz : IsReal z) (hs : ∀ k, s k ≠ ⊤) : IsReal (peak s z) := by
  refine isReal_of_ne (fun e => hz.ne_bot (le_bot_iff.mp (e ▸ le_max_right _ _))) ?_
  refine ne_of_lt (max_lt ?_ (lt_top_iff_ne_top.mpr hz.ne_top))
  rw [fold_eq_sup]
  exact (Finset.sup_lt_iff bot_lt_top).mpr fun j _ => lt_top_iff_ne_top.mpr (hs j)

theorem le_peak {n : ℕ} (s : Fin n → EReal) (z : EReal) (k : Fin n) : s k ≤ peak s z := by
  unfold peak
  rw [fold_eq_sup]
  exact le_max_of_le_left (Finset.le_sup (f := s) (Finset.mem_univ k))

theorem exp_natural {a m : EReal} (ha : a ≠ ⊤) (hm : IsReal m) (h : a ≤ m) :
    Ideal.exp (a * (ln2 : EReal) - m * (ln2 : EReal)) = Ideal.exp2 (a - m) := by
  rw [sub_mul_ln2 ha hm]
  exact exp_mul_ln2 (sub_ne_top ha h)

/-- A factor that is a number and not negative goes into a sum, whatever the terms. -/
theorem sum_mul_real (n : ℕ) (f : Fin n → EReal) (r : ℝ) (hr : 0 ≤ r) : (∑ k, f k) * (r : EReal) = ∑ k, f k * (r : EReal) := by
  refine Finset.induction_on (Finset.univ : Finset (Fin n)) ?_ fun a s ha ih => ?_
  · rw [Finset.sum_empty, Finset.sum_empty, zero_mul]
  · rw [Finset.sum_insert ha, Finset.sum_insert ha, ← ih]
    exact EReal.right_distrib_of_nonneg_of_ne_top (EReal.coe_nonneg.mpr hr) (EReal.coe_ne_top r) _ _

/-- The kernel's lane is the reference's, whatever the values. -/
theorem lane_eq_soft (S V : Fin 4096 → EReal) (w u : Fin 256 → EReal) (z : EReal) (B : ℕ) (hB : B ≤ 3968)
    (hz : IsReal z) (hS : ∀ k, S k ≠ ⊤)
    (hw : ∀ c : Fin 256, 128 ≤ B + c.val → w c = S ⟨B + c.val - 128, by omega⟩) (hw0 : ∀ c : Fin 256, B + c.val < 128 → w c = ⊥)
    (hu : ∀ c : Fin 256, 128 ≤ B + c.val → u c = V ⟨B + c.val - 128, by omega⟩)
    (hout : ∀ k : Fin 4096, k.val + 128 < B ∨ B + 128 ≤ k.val → S k = ⊥) :
    lane w u z = soft (fun k => S k * (ln2 : EReal)) V (z * (ln2 : EReal)) := by
  have hp : peak w z = peak S z := by
    unfold peak
    rw [fold_window w S B hB hw hw0 hout]
  have hm : IsReal (peak S z) := isReal_peak S z hz hS
  have hzero : Ideal.exp2 (⊥ - peak S z) = 0 := by rw [EReal.bot_sub, Ideal.exp2_bot]
  have s1 : ∑ c, u c * Ideal.exp2 (w c - peak w z) = ∑ k, V k * Ideal.exp2 (S k - peak S z) := by
    rw [hp]
    refine sum_window _ _ B hB (fun c h => ?_) (fun c h => ?_) (fun k h => ?_)
    · rw [hw c h, hu c h]
    · rw [hw0 c h, hzero, mul_zero]
    · rw [hout k h, hzero, mul_zero]
  have s2 : ∑ c, Ideal.exp2 (w c - peak w z) = ∑ k, Ideal.exp2 (S k - peak S z) := by
    rw [hp]
    refine sum_window _ _ B hB (fun c h => ?_) (fun c h => ?_) (fun k h => ?_)
    · rw [hw c h]
    · rw [hw0 c h, hzero]
    · rw [hout k h, hzero]
  unfold lane soft
  rw [s1, s2, hp]
  simp only [peak_mul_ln2, exp_natural (hS _) hm (le_peak S z _), exp_natural hz.ne_top hm (le_max_right _ _)]
  have hr : ∀ k, IsReal (Ideal.exp2 (S k - peak S z)) := fun k => isReal_exp2 (sub_ne_top (hS k) (le_peak S z k))
  choose p hp using hr
  have hpos : ∀ k, 0 ≤ p k := fun k => EReal.coe_nonneg.mp (hp k ▸ exp2_nonneg _)
  obtain ⟨q, hq, hq0⟩ : ∃ q : ℝ, Ideal.exp2 (z - peak S z) = (q : EReal) ∧ 0 < q := by
    obtain ⟨a, ha⟩ := hz
    obtain ⟨b, hb⟩ := hm
    refine ⟨Real.rpow 2 (a - b), ?_, Real.rpow_pos_of_pos two_pos _⟩
    rw [hb, ha, ← EReal.coe_sub, Ideal.exp2_coe]
  have hd : 0 < (∑ k, p k) + q := add_pos_of_nonneg_of_pos (Finset.sum_nonneg fun k _ => hpos k) hq0
  have hdiv : ∀ x : EReal, Ideal.div x (((∑ k, p k) + q : ℝ) : EReal) = x * ((((∑ k, p k) + q)⁻¹ : ℝ) : EReal) := by
    intro x
    unfold Ideal.div
    rw [if_neg (fun e => hd.ne' (EReal.coe_eq_zero.mp e)), ← EReal.coe_inv]
  simp only [hp, hq, sum_coe, ← EReal.coe_add]
  rw [hdiv, one_mul, sum_mul_real _ _ _ (inv_nonneg.mpr hd.le)]
  refine Finset.sum_congr rfl fun k _ => ?_
  rw [hdiv, mul_assoc]

end Cert.Proof.Swa

end
-- ==== Proof.Swa.Result.lean ====
module

public import proofs.«01_k».proof.Proof.Swa.Weights
public import Idealize.ShloMosaic.Lib.Pointwise

/-!
# The sliding-window attention's result

The formula both runs end with: for query `P`, head `h` and lane `d`, the values of the head's pair weighted by the softmax
of the scores of the 128 keys up to `P`, the head's sink among them, times the gate.
-/

@[expose] public section

noncomputable section

namespace Cert.Proof.Swa

open Idealize.ShloMosaic Cert.Proof.Diff

/-- Lane `d` of head `h`. -/
def at8 (h : Fin 8) (d : Fin 64) : Fin 512 := ⟨64 * h.val + d.val, by omega⟩

/-- Lane `x` of key copy `k`. -/
def at4 (k : Fin 4) (x : Fin 64) : Fin 256 := ⟨64 * k.val + x.val, by omega⟩

/-- Row `d` of the values head `h` reads: four heads share one. -/
def pair (h : Fin 8) (d : Fin 64) : Fin 128 := ⟨64 * (h.val / 4) + d.val, by omega⟩

/-- The key copy of a head. -/
def copy : Fin 8 → Fin 4 := ![0, 3, 0, 3, 2, 1, 2, 1]

/-- Query `P` sees key `k`: `k` is not after `P`, and fewer than 128 before it. -/
def Sees (P k : Fin 4096) : Prop := P.val < k.val + 128 ∧ k.val ≤ P.val

instance (P k : Fin 4096) : Decidable (Sees P k) := inferInstanceAs (Decidable (_ ∧ _))

/-- The score of query `P` and key `k` in base two, minus infinity where the key is hidden. -/
def score (Q : (⟨3, ![8, 4096, 512]⟩ : Shape).Idx → EReal) (K : (⟨3, ![8, 4096, 256]⟩ : Shape).Idx → EReal)
    (b h : Fin 8) (P k : Fin 4096) : EReal :=
  if Sees P k then ∑ x : Fin 64, Q (ix3 b P (at8 h x)) * K (ix3 b k (at4 (copy h) x)) else ⊥

/-- The result at batch `b`, query `P`, lane `d` of head `h`. -/
def result (z : (⟨1, ![8]⟩ : Shape).Idx → EReal) (Q : (⟨3, ![8, 4096, 512]⟩ : Shape).Idx → EReal)
    (K : (⟨3, ![8, 4096, 256]⟩ : Shape).Idx → EReal) (V : (⟨3, ![8, 128, 4096]⟩ : Shape).Idx → EReal)
    (G : (⟨3, ![8, 4096, 512]⟩ : Shape).Idx → EReal) (b h : Fin 8) (P : Fin 4096) (d : Fin 64) : EReal :=
  soft (fun k => score Q K b h P k * (ln2 : EReal)) (fun k => V (ix3 b (pair h d) k)) (z (ix1 h)) * G (ix3 b P (at8 h d))

end Cert.Proof.Swa
end
-- ==== Proof.Swa.Rows.lean ====
module

public import proofs.«01_k».proof.Proof.Swa.Chain
public import proofs.«01_k».proof.Proof.Swa.Result

/-!
# The rows of a query block, read at an index

The rows the kernel stores for a query block, at query `t`, head `h` and lane `d`: the head's scores over the window's
256 keys, its sink in base two, the lane of the head's values, and the gate.
-/

@[expose] public section

set_option maxRecDepth 16384

noncomputable section

namespace Cert.Kernel3Ideal.Swa

open Cert.Kernel3Ideal Cert.Kernel3Ideal.Gen Idealize.ShloMosaic Idealize.ShloMosaic.TcCoe
open Cert.Proof.Diff Cert.Proof.Swa

/-- The word minus infinity is written with. -/
theorem ofBits_ninf : Ideal.ofBits .f32 0xFF800000#32 = ⊥ := by simp [Ideal.ofBits, Ideal.ieee]

/-- A chain's column for query `t` of its first and of its second head. -/
def low (t : Fin 128) : Fin 256 := ⟨t.val, by omega⟩
def high (t : Fin 128) : Fin 256 := ⟨128 + t.val, by omega⟩

theorem chain_apply (s : FVec Ideal S256x256 .f32) (z : FVec Ideal S1x256 .f32) (v : FVec Ideal S64x256 .bf16) (d : Fin 64) (col : Fin 256) :
    chain s z v (ix2 d col) = lane (fun c => s (ix2 c col)) (fun c => v (ix2 d c)) (z (ix2 0 col)) := by
  pointwise [chain, weighted, Swa.peak]
  rw [lane, Proof.Swa.peak, ← ofBits_ninf]
  rfl

/-- A head's column for query `t`. -/
def column (h : Fin 8) (t : Fin 128) : Fin 256 := ⟨128 * (h.val / 2 % 2) + t.val, by omega⟩

/-- Two heads side by side at a lane of the first and of the second. -/
theorem twoHeads_apply (a b : FVec Ideal S64x128 .f32) (t : Fin 128) (d : Fin 64) :
    twoHeads a b (ix2 t (⟨d.val, by omega⟩ : Fin 128)) = a (ix2 d t) ∧ twoHeads a b (ix2 t (⟨64 + d.val, by omega⟩ : Fin 128)) = b (ix2 d t) := by
  have hd := d.isLt
  constructor
  all_goals
    pointwise [twoHeads]

theorem left_apply (o : FVec Ideal S64x256 .f32) (d : Fin 64) (t : Fin 128) : left o (ix2 d t) = o (ix2 d (low t)) := by
  pointwise [left, low]

theorem right_apply (o : FVec Ideal S64x256 .f32) (d : Fin 64) (t : Fin 128) : right o (ix2 d t) = o (ix2 d (high t)) := by
  pointwise [right, high]

/-- Four pairs of heads side by side, gated. -/
def joined (a b c e : FVec Ideal S128x128 .f32) (g : Vec Ideal S1x128x512 .bf16) : FVec Ideal S1x128x512 .bf16 :=
  shapeCast S1x128x512 (truncf .bf16 (mulf
    (concatenate S128x512 1 [⟨S128x128, a⟩, ⟨S128x128, b⟩, ⟨S128x128, c⟩, ⟨S128x128, e⟩] concatenates_S128x128_S128x128_S128x128_S128x128_S128x512_d1)
    (extf .f32 (shapeCast S128x512 g shapeCasts_S1x128x512_S128x512) bitsLt_bf16_f32)) bitsLt_bf16_f32) shapeCasts_S128x512_S1x128x512

theorem joined_apply (a b c e : FVec Ideal S128x128 .f32) (g : Vec Ideal S1x128x512 .bf16) (t : Fin 128) (l : Fin 512) :
    joined a b c e g (ix3 0 t l) =
      (if h : l.val < 128 then a (ix2 t (⟨l.val, h⟩ : Fin 128)) else
        if h : l.val - 128 < 128 then b (ix2 t (⟨l.val - 128, h⟩ : Fin 128)) else
          if h : l.val - 128 - 128 < 128 then c (ix2 t (⟨l.val - 128 - 128, h⟩ : Fin 128)) else
            e (ix2 t (⟨l.val - 128 - 128 - 128, by omega⟩ : Fin 128))) * g (ix3 0 t l) := by
  pointwise [joined]

theorem joined_at8 (a b c e : FVec Ideal S128x128 .f32) (g : Vec Ideal S1x128x512 .bf16) (t : Fin 128) (h : Fin 8) (d : Fin 64) (x : Fin 128)
    (hx : x.val = 64 * (h.val % 2) + d.val) :
    joined a b c e g (ix3 0 t (at8 h d)) = (![a, a, b, b, c, c, e, e] : Fin 8 → FVec Ideal S128x128 .f32) h (ix2 t x) * g (ix3 0 t (at8 h d)) := by
  rw [joined_apply]
  refine congrArg (· * _) ?_
  have hd := d.isLt
  have key : ∀ (y : FVec Ideal S128x128 .f32) (n : ℕ) (hn : n < 128), n = x.val → y (ix2 t (⟨n, hn⟩ : Fin 128)) = y (ix2 t x) := by
    rintro y n hn rfl
    rfl
  have hv : (at8 h d).val = 64 * h.val + d.val := rfl
  generalize at8 h d = l at hv ⊢
  fin_cases h
  all_goals
    dsimp only at hv hx
    first
      | (rw [dif_pos (by omega)]; exact key _ _ _ (by omega))
      | (rw [dif_neg (by omega), dif_pos (by omega)]; exact key _ _ _ (by omega))
      | (rw [dif_neg (by omega), dif_neg (by omega), dif_pos (by omega)]; exact key _ _ _ (by omega))
      | (rw [dif_neg (by omega), dif_neg (by omega), dif_neg (by omega)]; exact key _ _ _ (by omega))

theorem gated_apply (o00 o01 o10 o11 : FVec Ideal S64x256 .f32) (g : Vec Ideal S1x128x512 .bf16) (t : Fin 128) (h : Fin 8) (d : Fin 64) :
    gated o00 o01 o10 o11 g (ix3 0 t (at8 h d)) =
      (![o00, o01, o00, o01, o10, o11, o10, o11] : Fin 8 → FVec Ideal S64x256 .f32) h (ix2 d (column h t)) * g (ix3 0 t (at8 h d)) := by
  refine (joined_at8 _ _ _ _ g t h d ⟨64 * (h.val % 2) + d.val, by omega⟩ rfl).trans (congrArg (· * _) ?_)
  have h0 : (⟨64 * 0 + d.val, by omega⟩ : Fin 128) = ⟨d.val, by omega⟩ := Fin.ext (by simp)
  have e0 : (⟨128 * 0 + t.val, by omega⟩ : Fin 256) = low t := Fin.ext (by simp [low])
  fin_cases h
  · exact (congrArg (fun x => twoHeads (left o00) (left o01) (ix2 t x)) h0).trans ((twoHeads_apply _ _ t d).1.trans ((left_apply _ _ _).trans (congrArg (fun x => o00 (ix2 d x)) e0.symm)))
  · exact (twoHeads_apply (left o00) (left o01) t d).2.trans ((left_apply _ _ _).trans (congrArg (fun x => o01 (ix2 d x)) e0.symm))
  · exact (congrArg (fun x => twoHeads (right o00) (right o01) (ix2 t x)) h0).trans ((twoHeads_apply _ _ t d).1.trans (right_apply _ _ _))
  · exact (twoHeads_apply (right o00) (right o01) t d).2.trans (right_apply _ _ _)
  · exact (congrArg (fun x => twoHeads (left o10) (left o11) (ix2 t x)) h0).trans ((twoHeads_apply _ _ t d).1.trans ((left_apply _ _ _).trans (congrArg (fun x => o10 (ix2 d x)) e0.symm)))
  · exact (twoHeads_apply (left o10) (left o11) t d).2.trans ((left_apply _ _ _).trans (congrArg (fun x => o11 (ix2 d x)) e0.symm))
  · exact (congrArg (fun x => twoHeads (right o10) (right o11) (ix2 t x)) h0).trans ((twoHeads_apply _ _ t d).1.trans (right_apply _ _ _))
  · exact (twoHeads_apply (right o10) (right o11) t d).2.trans (right_apply _ _ _)

/-- Half of the lanes are zeroed in an even pair, the other half in an odd one. -/
theorem even_apply (t x : Fin 128) : even (ix2 t x) = if x.val < 64 then 1#1 else 0#1 := by
  pointwise [even]
  have h : ∀ x : Fin 128, IntOp.cmpi CmpIPredicate.slt (BitVec.ofNat 32 x) 64#32 = if x.val < 64 then 1#1 else 0#1 := by decide
  exact h x

theorem odd_apply (t x : Fin 128) : odd (ix2 t x) = if x.val < 64 then 0#1 else 1#1 := by
  pointwise [odd, even]
  have h : ∀ x : Fin 128, IntOp.xori (IntOp.cmpi CmpIPredicate.slt (BitVec.ofNat 32 x) 64#32) 1#1 = if x.val < 64 then 0#1 else 1#1 := by decide
  exact h x

/-- A sum over 128 lanes by halves. -/
theorem sum_halves (f : Fin 128 → EReal) :
    ∑ x, f x = (∑ x : Fin 64, f ⟨x.val, by omega⟩) + ∑ x : Fin 64, f ⟨64 + x.val, by omega⟩ := by
  exact Fin.sum_univ_add (a := 64) (b := 64) f

theorem dots_even (k : FVec Ideal S256x128 .bf16) (a b : FVec Ideal S128x128 .bf16) (c : Fin 256) (t : Fin 128) :
    dots k (pairOf even a b) (ix2 c (low t)) = ∑ x : Fin 64, k (ix2 c (⟨x.val, by omega⟩ : Fin 128)) * a (ix2 t (⟨x.val, by omega⟩ : Fin 128))
    ∧ dots k (pairOf even a b) (ix2 c (high t)) = ∑ x : Fin 64, k (ix2 c (⟨x.val, by omega⟩ : Fin 128)) * b (ix2 t (⟨x.val, by omega⟩ : Fin 128)) := by
  have ht := t.isLt
  constructor
  all_goals
    pointwise [dots, pairOf]
    rw [sum_halves]
    simp [low, high, even_apply, Scalar.select]

theorem dots_odd (k : FVec Ideal S256x128 .bf16) (a b : FVec Ideal S128x128 .bf16) (c : Fin 256) (t : Fin 128) :
    dots k (pairOf odd a b) (ix2 c (low t)) = ∑ x : Fin 64, k (ix2 c (⟨64 + x.val, by omega⟩ : Fin 128)) * a (ix2 t (⟨64 + x.val, by omega⟩ : Fin 128))
    ∧ dots k (pairOf odd a b) (ix2 c (high t)) = ∑ x : Fin 64, k (ix2 c (⟨64 + x.val, by omega⟩ : Fin 128)) * b (ix2 t (⟨64 + x.val, by omega⟩ : Fin 128)) := by
  have ht := t.isLt
  constructor
  all_goals
    pointwise [dots, pairOf]
    rw [sum_halves]
    simp [low, high, odd_apply, Scalar.select]

/-- The score of head `h` with key copy `kc`, for query `t` of the block and key `c` of the window. -/
def wscore (k : FVec Ideal S256x256 .bf16) (q : Vec Ideal S1x128x512 .bf16) (h : Fin 8) (kc : Fin 4) (t : Fin 128) (c : Fin 256) : EReal :=
  ∑ x : Fin 64, k (ix2 c (at4 kc x)) * q (ix3 0 t (at8 h x))

/-- A block of key lanes. -/
theorem kslice (k : FVec Ideal S256x256 .bf16) (o : ℕ) (hs : S256x256.Slices ![0, o] S256x128) (c : Fin 256) (x : Fin 128) (y : Fin 256)
    (hy : y.val = o + x.val) : extractStridedSlice S256x128 ![0, o] k hs (ix2 c x) = k (ix2 c y) := by
  refine congrArg k (funext fun a => Fin.ext ?_)
  match a with
  | ⟨0, _⟩ => exact Nat.zero_add _
  | ⟨1, _⟩ => exact hy.symm

/-- A block of query lanes. -/
theorem qslice (q : Vec Ideal S1x128x512 .bf16) (o : ℕ) (hs : S128x512.Slices ![0, o] S128x128) (t x : Fin 128) (y : Fin 512)
    (hy : y.val = o + x.val) :
    extractStridedSlice S128x128 ![0, o] (shapeCast S128x512 q shapeCasts_S1x128x512_S128x512) hs (ix2 t x) = q (ix3 0 t y) := by
  have e : ∀ l : Fin 512, shapeCast S128x512 q shapeCasts_S1x128x512_S128x512 (ix2 t l) = q (ix3 0 t l) := by
    intro l
    pointwise []
  refine Eq.trans ?_ (e y)
  refine congrArg (shapeCast S128x512 q shapeCasts_S1x128x512_S128x512) (funext fun a => Fin.ext ?_)
  match a with
  | ⟨0, _⟩ => exact Nat.zero_add _
  | ⟨1, _⟩ => exact hy.symm

theorem dots00_apply (k : FVec Ideal S256x256 .bf16) (q : Vec Ideal S1x128x512 .bf16) (c : Fin 256) (t : Fin 128) :
    dots00 k q (ix2 c (low t)) = wscore k q 0 0 t c ∧ dots00 k q (ix2 c (high t)) = wscore k q 2 0 t c := by
  unfold dots00 wscore
  rw [(dots_even _ _ _ _ _).1, (dots_even _ _ _ _ _).2]
  constructor
  all_goals
    refine Finset.sum_congr rfl fun x _ => congrArg₂ (· * ·) (kslice _ _ _ _ _ _ ?_) (qslice _ _ _ _ _ _ ?_)
    all_goals simp [at4, at8] <;> omega

theorem dots01_apply (k : FVec Ideal S256x256 .bf16) (q : Vec Ideal S1x128x512 .bf16) (c : Fin 256) (t : Fin 128) :
    dots01 k q (ix2 c (low t)) = wscore k q 1 3 t c ∧ dots01 k q (ix2 c (high t)) = wscore k q 3 3 t c := by
  unfold dots01 wscore
  rw [(dots_odd _ _ _ _ _).1, (dots_odd _ _ _ _ _).2]
  constructor
  all_goals
    refine Finset.sum_congr rfl fun x _ => congrArg₂ (· * ·) (kslice _ _ _ _ _ _ ?_) (qslice _ _ _ _ _ _ ?_)
    all_goals simp [at4, at8] <;> omega

theorem dots10_apply (k : FVec Ideal S256x256 .bf16) (q : Vec Ideal S1x128x512 .bf16) (c : Fin 256) (t : Fin 128) :
    dots10 k q (ix2 c (low t)) = wscore k q 4 2 t c ∧ dots10 k q (ix2 c (high t)) = wscore k q 6 2 t c := by
  unfold dots10 wscore
  rw [(dots_even _ _ _ _ _).1, (dots_even _ _ _ _ _).2]
  constructor
  all_goals
    refine Finset.sum_congr rfl fun x _ => congrArg₂ (· * ·) (kslice _ _ _ _ _ _ ?_) (qslice _ _ _ _ _ _ ?_)
    all_goals simp [at4, at8] <;> omega

theorem dots11_apply (k : FVec Ideal S256x256 .bf16) (q : Vec Ideal S1x128x512 .bf16) (c : Fin 256) (t : Fin 128) :
    dots11 k q (ix2 c (low t)) = wscore k q 5 1 t c ∧ dots11 k q (ix2 c (high t)) = wscore k q 7 1 t c := by
  unfold dots11 wscore
  rw [(dots_odd _ _ _ _ _).1, (dots_odd _ _ _ _ _).2]
  constructor
  all_goals
    refine Finset.sum_congr rfl fun x _ => congrArg₂ (· * ·) (kslice _ _ _ _ _ _ ?_) (qslice _ _ _ _ _ _ ?_)
    all_goals simp [at4, at8] <;> omega

/-- The sinks in base two. -/
def base2 (a : EReal) : EReal := a * (((Real.log 2)⁻¹ : ℝ) : EReal)

theorem sinkRow_apply (a b : EReal) (t : Fin 128) :
    sinkRow a b (ix2 0 (low t)) = base2 a ∧ sinkRow a b (ix2 0 (high t)) = base2 b := by
  have h : ∀ c : Fin 256, IntOp.cmpi CmpIPredicate.slt (BitVec.ofNat 32 c) 128#32 = if c.val < 128 then 1#1 else 0#1 := by decide +kernel
  have hn : (Named.named κ "log2e" 0x3FB8AA3B#32 : Ideal .f32) = (((Real.log 2)⁻¹ : ℝ) : EReal) :=
    IdealRules.named_const.ideal_named_scalar κ "log2e" _ _ rfl
  have ht := t.isLt
  constructor
  all_goals
    pointwise [sinkRow]
    rw [h, hn]
    simp [low, high, Scalar.select, base2]

/-- The rows at query `t`, head `h` and lane `d`. -/
theorem rows_apply (mk : IVec S256x256 1) (k : FVec Ideal S256x256 .bf16) (q : Vec Ideal S1x128x512 .bf16) (v0 v1 : FVec Ideal S64x256 .bf16)
    (z : Fin 8 → Elt Ideal .f32) (g : Vec Ideal S1x128x512 .bf16) (t : Fin 128) (h : Fin 8) (d : Fin 64) :
    rows mk k q v0 v1 (z 0) (z 1) (z 2) (z 3) (z 4) (z 5) (z 6) (z 7) g (ix3 0 t (at8 h d)) =
      lane (fun c => Scalar.select (mk (ix2 c (column h t))) (wscore k q h (copy h) t c) ⊥)
        (fun c => if h.val < 4 then v0 (ix2 d c) else v1 (ix2 d c)) (base2 (z h)) * g (ix3 0 t (at8 h d)) := by
  unfold rows
  rw [gated_apply]
  refine congrArg (· * _) ?_
  have hh : ∀ (s : FVec Ideal S256x256 .f32) (c col : Fin 256), hide mk s (ix2 c col) = Scalar.select (mk (ix2 c col)) (s (ix2 c col)) ⊥ := by
    intro s c col
    pointwise [hide]
    rw [ofBits_ninf]
  fin_cases h
  · refine (chain_apply _ _ _ d (column 0 t)).trans ?_
    rw [show column 0 t = low t from Fin.ext (by simp [column, low])]
    simp only [hh, (dots00_apply k q _ t).1, (sinkRow_apply _ _ t).1]
    rw [show low t = column 0 t from Fin.ext (by simp [column, low])]
    rfl
  · refine (chain_apply _ _ _ d (column 1 t)).trans ?_
    rw [show column 1 t = low t from Fin.ext (by simp [column, low])]
    simp only [hh, (dots01_apply k q _ t).1, (sinkRow_apply _ _ t).1]
    rw [show low t = column 1 t from Fin.ext (by simp [column, low])]
    rfl
  · refine (chain_apply _ _ _ d (column 2 t)).trans ?_
    rw [show column 2 t = high t from rfl]
    simp only [hh, (dots00_apply k q _ t).2, (sinkRow_apply _ _ t).2]
    rfl
  · refine (chain_apply _ _ _ d (column 3 t)).trans ?_
    rw [show column 3 t = high t from rfl]
    simp only [hh, (dots01_apply k q _ t).2, (sinkRow_apply _ _ t).2]
    rfl
  · refine (chain_apply _ _ _ d (column 4 t)).trans ?_
    rw [show column 4 t = low t from Fin.ext (by simp [column, low])]
    simp only [hh, (dots10_apply k q _ t).1, (sinkRow_apply _ _ t).1]
    rw [show low t = column 4 t from Fin.ext (by simp [column, low])]
    rfl
  · refine (chain_apply _ _ _ d (column 5 t)).trans ?_
    rw [show column 5 t = low t from Fin.ext (by simp [column, low])]
    simp only [hh, (dots11_apply k q _ t).1, (sinkRow_apply _ _ t).1]
    rw [show low t = column 5 t from Fin.ext (by simp [column, low])]
    rfl
  · refine (chain_apply _ _ _ d (column 6 t)).trans ?_
    rw [show column 6 t = high t from rfl]
    simp only [hh, (dots10_apply k q _ t).2, (sinkRow_apply _ _ t).2]
    rfl
  · refine (chain_apply _ _ _ d (column 7 t)).trans ?_
    rw [show column 7 t = high t from rfl]
    simp only [hh, (dots11_apply k q _ t).2, (sinkRow_apply _ _ t).2]
    rfl

end Cert.Kernel3Ideal.Swa
end
-- ==== Proof.Swa.Block.lean ====
module

public import proofs.«01_k».proof.Proof.Swa.Stored
public import proofs.«01_k».proof.Proof.Swa.Rows
public import Idealize.ShloMosaic.Lib.Pipeline.ValueKit.Tiles
public import Idealize.ShloMosaic.Lib.WholeRead
public import Idealize.ShloMosaic.Lib.Pipeline.ValueKit.Basic

/-!
# One block of the sliding-window kernel

What one grid point leaves in its output block: at row `r`, head `h` and lane `d`, the lane over the window of 256 keys
that starts at the row's query block. The point's keys and values are the 128 before its tile, then the tile's.
-/

@[expose] public section

set_option maxRecDepth 16384

noncomputable section

namespace Cert.Kernel3Ideal.Swa

open Cert.Kernel3Ideal Cert.Kernel3Ideal.Gen Idealize.ShloMosaic Idealize.ShloMosaic.TcCoe Idealize.SL.Sem
open Cert.Proof.Diff Cert.Proof.Swa

/-- The word test of `near`, as a condition on numbers. -/
theorem near_apply (c : Fin 256) (h : Fin 8) (t : Fin 128) :
    near (ix2 c (column h t)) = BitVec.ofBool (decide (t.val < c.val) && decide (c.val ≤ t.val + 128)) := by
  have e1 : ∀ x : Fin 256, IntOp.andi (BitVec.ofNat 32 x) 127#32 = BitVec.ofNat 32 (x.val % 128) := by decide +kernel
  have e2 : ∀ x : Fin 128, IntOp.addi (BitVec.ofNat 32 x) 128#32 = BitVec.ofNat 32 (x.val + 128) := by decide +kernel
  have e3 : (column h t).val % 128 = t.val := by simp only [column]; omega
  have ht := t.isLt
  have hc := c.isLt
  pointwise [near]
  rw [e1, e3, e2, WordCmp.cmpi_sgt_of_lt (by simp; omega) (by simp; omega), WordCmp.cmpi_sle_of_lt (by simp; omega) (by simp; omega),
    WordCmp.toNat_ofNat_of_lt (by omega), WordCmp.toNat_ofNat_of_lt (by omega), WordCmp.toNat_ofNat_of_lt (by omega), WordCmp.andi_ofBool]

theorem nearFirst_apply (i : Fin 2) (c : Fin 256) (h : Fin 8) (t : Fin 128) :
    nearFirst (BitVec.ofNat 32 i) (ix2 c (column h t)) =
      BitVec.ofBool ((decide (t.val < c.val) && decide (c.val ≤ t.val + 128)) && (decide (128 ≤ c.val) || decide (0 < i.val))) := by
  have e : nearFirst (BitVec.ofNat 32 i) (ix2 c (column h t)) = IntOp.andi (near (ix2 c (column h t)))
      (IntOp.ori (IntOp.cmpi CmpIPredicate.sge (BitVec.ofNat 32 c) 128#32) (IntOp.cmpi CmpIPredicate.sgt (BitVec.ofNat 32 i) 0#32)) := by
    pointwise [nearFirst]
    rfl
  have hc := c.isLt
  have hi := i.isLt
  rw [e, near_apply, WordCmp.cmpi_sge_of_lt (by simp; omega) (by simp), WordCmp.cmpi_sgt_of_lt (by simp; omega) (by simp),
    WordCmp.toNat_ofNat_of_lt (by omega), WordCmp.toNat_ofNat_of_lt (by omega), WordCmp.toNat_ofNat_of_lt (by omega), WordCmp.toNat_ofNat_of_lt (by omega), WordCmp.ori_ofBool, WordCmp.andi_ofBool]

theorem select_ofBool {α : Type} (b : Bool) (x y : α) : Scalar.select (BitVec.ofBool b) x y = if b = true then x else y := by
  cases b <;> rfl

/-- A load through a unit-stride rectangle of a whole buffer reads the entry at the offset plus the index. -/
theorem load_at {S : Shape} {e : EltTy} {sp : Space} {μ : Memref sig .tc sp S e} (hμ : μ.IsWhole)
    (X : S.Idx → Elt Ideal e) (off size : Fin S.rank → Nat) (inb : ∀ a, off a + size a ≤ S.size a)
    (x : (Rect.unit off size inb).shape.Idx) (i : S.Idx) (hi : ∀ a, (i a : Nat) = off a + x a) :
    View.readAt (Elt Ideal) μ.view (Rect.unit off size inb).toLoadRect (hμ.unread X) x = X i :=
  (hμ.readAt_unread X _ x).trans (View.ld_unit_apply_of X off size inb x i hi)

/-- The tile's keys with the 128 before them, and the same of the values. -/
def keys (x2 : S1x2048x256.Idx → EReal) (x3 : S1x128x256.Idx → EReal) (n : Fin 2176) (y : Fin 256) : EReal :=
  if h : n.val < 128 then x3 (ix3 0 ⟨n.val, h⟩ y) else x2 (ix3 0 ⟨n.val - 128, by omega⟩ y)
def vals (x4 : S1x128x2048.Idx → EReal) (x5 : S1x128x128.Idx → EReal) (d : Fin 128) (n : Fin 2176) : EReal :=
  if h : n.val < 128 then x5 (ix3 0 d ⟨n.val, h⟩) else x4 (ix3 0 d ⟨n.val - 128, by omega⟩)

/-- Whether key `c` of a window is seen by query `t`, in the window that starts `o` rows into tile `i`. -/
def seen (i : Fin 2) (o : ℕ) (t : Fin 128) (c : Fin 256) : Bool :=
  (decide (t.val < c.val) && decide (c.val ≤ t.val + 128)) && (decide (128 ≤ c.val) || decide (0 < i.val) || decide (0 < o))

/-- The tile's output at row `o + t`, head `h`, lane `d`. -/
def tileVal (i : Fin 2) (x0 : S8.Idx → EReal) (x1 : S1x2048x512.Idx → EReal) (x2 : S1x2048x256.Idx → EReal) (x3 : S1x128x256.Idx → EReal)
    (x4 : S1x128x2048.Idx → EReal) (x5 : S1x128x128.Idx → EReal) (x6 : S1x2048x512.Idx → EReal) (o : ℕ) (ho : o ≤ 1920)
    (t : Fin 128) (h : Fin 8) (d : Fin 64) : EReal :=
  lane (fun c => if seen i o t c = true then
      ∑ x : Fin 64, keys x2 x3 ⟨o + c.val, by omega⟩ (at4 (copy h) x) * x1 (ix3 0 ⟨o + t.val, by omega⟩ (at8 h x)) else ⊥)
    (fun c => vals x4 x5 ⟨64 * (h.val / 4) + d.val, by omega⟩ ⟨o + c.val, by omega⟩) (base2 (x0 (ix1 h)))
    * x6 (ix3 0 ⟨o + t.val, by omega⟩ (at8 h d))

section

variable (c : Dev nD) (i : grid0.Coords) (arg2 : Memref sig .tc .smem S8 .f32) (harg2 : arg2.IsWhole) (arg3 : Memref sig .tc .vmem S1x2048x512 .bf16) (harg3 : arg3.IsWhole) (arg4 : Memref sig .tc .vmem S1x2048x256 .bf16) (harg4 : arg4.IsWhole) (arg5 : Memref sig .tc .vmem S1x128x256 .bf16) (harg5 : arg5.IsWhole) (arg6 : Memref sig .tc .vmem S1x128x2048 .bf16) (harg6 : arg6.IsWhole) (arg7 : Memref sig .tc .vmem S1x128x128 .bf16) (harg7 : arg7.IsWhole) (arg8 : Memref sig .tc .vmem S1x2048x512 .bf16) (harg8 : arg8.IsWhole) (arg9 : Memref sig .tc .vmem S1x2048x512 .bf16) (harg9 : arg9.IsWhole) (x0 : Vec Ideal S8 .f32) (x1 : Vec Ideal S1x2048x512 .bf16) (x2 : Vec Ideal S1x2048x256 .bf16) (x3 : Vec Ideal S1x128x256 .bf16) (x4 : Vec Ideal S1x128x2048 .bf16) (x5 : Vec Ideal S1x128x128 .bf16) (x6 : Vec Ideal S1x2048x512 .bf16)

theorem keys_apply (n : Fin 2176) (y : Fin 256) : kernelRun0_A.sl.v4 c arg4 harg4 arg5 harg5 x2 x3 (ix2 n y) = keys x2 x3 n y := by
  unfold kernelRun0_A.sl.v4 kernelRun0_A.sl.v1 kernelRun0_A.sl.v3 keys
  pointwise []
  split_ifs with h
  · exact load_at _ _ _ _ _ _ _ (by intro a; match a with | ⟨0, _⟩ => rfl | ⟨1, _⟩ => exact (Nat.zero_add _).symm | ⟨2, _⟩ => exact (Nat.zero_add _).symm)
  · exact load_at _ _ _ _ _ _ _ (by intro a; match a with | ⟨0, _⟩ => rfl | ⟨1, _⟩ => exact (Nat.zero_add _).symm | ⟨2, _⟩ => exact (Nat.zero_add _).symm)
  · exact absurd rfl (by assumption)

theorem vals_apply (d : Fin 128) (n : Fin 2176) : kernelRun0_A.sl.v9 c arg6 harg6 arg7 harg7 x4 x5 (ix2 d n) = vals x4 x5 d n := by
  unfold kernelRun0_A.sl.v9 kernelRun0_A.sl.v6 kernelRun0_A.sl.v8 vals
  pointwise []
  split_ifs with h
  · exact load_at _ _ _ _ _ _ _ (by intro a; match a with | ⟨0, _⟩ => rfl | ⟨1, _⟩ => exact (Nat.zero_add _).symm | ⟨2, _⟩ => exact (Nat.zero_add _).symm)
  · exact load_at _ _ _ _ _ _ _ (by intro a; match a with | ⟨0, _⟩ => rfl | ⟨1, _⟩ => exact (Nat.zero_add _).symm | ⟨2, _⟩ => exact (Nat.zero_add _).symm)
  · exact absurd rfl (by assumption)

/-- The loaded sinks. -/
def sinks : Fin 8 → EReal :=
  ![kernelRun0_A.sl.r c arg2 harg2 x0, kernelRun0_A.sl.r_7 c arg2 harg2 x0, kernelRun0_A.sl.r_1 c arg2 harg2 x0,
    kernelRun0_A.sl.r_8 c arg2 harg2 x0, kernelRun0_A.sl.r_15 c arg2 harg2 x0, kernelRun0_A.sl.r_23 c arg2 harg2 x0,
    kernelRun0_A.sl.r_16 c arg2 harg2 x0, kernelRun0_A.sl.r_24 c arg2 harg2 x0]

theorem sinks_apply (h : Fin 8) : sinks c arg2 harg2 x0 h = x0 (ix1 h) := by
  fin_cases h
  all_goals
    refine load_at harg2 x0 _ _ _ _ _ ?_
    intro a
    match a with
    | ⟨0, _⟩ => rfl

theorem loadedRow_apply (mk : IVec S256x256 1) (o : Nat) (ho : o ≤ 1920) (inb : ∀ a, (![0, o, 0] : Fin 3 → Nat) a + S1x128x512.size a ≤ S1x2048x512.size a)
    (hk : S2176x256.Slices ![o, 0] S256x256) (h0 : S128x2176.Slices ![0, o] S64x256) (h1 : S128x2176.Slices ![64, o] S64x256)
    (i : Fin 2) (t : Fin 128) (h : Fin 8) (d : Fin 64) (hmk : ∀ x, mk (ix2 x (column h t)) = BitVec.ofBool (seen i o t x)) :
    loadedRow c arg2 harg2 arg3 harg3 arg4 harg4 arg5 harg5 arg6 harg6 arg7 harg7 arg8 harg8 x0 x1 x2 x3 x4 x5 x6 mk o inb hk h0 h1 (ix3 0 t (at8 h d))
      = tileVal i x0 x1 x2 x3 x4 x5 x6 o ho t h d := by
  unfold loadedRow rowAt
  refine (rows_apply mk _ _ _ _ (sinks c arg2 harg2 x0) _ t h d).trans ?_
  unfold tileVal
  have hl : ∀ {μ : Memref sig .tc .vmem S1x2048x512 .bf16} (hμ : μ.IsWhole) (X : Vec Ideal S1x2048x512 .bf16) (l : Fin 512),
      View.readAt (Elt Ideal) μ.view (Rect.unit (s := S1x2048x512) ![0, o, 0] S1x128x512.size inb).toLoadRect (hμ.unread X) (ix3 0 t l)
        = X (ix3 0 (⟨o + t.val, by omega⟩ : Fin 2048) l) := fun hμ X l =>
    load_at hμ X _ _ _ _ _ (by intro a; match a with | ⟨0, _⟩ => rfl | ⟨1, _⟩ => rfl | ⟨2, _⟩ => exact (Nat.zero_add _).symm)
  refine congrArg₂ (· * ·) ?_ (hl harg8 x6 (at8 h d))
  have ew : (fun x => Scalar.select (mk (ix2 x (column h t)))
        (wscore (extractStridedSlice S256x256 ![o, 0] (kernelRun0_A.sl.v4 c arg4 harg4 arg5 harg5 x2 x3) hk)
          (View.readAt (Elt Ideal) arg3.view (Rect.unit (s := S1x2048x512) ![0, o, 0] S1x128x512.size inb).toLoadRect (harg3.unread x1)) h (copy h) t x) ⊥)
      = fun x : Fin 256 => if seen i o t x = true then
          ∑ y : Fin 64, keys x2 x3 ⟨o + x.val, by omega⟩ (at4 (copy h) y) * x1 (ix3 0 ⟨o + t.val, by omega⟩ (at8 h y)) else ⊥ := by
    funext x
    rw [hmk, select_ofBool]
    refine if_congr Iff.rfl ?_ rfl
    unfold wscore
    refine Finset.sum_congr rfl fun y _ => congrArg₂ (· * ·) ?_ (hl harg3 x1 (at8 h y))
    refine Eq.trans ?_ (keys_apply c arg4 harg4 arg5 harg5 x2 x3 _ _)
    refine congrArg (kernelRun0_A.sl.v4 c arg4 harg4 arg5 harg5 x2 x3) (funext fun a => Fin.ext ?_)
    match a with
    | ⟨0, _⟩ => rfl
    | ⟨1, _⟩ => exact Nat.zero_add _
  have ev : (fun x : Fin 256 => if h.val < 4 then extractStridedSlice S64x256 ![0, o] (kernelRun0_A.sl.v9 c arg6 harg6 arg7 harg7 x4 x5) h0 (ix2 d x)
        else extractStridedSlice S64x256 ![64, o] (kernelRun0_A.sl.v9 c arg6 harg6 arg7 harg7 x4 x5) h1 (ix2 d x))
      = fun x : Fin 256 => vals x4 x5 ⟨64 * (h.val / 4) + d.val, by omega⟩ ⟨o + x.val, by omega⟩ := by
    funext x
    rw [← vals_apply c arg6 harg6 arg7 harg7 x4 x5]
    split_ifs with hh
    all_goals
      refine congrArg (kernelRun0_A.sl.v9 c arg6 harg6 arg7 harg7 x4 x5) (funext fun a => Fin.ext ?_)
    · match a with
      | ⟨0, _⟩ => show 0 + d.val = 64 * (h.val / 4) + d.val; omega
      | ⟨1, _⟩ => rfl
    · match a with
      | ⟨0, _⟩ => show 64 + d.val = 64 * (h.val / 4) + d.val; omega
      | ⟨1, _⟩ => rfl
  exact congr (congr (congrArg lane ew) ev) (congrArg base2 (sinks_apply c arg2 harg2 x0 h))

/-- The sixteen stored blocks, read back as one. -/
theorem out_apply (r : Fin 2048) (h : Fin 8) (d : Fin 64) :
    out0_A_7 c i arg2 harg2 arg3 harg3 arg4 harg4 arg5 harg5 arg6 harg6 arg7 harg7 arg8 harg8 arg9 harg9 x0 x1 x2 x3 x4 x5 x6 (ix3 0 r (at8 h d))
      = tileVal (i 1) x0 x1 x2 x3 x4 x5 x6 (128 * (r.val / 128)) (by omega) ⟨r.val % 128, by omega⟩ h d := by
  have fin : ∀ (w : FVec Ideal S1x128x512 .bf16) (o : ℕ) (ho : o ≤ 1920), o % 128 = 0 →
      (∀ t, w (ix3 0 t (at8 h d)) = tileVal (i 1) x0 x1 x2 x3 x4 x5 x6 o ho t h d) →
      View.TileAt (Val := Elt Ideal) (S := S1x2048x512) (e := .bf16) (ix3 0 r (at8 h d)) ![0, o, 0] S1x128x512.size w
        (tileVal (i 1) x0 x1 x2 x3 x4 x5 x6 (128 * (r.val / 128)) (by omega) ⟨r.val % 128, by omega⟩ h d) := by
    intro w o ho hm hw x hx
    have e0 : (r : ℕ) = o + (x 1 : ℕ) := hx 1
    have e1 : ((at8 h d : Fin 512) : ℕ) = 0 + (x 2 : ℕ) := hx 2
    have hx1 : (x 1 : ℕ) < 128 := (x 1).isLt
    have hx0 : (x 0 : ℕ) < 1 := (x 0).isLt
    have ex : x = ix3 0 (⟨r.val % 128, by omega⟩ : Fin 128) (at8 h d) := by
      funext a
      apply Fin.ext
      match a with
      | ⟨0, _⟩ => show (x 0 : ℕ) = 0; omega
      | ⟨1, _⟩ => show (x 1 : ℕ) = r.val % 128; omega
      | ⟨2, _⟩ => show (x 2 : ℕ) = (at8 h d : Fin 512).val; omega
    obtain rfl : o = 128 * (r.val / 128) := by omega
    exact (congrArg w ex).trans (hw _)
  have near' : ∀ (o : ℕ) (t : Fin 128), 0 < o → ∀ x, near (ix2 x (column h t)) = BitVec.ofBool (seen (i 1) o t x) := by
    intro o t ho x
    rw [near_apply]
    unfold seen
    rw [decide_eq_true ho, Bool.or_true, Bool.and_true]
  have first' : ∀ (t : Fin 128), ∀ x, nearFirst (BitVec.ofNat 32 (i 1)) (ix2 x (column h t)) = BitVec.ofBool (seen (i 1) 0 t x) := by
    intro t x
    refine (nearFirst_apply (i 1) x h t).trans ?_
    unfold seen
    rw [decide_eq_false (lt_irrefl 0), Bool.or_false]
  unfold out0_A_7 kernelRun0_A
  dsimp only
  rw [View.read_writes_junk_apply_eq_canon]
  refine View.canon_eq_of_allAt _ _ _ (View.cover_of_tiled_head _ _ _ (by rfl) _) ?_
  refine View.allAt_cons_unit _ _ _ _ _ (fin _ 1920 (by omega) (by omega) fun t =>
    (congrFun (store15 c arg2 harg2 arg3 harg3 arg4 harg4 arg5 harg5 arg6 harg6 arg7 harg7 arg8 harg8 x0 x1 x2 x3 x4 x5 x6) _).trans (loadedRow_apply c arg2 harg2 arg3 harg3 arg4 harg4 arg5 harg5 arg6 harg6 arg7 harg7 arg8 harg8 x0 x1 x2 x3 x4 x5 x6 _ 1920 (by omega) _ _ _ _ (i 1) t h d (near' 1920 t (by omega)))) ?_
  refine View.allAt_cons_unit _ _ _ _ _ (fin _ 1792 (by omega) (by omega) fun t =>
    (congrFun (store14 c arg2 harg2 arg3 harg3 arg4 harg4 arg5 harg5 arg6 harg6 arg7 harg7 arg8 harg8 x0 x1 x2 x3 x4 x5 x6) _).trans (loadedRow_apply c arg2 harg2 arg3 harg3 arg4 harg4 arg5 harg5 arg6 harg6 arg7 harg7 arg8 harg8 x0 x1 x2 x3 x4 x5 x6 _ 1792 (by omega) _ _ _ _ (i 1) t h d (near' 1792 t (by omega)))) ?_
  refine View.allAt_cons_unit _ _ _ _ _ (fin _ 1664 (by omega) (by omega) fun t =>
    (congrFun (store13 c arg2 harg2 arg3 harg3 arg4 harg4 arg5 harg5 arg6 harg6 arg7 harg7 arg8 harg8 x0 x1 x2 x3 x4 x5 x6) _).trans (loadedRow_apply c arg2 harg2 arg3 harg3 arg4 harg4 arg5 harg5 arg6 harg6 arg7 harg7 arg8 harg8 x0 x1 x2 x3 x4 x5 x6 _ 1664 (by omega) _ _ _ _ (i 1) t h d (near' 1664 t (by omega)))) ?_
  refine View.allAt_cons_unit _ _ _ _ _ (fin _ 1536 (by omega) (by omega) fun t =>
    (congrFun (store12 c arg2 harg2 arg3 harg3 arg4 harg4 arg5 harg5 arg6 harg6 arg7 harg7 arg8 harg8 x0 x1 x2 x3 x4 x5 x6) _).trans (loadedRow_apply c arg2 harg2 arg3 harg3 arg4 harg4 arg5 harg5 arg6 harg6 arg7 harg7 arg8 harg8 x0 x1 x2 x3 x4 x5 x6 _ 1536 (by omega) _ _ _ _ (i 1) t h d (near' 1536 t (by omega)))) ?_
  refine View.allAt_cons_unit _ _ _ _ _ (fin _ 1408 (by omega) (by omega) fun t =>
    (congrFun (store11 c arg2 harg2 arg3 harg3 arg4 harg4 arg5 harg5 arg6 harg6 arg7 harg7 arg8 harg8 x0 x1 x2 x3 x4 x5 x6) _).trans (loadedRow_apply c arg2 harg2 arg3 harg3 arg4 harg4 arg5 harg5 arg6 harg6 arg7 harg7 arg8 harg8 x0 x1 x2 x3 x4 x5 x6 _ 1408 (by omega) _ _ _ _ (i 1) t h d (near' 1408 t (by omega)))) ?_
  refine View.allAt_cons_unit _ _ _ _ _ (fin _ 1280 (by omega) (by omega) fun t =>
    (congrFun (store10 c arg2 harg2 arg3 harg3 arg4 harg4 arg5 harg5 arg6 harg6 arg7 harg7 arg8 harg8 x0 x1 x2 x3 x4 x5 x6) _).trans (loadedRow_apply c arg2 harg2 arg3 harg3 arg4 harg4 arg5 harg5 arg6 harg6 arg7 harg7 arg8 harg8 x0 x1 x2 x3 x4 x5 x6 _ 1280 (by omega) _ _ _ _ (i 1) t h d (near' 1280 t (by omega)))) ?_
  refine View.allAt_cons_unit _ _ _ _ _ (fin _ 1152 (by omega) (by omega) fun t =>
    (congrFun (store9 c arg2 harg2 arg3 harg3 arg4 harg4 arg5 harg5 arg6 harg6 arg7 harg7 arg8 harg8 x0 x1 x2 x3 x4 x5 x6) _).trans (loadedRow_apply c arg2 harg2 arg3 harg3 arg4 harg4 arg5 harg5 arg6 harg6 arg7 harg7 arg8 harg8 x0 x1 x2 x3 x4 x5 x6 _ 1152 (by omega) _ _ _ _ (i 1) t h d (near' 1152 t (by omega)))) ?_
  refine View.allAt_cons_unit _ _ _ _ _ (fin _ 1024 (by omega) (by omega) fun t =>
    (congrFun (store8 c arg2 harg2 arg3 harg3 arg4 harg4 arg5 harg5 arg6 harg6 arg7 harg7 arg8 harg8 x0 x1 x2 x3 x4 x5 x6) _).trans (loadedRow_apply c arg2 harg2 arg3 harg3 arg4 harg4 arg5 harg5 arg6 harg6 arg7 harg7 arg8 harg8 x0 x1 x2 x3 x4 x5 x6 _ 1024 (by omega) _ _ _ _ (i 1) t h d (near' 1024 t (by omega)))) ?_
  refine View.allAt_cons_unit _ _ _ _ _ (fin _ 896 (by omega) (by omega) fun t =>
    (congrFun (store7 c arg2 harg2 arg3 harg3 arg4 harg4 arg5 harg5 arg6 harg6 arg7 harg7 arg8 harg8 x0 x1 x2 x3 x4 x5 x6) _).trans (loadedRow_apply c arg2 harg2 arg3 harg3 arg4 harg4 arg5 harg5 arg6 harg6 arg7 harg7 arg8 harg8 x0 x1 x2 x3 x4 x5 x6 _ 896 (by omega) _ _ _ _ (i 1) t h d (near' 896 t (by omega)))) ?_
  refine View.allAt_cons_unit _ _ _ _ _ (fin _ 768 (by omega) (by omega) fun t =>
    (congrFun (store6 c arg2 harg2 arg3 harg3 arg4 harg4 arg5 harg5 arg6 harg6 arg7 harg7 arg8 harg8 x0 x1 x2 x3 x4 x5 x6) _).trans (loadedRow_apply c arg2 harg2 arg3 harg3 arg4 harg4 arg5 harg5 arg6 harg6 arg7 harg7 arg8 harg8 x0 x1 x2 x3 x4 x5 x6 _ 768 (by omega) _ _ _ _ (i 1) t h d (near' 768 t (by omega)))) ?_
  refine View.allAt_cons_unit _ _ _ _ _ (fin _ 640 (by omega) (by omega) fun t =>
    (congrFun (store5 c arg2 harg2 arg3 harg3 arg4 harg4 arg5 harg5 arg6 harg6 arg7 harg7 arg8 harg8 x0 x1 x2 x3 x4 x5 x6) _).trans (loadedRow_apply c arg2 harg2 arg3 harg3 arg4 harg4 arg5 harg5 arg6 harg6 arg7 harg7 arg8 harg8 x0 x1 x2 x3 x4 x5 x6 _ 640 (by omega) _ _ _ _ (i 1) t h d (near' 640 t (by omega)))) ?_
  refine View.allAt_cons_unit _ _ _ _ _ (fin _ 512 (by omega) (by omega) fun t =>
    (congrFun (store4 c arg2 harg2 arg3 harg3 arg4 harg4 arg5 harg5 arg6 harg6 arg7 harg7 arg8 harg8 x0 x1 x2 x3 x4 x5 x6) _).trans (loadedRow_apply c arg2 harg2 arg3 harg3 arg4 harg4 arg5 harg5 arg6 harg6 arg7 harg7 arg8 harg8 x0 x1 x2 x3 x4 x5 x6 _ 512 (by omega) _ _ _ _ (i 1) t h d (near' 512 t (by omega)))) ?_
  refine View.allAt_cons_unit _ _ _ _ _ (fin _ 384 (by omega) (by omega) fun t =>
    (congrFun (store3 c arg2 harg2 arg3 harg3 arg4 harg4 arg5 harg5 arg6 harg6 arg7 harg7 arg8 harg8 x0 x1 x2 x3 x4 x5 x6) _).trans (loadedRow_apply c arg2 harg2 arg3 harg3 arg4 harg4 arg5 harg5 arg6 harg6 arg7 harg7 arg8 harg8 x0 x1 x2 x3 x4 x5 x6 _ 384 (by omega) _ _ _ _ (i 1) t h d (near' 384 t (by omega)))) ?_
  refine View.allAt_cons_unit _ _ _ _ _ (fin _ 256 (by omega) (by omega) fun t =>
    (congrFun (store2 c arg2 harg2 arg3 harg3 arg4 harg4 arg5 harg5 arg6 harg6 arg7 harg7 arg8 harg8 x0 x1 x2 x3 x4 x5 x6) _).trans (loadedRow_apply c arg2 harg2 arg3 harg3 arg4 harg4 arg5 harg5 arg6 harg6 arg7 harg7 arg8 harg8 x0 x1 x2 x3 x4 x5 x6 _ 256 (by omega) _ _ _ _ (i 1) t h d (near' 256 t (by omega)))) ?_
  refine View.allAt_cons_unit _ _ _ _ _ (fin _ 128 (by omega) (by omega) fun t =>
    (congrFun (store1 c arg2 harg2 arg3 harg3 arg4 harg4 arg5 harg5 arg6 harg6 arg7 harg7 arg8 harg8 x0 x1 x2 x3 x4 x5 x6) _).trans (loadedRow_apply c arg2 harg2 arg3 harg3 arg4 harg4 arg5 harg5 arg6 harg6 arg7 harg7 arg8 harg8 x0 x1 x2 x3 x4 x5 x6 _ 128 (by omega) _ _ _ _ (i 1) t h d (near' 128 t (by omega)))) ?_
  refine View.allAt_cons_unit _ _ _ _ _ (fin _ 0 (by omega) (by omega) fun t =>
    (congrFun (store0 c i arg2 harg2 arg3 harg3 arg4 harg4 arg5 harg5 arg6 harg6 arg7 harg7 arg8 harg8 x0 x1 x2 x3 x4 x5 x6) _).trans (loadedRow_apply c arg2 harg2 arg3 harg3 arg4 harg4 arg5 harg5 arg6 harg6 arg7 harg7 arg8 harg8 x0 x1 x2 x3 x4 x5 x6 _ 0 (by omega) _ _ _ _ (i 1) t h d (first' t))) ?_
  exact View.allAt_nil _ _

end

end Cert.Kernel3Ideal.Swa
end
-- ==== Proof.Swa.Array.lean ====
module

public import proofs.«01_k».proof.Proof.Swa.Block
public import proofs.«01_k».proof.Proof.Gen.Kernel3Ideal.Value

/-!
# The sliding-window kernel's output array

Grid point `t` holds batch `t / 2` and half `t % 2` of its queries, keys and values, and the 128 keys and values before that
half. The first half has none before it, and its windows hide them. So the array after the run is one formula of the
arguments at every index (`Cert.Proof.Swa.result`), where the sinks, queries and keys are real.
-/

@[expose] public section

set_option maxRecDepth 16384

noncomputable section

namespace Cert.Kernel3Ideal.Swa

open Cert.Kernel3Ideal Cert.Kernel3Ideal.Gen Idealize.ShloMosaic Idealize.ShloMosaic.TcCoe Idealize.SL.Sem
open Cert.Proof.Diff Cert.Proof.Swa

/-- Base two and back. -/
theorem base2_mul (a : EReal) (ha : IsReal a) : base2 a * (ln2 : EReal) = a := by
  obtain ⟨x, rfl⟩ := ha
  have hpos : Real.log 2 ≠ 0 := (Real.log_pos one_lt_two).ne'
  unfold base2
  rw [← EReal.coe_mul, ← EReal.coe_mul]
  refine congrArg _ ?_
  show x * (Real.log 2)⁻¹ * Real.log 2 = x
  rw [mul_assoc, inv_mul_cancel₀ hpos, mul_one]

theorem base2_real (a : EReal) (ha : IsReal a) : IsReal (base2 a) := ha.mul ⟨_, rfl⟩

/-- Row `r` of half `i`. -/
def rowOf (i : Fin 2) (r : Fin 2048) : Fin 4096 := ⟨2048 * i.val + r.val, by omega⟩

section

variable (z : S8.Idx → EReal) (Q : S8x4096x512.Idx → EReal) (K : S8x4096x256.Idx → EReal) (V : S8x128x4096.Idx → EReal)
  (G : S8x4096x512.Idx → EReal)

/-- A score is not plus infinity. -/
theorem score_ne_top (hQ : ∀ i, IsReal (Q i)) (hK : ∀ i, IsReal (K i)) (b h : Fin 8) (P k : Fin 4096) : score Q K b h P k ≠ ⊤ := by
  unfold score
  split
  · exact (isReal_sum _ _ fun x _ => (hQ _).mul (hK _)).ne_top
  · exact bot_ne_top

/-- A grid point's output is the result at its rows. -/
theorem tile_eq (hz : ∀ i, IsReal (z i)) (hQ : ∀ i, IsReal (Q i)) (hK : ∀ i, IsReal (K i))
    (b : Fin 8) (i : Fin 2)
    (x0 : S8.Idx → EReal) (x1 : S1x2048x512.Idx → EReal) (x2 : S1x2048x256.Idx → EReal) (x3 : S1x128x256.Idx → EReal)
    (x4 : S1x128x2048.Idx → EReal) (x5 : S1x128x128.Idx → EReal) (x6 : S1x2048x512.Idx → EReal)
    (h0 : ∀ h, x0 (ix1 h) = z (ix1 h)) (h1 : ∀ r l, x1 (ix3 0 r l) = Q (ix3 b (rowOf i r) l))
    (h2 : ∀ r y, x2 (ix3 0 r y) = K (ix3 b (rowOf i r) y))
    (h3 : ∀ (r : Fin 128) y, 0 < i.val → x3 (ix3 0 r y) = K (ix3 b ⟨1920 + r.val, by omega⟩ y))
    (h4 : ∀ d r, x4 (ix3 0 d r) = V (ix3 b d (rowOf i r)))
    (h5 : ∀ d (r : Fin 128), 0 < i.val → x5 (ix3 0 d r) = V (ix3 b d ⟨1920 + r.val, by omega⟩))
    (h6 : ∀ r l, x6 (ix3 0 r l) = G (ix3 b (rowOf i r) l))
    (o : ℕ) (ho : o ≤ 1920) (hm : o % 128 = 0) (t : Fin 128) (h : Fin 8) (d : Fin 64) :
    tileVal i x0 x1 x2 x3 x4 x5 x6 o ho t h d = result z Q K V G b h (rowOf i ⟨o + t.val, by omega⟩) d := by
  have hi := i.isLt
  have hk : ∀ (n : Fin 2176) (y : Fin 256) (hn : 128 ≤ 2048 * i.val + n.val),
      keys x2 x3 n y = K (ix3 b ⟨2048 * i.val + n.val - 128, by omega⟩ y) := by
    intro n y hn
    unfold keys
    split
    · rename_i hl
      rw [h3 _ _ (by omega)]
      refine congrArg (fun p => K (ix3 b p y)) (Fin.ext ?_)
      show 1920 + n.val = 2048 * i.val + n.val - 128
      omega
    · rw [h2]
      refine congrArg (fun p => K (ix3 b p y)) (Fin.ext ?_)
      show 2048 * i.val + (n.val - 128) = 2048 * i.val + n.val - 128
      omega
  have hv : ∀ (e : Fin 128) (n : Fin 2176) (hn : 128 ≤ 2048 * i.val + n.val),
      vals x4 x5 e n = V (ix3 b e ⟨2048 * i.val + n.val - 128, by omega⟩) := by
    intro e n hn
    unfold vals
    split
    · rename_i hl
      rw [h5 _ _ (by omega)]
      refine congrArg (fun p => V (ix3 b e p)) (Fin.ext ?_)
      show 1920 + n.val = 2048 * i.val + n.val - 128
      omega
    · rw [h4]
      refine congrArg (fun p => V (ix3 b e p)) (Fin.ext ?_)
      show 2048 * i.val + (n.val - 128) = 2048 * i.val + n.val - 128
      omega
  have hseen : ∀ c : Fin 256, seen i o t c = true ↔ (t.val < c.val ∧ c.val ≤ t.val + 128) ∧ ((128 ≤ c.val ∨ 0 < i.val) ∨ 0 < o) := by
    intro c
    simp only [seen, Bool.and_eq_true, Bool.or_eq_true, decide_eq_true_eq]
  unfold tileVal result
  refine congrArg₂ (· * ·) ?_ (h6 _ _)
  rw [h0]
  refine (lane_eq_soft (score Q K b h (rowOf i ⟨o + t.val, by omega⟩)) (fun k => V (ix3 b (pair h d) k)) _ _ (base2 (z (ix1 h)))
    (2048 * i.val + o) (by omega) (base2_real _ (hz _)) (score_ne_top Q K hQ hK b h _) ?_ ?_ ?_ ?_).trans ?_
  · intro c hc
    unfold score
    refine (if_congr ?_ ?_ rfl)
    · rw [hseen]
      show _ ↔ 2048 * i.val + (o + t.val) < 2048 * i.val + o + c.val - 128 + 128 ∧ 2048 * i.val + o + c.val - 128 ≤ 2048 * i.val + (o + t.val)
      omega
    · refine Finset.sum_congr rfl fun x _ => ?_
      rw [h1, hk _ _ (by show 128 ≤ 2048 * i.val + (o + c.val); omega), mul_comm]
      refine congrArg (fun p => _ * K (ix3 b p _)) (Fin.ext ?_)
      show 2048 * i.val + (o + c.val) - 128 = 2048 * i.val + o + c.val - 128
      omega
  · intro c hc
    refine if_neg fun hs => ?_
    rw [hseen] at hs
    omega
  · intro c hc
    refine (hv _ _ (by show 128 ≤ 2048 * i.val + (o + c.val); omega)).trans ?_
    refine congrArg (fun p => V (ix3 b (pair h d) p)) (Fin.ext ?_)
    show 2048 * i.val + (o + c.val) - 128 = 2048 * i.val + o + c.val - 128
    omega
  · intro k hk'
    refine if_neg fun hs => ?_
    have s1 : 2048 * i.val + (o + t.val) < k.val + 128 := hs.1
    have s2 : k.val ≤ 2048 * i.val + (o + t.val) := hs.2
    have ht := t.isLt
    omega
  · rw [base2_mul _ (hz _)]

end

variable (m : (ℓ : Loc nD τ sig) → Buf (Elt Ideal) ℓ)

/-- Where each window's block sits. -/
theorem idx_facts : ∀ t : Fin cfg0.N,
    (grid0.coords t 1).val = t.val % 2
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = t.val % 2 ∧ win0_2.index t (2 : Fin 3) = 0
    ∧ win0_3.index t (0 : Fin 3) = t.val / 2 ∧ win0_3.index t (1 : Fin 3) = t.val % 2 * 15 ∧ win0_3.index t (2 : Fin 3) = 0
    ∧ win0_4.index t (0 : Fin 3) = t.val / 2 ∧ win0_4.index t (1 : Fin 3) = 0 ∧ win0_4.index t (2 : Fin 3) = t.val % 2
    ∧ win0_5.index t (0 : Fin 3) = t.val / 2 ∧ win0_5.index t (1 : Fin 3) = 0 ∧ win0_5.index t (2 : Fin 3) = t.val % 2 * 15
    ∧ win0_6.index t (0 : Fin 3) = t.val / 2 ∧ win0_6.index t (1 : Fin 3) = t.val % 2 ∧ win0_6.index t (2 : Fin 3) = 0
    ∧ win0_7.index t (0 : Fin 3) = t.val / 2 ∧ win0_7.index t (1 : Fin 3) = t.val % 2 ∧ win0_7.index t (2 : Fin 3) = 0
    ∧ win0_0.index t (0 : Fin 1) = 0 :=
  (by decide +kernel : ∀ t : Fin grid0.N, _)

/-- The batch and the half of grid point `t`. -/
def batchOf (t : Fin cfg0.N) : Fin 8 := ⟨t.val / 2, by have := (show t.val < 16 from t.isLt); omega⟩
def halfOf (t : Fin cfg0.N) : Fin 2 := ⟨t.val % 2, by omega⟩

theorem blk0_apply (c : Dev nD) (t : Fin cfg0.N) (h : Fin 8) :
    (show S8.Idx → EReal from iblk m c 0 t) (ix1 h) = (show S8.Idx → EReal from m ((c : Thread nD τ).loc main_arg0)) (ix1 h) := by
  have f := idx_facts t
  show V m c main_arg0 (((cfg0.win 0).blk t).view.emb (ix1 h)) = V m c main_arg0 (ix1 h)
  refine congrArg _ (funext fun a => Fin.ext ?_)
  match a with
  | ⟨0, _⟩ => show win0_0.index t (0 : Fin 1) * 8 + 1 * h.val = h.val; omega

theorem blk1_apply (c : Dev nD) (t : Fin cfg0.N) (r : Fin 2048) (l : Fin 512) :
    (show S1x2048x512.Idx → EReal from iblk m c 1 t) (ix3 0 r l)
      = (show S8x4096x512.Idx → EReal from m ((c : Thread nD τ).loc main_arg1)) (ix3 (batchOf t) (rowOf (halfOf t) r) l) := by
  have f := idx_facts t
  show V m c main_arg1 (((cfg0.win 1).blk t).view.emb (ix3 0 r l)) = V m c main_arg1 (ix3 (batchOf t) (rowOf (halfOf t) r) l)
  refine congrArg _ (funext fun a => Fin.ext ?_)
  match a with
  | ⟨0, _⟩ => show win0_1.index t (0 : Fin 3) * 1 + 1 * 0 = t.val / 2; omega
  | ⟨1, _⟩ => show win0_1.index t (1 : Fin 3) * 2048 + 1 * r.val = 2048 * (t.val % 2) + r.val; omega
  | ⟨2, _⟩ => show win0_1.index t (2 : Fin 3) * 512 + 1 * l.val = l.val; omega

theorem blk2_apply (c : Dev nD) (t : Fin cfg0.N) (r : Fin 2048) (l : Fin 256) :
    (show S1x2048x256.Idx → EReal from iblk m c 2 t) (ix3 0 r l)
      = (show S8x4096x256.Idx → EReal from m ((c : Thread nD τ).loc main_arg2)) (ix3 (batchOf t) (rowOf (halfOf t) r) l) := by
  have f := idx_facts t
  show V m c main_arg2 (((cfg0.win 2).blk t).view.emb (ix3 0 r l)) = V m c main_arg2 (ix3 (batchOf t) (rowOf (halfOf t) r) l)
  refine congrArg _ (funext fun a => Fin.ext ?_)
  match a with
  | ⟨0, _⟩ => show win0_2.index t (0 : Fin 3) * 1 + 1 * 0 = t.val / 2; omega
  | ⟨1, _⟩ => show win0_2.index t (1 : Fin 3) * 2048 + 1 * r.val = 2048 * (t.val % 2) + r.val; omega
  | ⟨2, _⟩ => show win0_2.index t (2 : Fin 3) * 256 + 1 * l.val = l.val; omega

theorem blk3_apply (c : Dev nD) (t : Fin cfg0.N) (r : Fin 128) (l : Fin 256) (ht : 0 < (halfOf t).val) :
    (show S1x128x256.Idx → EReal from iblk m c 3 t) (ix3 0 r l)
      = (show S8x4096x256.Idx → EReal from m ((c : Thread nD τ).loc main_arg2)) (ix3 (batchOf t) ⟨1920 + r.val, by omega⟩ l) := by
  have f := idx_facts t
  have ht' : 0 < t.val % 2 := ht
  show V m c main_arg2 (((cfg0.win 3).blk t).view.emb (ix3 0 r l)) = V m c main_arg2 (ix3 (batchOf t) ⟨1920 + r.val, by omega⟩ l)
  refine congrArg _ (funext fun a => Fin.ext ?_)
  match a with
  | ⟨0, _⟩ => show win0_3.index t (0 : Fin 3) * 1 + 1 * 0 = t.val / 2; omega
  | ⟨1, _⟩ => show win0_3.index t (1 : Fin 3) * 128 + 1 * r.val = 1920 + r.val; omega
  | ⟨2, _⟩ => show win0_3.index t (2 : Fin 3) * 256 + 1 * l.val = l.val; omega

theorem blk4_apply (c : Dev nD) (t : Fin cfg0.N) (d : Fin 128) (r : Fin 2048) :
    (show S1x128x2048.Idx → EReal from iblk m c 4 t) (ix3 0 d r)
      = (show S8x128x4096.Idx → EReal from m ((c : Thread nD τ).loc main_arg3)) (ix3 (batchOf t) d (rowOf (halfOf t) r)) := by
  have f := idx_facts t
  show V m c main_arg3 (((cfg0.win 4).blk t).view.emb (ix3 0 d r)) = V m c main_arg3 (ix3 (batchOf t) d (rowOf (halfOf t) r))
  refine congrArg _ (funext fun a => Fin.ext ?_)
  match a with
  | ⟨0, _⟩ => show win0_4.index t (0 : Fin 3) * 1 + 1 * 0 = t.val / 2; omega
  | ⟨1, _⟩ => show win0_4.index t (1 : Fin 3) * 128 + 1 * d.val = d.val; omega
  | ⟨2, _⟩ => show win0_4.index t (2 : Fin 3) * 2048 + 1 * r.val = 2048 * (t.val % 2) + r.val; omega

theorem blk5_apply (c : Dev nD) (t : Fin cfg0.N) (d : Fin 128) (r : Fin 128) (ht : 0 < (halfOf t).val) :
    (show S1x128x128.Idx → EReal from iblk m c 5 t) (ix3 0 d r)
      = (show S8x128x4096.Idx → EReal from m ((c : Thread nD τ).loc main_arg3)) (ix3 (batchOf t) d ⟨1920 + r.val, by omega⟩) := by
  have f := idx_facts t
  have ht' : 0 < t.val % 2 := ht
  show V m c main_arg3 (((cfg0.win 5).blk t).view.emb (ix3 0 d r)) = V m c main_arg3 (ix3 (batchOf t) d ⟨1920 + r.val, by omega⟩)
  refine congrArg _ (funext fun a => Fin.ext ?_)
  match a with
  | ⟨0, _⟩ => show win0_5.index t (0 : Fin 3) * 1 + 1 * 0 = t.val / 2; omega
  | ⟨1, _⟩ => show win0_5.index t (1 : Fin 3) * 128 + 1 * d.val = d.val; omega
  | ⟨2, _⟩ => show win0_5.index t (2 : Fin 3) * 128 + 1 * r.val = 1920 + r.val; omega

theorem blk6_apply (c : Dev nD) (t : Fin cfg0.N) (r : Fin 2048) (l : Fin 512) :
    (show S1x2048x512.Idx → EReal from iblk m c 6 t) (ix3 0 r l)
      = (show S8x4096x512.Idx → EReal from m ((c : Thread nD τ).loc main_arg4)) (ix3 (batchOf t) (rowOf (halfOf t) r) l) := by
  have f := idx_facts t
  show V m c main_arg4 (((cfg0.win 6).blk t).view.emb (ix3 0 r l)) = V m c main_arg4 (ix3 (batchOf t) (rowOf (halfOf t) r) l)
  refine congrArg _ (funext fun a => Fin.ext ?_)
  match a with
  | ⟨0, _⟩ => show win0_6.index t (0 : Fin 3) * 1 + 1 * 0 = t.val / 2; omega
  | ⟨1, _⟩ => show win0_6.index t (1 : Fin 3) * 2048 + 1 * r.val = 2048 * (t.val % 2) + r.val; omega
  | ⟨2, _⟩ => show win0_6.index t (2 : Fin 3) * 512 + 1 * l.val = l.val; omega

/-- The block grid point `t` leaves in its output buffer. -/
theorem outsAt_apply (c : Dev nD) (t : Fin cfg0.N)
    (h0 : ∀ i, IsReal ((show S8.Idx → EReal from m ((c : Thread nD τ).loc main_arg0)) i))
    (h1 : ∀ i, IsReal ((show S8x4096x512.Idx → EReal from m ((c : Thread nD τ).loc main_arg1)) i))
    (h2 : ∀ i, IsReal ((show S8x4096x256.Idx → EReal from m ((c : Thread nD τ).loc main_arg2)) i))
    (r : Fin 2048) (h : Fin 8) (d : Fin 64) :
    outsAt0 m c t (ix3 0 r (at8 h d))
      = result (m ((c : Thread nD τ).loc main_arg0)) (m ((c : Thread nD τ).loc main_arg1)) (m ((c : Thread nD τ).loc main_arg2))
          (m ((c : Thread nD τ).loc main_arg3)) (m ((c : Thread nD τ).loc main_arg4)) (batchOf t) h (rowOf (halfOf t) r) d := by
  have hi : (show Fin 2 from grid0.coords t 1) = halfOf t := Fin.ext (idx_facts t).1
  unfold outsAt0
  refine (out_apply c (grid0.coords t) _ _ _ _ _ _ _ _ _ _ _ _ _ _ _ _ (iblk m c 0 t) (iblk m c 1 t) (iblk m c 2 t) (iblk m c 3 t)
    (iblk m c 4 t) (iblk m c 5 t) (iblk m c 6 t) r h d).trans ?_
  refine (tile_eq _ _ _ (m ((c : Thread nD τ).loc main_arg3)) (m ((c : Thread nD τ).loc main_arg4)) h0 h1 h2 (batchOf t) _ _ _ _ _ _ _ _ (blk0_apply m c t) ?_ ?_ ?_ ?_ ?_ ?_
    (128 * (r.val / 128)) (by omega) (by omega) ⟨r.val % 128, by omega⟩ h d).trans ?_
  · intro p l
    refine (blk1_apply m c t p l).trans ?_
    rw [← hi]
  · intro p l
    refine (blk2_apply m c t p l).trans ?_
    rw [← hi]
  · intro p l hp
    exact blk3_apply m c t p l (by rw [← hi]; exact hp)
  · intro p l
    refine (blk4_apply m c t p l).trans ?_
    rw [← hi]
  · intro p l hp
    exact blk5_apply m c t p l (by rw [← hi]; exact hp)
  · intro p l
    refine (blk6_apply m c t p l).trans ?_
    rw [← hi]
  · refine congrArg (fun P => result _ _ _ _ _ (batchOf t) h P d) (Fin.ext ?_)
    have f := idx_facts t
    show 2048 * (grid0.coords t 1).val + (128 * (r.val / 128) + r.val % 128) = 2048 * (t.val % 2) + r.val
    omega

/-- The output array after the run. -/
theorem final_apply (c : Dev nD)
    (h0 : ∀ i, IsReal ((show S8.Idx → EReal from m ((c : Thread nD τ).loc main_arg0)) i))
    (h1 : ∀ i, IsReal ((show S8x4096x512.Idx → EReal from m ((c : Thread nD τ).loc main_arg1)) i))
    (h2 : ∀ i, IsReal ((show S8x4096x256.Idx → EReal from m ((c : Thread nD τ).loc main_arg2)) i))
    (b h : Fin 8) (P : Fin 4096) (d : Fin 64) :
    (show S8x4096x512.Idx → EReal from (dats m 0 c).arrAt 7 cfg0.N) (ix3 b P (at8 h d))
      = result (m ((c : Thread nD τ).loc main_arg0)) (m ((c : Thread nD τ).loc main_arg1)) (m ((c : Thread nD τ).loc main_arg2))
          (m ((c : Thread nD τ).loc main_arg3)) (m ((c : Thread nD τ).loc main_arg4)) b h P d := by
  obtain ⟨t, ht⟩ : ∃ t : Fin cfg0.N, t.val = 2 * b.val + P.val / 2048 := ⟨⟨2 * b.val + P.val / 2048, by show _ < 16; omega⟩, rfl⟩
  have f := idx_facts t
  have e := congrFun (Value.blocks7 m c t (flush0_7 t)) (ix3 0 ⟨P.val % 2048, by omega⟩ (at8 h d))
  rw [Value.flushed7] at e
  have he : ((cfg0.win 7).blk t).view.emb (ix3 0 ⟨P.val % 2048, by omega⟩ (at8 h d)) = ix3 b P (at8 h d) := by
    funext a; apply Fin.ext
    match a with
    | ⟨0, _⟩ => show win0_7.index t (0 : Fin 3) * 1 + 1 * 0 = b.val; omega
    | ⟨1, _⟩ => show win0_7.index t (1 : Fin 3) * 2048 + 1 * (P.val % 2048) = P.val; omega
    | ⟨2, _⟩ => show win0_7.index t (2 : Fin 3) * 512 + 1 * (at8 h d).val = (at8 h d).val; omega
  have e' : (dats m 0 c).arrAt 7 cfg0.N (((cfg0.win 7).blk t).view.emb (ix3 0 ⟨P.val % 2048, by omega⟩ (at8 h d)))
      = outsAt0 m c t (ix3 0 ⟨P.val % 2048, by omega⟩ (at8 h d)) := e
  rw [he] at e'
  refine e'.trans ((outsAt_apply m c t h0 h1 h2 _ h d).trans ?_)
  have eb : batchOf t = b := Fin.ext (by show t.val / 2 = b.val; omega)
  have eP : rowOf (halfOf t) ⟨P.val % 2048, by omega⟩ = P := Fin.ext (by show 2048 * (t.val % 2) + P.val % 2048 = P.val; omega)
  rw [eb, eP]

end Cert.Kernel3Ideal.Swa
end
-- ==== Proof.Swa.Reference.lean ====
module

public import proofs.«01_k».proof.Proof.Gen.Reference3Ideal.Read
public import proofs.«01_k».proof.Proof.Swa.Result
public import Idealize.ShloMosaic.Lib.IdealHost
public import Idealize.ShloMosaic.Lib.Affine
public import Idealize.ShloMosaic.Lib.Pointwise

/-!
# The sliding-window attention's reference, read at an index

The reference's operations are read one after the other at an index: each head's keys, the scores, the mask, the softmax
with the sink, the weighted values, the gate.
-/

@[expose] public section

set_option maxRecDepth 16384

noncomputable section

namespace Cert.Reference3Ideal.Swa

open Cert.Reference3Ideal Cert.Reference3Ideal.Gen Cert.Reference3Ideal.Read Idealize.ShloMosaic Idealize.ShloMosaic.TcCoe
open Cert.Proof.Diff Cert.Proof.Swa

variable (x0 : (⟨S8, .f32⟩ : BufTy).Contents (Elt Ideal)) (x1 : (⟨S8x4096x512, .bf16⟩ : BufTy).Contents (Elt Ideal))
  (x2 : (⟨S8x4096x256, .bf16⟩ : BufTy).Contents (Elt Ideal)) (x3 : (⟨S8x128x4096, .bf16⟩ : BufTy).Contents (Elt Ideal))
  (x4 : (⟨S8x4096x512, .bf16⟩ : BufTy).Contents (Elt Ideal))

/-- Two indices of four axes with equal coordinates are equal. -/
theorem ext4 {n : Fin 4 → ℕ} (u v : (⟨4, n⟩ : Shape).Idx) (h0 : (u 0).val = (v 0).val) (h1 : (u 1).val = (v 1).val)
    (h2 : (u 2).val = (v 2).val) (h3 : (u 3).val = (v 3).val) : u = v := by
  funext a; apply Fin.ext
  match a with | ⟨0, _⟩ => exact h0 | ⟨1, _⟩ => exact h1 | ⟨2, _⟩ => exact h2 | ⟨3, _⟩ => exact h3

/-- Key copy `n` at lane `x`. -/
theorem keys_apply (b : Fin 8) (k : Fin 4096) (n : Fin 4) (x : Fin 64) :
    val_main_v3 (F := Ideal) x2 (ix4 b k n x) = x2 (ix3 b k (at4 n x)) := by
  rw [val_main_v3_apply, val_main_v2_apply, Ideal.extf_def]
  refine congrArg x2 (funext fun a => Fin.ext ?_)
  match a with
  | ⟨0, _⟩ => show (((b.val * 4096 + k.val) * 4 + n.val) * 64 + x.val) / 1048576 = b.val; omega
  | ⟨1, _⟩ => show (((b.val * 4096 + k.val) * 4 + n.val) * 64 + x.val) / 256 % 4096 = k.val; omega
  | ⟨2, _⟩ => show (((b.val * 4096 + k.val) * 4 + n.val) * 64 + x.val) % 256 = 64 * n.val + x.val; omega

/-- The index one head's keys are taken at. -/
theorem one_head (b : Fin 8) (k : Fin 4096) (x : Fin 64) : idx_main_v5 (idx_main_v20 (ix4 b k 0 x)) = ix4 b k 0 x := by
  refine ext4 _ _ ?_ ?_ rfl ?_
  · show ((b.val * 4096 + k.val) * 64 + x.val) / 262144 = b.val; omega
  · show ((b.val * 4096 + k.val) * 64 + x.val) / 64 % 4096 = k.val; omega
  · show ((b.val * 4096 + k.val) * 64 + x.val) % 64 = x.val; omega

/-- The keys at an index with the coordinates of key copy `n`. -/
theorem slice_at (b : Fin 8) (k : Fin 4096) (x : Fin 64) (n : Fin 4) (j : S8x4096x4x64.Idx) (h0 : (j 0).val = b.val) (h1 : (j 1).val = k.val)
    (h2 : (j 2).val = n.val) (h3 : (j 3).val = x.val) : val_main_v3 (F := Ideal) x2 j = x2 (ix3 b k (at4 n x)) := by
  have e : j = ix4 b k n x := ext4 _ _ h0 h1 h2 h3
  rw [e, keys_apply]

/-- Eight arrays of one head side by side, at a head. -/
theorem beside (y : Fin 8 → FVec Ideal S8x4096x1x64 .f32) (b : Fin 8) (k : Fin 4096) (h : Fin 8) (x : Fin 64) :
    concatenate S8x4096x8x64 2 [⟨S8x4096x1x64, y 0⟩, ⟨S8x4096x1x64, y 1⟩, ⟨S8x4096x1x64, y 2⟩, ⟨S8x4096x1x64, y 3⟩,
      ⟨S8x4096x1x64, y 4⟩, ⟨S8x4096x1x64, y 5⟩, ⟨S8x4096x1x64, y 6⟩, ⟨S8x4096x1x64, y 7⟩]
      concatenates_S8x4096x1x64_S8x4096x1x64_S8x4096x1x64_S8x4096x1x64_S8x4096x1x64_S8x4096x1x64_S8x4096x1x64_S8x4096x1x64_S8x4096x8x64_d2 (ix4 b k h x)
      = y h (ix4 b k 0 x) := by
  fin_cases h
  all_goals
    dsimp only
    pointwise []

/-- The eight heads' keys. -/
def headKeys : Fin 8 → FVec Ideal S8x4096x1x64 .f32 :=
  ![val_main_v20 (F := Ideal) x2, val_main_v21 (F := Ideal) x2, val_main_v22 (F := Ideal) x2, val_main_v23 (F := Ideal) x2, val_main_v24 (F := Ideal) x2, val_main_v25 (F := Ideal) x2, val_main_v26 (F := Ideal) x2, val_main_v27 (F := Ideal) x2]

theorem head0 (b : Fin 8) (k : Fin 4096) (x : Fin 64) : val_main_v20 (F := Ideal) x2 (ix4 b k 0 x) = x2 (ix3 b k (at4 0 x)) := by
  have e : idx_main_v5 (idx_main_v20 (ix4 b k 0 x)) = ix4 b k 0 x := one_head b k x
  rw [val_main_v20_apply, val_main_v5_apply, e, val_main_v4_apply]
  refine slice_at x2 b k x 0 _ ?_ ?_ ?_ ?_ <;> simp

theorem head1 (b : Fin 8) (k : Fin 4096) (x : Fin 64) : val_main_v21 (F := Ideal) x2 (ix4 b k 0 x) = x2 (ix3 b k (at4 3 x)) := by
  have e : idx_main_v7 (idx_main_v21 (ix4 b k 0 x)) = ix4 b k 0 x := one_head b k x
  rw [val_main_v21_apply, val_main_v7_apply, e, val_main_v6_apply]
  refine slice_at x2 b k x 3 _ ?_ ?_ ?_ ?_ <;> simp

theorem head2 (b : Fin 8) (k : Fin 4096) (x : Fin 64) : val_main_v22 (F := Ideal) x2 (ix4 b k 0 x) = x2 (ix3 b k (at4 0 x)) := by
  have e : idx_main_v9 (idx_main_v22 (ix4 b k 0 x)) = ix4 b k 0 x := one_head b k x
  rw [val_main_v22_apply, val_main_v9_apply, e, val_main_v8_apply]
  refine slice_at x2 b k x 0 _ ?_ ?_ ?_ ?_ <;> simp

theorem head3 (b : Fin 8) (k : Fin 4096) (x : Fin 64) : val_main_v23 (F := Ideal) x2 (ix4 b k 0 x) = x2 (ix3 b k (at4 3 x)) := by
  have e : idx_main_v11 (idx_main_v23 (ix4 b k 0 x)) = ix4 b k 0 x := one_head b k x
  rw [val_main_v23_apply, val_main_v11_apply, e, val_main_v10_apply]
  refine slice_at x2 b k x 3 _ ?_ ?_ ?_ ?_ <;> simp

theorem head4 (b : Fin 8) (k : Fin 4096) (x : Fin 64) : val_main_v24 (F := Ideal) x2 (ix4 b k 0 x) = x2 (ix3 b k (at4 2 x)) := by
  have e : idx_main_v13 (idx_main_v24 (ix4 b k 0 x)) = ix4 b k 0 x := one_head b k x
  rw [val_main_v24_apply, val_main_v13_apply, e, val_main_v12_apply]
  refine slice_at x2 b k x 2 _ ?_ ?_ ?_ ?_ <;> simp

theorem head5 (b : Fin 8) (k : Fin 4096) (x : Fin 64) : val_main_v25 (F := Ideal) x2 (ix4 b k 0 x) = x2 (ix3 b k (at4 1 x)) := by
  have e : idx_main_v15 (idx_main_v25 (ix4 b k 0 x)) = ix4 b k 0 x := one_head b k x
  rw [val_main_v25_apply, val_main_v15_apply, e, val_main_v14_apply]
  refine slice_at x2 b k x 1 _ ?_ ?_ ?_ ?_ <;> simp

theorem head6 (b : Fin 8) (k : Fin 4096) (x : Fin 64) : val_main_v26 (F := Ideal) x2 (ix4 b k 0 x) = x2 (ix3 b k (at4 2 x)) := by
  have e : idx_main_v17 (idx_main_v26 (ix4 b k 0 x)) = ix4 b k 0 x := one_head b k x
  rw [val_main_v26_apply, val_main_v17_apply, e, val_main_v16_apply]
  refine slice_at x2 b k x 2 _ ?_ ?_ ?_ ?_ <;> simp

theorem head7 (b : Fin 8) (k : Fin 4096) (x : Fin 64) : val_main_v27 (F := Ideal) x2 (ix4 b k 0 x) = x2 (ix3 b k (at4 1 x)) := by
  have e : idx_main_v19 (idx_main_v27 (ix4 b k 0 x)) = ix4 b k 0 x := one_head b k x
  rw [val_main_v27_apply, val_main_v19_apply, e, val_main_v18_apply]
  refine slice_at x2 b k x 1 _ ?_ ?_ ?_ ?_ <;> simp

/-- The head's keys. -/
theorem headKeys_apply (b : Fin 8) (k : Fin 4096) (h : Fin 8) (x : Fin 64) :
    val_main_v28 (F := Ideal) x2 (ix4 b k h x) = x2 (ix3 b k (at4 (copy h) x)) := by
  refine (beside (headKeys x2) b k h x).trans ?_
  fin_cases h
  · exact head0 x2 b k x
  · exact head1 x2 b k x
  · exact head2 x2 b k x
  · exact head3 x2 b k x
  · exact head4 x2 b k x
  · exact head5 x2 b k x
  · exact head6 x2 b k x
  · exact head7 x2 b k x

/-- The logarithm the reference turns base two into natural scores with. -/
theorem log_two : Ideal.log (Ideal.ofBits .f32 0x40000000#32) = (ln2 : EReal) := by
  have e : Ideal.ofBits .f32 0x40000000#32 = ((2 : ℝ) : EReal) := by
    simp [Ideal.ofBits, Ideal.ieee]
    rw [← EReal.coe_mul]
    norm_num
  rw [e, Ideal.log_coe, if_neg (by norm_num)]
  rfl

/-- The raw score. -/
theorem raw_apply (b h : Fin 8) (P k : Fin 4096) :
    val_main_v33 (F := Ideal) x1 x2 (ix4 b h P k) = ∑ x : Fin 64, x1 (ix3 b P (at8 h x)) * x2 (ix3 b k (at4 (copy h) x)) := by
  rw [val_main_v33_apply]
  refine Finset.sum_congr rfl fun x _ => ?_
  have er : ridx_main_v33 (ix4 b h P k) x = ix4 b k h x := ext4 _ _ rfl rfl rfl rfl
  rw [val_main_v1_apply, val_main_v0_apply, Ideal.extf_def, er, headKeys_apply]
  refine congrArg₂ (· * ·) (congrArg x1 (funext fun a => Fin.ext ?_)) rfl
  match a with
  | ⟨0, _⟩ => show (((b.val * 4096 + P.val) * 8 + h.val) * 64 + x.val) / 2097152 = b.val; omega
  | ⟨1, _⟩ => show (((b.val * 4096 + P.val) * 8 + h.val) * 64 + x.val) / 512 % 4096 = P.val; omega
  | ⟨2, _⟩ => show (((b.val * 4096 + P.val) * 8 + h.val) * 64 + x.val) % 512 = 64 * h.val + x.val; omega

/-- The mask as words: the difference of the positions is at least 0 and below 128. -/
theorem select_sees (P k : Fin 4096) (x y : EReal) :
    Scalar.select (IntOp.andi (IntOp.cmpi .sge (IntOp.subi (BitVec.ofNat 32 P.val) (BitVec.ofNat 32 k.val)) 0#32)
      (IntOp.cmpi .slt (IntOp.subi (BitVec.ofNat 32 P.val) (BitVec.ofNat 32 k.val)) 128#32)) x y = if Sees P k then x else y := by
  have hP := P.isLt
  have hk := k.isLt
  have ti : (IntOp.subi (BitVec.ofNat 32 P.val) (BitVec.ofNat 32 k.val)).toInt = (P.val : ℤ) - k.val := by
    show (BitVec.ofNat 32 P.val - BitVec.ofNat 32 k.val).toInt = _
    have bm : ∀ z : ℤ, -4096 ≤ z → z < 4097 → z.bmod (2 ^ 32) = z := fun z h1 h2 =>
      Int.bmod_eq_of_le (by norm_num; omega) (by norm_num; omega)
    rw [BitVec.toInt_sub, BitVec.toInt_ofNat', BitVec.toInt_ofNat', bm P.val (by omega) (by omega), bm k.val (by omega) (by omega),
      bm _ (by omega) (by omega)]
  have key : IntOp.andi (IntOp.cmpi .sge (IntOp.subi (BitVec.ofNat 32 P.val) (BitVec.ofNat 32 k.val)) 0#32)
      (IntOp.cmpi .slt (IntOp.subi (BitVec.ofNat 32 P.val) (BitVec.ofNat 32 k.val)) 128#32) = 1#1 ↔ Sees P k := by
    have z0 : (0#32 : BitVec 32).toInt = 0 := rfl
    have z1 : (128#32 : BitVec 32).toInt = 128 := rfl
    rw [IntOp.andi_eq_one, IntOp.cmpi_sge, IntOp.cmpi_slt, ti, z0, z1]
    unfold Sees
    omega
  unfold Scalar.select
  by_cases hq : Sees P k
  · exact (if_pos (key.mpr hq)).trans (if_pos hq).symm
  · exact (if_neg (fun e => hq (key.mp e))).trans (if_neg hq).symm

/-- The masked score, natural. -/
def natural (Q : S8x4096x512.Idx → EReal) (K : S8x4096x256.Idx → EReal) (b h : Fin 8) (P : Fin 4096) : Fin 4096 → EReal :=
  fun k => score Q K b h P k * (ln2 : EReal)

theorem natural_apply (b h : Fin 8) (P k : Fin 4096) :
    val_main_v49 (F := Ideal) x1 x2 (ix4 b h P k) = natural x1 x2 b h P k := by
  simp only [val_main_v49_apply, val_main_call0_v1_apply, val_main_v48_apply, val_main_v47_apply, val_main_v46_apply, val_main_c_0_apply,
    val_main_v45_apply, val_main_v44_apply, val_main_c_apply, val_main_v43_apply, val_main_v42_apply, val_main_v41_apply,
    val_main_v40_apply, val_main_v39_apply, val_main_v38_apply, val_main_v37_apply, val_main_v36_apply, val_main_v35_apply,
    val_main_v34_apply, val_main_cst_apply, val_main_call0_v2_apply, val_main_call0_v0_apply, val_main_cst_1_apply]
  simp only [Ideal.mulf_def, Ideal.hostUnary_log_def, Ideal.ofBits_def, log_two, raw_apply]
  have hpos : (0 : ℝ) < ln2 := Real.log_pos one_lt_two
  have nb : Ideal.ofBits .f32 0xFF800000#32 = ⊥ := by simp [Ideal.ofBits, Ideal.ieee]
  refine (select_sees P k _ _).trans ?_
  unfold natural score
  rw [nb]
  by_cases hq : Sees P k
  · rw [if_pos hq, if_pos hq]
  · rw [if_neg hq, if_neg hq, EReal.bot_mul_coe_of_pos hpos]

/-- The largest score of a row. -/
theorem max_apply (b h : Fin 8) (P : Fin 4096) :
    val_main_v51 (F := Ideal) x1 x2 (ix3 b h P) = Finset.fold max ⊥ (natural x1 x2 b h P) Finset.univ := by
  have nb : Ideal.ofBits .f32 0xFF800000#32 = ⊥ := by simp [Ideal.ofBits, Ideal.ieee]
  unfold val_main_v51
  have hn : ∀ k : Fin 4096, val_main_v49 (F := Ideal) x1 x2 (ix4 b h P k) = natural x1 x2 b h P k := fun k => natural_apply x1 x2 b h P k
  generalize val_main_v49 (F := Ideal) x1 x2 = y at hn ⊢
  refine (Host.reduce_eq_fold_single (FloatOps.maximumf (F := Ideal) (φ := .f32)) y (val_main_cst_2 (F := Ideal))
    reducesTo_S8x8x4096x4096_S8x8x4096_d3 (by decide) h_S_ (ix3 b h P)).trans ?_
  rw [val_main_cst_2_apply, Ideal.ofBits_def, nb]
  refine congrArg (fun f => Finset.fold max ⊥ f (Finset.univ : Finset (Fin 4096))) (funext fun k => ?_)
  refine (congrArg y (?_ : _ = ix4 b h P k)).trans (hn k)
  exact ext4 _ _ rfl rfl rfl rfl

/-- The sink of a head. -/
theorem sink_apply (h : Fin 8) (i : S1x8x1x1.Idx) (hi : (i 1).val = h.val) : val_main_v50 (F := Ideal) x0 i = x0 (ix1 h) := by
  rw [val_main_v50_apply]
  refine congrArg x0 (funext fun a => Fin.ext ?_)
  have h0 : (i 0).val < 1 := (i 0).isLt
  have h2 : (i 2).val < 1 := (i 2).isLt
  have h3 : (i 3).val < 1 := (i 3).isLt
  match a with
  | ⟨0, _⟩ => show (((i 0).val * 8 + (i 1).val) * 1 + (i 2).val) * 1 + (i 3).val = h.val; omega

/-- The largest score, the sink among them. -/
theorem peak_apply (b h : Fin 8) (P : Fin 4096) :
    val_main_v54 (F := Ideal) x0 x1 x2 (ix4 b h P 0) = peak (natural x1 x2 b h P) (x0 (ix1 h)) := by
  have e : idx_main_v52 (ix4 b h P 0) = ix3 b h P := by
    funext a; match a with | ⟨0, _⟩ => rfl | ⟨1, _⟩ => rfl | ⟨2, _⟩ => rfl
  rw [val_main_v54_apply, val_main_v52_apply, val_main_v53_apply, e, max_apply, sink_apply x0 h _ rfl]
  rfl

/-- An unnormalised weight. -/
theorem exp_apply (b h : Fin 8) (P k : Fin 4096) :
    val_main_v57 (F := Ideal) x0 x1 x2 (ix4 b h P k)
      = Ideal.exp (natural x1 x2 b h P k - peak (natural x1 x2 b h P) (x0 (ix1 h))) := by
  have e : idx_main_v55 (ix4 b h P k) = ix4 b h P 0 := ext4 _ _ rfl rfl rfl rfl
  rw [val_main_v57_apply, val_main_v56_apply, val_main_v55_apply, e, peak_apply, natural_apply]
  rfl

/-- A weight. -/
theorem weight_apply (b h : Fin 8) (P k : Fin 4096) :
    val_main_v65 (F := Ideal) x0 x1 x2 (ix4 b h P k)
      = Ideal.div (Ideal.exp (natural x1 x2 b h P k - peak (natural x1 x2 b h P) (x0 (ix1 h))))
          ((∑ j, Ideal.exp (natural x1 x2 b h P j - peak (natural x1 x2 b h P) (x0 (ix1 h))))
            + Ideal.exp (x0 (ix1 h) - peak (natural x1 x2 b h P) (x0 (ix1 h)))) := by
  have e : idx_main_v64 (ix4 b h P k) = ix4 b h P 0 := ext4 _ _ rfl rfl rfl rfl
  have es : ∀ j, idx_main_v58 (idx_main_v59 (ix4 b h P 0)) j = ix4 b h P j := fun j => ext4 _ _ rfl rfl rfl rfl
  rw [val_main_v65_apply, val_main_v64_apply, e, val_main_v63_apply, val_main_v59_apply, val_main_v58_apply, val_main_v62_apply,
    val_main_v61_apply, val_main_v60_apply, peak_apply, exp_apply, sink_apply x0 h _ rfl, val_main_cst_3_apply,
    Ideal.hostDivf_def, Ideal.addf_def, Ideal.hostUnary_exp_def, Ideal.subf_def, Ideal.ofBits_def, Ideal.ofBits_zero_f32, zero_add]
  simp only [es, exp_apply]

/-- The values of a head. -/
theorem values_apply (b h : Fin 8) (d : Fin 64) (k : Fin 4096) :
    val_main_v32 (F := Ideal) x3 (ix4 b h d k) = x3 (ix3 b (pair h d) k) := by
  rw [val_main_v32_apply, val_main_v31_apply, val_main_v30_apply, val_main_v29_apply, Ideal.extf_def]
  refine congrArg x3 (funext fun a => Fin.ext ?_)
  have e0 : (((b.val * 8 + h.val) * 64 + d.val) * 4096 + k.val) / 2097152 = b.val := by omega
  have e1 : (((b.val * 8 + h.val) * 64 + d.val) * 4096 + k.val) / 1048576 % 2 = h.val / 4 := by omega
  have e2 : (((b.val * 8 + h.val) * 64 + d.val) * 4096 + k.val) / 4096 % 64 = d.val := by omega
  have e3 : (((b.val * 8 + h.val) * 64 + d.val) * 4096 + k.val) % 4096 = k.val := by omega
  have main : ∀ p q r s : ℕ, p = b.val → q = h.val / 4 → r = d.val → s = k.val →
      (((p * 2 + q) * 64 + r) * 4096 + s) / 524288 = b.val ∧ (((p * 2 + q) * 64 + r) * 4096 + s) / 4096 % 128 = 64 * (h.val / 4) + d.val
        ∧ (((p * 2 + q) * 64 + r) * 4096 + s) % 4096 = k.val := by
    rintro p q r s rfl rfl rfl rfl
    omega
  obtain ⟨m0, m1, m2⟩ := main _ _ _ _ e0 e1 e2 e3
  match a with
  | ⟨0, _⟩ => exact m0
  | ⟨1, _⟩ => exact m1
  | ⟨2, _⟩ => exact m2

/-- The result at batch `b`, query `P`, lane `d` of head `h`. -/
theorem result_apply (b h : Fin 8) (P : Fin 4096) (d : Fin 64) :
    val_main_v71 (F := Ideal) x0 x1 x2 x3 x4 (ix3 b P (at8 h d)) = result x0 x1 x2 x3 x4 b h P d := by
  have e : idx_main_v68 (ix3 b P (at8 h d)) = ix4 b P h d := by
    refine ext4 _ _ ?_ ?_ ?_ ?_
    · show ((b.val * 4096 + P.val) * 512 + (64 * h.val + d.val)) / 2097152 = b.val; omega
    · show ((b.val * 4096 + P.val) * 512 + (64 * h.val + d.val)) / 512 % 4096 = P.val; omega
    · show ((b.val * 4096 + P.val) * 512 + (64 * h.val + d.val)) / 64 % 8 = h.val; omega
    · show ((b.val * 4096 + P.val) * 512 + (64 * h.val + d.val)) % 64 = d.val; omega
  have e7 : idx_main_v67 (ix4 b P h d) = ix4 b h d P := ext4 _ _ rfl rfl rfl rfl
  have el : ∀ k, lidx_main_v66 (ix4 b h d P) k = ix4 b h d k := fun k => ext4 _ _ rfl rfl rfl rfl
  have er : ∀ k, ridx_main_v66 (ix4 b h d P) k = ix4 b h P k := fun k => ext4 _ _ rfl rfl rfl rfl
  rw [val_main_v71_apply, val_main_v70_apply, val_main_v69_apply, val_main_v68_apply, e, val_main_v67_apply, e7, val_main_v66_apply]
  simp only [el, er, values_apply, weight_apply, Ideal.truncf_def, Ideal.mulf_def, Ideal.extf_def]
  rfl

end Cert.Reference3Ideal.Swa
end
-- ==== Proof.Swa.Finite.lean ====
module

public import proofs.«01_k».proof.Proof.Gen.Pre_finite3
public import proofs.«01_k».proof.Proof.Diff.Finite

/-!
# What the sliding-window call's precondition says

The precondition compares the absolute value of every sink, query and key with infinity. So each of them is a real
number.
-/

@[expose] public section

noncomputable section

namespace Cert.Proof.Swa

open Idealize.ShloMosaic Cert.Pre_finite3 Cert.Proof.Diff

/-- Under the precondition every element of the first three arguments is real. -/
theorem reals (z : FVec Ideal S8 .f32) (q : FVec Ideal S8x4096x512 .bf16) (k : FVec Ideal S8x4096x256 .bf16) (v : FVec Ideal S8x128x4096 .bf16)
    (g : FVec Ideal S8x4096x512 .bf16) (h : fn (F := Ideal) z q k v g = fun _ => 1#1) :
    (∀ i, IsReal (z i)) ∧ (∀ i, IsReal (q i)) ∧ ∀ i, IsReal (k i) := by
  haveI : Subsingleton S_.Idx := ⟨fun x y => funext fun a => a.elim0⟩
  have h0 := congrFun h ix0
  dsimp only [fn] at h0
  obtain ⟨h9, h14⟩ := IntOp.andi_eq_one.1 h0
  obtain ⟨h3, h8⟩ := IntOp.andi_eq_one.1 h9
  exact ⟨fun i => isReal_of_abs _ (Host.reduce_andi_all _ _ _ _ _ h3 i), fun i => isReal_of_abs _ (Host.reduce_andi_all _ _ _ _ _ h8 i),
    fun i => isReal_of_abs _ (Host.reduce_andi_all _ _ _ _ _ h14 i)⟩

end Cert.Proof.Swa
end
-- ==== Proof.Swa.Equation.lean ====
module

public import proofs.«01_k».proof.Defs
public import proofs.«01_k».proof.Proof.Gen.Reference3Ideal.Run
public import proofs.«01_k».proof.Proof.Swa.Array
public import proofs.«01_k».proof.Proof.Swa.Reference
public import proofs.«01_k».proof.Proof.Swa.Finite

/-!
# The sliding-window attention's equation

Both runs end with the same formula of the arguments (`result`), where the sinks, queries and keys are real: the
kernel's array by `final_apply`, the reference's by `result_apply`.
-/

@[expose] public section

set_option maxRecDepth 16384

noncomputable section

namespace Cert.Proof.Swa

open Idealize.ShloMosaic Idealize.ShloMosaic.TcCoe Idealize.SL.Sem

/-- An index, taken apart into batch, query, head and lane. -/
theorem index_split (y : Cert.Kernel3Ideal.S8x4096x512.Idx) :
    ∃ (b : Fin 8) (P : Fin 4096) (h : Fin 8) (d : Fin 64), y = ix3 b P (at8 h d) := by
  have h2 : (y 2).val < 512 := (y 2).isLt
  refine ⟨y 0, y 1, ⟨(y 2).val / 64, by omega⟩, ⟨(y 2).val % 64, by omega⟩, ?_⟩
  funext a; apply Fin.ext
  match a with
  | ⟨0, _⟩ => rfl
  | ⟨1, _⟩ => rfl
  | ⟨2, _⟩ => show (y 2).val = 64 * ((y 2).val / 64) + (y 2).val % 64; omega

/-- Over the reals the sliding-window kernel and its reference end with equal results and unchanged arguments. -/
theorem equation : Cert.algebraic_Kernel3Ideal_Reference3Ideal_pre_finite3 := by
  intro m g m' g' hpre hagree
  refine ⟨fun c => (Cert.Kernel3Ideal.Gen.dats m 0 c).arrAt 7 Cert.Kernel3Ideal.cfg0.N, Cert.Kernel3Ideal.Value.run_blocks m g, ?_⟩
  refine (θ_run Cert.Reference3Ideal.defs _ _).mono (fun r h c => ⟨(h c).1.trans ?_, (h c).2⟩) (Cert.Reference3Ideal.Value.run (F := Ideal) m' g')
  obtain ⟨e0, e1, e2, e3, e4⟩ := hagree c
  obtain ⟨r0, r1, r2⟩ := reals _ _ _ _ _ (hpre c)
  rw [Cert.Reference3Ideal.Read.val_main_v71_eq]
  funext y
  rw [e0, e1, e2, e3, e4]
  obtain ⟨b, P, h, d, rfl⟩ := index_split y
  exact (Cert.Reference3Ideal.Swa.result_apply _ _ _ _ _ b h P d).trans (Cert.Kernel3Ideal.Swa.final_apply m c r0 r1 r2 b h P d).symm

/-- The reference's frame: its operations write none of its arguments, and it has no semaphore. -/
theorem reference_frame : Cert.quiescent_Reference3Ideal := by
  intro m g _
  exact (θ_run Cert.Reference3Ideal.defs _ _).mono (fun r h => ⟨fun c => (h c).2,
      Idealize.ShloMosaic.sem_eq_zero_of_no_sems (by decide) r.2⟩) (Cert.Reference3Ideal.Value.run (F := Ideal) m g)

end Cert.Proof.Swa
end
-- ==== Proof.Cast.Equation.lean ====
module

public import proofs.«01_k».proof.Defs
public import proofs.«01_k».proof.Proof.Gen.Kernel5Ideal.Value
public import proofs.«01_k».proof.Proof.Gen.Reference5Ideal.Run

/-!
# The cast equation

Both runs end with the argument, converted entry by entry.
-/

@[expose] public section

noncomputable section

namespace Cert.Proof.Cast

open Idealize.ShloMosaic Idealize.ShloMosaic.TcCoe Idealize.SL.Sem

/-- Over the reals the cast kernel and its reference end with equal results and unchanged arguments. -/
theorem equation : Cert.algebraic_Kernel5Ideal_Reference5Ideal := by
  intro m g m' g' _ hagree
  refine ⟨_, Cert.Kernel5Ideal.Value.run m g, ?_⟩
  refine (θ_run Cert.Reference5Ideal.defs _ _).mono (fun r h c => ⟨(h c).1.trans ?_, (h c).2⟩) (Cert.Reference5Ideal.Value.run (F := Ideal) m' g')
  rw [hagree c]
  rfl

/-- The cast reference's frame: its operation does not write its argument, and it has no semaphore. -/
theorem reference_frame : Cert.quiescent_Reference5Ideal := by
  intro m g _
  exact (θ_run Cert.Reference5Ideal.defs _ _).mono (fun r h => ⟨fun c => (h c).2,
      Idealize.ShloMosaic.sem_eq_zero_of_no_sems (by decide) r.2⟩) (Cert.Reference5Ideal.Value.run (F := Ideal) m g)

end Cert.Proof.Cast
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite
public import proofs.«01_k».proof.Proof.Diff.KernelFrame
public import proofs.«01_k».proof.Proof.Diff.KernelIdealFrame
public import proofs.«01_k».proof.Proof.Diff.Equation
public import proofs.«01_k».proof.Proof.Gen.Kernel4
public import proofs.«01_k».proof.Proof.Gen.Kernel4.Skeleton
public import proofs.«01_k».proof.Proof.Gen.Kernel4.Loops
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Loops
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Diff4.KernelFrame
public import proofs.«01_k».proof.Proof.Diff4.KernelIdealFrame
public import proofs.«01_k».proof.Proof.Diff4.Equation
public import proofs.«01_k».proof.Proof.Merge.Equation
public import proofs.«01_k».proof.Proof.Swa.Equation
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Cast.Equation
public import Idealize.ShloMosaic.Adequacy
public import Idealize.ShloMosaic.Init

@[expose] public section

noncomputable section

namespace Cert.Proof

open Idealize.ShloMosaic Idealize.SL.Sem Cert.Kernel

/-- The attention reference's frame: its operations write none of its arguments, and it has no semaphore. -/
theorem diff_reference_frame : Cert.quiescent_ReferenceIdeal := by
  intro m g _
  exact (θ_run Cert.ReferenceIdeal.defs _ _).mono (fun r h => ⟨fun c => (h c).2,
      Idealize.ShloMosaic.sem_eq_zero_of_no_sems (by decide) r.2⟩) (Cert.ReferenceIdeal.Value.run (F := Ideal) m g)

/-- The same of the reference with the other layer's constant. -/
theorem diff4_reference_frame : Cert.quiescent_Reference4Ideal := by
  intro m g _
  exact (θ_run Cert.Reference4Ideal.defs _ _).mono (fun r h => ⟨fun c => (h c).2,
      Idealize.ShloMosaic.sem_eq_zero_of_no_sems (by decide) r.2⟩) (Cert.Reference4Ideal.Value.run (F := Ideal) m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite.Gen.facts, Cert.Pre_finite3.Gen.facts,
  fun m g _ => Cert.Kernel.Diff.frame m g,
  fun m g _ => Cert.KernelIdeal.Diff.frame m g,
  fun m g _ => Cert.KernelIdeal.Diff.frame m g,
  diff_reference_frame,
  fun m g _ => diff_reference_frame m g (by trivial),
  fun m g _ => Cert.Kernel2.Gen.frame m g,
  fun m g _ => Cert.Kernel2Ideal.Gen.frame m g,
  Merge.reference_frame,
  fun m g _ => Cert.Kernel3.Gen.frame m g,
  fun m g _ => Cert.Kernel3Ideal.Gen.frame m g,
  fun m g _ => Cert.Kernel3Ideal.Gen.frame m g,
  Swa.reference_frame,
  fun m g _ => Swa.reference_frame m g (by trivial),
  fun m g _ => Cert.Kernel4.Diff.frame m g,
  fun m g _ => Cert.Kernel4Ideal.Diff.frame m g,
  fun m g _ => Cert.Kernel4Ideal.Diff.frame m g,
  diff4_reference_frame,
  fun m g _ => diff4_reference_frame m g (by trivial),
  fun m g _ => Cert.Kernel5.Gen.frame m g,
  fun m g _ => Cert.Kernel5Ideal.Gen.frame m g,
  Cast.reference_frame,
  trivial,
  Diff.equation,
  trivial,
  Merge.equation,
  IdealRules.named_const.statement Cert.Kernel3Ideal.κ "log2e" .f32 0x3FB8AA3B#32 (((Real.log 2)⁻¹ : ℝ) : EReal) rfl,
  Swa.equation,
  trivial,
  Diff4.equation,
  trivial,
  Cast.equation⟩

end Cert.Proof

end
